-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_merge [hPre_finite_merge : Cert.Pre_finite_merge.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_merge.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_merge [hPre_finite_merge : Cert.Pre_finite_merge.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_merge.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_merge [hPre_finite_merge : Cert.Pre_finite_merge.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_merge.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_merge [hPre_finite_merge : Cert.Pre_finite_merge.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_merge.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_merge [hKernel8Ideal : Cert.Kernel8Ideal.Facts] [hPre_finite_merge : Cert.Pre_finite_merge.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_merge m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_merge [hReference8Ideal : Cert.Reference8Ideal.Facts] [hPre_finite_merge : Cert.Pre_finite_merge.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_merge m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite_merge [hKernel9Ideal : Cert.Kernel9Ideal.Facts] [hPre_finite_merge : Cert.Pre_finite_merge.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_merge m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite_merge [hReference9Ideal : Cert.Reference9Ideal.Facts] [hPre_finite_merge : Cert.Pre_finite_merge.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_merge m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_on_conv_columns_pre_finite [hKernelIdeal : Cert.KernelIdeal.Facts] [hReferenceIdeal : Cert.ReferenceIdeal.Facts] [hPre_finite : Cert.Pre_finite.Facts] [hOn_conv_columns : Cert.On_conv_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 2176, 5376]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v0_0) i = v0 c i)
          ∧ (∀ i : (⟨2, ![8, 512]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 i = 1#1 → r.2.mem ((c.tc : Thread Cert.KernelIdeal.nD Cert.KernelIdeal.τ).loc Cert.KernelIdeal.main_v0_3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 2176, 5376]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v87) i = v0 c i)
          ∧ (∀ i : (⟨2, ![8, 512]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 i = 1#1 → r.2.mem ((c.tc : Thread Cert.ReferenceIdeal.nD Cert.ReferenceIdeal.τ).loc Cert.ReferenceIdeal.main_v88) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite_merge [hKernel8Ideal : Cert.Kernel8Ideal.Facts] [hReference8Ideal : Cert.Reference8Ideal.Facts] [hPre_finite_merge : Cert.Pre_finite_merge.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_merge m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v96) = v0 c
          ∧ r.2.mem ((c.tc : Thread Cert.Reference8Ideal.nD Cert.Reference8Ideal.τ).loc Cert.Reference8Ideal.main_v97) = v1 c
          ∧ r.2.mem ((c.tc : Thread Cert.Reference8Ideal.nD Cert.Reference8Ideal.τ).loc Cert.Reference8Ideal.main_v99) = v2 c
          ∧ r.2.mem ((c.tc : Thread Cert.Reference8Ideal.nD Cert.Reference8Ideal.τ).loc Cert.Reference8Ideal.main_v95) = v3 c
          ∧ r.2.mem ((c.tc : Thread Cert.Reference8Ideal.nD Cert.Reference8Ideal.τ).loc Cert.Reference8Ideal.main_v68) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_finite_merge [hKernel9Ideal : Cert.Kernel9Ideal.Facts] [hReference9Ideal : Cert.Reference9Ideal.Facts] [hPre_finite_merge : Cert.Pre_finite_merge.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_merge m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v96) = v0 c
          ∧ r.2.mem ((c.tc : Thread Cert.Reference9Ideal.nD Cert.Reference9Ideal.τ).loc Cert.Reference9Ideal.main_v97) = v1 c
          ∧ r.2.mem ((c.tc : Thread Cert.Reference9Ideal.nD Cert.Reference9Ideal.τ).loc Cert.Reference9Ideal.main_v99) = v2 c
          ∧ r.2.mem ((c.tc : Thread Cert.Reference9Ideal.nD Cert.Reference9Ideal.τ).loc Cert.Reference9Ideal.main_v95) = v3 c
          ∧ r.2.mem ((c.tc : Thread Cert.Reference9Ideal.nD Cert.Reference9Ideal.τ).loc Cert.Reference9Ideal.main_v68) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_rows : Cert.Pre_finite_rows.Facts) (hPre_finite_merge : Cert.Pre_finite_merge.Facts) (hOn_conv_columns : Cert.On_conv_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_merge (hKernel8Ideal := hKernel8Ideal) (hPre_finite_merge := hPre_finite_merge)
    ∧ quiescent_Reference8Ideal (hReference8Ideal := hReference8Ideal)
    ∧ quiescent_Reference8Ideal_pre_finite_merge (hReference8Ideal := hReference8Ideal) (hPre_finite_merge := hPre_finite_merge)
    ∧ quiescent_Kernel9 (hKernel9 := hKernel9)
    ∧ quiescent_Kernel9Ideal (hKernel9Ideal := hKernel9Ideal)
    ∧ quiescent_Kernel9Ideal_pre_finite_merge (hKernel9Ideal := hKernel9Ideal) (hPre_finite_merge := hPre_finite_merge)
    ∧ quiescent_Reference9Ideal (hReference9Ideal := hReference9Ideal)
    ∧ quiescent_Reference9Ideal_pre_finite_merge (hReference9Ideal := hReference9Ideal) (hPre_finite_merge := hPre_finite_merge)
    ∧ preserves_Kernel_KernelIdeal
    ∧ algebraic_KernelIdeal_ReferenceIdeal_on_conv_columns_pre_finite (hKernelIdeal := hKernelIdeal) (hReferenceIdeal := hReferenceIdeal) (hPre_finite := hPre_finite) (hOn_conv_columns := hOn_conv_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_merge (hKernel8Ideal := hKernel8Ideal) (hReference8Ideal := hReference8Ideal) (hPre_finite_merge := hPre_finite_merge)
    ∧ preserves_Kernel9_Kernel9Ideal
    ∧ algebraic_Kernel9Ideal_Reference9Ideal_pre_finite_merge (hKernel9Ideal := hKernel9Ideal) (hReference9Ideal := hReference9Ideal) (hPre_finite_merge := hPre_finite_merge)
-- ==== On_conv_columns.lean ====
abbrev S2x2176x5376 : Shape := ⟨3, ![2, 2176, 5376]⟩
abbrev S2x2176x1536 : Shape := ⟨3, ![2, 2176, 1536]⟩
abbrev S2x17x4x128x128 : Shape := ⟨5, ![2, 17, 4, 128, 128]⟩
abbrev S2176x128 : Shape := ⟨2, ![2176, 128]⟩
abbrev S128x256 : Shape := ⟨2, ![128, 256]⟩
abbrev S32x8 : Shape := ⟨2, ![32, 8]⟩
abbrev S2x8 : Shape := ⟨2, ![2, 8]⟩
abbrev S2x3x512 : Shape := ⟨3, ![2, 3, 512]⟩
abbrev S_ : Shape := ⟨0, ![]⟩
abbrev S8x512 : Shape := ⟨2, ![8, 512]⟩

class Facts : Prop where
  bcast_S_S2x2176x5376 : S_.BroadcastsInDim S2x2176x5376 (![] : Fin 0 → Fin S2x2176x5376.rank)
  bcast_S_S8x512 : S_.BroadcastsInDim S8x512 (![] : Fin 0 → Fin S8x512.rank)

variable [Facts]

def fn {F : FTy → Type} [FloatOps F] (main_arg0 : FVec F S2x2176x5376 .f32) (main_arg1 : FVec F S2x2176x1536 .bf16) (main_arg2 : FVec F S2x17x4x128x128 .f32) (main_arg3 : FVec F S2176x128 .f32) (main_arg4 : FVec F S2176x128 .f32) (main_arg5 : IVec S128x256 32) (main_arg6 : FVec F S32x8 .f32) (main_arg7 : FVec F S2x8 .f32) (main_arg8 : FVec F S2x3x512 .f32) : IVec S2x2176x5376 1 × IVec S8x512 1 :=
  let main_v0 : IVec S2x2176x5376 32 := iotaInDim S2x2176x5376 32 2
  let main_c : IVec S_ 32 := constantI S_ 32 3328#32
  let main_v1 : IVec S2x2176x5376 32 := broadcastInDim S2x2176x5376 ![] bcast_S_S2x2176x5376 main_c
  let main_v2 : IVec S2x2176x5376 1 := cmpi .sge main_v0 main_v1
  let main_v3 : IVec S8x512 32 := iotaInDim S8x512 32 0
  let main_c_0 : IVec S_ 32 := constantI S_ 32 0#32
  let main_v4 : IVec S8x512 32 := broadcastInDim S8x512 ![] bcast_S_S8x512 main_c_0
  let main_v5 : IVec S8x512 1 := cmpi .sge main_v3 main_v4
  (main_v2, main_v5)
-- ==== Pre_finite.lean ====
abbrev S2x2176x5376 : Shape := ⟨3, ![2, 2176, 5376]⟩
abbrev S2x2176x1536 : Shape := ⟨3, ![2, 2176, 1536]⟩
abbrev S2x17x4x128x128 : Shape := ⟨5, ![2, 17, 4, 128, 128]⟩
abbrev S2176x128 : Shape := ⟨2, ![2176, 128]⟩
abbrev S128x256 : Shape := ⟨2, ![128, 256]⟩
abbrev S32x8 : Shape := ⟨2, ![32, 8]⟩
abbrev S2x8 : Shape := ⟨2, ![2, 8]⟩
abbrev S2x3x512 : Shape := ⟨3, ![2, 3, 512]⟩
abbrev S_ : Shape := ⟨0, ![]⟩

class Facts : Prop where
  bcast_S_S2x2176x5376 : S_.BroadcastsInDim S2x2176x5376 (![] : Fin 0 → Fin S2x2176x5376.rank)
  reducesTo_S2x2176x5376_S_d0_1_2 : S2x2176x5376.ReducesTo [0, 1, 2] S_
  h_S_ : 0 < S_.numel
  bitsLt_bf16_f32 : FTy.bits .bf16 < FTy.bits .f32
  bcast_S_S2x2176x1536 : S_.BroadcastsInDim S2x2176x1536 (![] : Fin 0 → Fin S2x2176x1536.rank)
  reducesTo_S2x2176x1536_S_d0_1_2 : S2x2176x1536.ReducesTo [0, 1, 2] S_
  bcast_S_S2x3x512 : S_.BroadcastsInDim S2x3x512 (![] : Fin 0 → Fin S2x3x512.rank)
  reducesTo_S2x3x512_S_d0_1_2 : S2x3x512.ReducesTo [0, 1, 2] S_

variable [Facts]

def fn {F : FTy → Type} [FloatOps F] (main_arg0 : FVec F S2x2176x5376 .f32) (main_arg1 : FVec F S2x2176x1536 .bf16) (main_arg2 : FVec F S2x17x4x128x128 .f32) (main_arg3 : FVec F S2176x128 .f32) (main_arg4 : FVec F S2176x128 .f32) (main_arg5 : IVec S128x256 32) (main_arg6 : FVec F S32x8 .f32) (main_arg7 : FVec F S2x8 .f32) (main_arg8 : FVec F S2x3x512 .f32) : IVec S_ 1 :=
  let main_v0 : FVec F S2x2176x5376 .f32 := Host.absf main_arg0
  let main_cst : FVec F S_ .f32 := constant S_ .f32 0x7F800000#32
  let main_v1 : FVec F S2x2176x5376 .f32 := broadcastInDim S2x2176x5376 ![] bcast_S_S2x2176x5376 main_cst
  let main_v2 : IVec S2x2176x5376 1 := cmpf .olt main_v0 main_v1
  let main_c : IVec S_ 1 := constantI S_ 1 1#1
  let main_v3 : IVec S_ 1 := (fun x v => Host.reduce IntOp.andi x v reducesTo_S2x2176x5376_S_d0_1_2 h_S_) main_v2 main_c
  let main_v4 : FVec F S2x2176x1536 .f32 := (extf .f32 · bitsLt_bf16_f32) main_arg1
  let main_v5 : FVec F S2x2176x1536 .f32 := Host.absf main_v4
  let main_cst_0 : FVec F S_ .f32 := constant S_ .f32 0x7F800000#32
  let main_v6 : FVec F S2x2176x1536 .f32 := broadcastInDim S2x2176x1536 ![] bcast_S_S2x2176x1536 main_cst_0
  let main_v7 : IVec S2x2176x1536 1 := cmpf .olt main_v5 main_v6
  let main_c_1 : IVec S_ 1 := constantI S_ 1 1#1
  let main_v8 : IVec S_ 1 := (fun x v => Host.reduce IntOp.andi x v reducesTo_S2x2176x1536_S_d0_1_2 h_S_) main_v7 main_c_1
  let main_v9 : IVec S_ 1 := andi main_v3 main_v8
  let main_v10 : FVec F S2x3x512 .f32 := Host.absf main_arg8
  let main_cst_2 : FVec F S_ .f32 := constant S_ .f32 0x7F800000#32
  let main_v11 : FVec F S2x3x512 .f32 := broadcastInDim S2x3x512 ![] bcast_S_S2x3x512 main_cst_2
  let main_v12 : IVec S2x3x512 1 := cmpf .olt main_v10 main_v11
  let main_c_3 : IVec S_ 1 := constantI S_ 1 1#1
  let main_v13 : IVec S_ 1 := (fun x v => Host.reduce IntOp.andi x v reducesTo_S2x3x512_S_d0_1_2 h_S_) main_v12 main_c_3
  let main_v14 : IVec S_ 1 := andi main_v9 main_v13
  main_v14
-- ==== Pre_finite_merge.lean ====
abbrev S4352x1024 : Shape := ⟨2, ![4352, 1024]⟩
abbrev S4352x1536 : Shape := ⟨2, ![4352, 1536]⟩
abbrev S4352x3072 : Shape := ⟨2, ![4352, 3072]⟩
abbrev S4x3x512x256 : Shape := ⟨4, ![4, 3, 512, 256]⟩
abbrev S1024x1024 : Shape := ⟨2, ![1024, 1024]⟩
abbrev S2x1x1024 : Shape := ⟨3, ![2, 1, 1024]⟩
abbrev S128x256 : Shape := ⟨2, ![128, 256]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bitsLt_bf16_f32 : FTy.bits .bf16 < FTy.bits .f32
  bcast_S_S4352x1536 : S_.BroadcastsInDim S4352x1536 (![] : Fin 0 → Fin S4352x1536.rank)
  reducesTo_S4352x1536_S_d0_1 : S4352x1536.ReducesTo [0, 1] S_
  bcast_S_S4x3x512x256 : S_.BroadcastsInDim S4x3x512x256 (![] : Fin 0 → Fin S4x3x512x256.rank)
  reducesTo_S4x3x512x256_S_d0_1_2_3 : S4x3x512x256.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_arg5 : FVec F S2x1x1024 .f32) (main_v15 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_c_5 : IVec S_ 1 := constantI S_ 1 1#1
  let main_v20 : IVec S_ 1 := (fun x v => Host.reduce IntOp.andi x v reducesTo_S1024x1024_S_d0_1 h_S_) main_v19 main_c_5
  let main_v21 : IVec S_ 1 := andi main_v15 main_v20
  let main_v22 : FVec F S2x1x1024 .f32 := Host.absf main_arg5
  let main_cst_6 : FVec F S_ .f32 := constant S_ .f32 0x7F800000#32
  let main_v23 : FVec F S2x1x1024 .f32 := broadcastInDim S2x1x1024 ![] bcast_S_S2x1x1024 main_cst_6
  let main_v24 : IVec S2x1x1024 1 := cmpf .olt main_v22 main_v23
  let main_c_7 : IVec S_ 1 := constantI S_ 1 1#1
  let main_v25 : IVec S_ 1 := (fun x v => Host.reduce IntOp.andi x v reducesTo_S2x1x1024_S_d0_1_2 h_S_) main_v24 main_c_7
  let main_v26 : IVec S_ 1 := andi main_v21 main_v25
  main_v26

def fn {F : FTy → Type} [FloatOps F] (main_arg0 : FVec F S4352x1024 .f32) (main_arg1 : FVec F S4352x1536 .bf16) (main_arg2 : FVec F S4352x3072 .bf16) (main_arg3 : FVec F S4x3x512x256 .bf16) (main_arg4 : FVec F S1024x1024 .bf16) (main_arg5 : FVec F S2x1x1024 .f32) (main_arg6 : IVec S128x256 32) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4352x1536 .f32 := (extf .f32 · bitsLt_bf16_f32) main_arg1
  let main_v5 : FVec F S4352x1536 .f32 := Host.absf main_v4
  let main_cst_0 : FVec F S_ .f32 := constant S_ .f32 0x7F800000#32
  let main_v6 : FVec F S4352x1536 .f32 := broadcastInDim S4352x1536 ![] bcast_S_S4352x1536 main_cst_0
  let main_v7 : IVec S4352x1536 1 := cmpf .olt main_v5 main_v6
  let main_c_1 : IVec S_ 1 := constantI S_ 1 1#1
  let main_v8 : IVec S_ 1 := (fun x v => Host.reduce IntOp.andi x v reducesTo_S4352x1536_S_d0_1 h_S_) main_v7 main_c_1
  let main_v9 : IVec S_ 1 := andi main_v3 main_v8
  let main_v10 : FVec F S4x3x512x256 .f32 := (extf .f32 · bitsLt_bf16_f32) main_arg3
  let main_v11 : FVec F S4x3x512x256 .f32 := Host.absf main_v10
  let main_cst_2 : FVec F S_ .f32 := constant S_ .f32 0x7F800000#32
  let main_v12 : FVec F S4x3x512x256 .f32 := broadcastInDim S4x3x512x256 ![] bcast_S_S4x3x512x256 main_cst_2
  let main_v13 : IVec S4x3x512x256 1 := cmpf .olt main_v11 main_v12
  let main_c_3 : IVec S_ 1 := constantI S_ 1 1#1
  let main_v14 : IVec S_ 1 := (fun x v => Host.reduce IntOp.andi x v reducesTo_S4x3x512x256_S_d0_1_2_3 h_S_) main_v13 main_c_3
  let main_v15 : IVec S_ 1 := andi main_v9 main_v14
  let main_v16 : FVec F S1024x1024 .f32 := (extf .f32 · bitsLt_bf16_f32) main_arg4
  let main_v17 : FVec F S1024x1024 .f32 := Host.absf main_v16
  fn_part1 (F := F) main_arg5 main_v15 main_v17
-- ==== Pre_finite_rows.lean ====
abbrev S4352x5376 : Shape := ⟨2, ![4352, 5376]⟩
abbrev S4352x3072 : Shape := ⟨2, ![4352, 3072]⟩
abbrev S8448x1024 : Shape := ⟨2, ![8448, 1024]⟩
abbrev S4352x1024 : Shape := ⟨2, ![4352, 1024]⟩
abbrev S2x1x1024 : Shape := ⟨3, ![2, 1, 1024]⟩
abbrev S128x256 : Shape := ⟨2, ![128, 256]⟩
abbrev S_ : Shape := ⟨0, ![]⟩

class Facts : Prop where
  bitsLt_bf16_f32 : FTy.bits .bf16 < FTy.bits .f32
  bcast_S_S4352x5376 : S_.BroadcastsInDim S4352x5376 (![] : Fin 0 → Fin S4352x5376.rank)
  reducesTo_S4352x5376_S_d0_1 : S4352x5376.ReducesTo [0, 1] S_
  h_S_ : 0 < S_.numel
  bcast_S_S4352x3072 : S_.BroadcastsInDim S4352x3072 (![] : Fin 0 → Fin S4352x3072.rank)
  reducesTo_S4352x3072_S_d0_1 : S4352x3072.ReducesTo [0, 1] S_
  bcast_S_S8448x1024 : S_.BroadcastsInDim S8448x1024 (![] : Fin 0 → Fin S8448x1024.rank)
  reducesTo_S8448x1024_S_d0_1 : S8448x1024.ReducesTo [0, 1] S_
  bcast_S_S4352x1024 : S_.BroadcastsInDim S4352x1024 (![] : Fin 0 → Fin S4352x1024.rank)
  reducesTo_S4352x1024_S_d0_1 : S4352x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_arg4 : FVec F S2x1x1024 .f32) (main_v16 : IVec S_ 1) (main_v17 : FVec F S4352x1024 .f32) : IVec S_ 1 :=
  let main_cst_4 : FVec F S_ .f32 := constant S_ .f32 0x7F800000#32
  let main_v18 : FVec F S4352x1024 .f32 := broadcastInDim S4352x1024 ![] bcast_S_S4352x1024 main_cst_4
  let main_v19 : IVec S4352x1024 1 := cmpf .olt main_v17 main_v18
  let main_c_5 : IVec S_ 1 := constantI S_ 1 1#1
  let main_v20 : IVec S_ 1 := (fun x v => Host.reduce IntOp.andi x v reducesTo_S4352x1024_S_d0_1 h_S_) main_v19 main_c_5
  let main_v21 : IVec S_ 1 := andi main_v16 main_v20
  let main_v22 : FVec F S2x1x1024 .f32 := Host.absf main_arg4
  let main_cst_6 : FVec F S_ .f32 := constant S_ .f32 0x7F800000#32
  let main_v23 : FVec F S2x1x1024 .f32 := broadcastInDim S2x1x1024 ![] bcast_S_S2x1x1024 main_cst_6
  let main_v24 : IVec S2x1x1024 1 := cmpf .olt main_v22 main_v23
  let main_c_7 : IVec S_ 1 := constantI S_ 1 1#1
  let main_v25 : IVec S_ 1 := (fun x v => Host.reduce IntOp.andi x v reducesTo_S2x1x1024_S_d0_1_2 h_S_) main_v24 main_c_7
  let main_v26 : IVec S_ 1 := andi main_v21 main_v25
  main_v26

def fn {F : FTy → Type} [FloatOps F] (main_arg0 : FVec F S4352x5376 .bf16) (main_arg1 : FVec F S4352x3072 .bf16) (main_arg2 : FVec F S8448x1024 .bf16) (main_arg3 : FVec F S4352x1024 .f32) (main_arg4 : FVec F S2x1x1024 .f32) (main_arg5 : FVec F S4352x1024 .f32) (main_arg6 : IVec S128x256 32) : IVec S_ 1 :=
  let main_v0 : FVec F S4352x5376 .f32 := (extf .f32 · bitsLt_bf16_f32) main_arg0
  let main_v1 : FVec F S4352x5376 .f32 := Host.absf main_v0
  let main_cst : FVec F S_ .f32 := constant S_ .f32 0x7F800000#32
  let main_v2 : FVec F S4352x5376 .f32 := broadcastInDim S4352x5376 ![] bcast_S_S4352x5376 main_cst
  let main_v3 : IVec S4352x5376 1 := cmpf .olt main_v1 main_v2
  let main_c : IVec S_ 1 := constantI S_ 1 1#1
  let main_v4 : IVec S_ 1 := (fun x v => Host.reduce IntOp.andi x v reducesTo_S4352x5376_S_d0_1 h_S_) main_v3 main_c
  let main_v5 : FVec F S4352x3072 .f32 := (extf .f32 · bitsLt_bf16_f32) main_arg1
  let main_v6 : FVec F S4352x3072 .f32 := Host.absf main_v5
  let main_cst_0 : FVec F S_ .f32 := constant S_ .f32 0x7F800000#32
  let main_v7 : FVec F S4352x3072 .f32 := broadcastInDim S4352x3072 ![] bcast_S_S4352x3072 main_cst_0
  let main_v8 : IVec S4352x3072 1 := cmpf .olt main_v6 main_v7
  let main_c_1 : IVec S_ 1 := constantI S_ 1 1#1
  let main_v9 : IVec S_ 1 := (fun x v => Host.reduce IntOp.andi x v reducesTo_S4352x3072_S_d0_1 h_S_) main_v8 main_c_1
  let main_v10 : IVec S_ 1 := andi main_v4 main_v9
  let main_v11 : FVec F S8448x1024 .f32 := (extf .f32 · bitsLt_bf16_f32) main_arg2
  let main_v12 : FVec F S8448x1024 .f32 := Host.absf main_v11
  let main_cst_2 : FVec F S_ .f32 := constant S_ .f32 0x7F800000#32
  let main_v13 : FVec F S8448x1024 .f32 := broadcastInDim S8448x1024 ![] bcast_S_S8448x1024 main_cst_2
  let main_v14 : IVec S8448x1024 1 := cmpf .olt main_v12 main_v13
  let main_c_3 : IVec S_ 1 := constantI S_ 1 1#1
  let main_v15 : IVec S_ 1 := (fun x v => Host.reduce IntOp.andi x v reducesTo_S8448x1024_S_d0_1 h_S_) main_v14 main_c_3
  let main_v16 : IVec S_ 1 := andi main_v10 main_v15
  let main_v17 : FVec F S4352x1024 .f32 := Host.absf main_arg3
  fn_part1 (F := F) main_arg4 main_v16 main_v17
-- ==== Kernel.lean ====
abbrev S2x2176x5376 : Shape := ⟨3, ![2, 2176, 5376]⟩
abbrev S2x2176x1536 : Shape := ⟨3, ![2, 2176, 1536]⟩
abbrev S2x17x4x128x128 : Shape := ⟨5, ![2, 17, 4, 128, 128]⟩
abbrev S2176x128 : Shape := ⟨2, ![2176, 128]⟩
abbrev S128x256 : Shape := ⟨2, ![128, 256]⟩
abbrev S32x8 : Shape := ⟨2, ![32, 8]⟩
abbrev S2x8 : Shape := ⟨2, ![2, 8]⟩
abbrev S2x3x512 : Shape := ⟨3, ![2, 3, 512]⟩
abbrev S32x128 : Shape := ⟨2, ![32, 128]⟩
abbrev S8x128 : Shape := ⟨2, ![8, 128]⟩
abbrev S8x512 : Shape := ⟨2, ![8, 512]⟩
abbrev S2x128x5376 : Shape := ⟨3, ![2, 128, 5376]⟩
abbrev S2x128x256 : Shape := ⟨3, ![2, 128, 256]⟩
abbrev S2x128x1280 : Shape := ⟨3, ![2, 128, 1280]⟩
abbrev S2x128x1536 : Shape := ⟨3, ![2, 128, 1536]⟩
abbrev S2x1x4x128x128 : Shape := ⟨5, ![2, 1, 4, 128, 128]⟩
abbrev S128x128 : Shape := ⟨2, ![128, 128]⟩
abbrev S1x3x512 : Shape := ⟨3, ![1, 3, 512]⟩
abbrev S8x128x256 : Shape := ⟨3, ![8, 128, 256]⟩
abbrev S2x4x128x128 : Shape := ⟨4, ![2, 4, 128, 128]⟩
abbrev S2x128x512 : Shape := ⟨3, ![2, 128, 512]⟩
abbrev S1x1 : Shape := ⟨2, ![1, 1]⟩
abbrev S1x128x256 : Shape := ⟨3, ![1, 128, 256]⟩
abbrev S128x1 : Shape := ⟨2, ![128, 1]⟩
abbrev S256x128 : Shape := ⟨2, ![256, 128]⟩
abbrev S1x128x128 : Shape := ⟨3, ![1, 128, 128]⟩
abbrev S128 : Shape := ⟨1, ![128]⟩
abbrev S1x128 : Shape := ⟨2, ![1, 128]⟩
abbrev S1 : Shape := ⟨1, ![1]⟩
abbrev S1x1x1x128x128 : Shape := ⟨5, ![1, 1, 1, 128, 128]⟩
abbrev S1x1x128x128 : Shape := ⟨4, ![1, 1, 128, 128]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S512 : Shape := ⟨1, ![512]⟩

abbrev nBuf : Space → Nat
  | .hbm => 13
  | .vmem => 26
  | .smem => 2
  | _ => 0

abbrev bufTy : (tb : Table) → Fin (tcTables nBuf tb) → BufTy
  | .hbm, ⟨0, _⟩ => ⟨S2x2176x5376, .f32⟩
  | .hbm, ⟨1, _⟩ => ⟨S2x2176x1536, .bf16⟩
  | .hbm, ⟨2, _⟩ => ⟨S2x17x4x128x128, .f32⟩
  | .hbm, ⟨3, _⟩ => ⟨S2176x128, .f32⟩
  | .hbm, ⟨4, _⟩ => ⟨S2176x128, .f32⟩
  | .hbm, ⟨5, _⟩ => ⟨S128x256, .i32⟩
  | .hbm, ⟨6, _⟩ => ⟨S32x8, .f32⟩
  | .hbm, ⟨7, _⟩ => ⟨S2x8, .f32⟩
  | .hbm, ⟨8, _⟩ => ⟨S2x3x512, .f32⟩
  | .hbm, ⟨9, _⟩ => ⟨S2x2176x5376, .bf16⟩
  | .hbm, ⟨10, _⟩ => ⟨S32x128, .f32⟩
  | .hbm, ⟨11, _⟩ => ⟨S8x128, .f32⟩
  | .hbm, ⟨12, _⟩ => ⟨S8x512, .f32⟩
  | .local _ .vmem, ⟨0, _⟩ => ⟨S2x128x5376, .f32⟩
  | .local _ .vmem, ⟨1, _⟩ => ⟨S2x128x5376, .f32⟩
  | .local _ .vmem, ⟨2, _⟩ => ⟨S2x128x256, .f32⟩
  | .local _ .vmem, ⟨3, _⟩ => ⟨S2x128x256, .f32⟩
  | .local _ .vmem, ⟨4, _⟩ => ⟨S2x128x1280, .f32⟩
  | .local _ .vmem, ⟨5, _⟩ => ⟨S2x128x1280, .f32⟩
  | .local _ .vmem, ⟨6, _⟩ => ⟨S2x128x1536, .bf16⟩
  | .local _ .vmem, ⟨7, _⟩ => ⟨S2x128x1536, .bf16⟩
  | .local _ .vmem, ⟨8, _⟩ => ⟨S2x1x4x128x128, .f32⟩
  | .local _ .vmem, ⟨9, _⟩ => ⟨S2x1x4x128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x256, .i32⟩
  | .local _ .vmem, ⟨15, _⟩ => ⟨S1x3x512, .f32⟩
  | .local _ .vmem, ⟨16, _⟩ => ⟨S2x128x5376, .bf16⟩
  | .local _ .vmem, ⟨17, _⟩ => ⟨S2x128x5376, .bf16⟩
  | .local _ .vmem, ⟨18, _⟩ => ⟨S32x128, .f32⟩
  | .local _ .vmem, ⟨19, _⟩ => ⟨S8x128, .f32⟩
  | .local _ .vmem, ⟨20, _⟩ => ⟨S8x512, .f32⟩
  | .local _ .vmem, ⟨21, _⟩ => ⟨S8x128x256, .f32⟩
  | .local _ .vmem, ⟨22, _⟩ => ⟨S8x128x256, .f32⟩
  | .local _ .vmem, ⟨23, _⟩ => ⟨S2x128x256, .f32⟩
  | .local _ .vmem, ⟨24, _⟩ => ⟨S2x4x128x128, .f32⟩
  | .local _ .vmem, ⟨25, _⟩ => ⟨S2x128x512, .f32⟩
  | .local _ .smem, ⟨0, _⟩ => ⟨S32x8, .f32⟩
  | .local _ .smem, ⟨1, _⟩ => ⟨S2x8, .f32⟩
  | _, _ => ⟨S2x2176x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32_1503 : BitVec 32 := 16#32
  let v3126 : BitVec 1 := Scalar.cmpi .eq arg0 c16_i32_1503
  let v3127 : BitVec 32 := Scalar.extui v3126
  let c0_i32_1504 : BitVec 32 := 0#32
  let v3128 : BitVec 1 := Scalar.cmpi .ne v3127 c0_i32_1504
  v3128

@[reducible] def k0_t1_loop : Scf.Loop 32 :=
  let c0_i32_1508 : BitVec 32 := 0#32
  let c32_i32 : BitVec 32 := 32#32
  let v3133 : BitVec 32 := Scalar.addi c0_i32_1508 c32_i32
  let c1_i32_1509 : BitVec 32 := 1#32
  ⟨c0_i32_1508, v3133, c1_i32_1509⟩
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let v1 : BitVec 32 := Scalar.maxsi v0 c0_i32
  let c0_i32_0 : BitVec 32 := 0#32
  let c2_i32 : BitVec 32 := 2#32
  let c0_i32_1 : BitVec 32 := 0#32
  ![c0_i32_0.toNat, v1.toNat, c2_i32.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let v1 : BitVec 32 := Scalar.maxsi v0 c0_i32
  let c0_i32_0 : BitVec 32 := 0#32
  let c3_i32 : BitVec 32 := 3#32
  let c0_i32_1 : BitVec 32 := 0#32
  ![c0_i32_0.toNat, v1.toNat, c3_i32.toNat]

def cc0_transform_3 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 5 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_5 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x128x5376 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2x2176x5376 : Shape := ⟨3, ![2, 2176, 5376]⟩
abbrev S2x2176x1536 : Shape := ⟨3, ![2, 2176, 1536]⟩
abbrev S2x17x4x128x128 : Shape := ⟨5, ![2, 17, 4, 128, 128]⟩
abbrev S2176x128 : Shape := ⟨2, ![2176, 128]⟩
abbrev S128x256 : Shape := ⟨2, ![128, 256]⟩
abbrev S32x8 : Shape := ⟨2, ![32, 8]⟩
abbrev S2x8 : Shape := ⟨2, ![2, 8]⟩
abbrev S2x3x512 : Shape := ⟨3, ![2, 3, 512]⟩
abbrev S2x2176x512 : Shape := ⟨3, ![2, 2176, 512]⟩
abbrev S2x2176x2048 : Shape := ⟨3, ![2, 2176, 2048]⟩
abbrev S1x3x512 : Shape := ⟨3, ![1, 3, 512]⟩
abbrev S3x512 : Shape := ⟨2, ![3, 512]⟩
abbrev S2176 : Shape := ⟨1, ![2176]⟩
abbrev S_ : Shape := ⟨0, ![]⟩
abbrev S1x2176x1 : Shape := ⟨3, ![1, 2176, 1]⟩
abbrev S2x2x512 : Shape := ⟨3, ![2, 2, 512]⟩
abbrev S2x2178x512 : Shape := ⟨3, ![2, 2178, 512]⟩
abbrev S1x512 : Shape := ⟨2, ![1, 512]⟩
abbrev S512 : Shape := ⟨1, ![512]⟩
abbrev S1x1x512 : Shape := ⟨3, ![1, 1, 512]⟩
abbrev S8x512 : Shape := ⟨2, ![8, 512]⟩

abbrev nBuf : Space → Nat
  | .hbm => 132
  | .vmem => 0
  | .smem => 0
  | _ => 0

abbrev hbmTy0_0 (i : Nat) : BufTy := match i % 128 with
  | 0 => ⟨S2x2176x5376, .f32⟩
  | 1 => ⟨S2x2176x1536, .bf16⟩
  | 2 => ⟨S2x17x4x128x128, .f32⟩
  | 3 => ⟨S2176x128, .f32⟩
  | 4 => ⟨S2176x128, .f32⟩
  | 5 => ⟨S128x256, .i32⟩
  | 6 => ⟨S32x8, .f32⟩
  | 7 => ⟨S2x8, .f32⟩
  | 8 => ⟨S2x3x512, .f32⟩
  | 9 => ⟨S2x2176x512, .bf16⟩
  | 10 => ⟨S2x2176x512, .f32⟩
  | 11 => ⟨S2x2176x2048, .f32⟩
  | 12 => ⟨S1x3x512, .f32⟩
  | 13 => ⟨S3x512, .f32⟩
  | 14 => ⟨S2x2176x512, .f32⟩
  | 15 => ⟨S2x2176x512, .f32⟩
  | 16 => ⟨S2x2176x512, .f32⟩
  | 17 => ⟨S2x2176x512, .f32⟩
  | 18 => ⟨S2176, .i32⟩
  | 19 => ⟨S_, .i32⟩
  | 20 => ⟨S2176, .i32⟩
  | 21 => ⟨S2176, .i1⟩
  | 22 => ⟨S2x2176x512, .f32⟩
  | 23 => ⟨S1x2176x1, .i1⟩
  | 24 => ⟨S1x2176x1, .f32⟩
  | 25 => ⟨S2x2176x512, .f32⟩
  | 26 => ⟨S2x2176x512, .f32⟩
  | 27 => ⟨S_, .f32⟩
  | 28 => ⟨S2x2x512, .f32⟩
  | 29 => ⟨S2x2178x512, .f32⟩
  | 30 => ⟨S_, .f32⟩
  | 31 => ⟨S2x2x512, .f32⟩
  | 32 => ⟨S1x512, .f32⟩
  | 33 => ⟨S512, .f32⟩
  | 34 => ⟨S2x2176x512, .f32⟩
  | 35 => ⟨S1x1x512, .f32⟩
  | 36 => ⟨S2x2176x512, .f32⟩
  | 37 => ⟨S2x2176x512, .f32⟩
  | 38 => ⟨S1x512, .f32⟩
  | 39 => ⟨S512, .f32⟩
  | 40 => ⟨S2x2176x512, .f32⟩
  | 41 => ⟨S1x1x512, .f32⟩
  | 42 => ⟨S2x2176x512, .f32⟩
  | 43 => ⟨S2x2176x512, .f32⟩
  | 44 => ⟨S2x2176x512, .f32⟩
  | 45 => ⟨S1x512, .f32⟩
  | 46 => ⟨S512, .f32⟩
  | 47 => ⟨S2x2176x512, .f32⟩
  | 48 => ⟨S1x1x512, .f32⟩
  | 49 => ⟨S2x2176x512, .f32⟩
  | 50 => ⟨S2x2176x512, .f32⟩
  | 51 => ⟨S2x2176x512, .f32⟩
  | 52 => ⟨S2x2176x512, .f32⟩
  | 53 => ⟨S2x2176x512, .f32⟩
  | 54 => ⟨S2x2176x512, .f32⟩
  | 55 => ⟨S_, .f32⟩
  | 56 => ⟨S2x2176x512, .f32⟩
  | 57 => ⟨S2x2176x512, .f32⟩
  | 58 => ⟨S_, .f32⟩
  | 59 => ⟨S2x2176x512, .f32⟩
  | 60 => ⟨S2x2176x512, .f32⟩
  | 61 => ⟨S_, .f32⟩
  | 62 => ⟨S2x2176x512, .f32⟩
  | 63 => ⟨S2x2176x512, .f32⟩
  | 64 => ⟨S2x2176x512, .f32⟩
  | 65 => ⟨S2x2176x512, .f32⟩
  | 66 => ⟨S2x2176x512, .f32⟩
  | 67 => ⟨S2x2176x512, .f32⟩
  | 68 => ⟨S2x2176x512, .f32⟩
  | 69 => ⟨S2x2176x512, .f32⟩
  | 70 => ⟨S2x2176x512, .f32⟩
  | 71 => ⟨S2x2176x512, .f32⟩
  | 72 => ⟨S2x2176x512, .f32⟩
  | 73 => ⟨S2x2176x512, .f32⟩
  | 74 => ⟨S2x2176x512, .f32⟩
  | 75 => ⟨S2x2176x512, .f32⟩
  | 76 => ⟨S2x2176x512, .f32⟩
  | 77 => ⟨S2x2176x512, .f32⟩
  | 78 => ⟨S_, .f32⟩
  | 79 => ⟨S512, .f32⟩
  | 80 => ⟨S1x1x512, .f32⟩
  | 81 => ⟨S_, .f32⟩
  | 82 => ⟨S512, .f32⟩
  | 83 => ⟨S_, .f32⟩
  | 84 => ⟨S2x2178x512, .f32⟩
  | 85 => ⟨S1x512, .f32⟩
  | 86 => ⟨S_, .f32⟩
  | 87 => ⟨S3x512, .f32⟩
  | 88 => ⟨S2x2176x512, .f32⟩
  | 89 => ⟨S2x2176x512, .f32⟩
  | 90 => ⟨S2x2176x512, .f32⟩
  | 91 => ⟨S_, .f32⟩
  | 92 => ⟨S512, .f32⟩
  | 93 => ⟨S1x1x512, .f32⟩
  | 94 => ⟨S_, .f32⟩
  | 95 => ⟨S512, .f32⟩
  | 96 => ⟨S_, .f32⟩
  | 97 => ⟨S2x2178x512, .f32⟩
  | 98 => ⟨S2x2178x512, .f32⟩
  | 99 => ⟨S1x512, .f32⟩
  | 100 => ⟨S_, .f32⟩
  | 101 => ⟨S3x512, .f32⟩
  | 102 => ⟨S3x512, .f32⟩
  | 103 => ⟨S2x2176x512, .f32⟩
  | 104 => ⟨S2x2176x512, .f32⟩
  | 105 => ⟨S2x2176x512, .f32⟩
  | 106 => ⟨S_, .f32⟩
  | 107 => ⟨S512, .f32⟩
  | 108 => ⟨S1x1x512, .f32⟩
  | 109 => ⟨S_, .f32⟩
  | 110 => ⟨S512, .f32⟩
  | 111 => ⟨S_, .f32⟩
  | 112 => ⟨S2x2178x512, .f32⟩
  | 113 => ⟨S2x2178x512, .f32⟩
  | 114 => ⟨S1x512, .f32⟩
  | 115 => ⟨S_, .f32⟩
  | 116 => ⟨S3x512, .f32⟩
  | 117 => ⟨S3x512, .f32⟩
  | 118 => ⟨S2x2x512, .f32⟩
  | 119 => ⟨S2x2176x512, .f32⟩
  | 120 => ⟨S2x2176x512, .f32⟩
  | 121 => ⟨S2x2176x512, .f32⟩
  | 122 => ⟨S2x2176x512, .f32⟩
  | 123 => ⟨S2x2176x512, .f32⟩
  | 124 => ⟨S2x2176x2048, .f32⟩
  | 125 => ⟨S_, .i32⟩
  | 126 => ⟨S_, .f32⟩
  | 127 => ⟨S2x2176x5376, .f32⟩
  | _ => ⟨S2x2176x5376, .f32⟩

abbrev hbmTy0_1 (i : Nat) : BufTy := match i % 128 with
  | 0 => ⟨S2x2176x5376, .bf16⟩
  | 1 => ⟨S_, .i32⟩
  | 2 => ⟨S_, .f32⟩
  | 3 => ⟨S8x512, .f32⟩
  | _ => ⟨S2x2176x5376, .f32⟩

abbrev hbmTy (i : Nat) : BufTy := match i / 128 with
  | 0 => hbmTy0_0 i
  | 1 => hbmTy0_1 i
  | _ => ⟨S2x2176x5376, .f32⟩

abbrev bufTy : (tb : Table) → Fin (tcTables nBuf tb) → BufTy
  | .hbm, ⟨i, _⟩ => hbmTy i
  | _, _ => ⟨S2x2176x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_v41_2 : Ref sig .tc := ⟨.hbm, 60, rfl⟩
abbrev main_call0_cst_1 : Ref sig .tc := ⟨.hbm, 61, rfl⟩
abbrev main_call0_v6 : Ref sig .tc := ⟨.hbm, 62, rfl⟩
abbrev main_call0_v7 : Ref sig .tc := ⟨.hbm, 63, rfl⟩
abbrev main_v41_1 : Ref sig .tc := ⟨.hbm, 64, rfl⟩
abbrev main_v41_0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_1 : Ref sig .tc := ⟨.hbm, 78, rfl⟩
abbrev main_v51 : Ref sig .tc := ⟨.hbm, 79, rfl⟩
abbrev main_v52 : Ref sig .tc := ⟨.hbm, 80, rfl⟩
abbrev main_cst_2 : Ref sig .tc := ⟨.hbm, 81, rfl⟩
abbrev main_v53 : Ref sig .tc := ⟨.hbm, 82, rfl⟩
abbrev main_cst_3 : Ref sig .tc := ⟨.hbm, 83, rfl⟩
abbrev main_v54 : Ref sig .tc := ⟨.hbm, 84, rfl⟩
abbrev main_v55 : Ref sig .tc := ⟨.hbm, 85, rfl⟩
abbrev main_cst_4 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_5 : Ref sig .tc := ⟨.hbm, 91, rfl⟩
abbrev main_v60 : Ref sig .tc := ⟨.hbm, 92, rfl⟩
abbrev main_v61 : Ref sig .tc := ⟨.hbm, 93, rfl⟩
abbrev main_cst_6 : Ref sig .tc := ⟨.hbm, 94, rfl⟩
abbrev main_v62 : Ref sig .tc := ⟨.hbm, 95, rfl⟩
abbrev main_cst_7 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_8 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_cst_10 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_13 : Ref sig .tc := ⟨.hbm, 125, rfl⟩
abbrev main_call2_v0 : Ref sig .tc := ⟨.hbm, 126, rfl⟩
abbrev main_v86 : Ref sig .tc := ⟨.hbm, 127, rfl⟩
abbrev main_v87 : Ref sig .tc := ⟨.hbm, 128, rfl⟩
abbrev main_c_14 : Ref sig .tc := ⟨.hbm, 129, rfl⟩
abbrev main_call3_v0 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Kernel2.lean ====
abbrev S4352x1024 : Shape := ⟨2, ![4352, 1024]⟩
abbrev S4352x5376 : Shape := ⟨2, ![4352, 5376]⟩
abbrev S4352x3072 : Shape := ⟨2, ![4352, 3072]⟩
abbrev S8448x1024 : Shape := ⟨2, ![8448, 1024]⟩
abbrev S4352x768 : Shape := ⟨2, ![4352, 768]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x5376, .bf16⟩
  | .hbm, ⟨2, _⟩ => ⟨S4352x3072, .bf16⟩
  | .hbm, ⟨3, _⟩ => ⟨S8448x1024, .f32⟩
  | .local _ .vmem, ⟨0, _⟩ => ⟨S4352x1024, .bf16⟩
  | .local _ .vmem, ⟨1, _⟩ => ⟨S4352x768, .bf16⟩
  | .local _ .vmem, ⟨2, _⟩ => ⟨S4352x768, .bf16⟩
  | .local _ .vmem, ⟨3, _⟩ => ⟨S4352x768, .bf16⟩
  | .local _ .vmem, ⟨4, _⟩ => ⟨S4352x768, .bf16⟩
  | .local _ .vmem, ⟨5, _⟩ => ⟨S768x1024, .f32⟩
  | .local _ .vmem, ⟨6, _⟩ => ⟨S768x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c7_i32 : BitVec 32 := 7#32
  let v0 : BitVec 1 := Scalar.cmpi .slt arg0 c7_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c7_i32_0 : BitVec 32 := 7#32
  let v3 : BitVec 1 := Scalar.cmpi .sge arg0 c7_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4352x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4352x1024 : Shape := ⟨2, ![4352, 1024]⟩
abbrev S4352x5376 : Shape := ⟨2, ![4352, 5376]⟩
abbrev S4352x3072 : Shape := ⟨2, ![4352, 3072]⟩
abbrev S4352x8448 : Shape := ⟨2, ![4352, 8448]⟩
abbrev S_ : Shape := ⟨0, ![]⟩
abbrev S1024x8448 : Shape := ⟨2, ![1024, 8448]⟩
abbrev S8448x1024 : Shape := ⟨2, ![8448, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5376, .bf16⟩
  | .hbm, ⟨2, _⟩ => ⟨S4352x3072, .bf16⟩
  | .hbm, ⟨3, _⟩ => ⟨S4352x1024, .f32⟩
  | .hbm, ⟨4, _⟩ => ⟨S4352x8448, .bf16⟩
  | .hbm, ⟨5, _⟩ => ⟨S4352x8448, .f32⟩
  | .hbm, ⟨6, _⟩ => ⟨S_, .f32⟩
  | .hbm, ⟨7, _⟩ => ⟨S1024x8448, .f32⟩
  | .hbm, ⟨8, _⟩ => ⟨S4352x8448, .f32⟩
  | .hbm, ⟨9, _⟩ => ⟨S8448x1024, .f32⟩
  | .hbm, ⟨10, _⟩ => ⟨S1024x8448, .f32⟩
  | .hbm, ⟨11, _⟩ => ⟨S8448x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S4352x5376 : Shape := ⟨2, ![4352, 5376]⟩
abbrev S4352x3072 : Shape := ⟨2, ![4352, 3072]⟩
abbrev S8448x1024 : Shape := ⟨2, ![8448, 1024]⟩
abbrev S4352x1024 : Shape := ⟨2, ![4352, 1024]⟩
abbrev S2x1x1024 : Shape := ⟨3, ![2, 1, 1024]⟩
abbrev S128x256 : Shape := ⟨2, ![128, 256]⟩
abbrev S8x1024 : Shape := ⟨2, ![8, 1024]⟩
abbrev S1088x768 : Shape := ⟨2, ![1088, 768]⟩
abbrev S768x1024 : Shape := ⟨2, ![768, 1024]⟩
abbrev S1088x1024 : Shape := ⟨2, ![1088, 1024]⟩
abbrev S1x1x1024 : Shape := ⟨3, ![1, 1, 1024]⟩
abbrev S1088 : Shape := ⟨1, ![1088]⟩
abbrev S1088x1 : Shape := ⟨2, ![1088, 1]⟩
abbrev S1x1024 : Shape := ⟨2, ![1, 1024]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4352x5376, .bf16⟩
  | .hbm, ⟨1, _⟩ => ⟨S4352x3072, .bf16⟩
  | .hbm, ⟨2, _⟩ => ⟨S8448x1024, .bf16⟩
  | .hbm, ⟨3, _⟩ => ⟨S4352x1024, .f32⟩
  | .hbm, ⟨4, _⟩ => ⟨S2x1x1024, .f32⟩
  | .hbm, ⟨5, _⟩ => ⟨S4352x1024, .f32⟩
  | .hbm, ⟨6, _⟩ => ⟨S128x256, .i32⟩
  | .hbm, ⟨7, _⟩ => ⟨S4352x1024, .f32⟩
  | .hbm, ⟨8, _⟩ => ⟨S8x1024, .f32⟩
  | .local _ .vmem, ⟨0, _⟩ => ⟨S1088x768, .bf16⟩
  | .local _ .vmem, ⟨1, _⟩ => ⟨S1088x768, .bf16⟩
  | .local _ .vmem, ⟨2, _⟩ => ⟨S1088x768, .bf16⟩
  | .local _ .vmem, ⟨3, _⟩ => ⟨S1088x768, .bf16⟩
  | .local _ .vmem, ⟨4, _⟩ => ⟨S768x1024, .bf16⟩
  | .local _ .vmem, ⟨5, _⟩ => ⟨S768x1024, .bf16⟩
  | .local _ .vmem, ⟨6, _⟩ => ⟨S1088x1024, .f32⟩
  | .local _ .vmem, ⟨7, _⟩ => ⟨S1088x1024, .f32⟩
  | .local _ .vmem, ⟨8, _⟩ => ⟨S1x1x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .f32⟩
  | .local _ .vmem, ⟨13, _⟩ => ⟨S8x1024, .f32⟩
  | .local _ .vmem, ⟨14, _⟩ => ⟨S1088x1024, .f32⟩
  | _, _ => ⟨S4352x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 11], ![false, false]⟩

def k0_cond5 (i : grid0.Coords) : BitVec 1 :=
  let arg1 : BitVec 32 := BitVec.ofNat 32 (i 1).val
  let c10_i32 : BitVec 32 := 10#32
  let v14 : BitVec 1 := Scalar.cmpi .eq arg1 c10_i32
  let v15 : BitVec 32 := Scalar.extui v14
  let c0_i32_7 : BitVec 32 := 0#32
  let v16 : BitVec 1 := Scalar.cmpi .ne v15 c0_i32_7
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference3Ideal.lean ====
abbrev S4352x5376 : Shape := ⟨2, ![4352, 5376]⟩
abbrev S4352x3072 : Shape := ⟨2, ![4352, 3072]⟩
abbrev S8448x1024 : Shape := ⟨2, ![8448, 1024]⟩
abbrev S4352x1024 : Shape := ⟨2, ![4352, 1024]⟩
abbrev S2x1x1024 : Shape := ⟨3, ![2, 1, 1024]⟩
abbrev S128x256 : Shape := ⟨2, ![128, 256]⟩
abbrev S1024x8448 : Shape := ⟨2, ![1024, 8448]⟩
abbrev S4352x8448 : Shape := ⟨2, ![4352, 8448]⟩
abbrev S1x1x1024 : Shape := ⟨3, ![1, 1, 1024]⟩
abbrev S1024 : Shape := ⟨1, ![1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S8x1024 : Shape := ⟨2, ![8, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4352x5376, .bf16⟩
  | .hbm, ⟨1, _⟩ => ⟨S4352x3072, .bf16⟩
  | .hbm, ⟨2, _⟩ => ⟨S8448x1024, .bf16⟩
  | .hbm, ⟨3, _⟩ => ⟨S4352x1024, .f32⟩
  | .hbm, ⟨4, _⟩ => ⟨S2x1x1024, .f32⟩
  | .hbm, ⟨5, _⟩ => ⟨S4352x1024, .f32⟩
  | .hbm, ⟨6, _⟩ => ⟨S128x256, .i32⟩
  | .hbm, ⟨7, _⟩ => ⟨S8448x1024, .f32⟩
  | .hbm, ⟨8, _⟩ => ⟨S1024x8448, .f32⟩
  | .hbm, ⟨9, _⟩ => ⟨S4352x8448, .bf16⟩
  | .hbm, ⟨10, _⟩ => ⟨S4352x8448, .f32⟩
  | .hbm, ⟨11, _⟩ => ⟨S1x1x1024, .f32⟩
  | .hbm, ⟨12, _⟩ => ⟨S1024, .f32⟩
  | .hbm, ⟨13, _⟩ => ⟨S4352x1024, .f32⟩
  | .hbm, ⟨14, _⟩ => ⟨S_, .f32⟩
  | .hbm, ⟨15, _⟩ => ⟨S4352, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S4352x1024, .f32⟩
  | .hbm, ⟨29, _⟩ => ⟨S4352x1024, .f32⟩
  | .hbm, ⟨30, _⟩ => ⟨S1x1024, .f32⟩
  | .hbm, ⟨31, _⟩ => ⟨S4352x1024, .f32⟩
  | .hbm, ⟨32, _⟩ => ⟨S4352x1024, .f32⟩
  | .hbm, ⟨33, _⟩ => ⟨S4352x8448, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4352x1024, .f32⟩
  | .hbm, ⟨40, _⟩ => ⟨S4352x1024, .f32⟩
  | .hbm, ⟨41, _⟩ => ⟨S_, .f32⟩
  | .hbm, ⟨42, _⟩ => ⟨S1024, .f32⟩
  | .hbm, ⟨43, _⟩ => ⟨S4352x1024, .f32⟩
  | .hbm, ⟨44, _⟩ => ⟨S_, .f32⟩
  | .hbm, ⟨45, _⟩ => ⟨S4352, .f32⟩
  | .hbm, ⟨46, _⟩ => ⟨S4352x1, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1, .f32⟩
  | .hbm, ⟨51, _⟩ => ⟨S_, .f32⟩
  | .hbm, ⟨52, _⟩ => ⟨S4352x1, .f32⟩
  | .hbm, ⟨53, _⟩ => ⟨S4352x1, .f32⟩
  | .hbm, ⟨54, _⟩ => ⟨S_, .f32⟩
  | .hbm, ⟨55, _⟩ => ⟨S4352, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S4352x1024, .f32⟩
  | .hbm, ⟨60, _⟩ => ⟨S4352x1024, .f32⟩
  | .hbm, ⟨61, _⟩ => ⟨S1x1024, .f32⟩
  | .hbm, ⟨62, _⟩ => ⟨S_, .i32⟩
  | .hbm, ⟨63, _⟩ => ⟨S_, .f32⟩
  | .hbm, ⟨64, _⟩ => ⟨S8x1024, .f32⟩
  | _, _ => ⟨S4352x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_call0_v0 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel4.lean ====
abbrev S4352x1024 : Shape := ⟨2, ![4352, 1024]⟩
abbrev S2x1x1024 : Shape := ⟨3, ![2, 1, 1024]⟩
abbrev S8448x1024 : Shape := ⟨2, ![8448, 1024]⟩
abbrev S128x256 : Shape := ⟨2, ![128, 256]⟩
abbrev S4352x5376 : Shape := ⟨2, ![4352, 5376]⟩
abbrev S2176x1024 : Shape := ⟨2, ![2176, 1024]⟩
abbrev S1x1x1024 : Shape := ⟨3, ![1, 1, 1024]⟩
abbrev S768x1024 : Shape := ⟨2, ![768, 1024]⟩
abbrev S2176x768 : Shape := ⟨2, ![2176, 768]⟩
abbrev S2176 : Shape := ⟨1, ![2176]⟩
abbrev S2176x1 : Shape := ⟨2, ![2176, 1]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S2x1x1024, .f32⟩
  | .hbm, ⟨2, _⟩ => ⟨S8448x1024, .bf16⟩
  | .hbm, ⟨3, _⟩ => ⟨S128x256, .i32⟩
  | .hbm, ⟨4, _⟩ => ⟨S4352x1024, .bf16⟩
  | .hbm, ⟨5, _⟩ => ⟨S4352x5376, .f32⟩
  | .local _ .vmem, ⟨0, _⟩ => ⟨S2176x1024, .f32⟩
  | .local _ .vmem, ⟨1, _⟩ => ⟨S2176x1024, .f32⟩
  | .local _ .vmem, ⟨2, _⟩ => ⟨S1x1x1024, .f32⟩
  | .local _ .vmem, ⟨3, _⟩ => ⟨S768x1024, .bf16⟩
  | .local _ .vmem, ⟨4, _⟩ => ⟨S768x1024, .bf16⟩
  | .local _ .vmem, ⟨5, _⟩ => ⟨S2176x1024, .bf16⟩
  | .local _ .vmem, ⟨6, _⟩ => ⟨S2176x1024, .bf16⟩
  | .local _ .vmem, ⟨7, _⟩ => ⟨S2176x768, .f32⟩
  | .local _ .vmem, ⟨8, _⟩ => ⟨S2176x768, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2176x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4352x1024 : Shape := ⟨2, ![4352, 1024]⟩
abbrev S2x1x1024 : Shape := ⟨3, ![2, 1, 1024]⟩
abbrev S8448x1024 : Shape := ⟨2, ![8448, 1024]⟩
abbrev S128x256 : Shape := ⟨2, ![128, 256]⟩
abbrev S1x1x1024 : Shape := ⟨3, ![1, 1, 1024]⟩
abbrev S1024 : Shape := ⟨1, ![1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S5376x1024 : Shape := ⟨2, ![5376, 1024]⟩
abbrev S1024x5376 : Shape := ⟨2, ![1024, 5376]⟩
abbrev S4352x5376 : Shape := ⟨2, ![4352, 5376]⟩

abbrev nBuf : Space → Nat
  | .hbm => 27
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x1x1024, .f32⟩
  | .hbm, ⟨2, _⟩ => ⟨S8448x1024, .bf16⟩
  | .hbm, ⟨3, _⟩ => ⟨S128x256, .i32⟩
  | .hbm, ⟨4, _⟩ => ⟨S1x1x1024, .f32⟩
  | .hbm, ⟨5, _⟩ => ⟨S1024, .f32⟩
  | .hbm, ⟨6, _⟩ => ⟨S4352x1024, .f32⟩
  | .hbm, ⟨7, _⟩ => ⟨S_, .f32⟩
  | .hbm, ⟨8, _⟩ => ⟨S4352, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S4352x1024, .f32⟩
  | .hbm, ⟨18, _⟩ => ⟨S4352x1024, .f32⟩
  | .hbm, ⟨19, _⟩ => ⟨S1x1024, .f32⟩
  | .hbm, ⟨20, _⟩ => ⟨S4352x1024, .f32⟩
  | .hbm, ⟨21, _⟩ => ⟨S4352x1024, .f32⟩
  | .hbm, ⟨22, _⟩ => ⟨S4352x1024, .bf16⟩
  | .hbm, ⟨23, _⟩ => ⟨S8448x1024, .f32⟩
  | .hbm, ⟨24, _⟩ => ⟨S5376x1024, .f32⟩
  | .hbm, ⟨25, _⟩ => ⟨S1024x5376, .f32⟩
  | .hbm, ⟨26, _⟩ => ⟨S4352x5376, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S4352x1024 : Shape := ⟨2, ![4352, 1024]⟩
abbrev S2x1x1024 : Shape := ⟨3, ![2, 1, 1024]⟩
abbrev S8448x1024 : Shape := ⟨2, ![8448, 1024]⟩
abbrev S128x256 : Shape := ⟨2, ![128, 256]⟩
abbrev S4352x5376 : Shape := ⟨2, ![4352, 5376]⟩
abbrev S2176x1024 : Shape := ⟨2, ![2176, 1024]⟩
abbrev S1x1x1024 : Shape := ⟨3, ![1, 1, 1024]⟩
abbrev S768x1024 : Shape := ⟨2, ![768, 1024]⟩
abbrev S2176x768 : Shape := ⟨2, ![2176, 768]⟩
abbrev S2176 : Shape := ⟨1, ![2176]⟩
abbrev S2176x1 : Shape := ⟨2, ![2176, 1]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S2x1x1024, .f32⟩
  | .hbm, ⟨2, _⟩ => ⟨S8448x1024, .bf16⟩
  | .hbm, ⟨3, _⟩ => ⟨S128x256, .i32⟩
  | .hbm, ⟨4, _⟩ => ⟨S4352x1024, .bf16⟩
  | .hbm, ⟨5, _⟩ => ⟨S4352x5376, .f32⟩
  | .local _ .vmem, ⟨0, _⟩ => ⟨S2176x1024, .f32⟩
  | .local _ .vmem, ⟨1, _⟩ => ⟨S2176x1024, .f32⟩
  | .local _ .vmem, ⟨2, _⟩ => ⟨S1x1x1024, .f32⟩
  | .local _ .vmem, ⟨3, _⟩ => ⟨S768x1024, .bf16⟩
  | .local _ .vmem, ⟨4, _⟩ => ⟨S768x1024, .bf16⟩
  | .local _ .vmem, ⟨5, _⟩ => ⟨S2176x1024, .bf16⟩
  | .local _ .vmem, ⟨6, _⟩ => ⟨S2176x1024, .bf16⟩
  | .local _ .vmem, ⟨7, _⟩ => ⟨S2176x768, .f32⟩
  | .local _ .vmem, ⟨8, _⟩ => ⟨S2176x768, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2176x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4352x1024 : Shape := ⟨2, ![4352, 1024]⟩
abbrev S2x1x1024 : Shape := ⟨3, ![2, 1, 1024]⟩
abbrev S8448x1024 : Shape := ⟨2, ![8448, 1024]⟩
abbrev S128x256 : Shape := ⟨2, ![128, 256]⟩
abbrev S1x1x1024 : Shape := ⟨3, ![1, 1, 1024]⟩
abbrev S1024 : Shape := ⟨1, ![1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S5376x1024 : Shape := ⟨2, ![5376, 1024]⟩
abbrev S1024x5376 : Shape := ⟨2, ![1024, 5376]⟩
abbrev S4352x5376 : Shape := ⟨2, ![4352, 5376]⟩

abbrev nBuf : Space → Nat
  | .hbm => 27
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x1x1024, .f32⟩
  | .hbm, ⟨2, _⟩ => ⟨S8448x1024, .bf16⟩
  | .hbm, ⟨3, _⟩ => ⟨S128x256, .i32⟩
  | .hbm, ⟨4, _⟩ => ⟨S1x1x1024, .f32⟩
  | .hbm, ⟨5, _⟩ => ⟨S1024, .f32⟩
  | .hbm, ⟨6, _⟩ => ⟨S4352x1024, .f32⟩
  | .hbm, ⟨7, _⟩ => ⟨S_, .f32⟩
  | .hbm, ⟨8, _⟩ => ⟨S4352, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S4352x1024, .f32⟩
  | .hbm, ⟨18, _⟩ => ⟨S4352x1024, .f32⟩
  | .hbm, ⟨19, _⟩ => ⟨S1x1024, .f32⟩
  | .hbm, ⟨20, _⟩ => ⟨S4352x1024, .f32⟩
  | .hbm, ⟨21, _⟩ => ⟨S4352x1024, .f32⟩
  | .hbm, ⟨22, _⟩ => ⟨S4352x1024, .bf16⟩
  | .hbm, ⟨23, _⟩ => ⟨S8448x1024, .f32⟩
  | .hbm, ⟨24, _⟩ => ⟨S5376x1024, .f32⟩
  | .hbm, ⟨25, _⟩ => ⟨S1024x5376, .f32⟩
  | .hbm, ⟨26, _⟩ => ⟨S4352x5376, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S4352x1024 : Shape := ⟨2, ![4352, 1024]⟩
abbrev S8448x1024 : Shape := ⟨2, ![8448, 1024]⟩
abbrev S4352x3072 : Shape := ⟨2, ![4352, 3072]⟩
abbrev S2176x1024 : Shape := ⟨2, ![2176, 1024]⟩
abbrev S768x1024 : Shape := ⟨2, ![768, 1024]⟩
abbrev S2176x768 : Shape := ⟨2, ![2176, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S8448x1024, .bf16⟩
  | .hbm, ⟨2, _⟩ => ⟨S4352x3072, .bf16⟩
  | .local _ .vmem, ⟨0, _⟩ => ⟨S2176x1024, .bf16⟩
  | .local _ .vmem, ⟨1, _⟩ => ⟨S2176x1024, .bf16⟩
  | .local _ .vmem, ⟨2, _⟩ => ⟨S768x1024, .bf16⟩
  | .local _ .vmem, ⟨3, _⟩ => ⟨S768x1024, .bf16⟩
  | .local _ .vmem, ⟨4, _⟩ => ⟨S2176x768, .bf16⟩
  | .local _ .vmem, ⟨5, _⟩ => ⟨S2176x768, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4352x1024 : Shape := ⟨2, ![4352, 1024]⟩
abbrev S8448x1024 : Shape := ⟨2, ![8448, 1024]⟩
abbrev S3072x1024 : Shape := ⟨2, ![3072, 1024]⟩
abbrev S1024x3072 : Shape := ⟨2, ![1024, 3072]⟩
abbrev S4352x3072 : Shape := ⟨2, ![4352, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S8448x1024, .bf16⟩
  | .hbm, ⟨2, _⟩ => ⟨S4352x1024, .f32⟩
  | .hbm, ⟨3, _⟩ => ⟨S8448x1024, .f32⟩
  | .hbm, ⟨4, _⟩ => ⟨S3072x1024, .f32⟩
  | .hbm, ⟨5, _⟩ => ⟨S1024x3072, .f32⟩
  | .hbm, ⟨6, _⟩ => ⟨S4352x3072, .f32⟩
  | .hbm, ⟨7, _⟩ => ⟨S4352x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4352x1024 : Shape := ⟨2, ![4352, 1024]⟩
abbrev S4352x1536 : Shape := ⟨2, ![4352, 1536]⟩
abbrev S4352x3072 : Shape := ⟨2, ![4352, 3072]⟩
abbrev S4x3x512x256 : Shape := ⟨4, ![4, 3, 512, 256]⟩
abbrev S1024x1024 : Shape := ⟨2, ![1024, 1024]⟩
abbrev S2x1x1024 : Shape := ⟨3, ![2, 1, 1024]⟩
abbrev S128x256 : Shape := ⟨2, ![128, 256]⟩
abbrev S544x1024 : Shape := ⟨2, ![544, 1024]⟩
abbrev S544x1536 : Shape := ⟨2, ![544, 1536]⟩
abbrev S544x3072 : Shape := ⟨2, ![544, 3072]⟩
abbrev S1x1x1024 : Shape := ⟨3, ![1, 1, 1024]⟩
abbrev S544x512 : Shape := ⟨2, ![544, 512]⟩
abbrev S1x1x512x256 : Shape := ⟨4, ![1, 1, 512, 256]⟩
abbrev S512x256 : Shape := ⟨2, ![512, 256]⟩
abbrev S544x256 : Shape := ⟨2, ![544, 256]⟩
abbrev S544 : Shape := ⟨1, ![544]⟩
abbrev S544x1 : Shape := ⟨2, ![544, 1]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4352x1024, .f32⟩
  | .hbm, ⟨1, _⟩ => ⟨S4352x1536, .bf16⟩
  | .hbm, ⟨2, _⟩ => ⟨S4352x3072, .bf16⟩
  | .hbm, ⟨3, _⟩ => ⟨S4x3x512x256, .bf16⟩
  | .hbm, ⟨4, _⟩ => ⟨S1024x1024, .bf16⟩
  | .hbm, ⟨5, _⟩ => ⟨S2x1x1024, .f32⟩
  | .hbm, ⟨6, _⟩ => ⟨S128x256, .i32⟩
  | .hbm, ⟨7, _⟩ => ⟨S4352x1024, .f32⟩
  | .local _ .vmem, ⟨0, _⟩ => ⟨S544x1024, .f32⟩
  | .local _ .vmem, ⟨1, _⟩ => ⟨S544x1024, .f32⟩
  | .local _ .vmem, ⟨2, _⟩ => ⟨S544x1536, .bf16⟩
  | .local _ .vmem, ⟨3, _⟩ => ⟨S544x1536, .bf16⟩
  | .local _ .vmem, ⟨4, _⟩ => ⟨S544x3072, .bf16⟩
  | .local _ .vmem, ⟨5, _⟩ => ⟨S544x3072, .bf16⟩
  | .local _ .vmem, ⟨6, _⟩ => ⟨S4x3x512x256, .bf16⟩
  | .local _ .vmem, ⟨7, _⟩ => ⟨S1024x1024, .bf16⟩
  | .local _ .vmem, ⟨8, _⟩ => ⟨S1x1x1024, .f32⟩
  | .local _ .vmem, ⟨9, _⟩ => ⟨S544x1024, .f32⟩
  | .local _ .vmem, ⟨10, _⟩ => ⟨S544x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4352x1024 : Shape := ⟨2, ![4352, 1024]⟩
abbrev S4352x1536 : Shape := ⟨2, ![4352, 1536]⟩
abbrev S4352x3072 : Shape := ⟨2, ![4352, 3072]⟩
abbrev S4x3x512x256 : Shape := ⟨4, ![4, 3, 512, 256]⟩
abbrev S1024x1024 : Shape := ⟨2, ![1024, 1024]⟩
abbrev S2x1x1024 : Shape := ⟨3, ![2, 1, 1024]⟩
abbrev S128x256 : Shape := ⟨2, ![128, 256]⟩
abbrev S1x1x1024 : Shape := ⟨3, ![1, 1, 1024]⟩
abbrev S1024 : Shape := ⟨1, ![1024]⟩
abbrev S1x3x512x256 : Shape := ⟨4, ![1, 3, 512, 256]⟩
abbrev S3x512x256 : Shape := ⟨3, ![3, 512, 256]⟩
abbrev S3x512x1024 : Shape := ⟨3, ![3, 512, 1024]⟩
abbrev S4352x3x512 : Shape := ⟨3, ![4352, 3, 512]⟩
abbrev S3x1024x4352 : Shape := ⟨3, ![3, 1024, 4352]⟩
abbrev S4352x3x1024 : Shape := ⟨3, ![4352, 3, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1536, .bf16⟩
  | .hbm, ⟨2, _⟩ => ⟨S4352x3072, .bf16⟩
  | .hbm, ⟨3, _⟩ => ⟨S4x3x512x256, .bf16⟩
  | .hbm, ⟨4, _⟩ => ⟨S1024x1024, .bf16⟩
  | .hbm, ⟨5, _⟩ => ⟨S2x1x1024, .f32⟩
  | .hbm, ⟨6, _⟩ => ⟨S128x256, .i32⟩
  | .hbm, ⟨7, _⟩ => ⟨S4352x1536, .f32⟩
  | .hbm, ⟨8, _⟩ => ⟨S4352x3072, .f32⟩
  | .hbm, ⟨9, _⟩ => ⟨S4x3x512x256, .f32⟩
  | .hbm, ⟨10, _⟩ => ⟨S1024x1024, .f32⟩
  | .hbm, ⟨11, _⟩ => ⟨S1x1x1024, .f32⟩
  | .hbm, ⟨12, _⟩ => ⟨S1024, .f32⟩
  | .hbm, ⟨13, _⟩ => ⟨S1x3x512x256, .f32⟩
  | .hbm, ⟨14, _⟩ => ⟨S3x512x256, .f32⟩
  | .hbm, ⟨15, _⟩ => ⟨S1x3x512x256, .f32⟩
  | .hbm, ⟨16, _⟩ => ⟨S3x512x256, .f32⟩
  | .hbm, ⟨17, _⟩ => ⟨S1x3x512x256, .f32⟩
  | .hbm, ⟨18, _⟩ => ⟨S3x512x256, .f32⟩
  | .hbm, ⟨19, _⟩ => ⟨S1x3x512x256, .f32⟩
  | .hbm, ⟨20, _⟩ => ⟨S3x512x256, .f32⟩
  | .hbm, ⟨21, _⟩ => ⟨S3x512x1024, .f32⟩
  | .hbm, ⟨22, _⟩ => ⟨S4352x3x512, .f32⟩
  | .hbm, ⟨23, _⟩ => ⟨S3x1024x4352, .f32⟩
  | .hbm, ⟨24, _⟩ => ⟨S4352x3x1024, .f32⟩
  | .hbm, ⟨25, _⟩ => ⟨S4352x3x1024, .f32⟩
  | .hbm, ⟨26, _⟩ => ⟨S4352x3x1024, .f32⟩
  | .hbm, ⟨27, _⟩ => ⟨S4352x3x1024, .f32⟩
  | .hbm, ⟨28, _⟩ => ⟨S_, .f32⟩
  | .hbm, ⟨29, _⟩ => ⟨S4352x3x1024, .f32⟩
  | .hbm, ⟨30, _⟩ => ⟨S4352x3x1024, .f32⟩
  | .hbm, ⟨31, _⟩ => ⟨S_, .f32⟩
  | .hbm, ⟨32, _⟩ => ⟨S4352x3x1024, .f32⟩
  | .hbm, ⟨33, _⟩ => ⟨S4352x3x1024, .f32⟩
  | .hbm, ⟨34, _⟩ => ⟨S4352x3x1024, .f32⟩
  | .hbm, ⟨35, _⟩ => ⟨S_, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S_, .f32⟩
  | .hbm, ⟨40, _⟩ => ⟨S4352, .f32⟩
  | .hbm, ⟨41, _⟩ => ⟨S4352x1, .f32⟩
  | .hbm, ⟨42, _⟩ => ⟨S_, .f32⟩
  | .hbm, ⟨43, _⟩ => ⟨S4352x1, .f32⟩
  | .hbm, ⟨44, _⟩ => ⟨S4352x1, .f32⟩
  | .hbm, ⟨45, _⟩ => ⟨S_, .f32⟩
  | .hbm, ⟨46, _⟩ => ⟨S4352x1, .f32⟩
  | .hbm, ⟨47, _⟩ => ⟨S4352x1, .f32⟩
  | .hbm, ⟨48, _⟩ => ⟨S4352x1, .f32⟩
  | .hbm, ⟨49, _⟩ => ⟨S4352x1024, .f32⟩
  | .hbm, ⟨50, _⟩ => ⟨S4352x1024, .f32⟩
  | .hbm, ⟨51, _⟩ => ⟨S1x1024, .f32⟩
  | .hbm, ⟨52, _⟩ => ⟨S4352x1024, .f32⟩
  | .hbm, ⟨53, _⟩ => ⟨S4352x1024, .f32⟩
  | .hbm, ⟨54, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel8.lean ====
abbrev S4352x1024 : Shape := ⟨2, ![4352, 1024]⟩
abbrev S4352x1536 : Shape := ⟨2, ![4352, 1536]⟩
abbrev S4352x3072 : Shape := ⟨2, ![4352, 3072]⟩
abbrev S4x3x512x256 : Shape := ⟨4, ![4, 3, 512, 256]⟩
abbrev S1024x1024 : Shape := ⟨2, ![1024, 1024]⟩
abbrev S2x1x1024 : Shape := ⟨3, ![2, 1, 1024]⟩
abbrev S128x256 : Shape := ⟨2, ![128, 256]⟩
abbrev S8x1024 : Shape := ⟨2, ![8, 1024]⟩
abbrev S256x1024 : Shape := ⟨2, ![256, 1024]⟩
abbrev S256x1536 : Shape := ⟨2, ![256, 1536]⟩
abbrev S256x3072 : Shape := ⟨2, ![256, 3072]⟩
abbrev S1x1x1024 : Shape := ⟨3, ![1, 1, 1024]⟩
abbrev S256x512 : Shape := ⟨2, ![256, 512]⟩
abbrev S1x1x512x256 : Shape := ⟨4, ![1, 1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1x1024 : Shape := ⟨2, ![1, 1024]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4352x1024, .f32⟩
  | .hbm, ⟨1, _⟩ => ⟨S4352x1536, .bf16⟩
  | .hbm, ⟨2, _⟩ => ⟨S4352x3072, .bf16⟩
  | .hbm, ⟨3, _⟩ => ⟨S4x3x512x256, .bf16⟩
  | .hbm, ⟨4, _⟩ => ⟨S1024x1024, .bf16⟩
  | .hbm, ⟨5, _⟩ => ⟨S2x1x1024, .f32⟩
  | .hbm, ⟨6, _⟩ => ⟨S128x256, .i32⟩
  | .hbm, ⟨7, _⟩ => ⟨S4352x1536, .bf16⟩
  | .hbm, ⟨8, _⟩ => ⟨S4352x3072, .bf16⟩
  | .hbm, ⟨9, _⟩ => ⟨S8x1024, .f32⟩
  | .hbm, ⟨10, _⟩ => ⟨S4x3x512x256, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S256x3072, .bf16⟩
  | .local _ .vmem, ⟨5, _⟩ => ⟨S256x3072, .bf16⟩
  | .local _ .vmem, ⟨6, _⟩ => ⟨S4x3x512x256, .bf16⟩
  | .local _ .vmem, ⟨7, _⟩ => ⟨S1024x1024, .bf16⟩
  | .local _ .vmem, ⟨8, _⟩ => ⟨S1x1x1024, .f32⟩
  | .local _ .vmem, ⟨9, _⟩ => ⟨S256x1536, .bf16⟩
  | .local _ .vmem, ⟨10, _⟩ => ⟨S256x1536, .bf16⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S4x3x512x256, .f32⟩
  | .local _ .vmem, ⟨15, _⟩ => ⟨S1024x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x3x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4352x1024 : Shape := ⟨2, ![4352, 1024]⟩
abbrev S4352x1536 : Shape := ⟨2, ![4352, 1536]⟩
abbrev S4352x3072 : Shape := ⟨2, ![4352, 3072]⟩
abbrev S4x3x512x256 : Shape := ⟨4, ![4, 3, 512, 256]⟩
abbrev S1024x1024 : Shape := ⟨2, ![1024, 1024]⟩
abbrev S2x1x1024 : Shape := ⟨3, ![2, 1, 1024]⟩
abbrev S128x256 : Shape := ⟨2, ![128, 256]⟩
abbrev S1x1x1024 : Shape := ⟨3, ![1, 1, 1024]⟩
abbrev S1024 : Shape := ⟨1, ![1024]⟩
abbrev S1x3x512x256 : Shape := ⟨4, ![1, 3, 512, 256]⟩
abbrev S3x512x256 : Shape := ⟨3, ![3, 512, 256]⟩
abbrev S3x512x1024 : Shape := ⟨3, ![3, 512, 1024]⟩
abbrev S4352x3x512 : Shape := ⟨3, ![4352, 3, 512]⟩
abbrev S3x1024x4352 : Shape := ⟨3, ![3, 1024, 4352]⟩
abbrev S4352x3x1024 : Shape := ⟨3, ![4352, 3, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S3x4352x512 : Shape := ⟨3, ![3, 4352, 512]⟩
abbrev S3x1024x512 : Shape := ⟨3, ![3, 1024, 512]⟩
abbrev S8x1024 : Shape := ⟨2, ![8, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1536, .bf16⟩
  | .hbm, ⟨2, _⟩ => ⟨S4352x3072, .bf16⟩
  | .hbm, ⟨3, _⟩ => ⟨S4x3x512x256, .bf16⟩
  | .hbm, ⟨4, _⟩ => ⟨S1024x1024, .bf16⟩
  | .hbm, ⟨5, _⟩ => ⟨S2x1x1024, .f32⟩
  | .hbm, ⟨6, _⟩ => ⟨S128x256, .i32⟩
  | .hbm, ⟨7, _⟩ => ⟨S4352x1536, .f32⟩
  | .hbm, ⟨8, _⟩ => ⟨S4352x3072, .f32⟩
  | .hbm, ⟨9, _⟩ => ⟨S4x3x512x256, .f32⟩
  | .hbm, ⟨10, _⟩ => ⟨S1024x1024, .f32⟩
  | .hbm, ⟨11, _⟩ => ⟨S1x1x1024, .f32⟩
  | .hbm, ⟨12, _⟩ => ⟨S1024, .f32⟩
  | .hbm, ⟨13, _⟩ => ⟨S1x3x512x256, .f32⟩
  | .hbm, ⟨14, _⟩ => ⟨S3x512x256, .f32⟩
  | .hbm, ⟨15, _⟩ => ⟨S1x3x512x256, .f32⟩
  | .hbm, ⟨16, _⟩ => ⟨S3x512x256, .f32⟩
  | .hbm, ⟨17, _⟩ => ⟨S1x3x512x256, .f32⟩
  | .hbm, ⟨18, _⟩ => ⟨S3x512x256, .f32⟩
  | .hbm, ⟨19, _⟩ => ⟨S1x3x512x256, .f32⟩
  | .hbm, ⟨20, _⟩ => ⟨S3x512x256, .f32⟩
  | .hbm, ⟨21, _⟩ => ⟨S3x512x1024, .f32⟩
  | .hbm, ⟨22, _⟩ => ⟨S4352x3x512, .f32⟩
  | .hbm, ⟨23, _⟩ => ⟨S3x1024x4352, .f32⟩
  | .hbm, ⟨24, _⟩ => ⟨S4352x3x1024, .f32⟩
  | .hbm, ⟨25, _⟩ => ⟨S4352x3x1024, .f32⟩
  | .hbm, ⟨26, _⟩ => ⟨S4352x3x1024, .f32⟩
  | .hbm, ⟨27, _⟩ => ⟨S4352x3x1024, .f32⟩
  | .hbm, ⟨28, _⟩ => ⟨S_, .f32⟩
  | .hbm, ⟨29, _⟩ => ⟨S4352x3x1024, .f32⟩
  | .hbm, ⟨30, _⟩ => ⟨S4352x3x1024, .f32⟩
  | .hbm, ⟨31, _⟩ => ⟨S_, .f32⟩
  | .hbm, ⟨32, _⟩ => ⟨S4352x3x1024, .f32⟩
  | .hbm, ⟨33, _⟩ => ⟨S4352x3x1024, .f32⟩
  | .hbm, ⟨34, _⟩ => ⟨S_, .f32⟩
  | .hbm, ⟨35, _⟩ => ⟨S4352x3x1024, .f32⟩
  | .hbm, ⟨36, _⟩ => ⟨S4352x3x1024, .f32⟩
  | .hbm, ⟨37, _⟩ => ⟨S4352x3x1024, .f32⟩
  | .hbm, ⟨38, _⟩ => ⟨S4352x3x1024, .f32⟩
  | .hbm, ⟨39, _⟩ => ⟨S_, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352, .f32⟩
  | .hbm, ⟨45, _⟩ => ⟨S4352x1, .f32⟩
  | .hbm, ⟨46, _⟩ => ⟨S_, .f32⟩
  | .hbm, ⟨47, _⟩ => ⟨S4352x1, .f32⟩
  | .hbm, ⟨48, _⟩ => ⟨S4352x1, .f32⟩
  | .hbm, ⟨49, _⟩ => ⟨S_, .f32⟩
  | .hbm, ⟨50, _⟩ => ⟨S4352x1, .f32⟩
  | .hbm, ⟨51, _⟩ => ⟨S4352x1, .f32⟩
  | .hbm, ⟨52, _⟩ => ⟨S4352x1, .f32⟩
  | .hbm, ⟨53, _⟩ => ⟨S4352x1, .f32⟩
  | .hbm, ⟨54, _⟩ => ⟨S_, .f32⟩
  | .hbm, ⟨55, _⟩ => ⟨S4352x1, .f32⟩
  | .hbm, ⟨56, _⟩ => ⟨S4352x1, .f32⟩
  | .hbm, ⟨57, _⟩ => ⟨S4352x1024, .f32⟩
  | .hbm, ⟨58, _⟩ => ⟨S4352x1024, .f32⟩
  | .hbm, ⟨59, _⟩ => ⟨S1x1024, .f32⟩
  | .hbm, ⟨60, _⟩ => ⟨S4352x1024, .f32⟩
  | .hbm, ⟨61, _⟩ => ⟨S4352x1024, .f32⟩
  | .hbm, ⟨62, _⟩ => ⟨S4352x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4352x1024, .f32⟩
  | .hbm, ⟨67, _⟩ => ⟨S4352x1024, .f32⟩
  | .hbm, ⟨68, _⟩ => ⟨S_, .f32⟩
  | .hbm, ⟨69, _⟩ => ⟨S1024, .f32⟩
  | .hbm, ⟨70, _⟩ => ⟨S4352x1024, .f32⟩
  | .hbm, ⟨71, _⟩ => ⟨S_, .f32⟩
  | .hbm, ⟨72, _⟩ => ⟨S4352, .f32⟩
  | .hbm, ⟨73, _⟩ => ⟨S4352x1, .f32⟩
  | .hbm, ⟨74, _⟩ => ⟨S4352x1024, .f32⟩
  | .hbm, ⟨75, _⟩ => ⟨S4352x1024, .f32⟩
  | .hbm, ⟨76, _⟩ => ⟨S4352x1, .f32⟩
  | .hbm, ⟨77, _⟩ => ⟨S_, .f32⟩
  | .hbm, ⟨78, _⟩ => ⟨S4352x1, .f32⟩
  | .hbm, ⟨79, _⟩ => ⟨S4352x1, .f32⟩
  | .hbm, ⟨80, _⟩ => ⟨S_, .f32⟩
  | .hbm, ⟨81, _⟩ => ⟨S4352, .f32⟩
  | .hbm, ⟨82, _⟩ => ⟨S4352x1024, .f32⟩
  | .hbm, ⟨83, _⟩ => ⟨S4352x1024, .f32⟩
  | .hbm, ⟨84, _⟩ => ⟨S4352x1024, .f32⟩
  | .hbm, ⟨85, _⟩ => ⟨S4352x1024, .f32⟩
  | .hbm, ⟨86, _⟩ => ⟨S4352x1024, .f32⟩
  | .hbm, ⟨87, _⟩ => ⟨S1024x1024, .f32⟩
  | .hbm, ⟨88, _⟩ => ⟨S1024x1024, .f32⟩
  | .hbm, ⟨89, _⟩ => ⟨S4352x1024, .f32⟩
  | .hbm, ⟨90, _⟩ => ⟨S4352x3x1024, .f32⟩
  | .hbm, ⟨91, _⟩ => ⟨S4352x3x1024, .f32⟩
  | .hbm, ⟨92, _⟩ => ⟨S4352x3x1024, .f32⟩
  | .hbm, ⟨93, _⟩ => ⟨S4352x3x1024, .f32⟩
  | .hbm, ⟨94, _⟩ => ⟨S4352x3072, .f32⟩
  | .hbm, ⟨95, _⟩ => ⟨S3x1024x4352, .f32⟩
  | .hbm, ⟨96, _⟩ => ⟨S3x4352x512, .f32⟩
  | .hbm, ⟨97, _⟩ => ⟨S4352x3x512, .f32⟩
  | .hbm, ⟨98, _⟩ => ⟨S3x1024x512, .f32⟩
  | .hbm, ⟨99, _⟩ => ⟨S3x512x1024, .f32⟩
  | .hbm, ⟨100, _⟩ => ⟨S4352x1536, .f32⟩
  | .hbm, ⟨101, _⟩ => ⟨S3x512x256, .f32⟩
  | .hbm, ⟨102, _⟩ => ⟨S3x512x256, .f32⟩
  | .hbm, ⟨103, _⟩ => ⟨S3x512x256, .f32⟩
  | .hbm, ⟨104, _⟩ => ⟨S3x512x256, .f32⟩
  | .hbm, ⟨105, _⟩ => ⟨S1x3x512x256, .f32⟩
  | .hbm, ⟨106, _⟩ => ⟨S_, .f32⟩
  | .hbm, ⟨107, _⟩ => ⟨S4x3x512x256, .f32⟩
  | .hbm, ⟨108, _⟩ => ⟨S1x3x512x256, .f32⟩
  | .hbm, ⟨109, _⟩ => ⟨S_, .f32⟩
  | .hbm, ⟨110, _⟩ => ⟨S4x3x512x256, .f32⟩
  | .hbm, ⟨111, _⟩ => ⟨S4x3x512x256, .f32⟩
  | .hbm, ⟨112, _⟩ => ⟨S1x3x512x256, .f32⟩
  | .hbm, ⟨113, _⟩ => ⟨S_, .f32⟩
  | .hbm, ⟨114, _⟩ => ⟨S4x3x512x256, .f32⟩
  | .hbm, ⟨115, _⟩ => ⟨S4x3x512x256, .f32⟩
  | .hbm, ⟨116, _⟩ => ⟨S1x3x512x256, .f32⟩
  | .hbm, ⟨117, _⟩ => ⟨S_, .f32⟩
  | .hbm, ⟨118, _⟩ => ⟨S4x3x512x256, .f32⟩
  | .hbm, ⟨119, _⟩ => ⟨S4x3x512x256, .f32⟩
  | .hbm, ⟨120, _⟩ => ⟨S4352x1536, .bf16⟩
  | .hbm, ⟨121, _⟩ => ⟨S4352x3072, .bf16⟩
  | .hbm, ⟨122, _⟩ => ⟨S1x1024, .f32⟩
  | .hbm, ⟨123, _⟩ => ⟨S_, .i32⟩
  | .hbm, ⟨124, _⟩ => ⟨S_, .f32⟩
  | .hbm, ⟨125, _⟩ => ⟨S8x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_cst_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c : Ref sig .tc := ⟨.hbm, 123, rfl⟩
abbrev main_call0_v0 : Ref sig .tc := ⟨.hbm, 124, rfl⟩
abbrev main_v99 : Ref sig .tc := ⟨.hbm, 125, rfl⟩

abbrev nD : Nat := 1
abbrev τ : Topo := Topo.v7x

variable {F : FTy → Type} [FloatOps F]
-- ==== Kernel9.lean ====
abbrev S4352x1024 : Shape := ⟨2, ![4352, 1024]⟩
abbrev S4352x1536 : Shape := ⟨2, ![4352, 1536]⟩
abbrev S4352x3072 : Shape := ⟨2, ![4352, 3072]⟩
abbrev S4x3x512x256 : Shape := ⟨4, ![4, 3, 512, 256]⟩
abbrev S1024x1024 : Shape := ⟨2, ![1024, 1024]⟩
abbrev S2x1x1024 : Shape := ⟨3, ![2, 1, 1024]⟩
abbrev S128x256 : Shape := ⟨2, ![128, 256]⟩
abbrev S8x1024 : Shape := ⟨2, ![8, 1024]⟩
abbrev S256x1024 : Shape := ⟨2, ![256, 1024]⟩
abbrev S256x1536 : Shape := ⟨2, ![256, 1536]⟩
abbrev S256x3072 : Shape := ⟨2, ![256, 3072]⟩
abbrev S1x1x1024 : Shape := ⟨3, ![1, 1, 1024]⟩
abbrev S256x512 : Shape := ⟨2, ![256, 512]⟩
abbrev S1x1x512x256 : Shape := ⟨4, ![1, 1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1x1024 : Shape := ⟨2, ![1, 1024]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4352x1024, .f32⟩
  | .hbm, ⟨1, _⟩ => ⟨S4352x1536, .bf16⟩
  | .hbm, ⟨2, _⟩ => ⟨S4352x3072, .bf16⟩
  | .hbm, ⟨3, _⟩ => ⟨S4x3x512x256, .bf16⟩
  | .hbm, ⟨4, _⟩ => ⟨S1024x1024, .bf16⟩
  | .hbm, ⟨5, _⟩ => ⟨S2x1x1024, .f32⟩
  | .hbm, ⟨6, _⟩ => ⟨S128x256, .i32⟩
  | .hbm, ⟨7, _⟩ => ⟨S4352x1536, .bf16⟩
  | .hbm, ⟨8, _⟩ => ⟨S4352x3072, .bf16⟩
  | .hbm, ⟨9, _⟩ => ⟨S8x1024, .f32⟩
  | .hbm, ⟨10, _⟩ => ⟨S4x3x512x256, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S256x3072, .bf16⟩
  | .local _ .vmem, ⟨5, _⟩ => ⟨S256x3072, .bf16⟩
  | .local _ .vmem, ⟨6, _⟩ => ⟨S4x3x512x256, .bf16⟩
  | .local _ .vmem, ⟨7, _⟩ => ⟨S1024x1024, .bf16⟩
  | .local _ .vmem, ⟨8, _⟩ => ⟨S1x1x1024, .f32⟩
  | .local _ .vmem, ⟨9, _⟩ => ⟨S256x1536, .bf16⟩
  | .local _ .vmem, ⟨10, _⟩ => ⟨S256x1536, .bf16⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S4x3x512x256, .f32⟩
  | .local _ .vmem, ⟨15, _⟩ => ⟨S1024x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x3x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S4352x1024 : Shape := ⟨2, ![4352, 1024]⟩
abbrev S4352x1536 : Shape := ⟨2, ![4352, 1536]⟩
abbrev S4352x3072 : Shape := ⟨2, ![4352, 3072]⟩
abbrev S4x3x512x256 : Shape := ⟨4, ![4, 3, 512, 256]⟩
abbrev S1024x1024 : Shape := ⟨2, ![1024, 1024]⟩
abbrev S2x1x1024 : Shape := ⟨3, ![2, 1, 1024]⟩
abbrev S128x256 : Shape := ⟨2, ![128, 256]⟩
abbrev S1x1x1024 : Shape := ⟨3, ![1, 1, 1024]⟩
abbrev S1024 : Shape := ⟨1, ![1024]⟩
abbrev S1x3x512x256 : Shape := ⟨4, ![1, 3, 512, 256]⟩
abbrev S3x512x256 : Shape := ⟨3, ![3, 512, 256]⟩
abbrev S3x512x1024 : Shape := ⟨3, ![3, 512, 1024]⟩
abbrev S4352x3x512 : Shape := ⟨3, ![4352, 3, 512]⟩
abbrev S3x1024x4352 : Shape := ⟨3, ![3, 1024, 4352]⟩
abbrev S4352x3x1024 : Shape := ⟨3, ![4352, 3, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S3x4352x512 : Shape := ⟨3, ![3, 4352, 512]⟩
abbrev S3x1024x512 : Shape := ⟨3, ![3, 1024, 512]⟩
abbrev S8x1024 : Shape := ⟨2, ![8, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1536, .bf16⟩
  | .hbm, ⟨2, _⟩ => ⟨S4352x3072, .bf16⟩
  | .hbm, ⟨3, _⟩ => ⟨S4x3x512x256, .bf16⟩
  | .hbm, ⟨4, _⟩ => ⟨S1024x1024, .bf16⟩
  | .hbm, ⟨5, _⟩ => ⟨S2x1x1024, .f32⟩
  | .hbm, ⟨6, _⟩ => ⟨S128x256, .i32⟩
  | .hbm, ⟨7, _⟩ => ⟨S4352x1536, .f32⟩
  | .hbm, ⟨8, _⟩ => ⟨S4352x3072, .f32⟩
  | .hbm, ⟨9, _⟩ => ⟨S4x3x512x256, .f32⟩
  | .hbm, ⟨10, _⟩ => ⟨S1024x1024, .f32⟩
  | .hbm, ⟨11, _⟩ => ⟨S1x1x1024, .f32⟩
  | .hbm, ⟨12, _⟩ => ⟨S1024, .f32⟩
  | .hbm, ⟨13, _⟩ => ⟨S1x3x512x256, .f32⟩
  | .hbm, ⟨14, _⟩ => ⟨S3x512x256, .f32⟩
  | .hbm, ⟨15, _⟩ => ⟨S1x3x512x256, .f32⟩
  | .hbm, ⟨16, _⟩ => ⟨S3x512x256, .f32⟩
  | .hbm, ⟨17, _⟩ => ⟨S1x3x512x256, .f32⟩
  | .hbm, ⟨18, _⟩ => ⟨S3x512x256, .f32⟩
  | .hbm, ⟨19, _⟩ => ⟨S1x3x512x256, .f32⟩
  | .hbm, ⟨20, _⟩ => ⟨S3x512x256, .f32⟩
  | .hbm, ⟨21, _⟩ => ⟨S3x512x1024, .f32⟩
  | .hbm, ⟨22, _⟩ => ⟨S4352x3x512, .f32⟩
  | .hbm, ⟨23, _⟩ => ⟨S3x1024x4352, .f32⟩
  | .hbm, ⟨24, _⟩ => ⟨S4352x3x1024, .f32⟩
  | .hbm, ⟨25, _⟩ => ⟨S4352x3x1024, .f32⟩
  | .hbm, ⟨26, _⟩ => ⟨S4352x3x1024, .f32⟩
  | .hbm, ⟨27, _⟩ => ⟨S4352x3x1024, .f32⟩
  | .hbm, ⟨28, _⟩ => ⟨S_, .f32⟩
  | .hbm, ⟨29, _⟩ => ⟨S4352x3x1024, .f32⟩
  | .hbm, ⟨30, _⟩ => ⟨S4352x3x1024, .f32⟩
  | .hbm, ⟨31, _⟩ => ⟨S_, .f32⟩
  | .hbm, ⟨32, _⟩ => ⟨S4352x3x1024, .f32⟩
  | .hbm, ⟨33, _⟩ => ⟨S4352x3x1024, .f32⟩
  | .hbm, ⟨34, _⟩ => ⟨S_, .f32⟩
  | .hbm, ⟨35, _⟩ => ⟨S4352x3x1024, .f32⟩
  | .hbm, ⟨36, _⟩ => ⟨S4352x3x1024, .f32⟩
  | .hbm, ⟨37, _⟩ => ⟨S4352x3x1024, .f32⟩
  | .hbm, ⟨38, _⟩ => ⟨S4352x3x1024, .f32⟩
  | .hbm, ⟨39, _⟩ => ⟨S_, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352, .f32⟩
  | .hbm, ⟨45, _⟩ => ⟨S4352x1, .f32⟩
  | .hbm, ⟨46, _⟩ => ⟨S_, .f32⟩
  | .hbm, ⟨47, _⟩ => ⟨S4352x1, .f32⟩
  | .hbm, ⟨48, _⟩ => ⟨S4352x1, .f32⟩
  | .hbm, ⟨49, _⟩ => ⟨S_, .f32⟩
  | .hbm, ⟨50, _⟩ => ⟨S4352x1, .f32⟩
  | .hbm, ⟨51, _⟩ => ⟨S4352x1, .f32⟩
  | .hbm, ⟨52, _⟩ => ⟨S4352x1, .f32⟩
  | .hbm, ⟨53, _⟩ => ⟨S4352x1, .f32⟩
  | .hbm, ⟨54, _⟩ => ⟨S_, .f32⟩
  | .hbm, ⟨55, _⟩ => ⟨S4352x1, .f32⟩
  | .hbm, ⟨56, _⟩ => ⟨S4352x1, .f32⟩
  | .hbm, ⟨57, _⟩ => ⟨S4352x1024, .f32⟩
  | .hbm, ⟨58, _⟩ => ⟨S4352x1024, .f32⟩
  | .hbm, ⟨59, _⟩ => ⟨S1x1024, .f32⟩
  | .hbm, ⟨60, _⟩ => ⟨S4352x1024, .f32⟩
  | .hbm, ⟨61, _⟩ => ⟨S4352x1024, .f32⟩
  | .hbm, ⟨62, _⟩ => ⟨S4352x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4352x1024, .f32⟩
  | .hbm, ⟨67, _⟩ => ⟨S4352x1024, .f32⟩
  | .hbm, ⟨68, _⟩ => ⟨S_, .f32⟩
  | .hbm, ⟨69, _⟩ => ⟨S1024, .f32⟩
  | .hbm, ⟨70, _⟩ => ⟨S4352x1024, .f32⟩
  | .hbm, ⟨71, _⟩ => ⟨S_, .f32⟩
  | .hbm, ⟨72, _⟩ => ⟨S4352, .f32⟩
  | .hbm, ⟨73, _⟩ => ⟨S4352x1, .f32⟩
  | .hbm, ⟨74, _⟩ => ⟨S4352x1024, .f32⟩
  | .hbm, ⟨75, _⟩ => ⟨S4352x1024, .f32⟩
  | .hbm, ⟨76, _⟩ => ⟨S4352x1, .f32⟩
  | .hbm, ⟨77, _⟩ => ⟨S_, .f32⟩
  | .hbm, ⟨78, _⟩ => ⟨S4352x1, .f32⟩
  | .hbm, ⟨79, _⟩ => ⟨S4352x1, .f32⟩
  | .hbm, ⟨80, _⟩ => ⟨S_, .f32⟩
  | .hbm, ⟨81, _⟩ => ⟨S4352, .f32⟩
  | .hbm, ⟨82, _⟩ => ⟨S4352x1024, .f32⟩
  | .hbm, ⟨83, _⟩ => ⟨S4352x1024, .f32⟩
  | .hbm, ⟨84, _⟩ => ⟨S4352x1024, .f32⟩
  | .hbm, ⟨85, _⟩ => ⟨S4352x1024, .f32⟩
  | .hbm, ⟨86, _⟩ => ⟨S4352x1024, .f32⟩
  | .hbm, ⟨87, _⟩ => ⟨S1024x1024, .f32⟩
  | .hbm, ⟨88, _⟩ => ⟨S1024x1024, .f32⟩
  | .hbm, ⟨89, _⟩ => ⟨S4352x1024, .f32⟩
  | .hbm, ⟨90, _⟩ => ⟨S4352x3x1024, .f32⟩
  | .hbm, ⟨91, _⟩ => ⟨S4352x3x1024, .f32⟩
  | .hbm, ⟨92, _⟩ => ⟨S4352x3x1024, .f32⟩
  | .hbm, ⟨93, _⟩ => ⟨S4352x3x1024, .f32⟩
  | .hbm, ⟨94, _⟩ => ⟨S4352x3072, .f32⟩
  | .hbm, ⟨95, _⟩ => ⟨S3x1024x4352, .f32⟩
  | .hbm, ⟨96, _⟩ => ⟨S3x4352x512, .f32⟩
  | .hbm, ⟨97, _⟩ => ⟨S4352x3x512, .f32⟩
  | .hbm, ⟨98, _⟩ => ⟨S3x1024x512, .f32⟩
  | .hbm, ⟨99, _⟩ => ⟨S3x512x1024, .f32⟩
  | .hbm, ⟨100, _⟩ => ⟨S4352x1536, .f32⟩
  | .hbm, ⟨101, _⟩ => ⟨S3x512x256, .f32⟩
  | .hbm, ⟨102, _⟩ => ⟨S3x512x256, .f32⟩
  | .hbm, ⟨103, _⟩ => ⟨S3x512x256, .f32⟩
  | .hbm, ⟨104, _⟩ => ⟨S3x512x256, .f32⟩
  | .hbm, ⟨105, _⟩ => ⟨S1x3x512x256, .f32⟩
  | .hbm, ⟨106, _⟩ => ⟨S_, .f32⟩
  | .hbm, ⟨107, _⟩ => ⟨S4x3x512x256, .f32⟩
  | .hbm, ⟨108, _⟩ => ⟨S1x3x512x256, .f32⟩
  | .hbm, ⟨109, _⟩ => ⟨S_, .f32⟩
  | .hbm, ⟨110, _⟩ => ⟨S4x3x512x256, .f32⟩
  | .hbm, ⟨111, _⟩ => ⟨S4x3x512x256, .f32⟩
  | .hbm, ⟨112, _⟩ => ⟨S1x3x512x256, .f32⟩
  | .hbm, ⟨113, _⟩ => ⟨S_, .f32⟩
  | .hbm, ⟨114, _⟩ => ⟨S4x3x512x256, .f32⟩
  | .hbm, ⟨115, _⟩ => ⟨S4x3x512x256, .f32⟩
  | .hbm, ⟨116, _⟩ => ⟨S1x3x512x256, .f32⟩
  | .hbm, ⟨117, _⟩ => ⟨S_, .f32⟩
  | .hbm, ⟨118, _⟩ => ⟨S4x3x512x256, .f32⟩
  | .hbm, ⟨119, _⟩ => ⟨S4x3x512x256, .f32⟩
  | .hbm, ⟨120, _⟩ => ⟨S4352x1536, .bf16⟩
  | .hbm, ⟨121, _⟩ => ⟨S4352x3072, .bf16⟩
  | .hbm, ⟨122, _⟩ => ⟨S1x1024, .f32⟩
  | .hbm, ⟨123, _⟩ => ⟨S_, .i32⟩
  | .hbm, ⟨124, _⟩ => ⟨S_, .f32⟩
  | .hbm, ⟨125, _⟩ => ⟨S8x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_cst_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c : Ref sig .tc := ⟨.hbm, 123, rfl⟩
abbrev main_call0_v0 : Ref sig .tc := ⟨.hbm, 124, rfl⟩
abbrev main_v99 : Ref sig .tc := ⟨.hbm, 125, rfl⟩

abbrev nD : Nat := 1
abbrev τ : Topo := Topo.v7x

variable {F : FTy → Type} [FloatOps F]
-- ==== Proof.Conv.Spec.lean ====
module

public import Idealize.ShloMosaic.Lib.Pointwise
public import Idealize.ShloMosaic.PureOps.Ideal.Laws

@[expose] public section

noncomputable section

/-! The gradient of the gated short convolution, as functions of three arrays: the projections `x0` (two
    sequences of 2176 positions, 5376 columns), the cotangents `x1` of the three branches (1536 columns) and the
    convolution's weights `x8` (two layers, three taps, 512 channels). Positions are natural numbers and every
    array is read as zero past its end, so that a shift needs no case distinction. -/

namespace Cert.Conv

open Idealize.ShloMosaic

abbrev Proj := (⟨3, ![2, 2176, 5376]⟩ : Shape).Idx → EReal
abbrev Cot := (⟨3, ![2, 2176, 1536]⟩ : Shape).Idx → EReal
abbrev Wts := (⟨3, ![2, 3, 512]⟩ : Shape).Idx → EReal

/-- Column `o + j` of the projections at position `L` of sequence `b`, zero outside the array. -/
def col (x0 : Proj) (o : ℕ) (b : Fin 2) (L : ℕ) (j : Fin 512) : EReal :=
  if h : L < 2176 ∧ o + j.val < 5376 then x0 (ix3 b ⟨L, h.1⟩ ⟨o + j.val, h.2⟩) else 0

/-- The convolution branch's cotangent at position `L`, channel `j`, zero past the end. -/
def ct (x1 : Cot) (b : Fin 2) (L : ℕ) (j : Fin 512) : EReal :=
  if h : L < 2176 then x1 (ix3 b ⟨L, h⟩ ⟨1024 + j.val, by have := j.isLt; omega⟩) else 0

/-- Tap `k` of layer 1's convolution at channel `j`. -/
def tap (x8 : Wts) (k : Fin 3) (j : Fin 512) : EReal := x8 (ix3 1 k j)

/-- One from the first real position (112) on, zero on the padding before it. -/
def valid (L : ℕ) : EReal := if 112 ≤ L then 1 else 0

/-- The convolution's input: the product of two projections, zero on the padding. -/
def u (x0 : Proj) (b : Fin 2) (L : ℕ) (j : Fin 512) : EReal := col x0 3840 b L j * col x0 4352 b L j * valid L

/-- The convolution's input `k` positions earlier, zero before the sequence's start. -/
def back (x0 : Proj) (k : ℕ) (b : Fin 2) (L : ℕ) (j : Fin 512) : EReal := if k ≤ L then u x0 b (L - k) j else 0

/-- The causal convolution's output. -/
def y (x0 : Proj) (x8 : Wts) (b : Fin 2) (L : ℕ) (j : Fin 512) : EReal :=
  tap x8 0 j * back x0 2 b L j + tap x8 1 j * back x0 1 b L j + tap x8 2 j * u x0 b L j

/-- `silu` of the branch's gate. -/
def gate (x0 : Proj) (b : Fin 2) (L : ℕ) (j : Fin 512) : EReal :=
  col x0 4864 b L j * Ideal.logistic (col x0 4864 b L j)

/-- The cotangent of the convolution's output. -/
def dy (x0 : Proj) (x1 : Cot) (b : Fin 2) (L : ℕ) (j : Fin 512) : EReal :=
  ct x1 b L j * col x0 3328 b L j * gate x0 b L j

/-- The cotangent of the convolution's input. -/
def du (x0 : Proj) (x1 : Cot) (x8 : Wts) (b : Fin 2) (L : ℕ) (j : Fin 512) : EReal :=
  (tap x8 2 j * dy x0 x1 b L j + tap x8 1 j * dy x0 x1 b (L + 1) j + tap x8 0 j * dy x0 x1 b (L + 2) j) * valid L

/-- The gradient of the factor `cb`. -/
def dcb (x0 : Proj) (x1 : Cot) (x8 : Wts) (b : Fin 2) (L : ℕ) (j : Fin 512) : EReal :=
  ct x1 b L j * y x0 x8 b L j * gate x0 b L j

/-- The gradient of the gate's argument: the derivative of `x * logistic x` in the product's two terms. -/
def dcg (x0 : Proj) (x1 : Cot) (x8 : Wts) (b : Fin 2) (L : ℕ) (j : Fin 512) : EReal :=
  let a := ct x1 b L j * col x0 3328 b L j * y x0 x8 b L j
  let x := col x0 4864 b L j
  a * Ideal.logistic x + x * a * (Ideal.logistic x * (1 - Ideal.logistic x))

/-- The gradient with respect to the convolution's 2048 columns (the column counted from 3328). -/
def dcols (x0 : Proj) (x1 : Cot) (x8 : Wts) (b : Fin 2) (L : ℕ) (q : ℕ) (j : Fin 512) : EReal :=
  if q = 0 then dcb x0 x1 x8 b L j else if q = 1 then du x0 x1 x8 b L j * col x0 4352 b L j
  else if q = 2 then du x0 x1 x8 b L j * col x0 3840 b L j else dcg x0 x1 x8 b L j

/-- The gradient of tap `k` (0 for rows past the three taps). -/
def dtap (x0 : Proj) (x1 : Cot) (k : ℕ) (j : Fin 512) : EReal :=
  if k < 3 then ∑ b : Fin 2, ∑ L : Fin 2176, dy x0 x1 b L.val j * back x0 (2 - k) b L.val j else 0

end Cert.Conv
-- ==== Proof.Conv.Ref.lean ====
module

public import proofs.«01_k».proof.Proof.Gen.ReferenceIdeal.Read
public import proofs.«01_k».proof.Proof.Conv.Spec
public import Idealize.ShloMosaic.Lib.Pointwise
public import Idealize.ShloMosaic.Lib.KernelVsHost

@[expose] public section

set_option maxRecDepth 16384

noncomputable section

/-! What the reference computes, in the terms of the specification. -/

namespace Cert.Conv

open Idealize.ShloMosaic Cert.ReferenceIdeal Cert.ReferenceIdeal.Gen Cert.ReferenceIdeal.Read

variable (x0 : Proj) (x1 : Cot) (x8 : Wts) (b : Fin 2) (L : Fin 2176) (j : Fin 512)

/-- A rank-3 index is determined by its coordinates. -/
theorem idx3 {n0 n1 n2 : ℕ} {i k : (⟨3, ![n0, n1, n2]⟩ : Shape).Idx} (h0 : (i 0).val = (k 0).val)
    (h1 : (i 1).val = (k 1).val) (h2 : (i 2).val = (k 2).val) : i = k := by
  funext a; match a with
  | ⟨0, _⟩ => exact Fin.ext h0
  | ⟨1, _⟩ => exact Fin.ext h1
  | ⟨2, _⟩ => exact Fin.ext h2

theorem idx2 {n0 n1 : ℕ} {i k : (⟨2, ![n0, n1]⟩ : Shape).Idx} (h0 : (i 0).val = (k 0).val)
    (h1 : (i 1).val = (k 1).val) : i = k := by
  funext a; match a with
  | ⟨0, _⟩ => exact Fin.ext h0
  | ⟨1, _⟩ => exact Fin.ext h1

/-- The projections at a column of the convolution are `col`. -/
theorem col_of (o : ℕ) (ho : o + j.val < 5376) (i : (⟨3, ![2, 2176, 5376]⟩ : Shape).Idx) (h0 : (i 0).val = b.val)
    (h1 : (i 1).val = L.val) (h2 : (i 2).val = o + j.val) : x0 i = col x0 o b L.val j := by
  unfold col
  rw [dif_pos ⟨L.isLt, ho⟩]
  exact congrArg x0 (idx3 h0 h1 h2)

theorem zero_f32 : Ideal.ofBits .f32 0x00000000#32 = 0 := by simp [Ideal.ofBits, Ideal.ieee]

theorem one_f32 : Ideal.ofBits .f32 0x3F800000#32 = 1 := by
  simp [Ideal.ofBits, Ideal.ieee]
  rw [← EReal.coe_mul]; norm_num

theorem ref_cb : val_main_v5 (F := Ideal) x0 (ix3 b L j) = col x0 3328 b L.val j := by
  rw [val_main_v5_apply, val_main_v2_apply]
  have := j.isLt
  exact col_of x0 b L j 3328 (by omega) _ rfl rfl (by show 3328 + j.val = _; omega)

theorem ref_cc : val_main_v6 (F := Ideal) x0 (ix3 b L j) = col x0 3840 b L.val j := by
  rw [val_main_v6_apply, val_main_v2_apply]
  have := j.isLt
  exact col_of x0 b L j 3840 (by omega) _ rfl rfl (by show 3328 + (512 + j.val) = _; omega)

theorem ref_cx : val_main_v7 (F := Ideal) x0 (ix3 b L j) = col x0 4352 b L.val j := by
  rw [val_main_v7_apply, val_main_v2_apply]
  have := j.isLt
  exact col_of x0 b L j 4352 (by omega) _ rfl rfl (by show 3328 + (1024 + j.val) = _; omega)

theorem ref_cg : val_main_v8 (F := Ideal) x0 (ix3 b L j) = col x0 4864 b L.val j := by
  rw [val_main_v8_apply, val_main_v2_apply]
  have := j.isLt
  exact col_of x0 b L j 4864 (by omega) _ rfl rfl (by show 3328 + (1536 + j.val) = _; omega)

theorem ref_ct : val_main_v1 (F := Ideal) x1 (ix3 b L j) = ct x1 b L.val j := by
  rw [val_main_v1_apply, val_main_v0_apply]
  unfold ct
  rw [dif_pos L.isLt]
  exact congrArg x1 (idx3 rfl rfl rfl)

theorem word_ge (n : ℕ) (hn : n < 2176) :
    IntOp.cmpi .sge (BitVec.ofNat 32 n) (112#32) = if 112 ≤ n then 1#1 else 0#1 := by
  have : ∀ n : Fin 2176, IntOp.cmpi .sge (BitVec.ofNat 32 n.val) (112#32) = if 112 ≤ n.val then 1#1 else 0#1 := by
    decide +kernel
  exact this ⟨n, hn⟩

theorem ref_valid : val_main_v15 (F := Ideal) (ix3 b L j) = valid L.val := by
  rw [val_main_v15_apply, val_main_v14_apply, val_main_v13_apply, val_main_v11_apply, val_main_v10_apply,
    val_main_v9_apply, val_main_c_apply]
  show (((IntOp.cmpi .sge (BitVec.ofNat 32 L.val) (112#32)).toNat : ℝ) : EReal) = _
  rw [word_ge _ L.isLt]
  unfold valid
  split <;> simp

theorem ref_valid' : val_main_v81 (F := Ideal) (ix3 b L j) = valid L.val := by
  rw [val_main_v81_apply]; rw [← ref_valid b L j, val_main_v15_apply]

theorem ref_u : val_main_v16 (F := Ideal) x0 (ix3 b L j) = u x0 b L.val j := by
  rw [val_main_v16_apply, val_main_v12_apply, ref_cc, ref_cx, ref_valid]
  rfl

/-- The convolution's input behind two zeros: position `P` of the joined array. -/
theorem ref_up (P : Fin 2178) : val_main_v18 (F := Ideal) x0 (ix3 b P j)
    = if 2 ≤ P.val then u x0 b (P.val - 2) j else 0 := by
  unfold val_main_v18
  by_cases h : 2 ≤ P.val
  · rw [if_pos h]
    have hP := P.isLt
    rw [concatenate_pair_apply_right (t := S2x2178x512) 1 (val_main_v17 (F := Ideal)) (val_main_v16 (F := Ideal) x0) _
      (ix3 b P j) rfl rfl (ix3 b (⟨P.val - 2, by omega⟩ : Fin 2176) j)
      (fun a ha => by
        match a with
        | ⟨0, _⟩ => rfl
        | ⟨1, _⟩ => exact absurd rfl ha
        | ⟨2, _⟩ => rfl)
      (by show P.val - 2 + 2 = P.val; omega)]
    exact ref_u x0 b _ j
  · rw [if_neg h]
    rw [concatenate_pair_apply_left (t := S2x2178x512) 1 (val_main_v17 (F := Ideal)) (val_main_v16 (F := Ideal) x0) _
      (ix3 b P j) rfl (ix3 b (⟨P.val, by omega⟩ : Fin 2) j)
      (fun a => by
        match a with
        | ⟨0, _⟩ => rfl
        | ⟨1, _⟩ => rfl
        | ⟨2, _⟩ => rfl)]
    rw [val_main_v17_apply, val_main_cst_apply]
    exact zero_f32

theorem up_of (P : ℕ) (i : (⟨3, ![2, 2178, 512]⟩ : Shape).Idx) (h0 : (i 0).val = b.val) (h1 : (i 1).val = P)
    (h2 : (i 2).val = j.val) : val_main_v18 (F := Ideal) x0 i = if 2 ≤ P then u x0 b (P - 2) j else 0 := by
  have hP : P < 2178 := h1 ▸ (i 1).isLt
  rw [show i = ix3 b (⟨P, hP⟩ : Fin 2178) j from idx3 h0 h1 h2]
  exact ref_up x0 b j _

theorem ref_back2 : val_main_v22 (F := Ideal) x0 (ix3 b L j) = back x0 2 b L.val j := by
  rw [val_main_v22_apply]
  exact up_of x0 b j L.val _ rfl rfl rfl

theorem ref_back1 : val_main_v28 (F := Ideal) x0 (ix3 b L j) = back x0 1 b L.val j := by
  rw [val_main_v28_apply]
  refine (up_of x0 b j (1 + L.val) _ rfl rfl rfl).trans ?_
  unfold back
  by_cases h : 1 ≤ L.val
  · rw [if_pos h, if_pos (by omega)]
    congr 1; omega
  · rw [if_neg h, if_neg (by omega)]

theorem ref_back0 : val_main_v35 (F := Ideal) x0 (ix3 b L j) = u x0 b L.val j := by
  rw [val_main_v35_apply]
  refine (up_of x0 b j (2 + L.val) _ rfl rfl rfl).trans ?_
  rw [if_pos (by omega)]
  congr 1; omega

theorem tap_of (k : Fin 3) (i : (⟨3, ![2, 3, 512]⟩ : Shape).Idx) (h0 : (i 0).val = 1)
    (h1 : (i 1).val = k.val) (h2 : (i 2).val = j.val) : x8 i = tap x8 k j :=
  congrArg x8 (idx3 h0 h1 h2)

/-- The three rows of the weights, as the reference reads them. -/
theorem ref_tap0 (i : (⟨1, ![512]⟩ : Shape).Idx) (h : (i 0).val = j.val) : val_main_v21 (F := Ideal) x8 i = tap x8 0 j := by
  rw [val_main_v21_apply, val_main_v20_apply, val_main_v4_apply, val_main_v3_apply]
  have := j.isLt
  refine tap_of x8 j 0 _ rfl ?_ ?_
  · show (0 * 512 + (i 0).val % 512) / 512 % 3 = 0; omega
  · show (0 * 512 + (i 0).val % 512) % 512 = j.val; omega

theorem ref_tap1 (i : (⟨1, ![512]⟩ : Shape).Idx) (h : (i 0).val = j.val) : val_main_v27 (F := Ideal) x8 i = tap x8 1 j := by
  rw [val_main_v27_apply, val_main_v26_apply, val_main_v4_apply, val_main_v3_apply]
  have := j.isLt
  refine tap_of x8 j 1 _ rfl ?_ ?_
  · show ((1 + 0) * 512 + (i 0).val % 512) / 512 % 3 = 1; omega
  · show ((1 + 0) * 512 + (i 0).val % 512) % 512 = j.val; omega

theorem ref_tap2 (i : (⟨1, ![512]⟩ : Shape).Idx) (h : (i 0).val = j.val) : val_main_v34 (F := Ideal) x8 i = tap x8 2 j := by
  rw [val_main_v34_apply, val_main_v33_apply, val_main_v4_apply, val_main_v3_apply]
  have := j.isLt
  refine tap_of x8 j 2 _ rfl ?_ ?_
  · show ((2 + 0) * 512 + (i 0).val % 512) / 512 % 3 = 2; omega
  · show ((2 + 0) * 512 + (i 0).val % 512) % 512 = j.val; omega

theorem ref_y : val_main_v39 (F := Ideal) x0 x8 (ix3 b L j) = y x0 x8 b L.val j := by
  rw [val_main_v39_apply, val_main_v32_apply, val_main_v25_apply, val_main_v31_apply, val_main_v38_apply,
    ref_back2, ref_back1, ref_back0, val_main_v24_apply, val_main_v23_apply, val_main_v30_apply, val_main_v29_apply,
    val_main_v37_apply, val_main_v36_apply, ref_tap0 x8 j _ (by rfl), ref_tap1 x8 j _ (by rfl), ref_tap2 x8 j _ (by rfl)]
  rfl

theorem ref_logistic : val_main_v41_2 (F := Ideal) x0 (ix3 b L j) = Ideal.logistic (col x0 4864 b L.val j) := by
  rw [val_main_v41_2_apply, val_main_call0_v4_apply, val_main_call0_cst_0_apply, val_main_call0_v3_apply,
    val_main_call0_v2_apply, val_main_call0_cst_apply, val_main_call0_v1_apply, val_main_call0_v0_apply, ref_cg]
  show Ideal.div (Ideal.ofBits .f32 0x3F800000#32) (Ideal.ofBits .f32 0x3F800000#32 + Ideal.exp (-_)) = _
  rw [one_f32]
  rfl

theorem ref_gate : val_main_v41_0 (F := Ideal) x0 (ix3 b L j) = gate x0 b L.val j := by
  rw [val_main_v41_0_apply, ref_cg, ref_logistic]; rfl

theorem ref_slope : val_main_v41_1 (F := Ideal) x0 (ix3 b L j)
    = Ideal.logistic (col x0 4864 b L.val j) * (1 - Ideal.logistic (col x0 4864 b L.val j)) := by
  rw [val_main_v41_1_apply, val_main_call0_v7_apply, val_main_call0_v6_apply, val_main_call0_cst_1_apply, ref_logistic]
  show _ * (Ideal.ofBits .f32 0x3F800000#32 - _) = _
  rw [one_f32]

theorem ref_dy : val_main_v46 (F := Ideal) x0 x1 (ix3 b L j) = dy x0 x1 b L.val j := by
  rw [val_main_v46_apply, val_main_v44_apply, ref_cb, ref_ct, ref_gate]
  exact (mul_assoc _ _ _).symm.trans (congrArg (· * _) (mul_comm _ _))

theorem ref_dcb : val_main_v47 (F := Ideal) x0 x1 x8 (ix3 b L j) = dcb x0 x1 x8 b L.val j := by
  rw [val_main_v47_apply, val_main_v44_apply, ref_ct, ref_gate, ref_y]
  exact mul_right_comm _ _ _

theorem ref_dcg : val_main_v45 (F := Ideal) x0 x1 x8 (ix3 b L j) = dcg x0 x1 x8 b L.val j := by
  rw [val_main_v45_apply, val_main_call1_v1_apply, val_main_call1_v2_apply, val_main_call1_v0_apply,
    val_main_v43_apply, val_main_v40_apply, ref_logistic, ref_slope, ref_cg, ref_cb, ref_y, ref_ct]
  have h : FloatOps.mulf (F := Ideal) (φ := .f32) (FloatOps.mulf (F := Ideal) (φ := .f32) (col x0 3328 b L.val j) (y x0 x8 b L.val j)) (ct x1 b L.val j)
      = ct x1 b L.val j * col x0 3328 b L.val j * y x0 x8 b L.val j :=
    (mul_comm (_ : EReal) _).trans (mul_assoc (_ : EReal) _ _).symm
  rw [h]; rfl

/-- Past the last position the convolution's cotangent is zero. -/
theorem dy_zero (n : ℕ) (h : 2176 ≤ n) : dy x0 x1 b n j = 0 := by
  unfold dy ct
  rw [dif_neg (by omega), zero_mul, zero_mul]

/-- A pad along the positions, read at a position. -/
theorem pad_mid (lo hi : ℕ) (x : (⟨3, ![2, 2176, 512]⟩ : Shape).Idx → EReal) (v : (⟨0, ![]⟩ : Shape).Idx → EReal)
    (h : (⟨3, ![2, 2176, 512]⟩ : Shape).Pads ![0, lo, 0] ![0, hi, 0] ![0, 0, 0] ⟨3, ![2, 2178, 512]⟩)
    (hu : 0 < (⟨0, ![]⟩ : Shape).numel) (hv : ∀ i, v i = 0) (n : ℕ) (i : (⟨3, ![2, 2178, 512]⟩ : Shape).Idx)
    (h0 : (i 0).val = b.val) (h1 : (i 1).val = n + 2) (h2 : (i 2).val = j.val) (f : ℕ → EReal)
    (hf : ∀ L : Fin 2176, x (ix3 b L j) = f L.val) (hz : ∀ L, 2176 ≤ L → f L = 0) (hlo : lo ≤ 2) :
    pad ⟨3, ![2, 2178, 512]⟩ ![0, lo, 0] ![0, hi, 0] ![0, 0, 0] x v h hu i = f (n + 2 - lo) := by
  by_cases hin : n + 2 - lo < 2176
  · rw [pad_apply_of_inside _ _ _ _ _ _ _ i (ix3 b (⟨n + 2 - lo, hin⟩ : Fin 2176) j) (fun a => by
      match a with
      | ⟨0, _⟩ => show (i 0).val = 0 + b.val * 1; omega
      | ⟨1, _⟩ => show (i 1).val = lo + (n + 2 - lo) * 1; omega
      | ⟨2, _⟩ => show (i 2).val = 0 + j.val * 1; omega)]
    exact hf _
  · rw [pad_apply_of_not_inside _ _ _ _ _ _ _ i 1 (by
      show ¬(lo ≤ (i 1).val ∧ ((i 1).val - lo) % (0 + 1) = 0 ∧ ((i 1).val - lo) / (0 + 1) < 2176)
      rw [h1]; simp; omega), hv, hz _ (by omega)]

theorem zero_scalar (i : (⟨0, ![]⟩ : Shape).Idx) : (constant (F := Ideal) (⟨0, ![]⟩ : Shape) .f32 0x00000000#32) i = 0 :=
  zero_f32

theorem ref_du : val_main_v82 (F := Ideal) x0 x1 x8 (ix3 b L j) = du x0 x1 x8 b L.val j := by
  rw [val_main_v82_apply, ref_valid', val_main_v80_apply, val_main_v75_apply, val_main_v64_apply]
  have e2 : val_main_v54 (F := Ideal) x0 x1 x8 (idx_main_v80 (ix3 b L j)) = tap x8 2 j * dy x0 x1 b L.val j :=
    (pad_mid b j 2 0 (val_main_v49 (F := Ideal) x0 x1 x8) _ _ _ zero_scalar L.val _ rfl (by show 2 + L.val = _; omega) rfl
      (fun n => tap x8 2 j * dy x0 x1 b n j) (fun n => by
        rw [val_main_v49_apply, val_main_v48_apply, val_main_v36_apply, ref_tap2 x8 j _ (by rfl), ref_dy]; rfl)
      (fun n hn => by rw [dy_zero _ _ _ _ _ hn, mul_zero]) (by omega)).trans (by rw [show L.val + 2 - 2 = L.val by omega])
  have e1 : val_main_v63 (F := Ideal) x0 x1 x8 (idx_main_v80 (ix3 b L j)) = tap x8 1 j * dy x0 x1 b (L.val + 1) j :=
    (pad_mid b j 1 1 (val_main_v58 (F := Ideal) x0 x1 x8) _ _ _ zero_scalar L.val _ rfl (by show 2 + L.val = _; omega) rfl
      (fun n => tap x8 1 j * dy x0 x1 b n j) (fun n => by
        rw [val_main_v58_apply, val_main_v57_apply, val_main_v29_apply, ref_tap1 x8 j _ (by rfl), ref_dy]; rfl)
      (fun n hn => by rw [dy_zero _ _ _ _ _ hn, mul_zero]) (by omega)).trans (by rw [show L.val + 2 - 1 = L.val + 1 by omega])
  have e0 : val_main_v74 (F := Ideal) x0 x1 x8 (idx_main_v80 (ix3 b L j)) = tap x8 0 j * dy x0 x1 b (L.val + 2) j :=
    (pad_mid b j 0 2 (val_main_v69 (F := Ideal) x0 x1 x8) _ _ _ zero_scalar L.val _ rfl (by show 2 + L.val = _; omega) rfl
      (fun n => tap x8 0 j * dy x0 x1 b n j) (fun n => by
        rw [val_main_v69_apply, val_main_v68_apply, val_main_v23_apply, ref_tap0 x8 j _ (by rfl), ref_dy]; rfl)
      (fun n hn => by rw [dy_zero _ _ _ _ _ hn, mul_zero]) (by omega)).trans (by rw [Nat.sub_zero])
  rw [e2, e1, e0]
  rfl

theorem ref_dcc : val_main_v84 (F := Ideal) x0 x1 x8 (ix3 b L j) = du x0 x1 x8 b L.val j * col x0 4352 b L.val j := by
  rw [val_main_v84_apply, ref_du, ref_cx]; rfl

theorem ref_dcx : val_main_v83 (F := Ideal) x0 x1 x8 (ix3 b L j) = du x0 x1 x8 b L.val j * col x0 3840 b L.val j := by
  rw [val_main_v83_apply, ref_du, ref_cc]; exact mul_comm _ _

end Cert.Conv
-- ==== Proof.Gate.lean ====
module

public import Idealize.ShloMosaic.Lib.KernelVsHost

/-! The logistic function computed through the hyperbolic tangent, and four products side by side. -/

@[expose] public section

noncomputable section

namespace Cert.Gate

open Idealize.ShloMosaic

/-- The float one half is the number one half. -/
theorem half_f32 : Idealize.ShloMosaic.Ideal.ofBits .f32 0x3F000000#32 = ((1 / 2 : ℝ) : EReal) := by
  simp [Idealize.ShloMosaic.Ideal.ofBits, Idealize.ShloMosaic.Ideal.ieee, -EReal.coe_mul]; norm_num

/-- The logistic function as the kernel computes it, through the hyperbolic tangent of half the argument. -/
theorem half_tanh (x : EReal) : ((1 / 2 : ℝ) : EReal) * Idealize.ShloMosaic.Ideal.tanh (((1 / 2 : ℝ) : EReal) * x) + ((1 / 2 : ℝ) : EReal)
    = Idealize.ShloMosaic.Ideal.logistic x := by
  induction x using EReal.rec with
  | bot =>
    rw [EReal.coe_mul_bot_of_pos (by norm_num), Idealize.ShloMosaic.Ideal.tanh_bot, Idealize.ShloMosaic.Ideal.logistic_bot]
    rw [show (-1 : EReal) = ((-1 : ℝ) : EReal) by simp, ← EReal.coe_mul, ← EReal.coe_add]
    norm_num
  | top =>
    rw [EReal.coe_mul_top_of_pos (by norm_num), Idealize.ShloMosaic.Ideal.tanh_top, Idealize.ShloMosaic.Ideal.logistic_top]
    rw [show (1 : EReal) = ((1 : ℝ) : EReal) by norm_cast, ← EReal.coe_mul, ← EReal.coe_add]
    norm_num
  | coe r =>
    rw [← EReal.coe_mul, Idealize.ShloMosaic.Ideal.tanh_coe, ← EReal.coe_mul, ← EReal.coe_add, Idealize.ShloMosaic.Ideal.logistic_coe]
    congr 1
    rw [Real.tanh_eq_sinh_div_cosh, Real.sinh_eq, Real.cosh_eq]
    have h1 : Real.exp (1 / 2 * r) = Real.exp (-(1 / 2 * r)) * Real.exp r := by rw [← Real.exp_add]; congr 1; ring
    have h2 : Real.exp (-r) = (Real.exp r)⁻¹ := Real.exp_neg r
    have p1 := Real.exp_pos (-(1 / 2 * r))
    have p2 := Real.exp_pos r
    rw [h1, h2]
    field_simp
    ring

/-- Four arrays of 256 columns laid side by side, read at a column. -/
theorem side_by_side (f : Fin 4 → Fin 256 → EReal) (q : Fin 1024) :
    (if h : q.val < 256 then f 0 ⟨q.val, h⟩
      else if h1 : q.val - 256 < 256 then f 1 ⟨q.val - 256, h1⟩
      else if h2 : q.val - 256 - 256 < 256 then f 2 ⟨q.val - 256 - 256, h2⟩
      else f 3 ⟨q.val - 256 - 256 - 256, by omega⟩)
      = f ⟨q.val / 256, by omega⟩ ⟨q.val % 256, Nat.mod_lt _ (by decide)⟩ := by
  split_ifs with h h1 h2
  · congr 1 <;> apply Fin.ext <;> simp <;> omega
  · congr 1 <;> apply Fin.ext <;> simp <;> omega
  · congr 1 <;> apply Fin.ext <;> simp <;> omega
  · congr 1 <;> apply Fin.ext <;> simp <;> omega

end Cert.Gate
-- ==== Proof.Conv.Block.lean ====
module

public import proofs.«01_k».proof.Proof.Gen.KernelIdeal.Skeleton
public import proofs.«01_k».proof.Proof.Conv.Spec
public import proofs.«01_k».proof.Proof.Gate
public import Idealize.ShloMosaic.Lib.KernelVsHost

@[expose] public section

set_option maxRecDepth 16384

noncomputable section

/-! What the kernel's body computes of the convolution at one grid point, one sequence: the payloads of its stores,
    read at an index, in the terms of the specification. The point handles block `n`, positions `128 n + r`. -/

namespace Cert.Conv

open Idealize.ShloMosaic Cert.KernelIdeal Cert.KernelIdeal.Gen Cert.Gate

/-- The gate's gradient as the kernel factors it. -/
def kdcg (x0 : Proj) (x1 : Cot) (x8 : Wts) (b : Fin 2) (L : ℕ) (j : Fin 512) : EReal :=
  let a := ct x1 b L j * col x0 3328 b L j * y x0 x8 b L j
  let x := col x0 4864 b L j
  a * (Idealize.ShloMosaic.Ideal.logistic x * (1 + x * (1 - Idealize.ShloMosaic.Ideal.logistic x)))

/-- A comparison's bit as the float `1` or `0`. -/
theorem flag (c : BitVec 1) : FloatOps.sitofp (F := Ideal) .f32 (BitVec.setWidth 32 c) = if c = 1#1 then (1 : EReal) else 0 := by
  show (((BitVec.setWidth 32 c).toInt : ℝ) : EReal) = _
  rcases (by decide : ∀ c : BitVec 1, c = 0#1 ∨ c = 1#1) c with h | h <;> subst h <;> simp

theorem word_valid (k : Fin 17) (r : Fin 128) :
    IntOp.cmpi .sge (IntOp.addi (IntOp.muli (IntOp.subi 16#32 (BitVec.ofNat 32 k.val)) 128#32) (BitVec.ofNat 32 r.val)) (112#32)
      = if 112 ≤ 128 * (16 - k.val) + r.val then 1#1 else 0#1 := by
  revert k r; decide +kernel

theorem word_valid' (k : Fin 17) (hk : k.val < 16) (r : Fin 128) :
    IntOp.cmpi .sge (IntOp.addi (IntOp.muli (IntOp.subi (IntOp.subi 16#32 (BitVec.ofNat 32 k.val)) 1#32) 128#32) (BitVec.ofNat 32 r.val)) (112#32)
      = if 112 ≤ 128 * (16 - k.val - 1) + r.val then 1#1 else 0#1 := by
  revert k r; decide +kernel

theorem word_prev (k : Fin 17) :
    IntOp.cmpi .sgt (IntOp.subi 16#32 (BitVec.ofNat 32 k.val)) (0#32) = if k.val < 16 then 1#1 else 0#1 := by
  revert k; decide +kernel

theorem word_lt (r : Fin 128) (n : Fin 128) :
    IntOp.cmpi .slt (BitVec.ofNat 32 r.val) (BitVec.ofNat 32 n.val) = if r.val < n.val then 1#1 else 0#1 := by
  revert r n; decide +kernel

theorem word_le (r : Fin 128) (n : Fin 128) :
    IntOp.cmpi .sge (BitVec.ofNat 32 r.val) (BitVec.ofNat 32 n.val) = if n.val ≤ r.val then 1#1 else 0#1 := by
  revert r n; decide +kernel

theorem word_ge1 (r : Fin 128) : IntOp.cmpi .sge (BitVec.ofNat 32 r.val) (1#32) = if 1 ≤ r.val then 1#1 else 0#1 :=
  word_le r 1
theorem word_ge2 (r : Fin 128) : IntOp.cmpi .sge (BitVec.ofNat 32 r.val) (2#32) = if 2 ≤ r.val then 1#1 else 0#1 :=
  word_le r 2
theorem word_lt127 (r : Fin 128) : IntOp.cmpi .slt (BitVec.ofNat 32 r.val) (127#32) = if r.val < 127 then 1#1 else 0#1 :=
  word_lt r 127
theorem word_lt126 (r : Fin 128) : IntOp.cmpi .slt (BitVec.ofNat 32 r.val) (126#32) = if r.val < 126 then 1#1 else 0#1 :=
  word_lt r 126

theorem sel_bit (p : Prop) [Decidable p] (x y : EReal) : Scalar.select (if p then 1#1 else 0#1) x y = if p then x else y := by
  by_cases h : p <;> simp [Scalar.select, h]

theorem bit_one (p : Prop) [Decidable p] : (if (if p then 1#1 else 0#1) = 1#1 then (1 : EReal) else 0) = if p then 1 else 0 := by
  by_cases h : p <;> simp [h]

/-- What the body has loaded for sequence `b` at the point of block `n`: the convolution's four columns, the previous
    block's two, the cotangents, the next block's `dy` and the three taps. -/
structure Loads (i : grid0.Coords) (n : ℕ) (x0 : Proj) (x1 : Cot) (x8 : Wts) (b : Fin 2)
    (cb cc cx cg pc px nx : Vec Ideal S1x128x512 .f32) (gc : Vec Ideal S1x128x512 .bf16) (w0 w1 w2 : Vec Ideal S1x1x512 .f32) : Prop where
  hn : n ≤ 16
  hi : (i 0).val = 16 - n
  hcb : ∀ (r : Fin 128) (j : Fin 512), cb (ix3 0 r j) = col x0 3328 b (128 * n + r.val) j
  hcc : ∀ (r : Fin 128) (j : Fin 512), cc (ix3 0 r j) = col x0 3840 b (128 * n + r.val) j
  hcx : ∀ (r : Fin 128) (j : Fin 512), cx (ix3 0 r j) = col x0 4352 b (128 * n + r.val) j
  hcg : ∀ (r : Fin 128) (j : Fin 512), cg (ix3 0 r j) = col x0 4864 b (128 * n + r.val) j
  hpc : 0 < n → ∀ (r : Fin 128) (j : Fin 512), pc (ix3 0 r j) = col x0 3840 b (128 * (n - 1) + r.val) j
  hpx : 0 < n → ∀ (r : Fin 128) (j : Fin 512), px (ix3 0 r j) = col x0 4352 b (128 * (n - 1) + r.val) j
  hnx : ∀ (r : Fin 128) (j : Fin 512), nx (ix3 0 r j) = dy x0 x1 b (128 * (n + 1) + r.val) j
  hct : ∀ (r : Fin 128) (j : Fin 512), gc (ix3 0 r j) = ct x1 b (128 * n + r.val) j
  hw0 : ∀ j : Fin 512, w0 (ix3 0 0 j) = tap x8 0 j
  hw1 : ∀ j : Fin 512, w1 (ix3 0 0 j) = tap x8 1 j
  hw2 : ∀ j : Fin 512, w2 (ix3 0 0 j) = tap x8 2 j

section Blk

variable {i : grid0.Coords} {n : ℕ} {x0 : Proj} {x1 : Cot} {x8 : Wts} {b : Fin 2}
  {cb cc cx cg pc px nx : Vec Ideal S1x128x512 .f32} {gc : Vec Ideal S1x128x512 .bf16} {w0 w1 w2 : Vec Ideal S1x1x512 .f32}
variable (H : Loads i n x0 x1 x8 b cb cc cx cg pc px nx gc w0 w1 w2) (r : Fin 128) (j : Fin 512)

/-- The block's number as the body computes it. -/
abbrev blkNo (i : grid0.Coords) : BitVec 32 := Scalar.subi 16#32 (BitVec.ofNat 32 (i 0).val)

/-- The row numbers the body compares with. -/
abbrev rowNo : IVec S128x512 32 := iota .tc S128x512 32 [0] iota_S128x512_d0_w32

include H

/-- The rows from position 112 on. -/
theorem blk_valid : k0_pay93 (F := Ideal) i (ix2 r 0) = valid (128 * n + r.val) := by
  have hn := H.hn
  unfold k0_pay93
  pointwise
  rw [H.hi, flag]
  have h := word_valid ⟨16 - n, by omega⟩ r
  have e : 16 - (16 - n) = n := by omega
  simp only [e] at h
  refine (congrArg (fun c => if c = 1#1 then (1 : EReal) else 0) h).trans ?_
  rw [bit_one]; rfl

/-- Whether there is a previous block. -/
theorem blk_prev : k0_pay95 (F := Ideal) i = if 0 < n then (1 : EReal) else 0 := by
  have hn := H.hn
  unfold k0_pay95
  refine (flag (IntOp.cmpi .sgt (IntOp.subi 16#32 (BitVec.ofNat 32 (i 0).val)) (0#32))).trans ?_
  rw [H.hi, word_prev ⟨16 - n, by omega⟩, bit_one]
  by_cases h : 0 < n
  · rw [if_pos h, if_pos (by show 16 - n < 16; omega)]
  · rw [if_neg h, if_neg (by show ¬ 16 - n < 16; omega)]

theorem blk_u : k0_pay853 (F := Ideal) (k0_pay93 i) cc cx (ix2 r j) = u x0 b (128 * n + r.val) j := by
  unfold k0_pay853 k0_pay850 k0_pay851
  pointwise
  rw [H.hcc, H.hcx, blk_valid H]; rfl

theorem blk_up : k0_pay854 (F := Ideal) (blkNo i) (k0_pay95 i) pc px (ix2 r j)
    = if 0 < n then u x0 b (128 * (n - 1) + r.val) j else 0 := by
  have hn := H.hn
  unfold k0_pay854
  pointwise
  rw [blk_prev H]
  by_cases h : 0 < n
  · rw [if_pos h, if_pos h, H.hpc h, H.hpx h, flag]
    unfold blkNo
    rw [H.hi]
    have h' := word_valid' ⟨16 - n, by omega⟩ (by show 16 - n < 16; omega) r
    have e : 16 - (16 - n) - 1 = n - 1 := by omega
    simp only [e] at h'
    unfold u valid
    rw [mul_one]
    congr 1
    refine (congrArg (fun c => if c = 1#1 then (1 : EReal) else 0) h').trans ?_
    rw [bit_one]
  · rw [if_neg h, if_neg h, mul_zero, mul_zero]

theorem blk_u1 : k0_pay855 (F := Ideal) (k0_pay853 (k0_pay93 i) cc cx) (k0_pay854 (blkNo i) (k0_pay95 i) pc px) rowNo 1#32 (ix2 r j)
    = back x0 1 b (128 * n + r.val) j := by
  unfold k0_pay855
  pointwise
  rw [word_ge1, sel_bit, blk_u H, blk_up H]
  unfold back
  have hr := r.isLt
  by_cases h : 1 ≤ r.val
  · rw [if_pos h, if_pos (by omega)]
    congr 1; show 128 * n + (r.val + 128 - 1) % 128 = _; omega
  · rw [if_neg h]
    by_cases h0 : 0 < n
    · rw [if_pos h0, if_pos (by omega)]
      congr 1; show 128 * (n - 1) + (r.val + 128 - 1) % 128 = _; omega
    · rw [if_neg h0, if_neg (by omega)]

theorem blk_u2 : k0_pay856 (F := Ideal) (k0_pay853 (k0_pay93 i) cc cx) (k0_pay854 (blkNo i) (k0_pay95 i) pc px) (ix2 r j)
    = back x0 2 b (128 * n + r.val) j := by
  unfold k0_pay856
  pointwise
  rw [word_ge2, sel_bit, blk_u H, blk_up H]
  unfold back
  have hr := r.isLt
  by_cases h : 2 ≤ r.val
  · rw [if_pos h, if_pos (by omega)]
    congr 1; show 128 * n + (r.val + 128 - 2) % 128 = _; omega
  · rw [if_neg h]
    by_cases h0 : 0 < n
    · rw [if_pos h0, if_pos (by omega)]
      congr 1; show 128 * (n - 1) + (r.val + 128 - 2) % 128 = _; omega
    · rw [if_neg h0, if_neg (by omega)]

theorem blk_w0 : k0_pay846 (F := Ideal) w0 (ix2 0 j) = tap x8 0 j := by
  unfold k0_pay846; pointwise; exact H.hw0 j
theorem blk_w1 : k0_pay847 (F := Ideal) w1 (ix2 0 j) = tap x8 1 j := by
  unfold k0_pay847; pointwise; exact H.hw1 j
theorem blk_w2 : k0_pay848 (F := Ideal) w2 (ix2 0 j) = tap x8 2 j := by
  unfold k0_pay848; pointwise; exact H.hw2 j

theorem blk_y : k0_pay857 (F := Ideal) (k0_pay846 w0) (k0_pay847 w1) (k0_pay848 w2) (k0_pay853 (k0_pay93 i) cc cx)
    (k0_pay854 (blkNo i) (k0_pay95 i) pc px) rowNo 1#32 (ix2 r j) = y x0 x8 b (128 * n + r.val) j := by
  unfold k0_pay857
  pointwise
  rw [blk_u H, blk_u1 H, blk_u2 H, blk_w0 H, blk_w1 H, blk_w2 H]; rfl

theorem blk_ct : k0_pay858 (F := Ideal) gc (ix2 r j) = ct x1 b (128 * n + r.val) j := by
  unfold k0_pay858; pointwise; exact H.hct r j

theorem blk_cb : k0_pay849 (F := Ideal) cb (ix2 r j) = col x0 3328 b (128 * n + r.val) j := by
  unfold k0_pay849; pointwise; exact H.hcb r j
theorem blk_cc : k0_pay850 (F := Ideal) cc (ix2 r j) = col x0 3840 b (128 * n + r.val) j := by
  unfold k0_pay850; pointwise; exact H.hcc r j
theorem blk_cx : k0_pay851 (F := Ideal) cx (ix2 r j) = col x0 4352 b (128 * n + r.val) j := by
  unfold k0_pay851; pointwise; exact H.hcx r j
theorem blk_cg : k0_pay852 (F := Ideal) cg (ix2 r j) = col x0 4864 b (128 * n + r.val) j := by
  unfold k0_pay852; pointwise; exact H.hcg r j

theorem blk_gate : k0_pay859 (F := Ideal) (k0_pay852 cg) (ix2 r j) = gate x0 b (128 * n + r.val) j := by
  unfold k0_pay859
  pointwise
  rw [blk_cg H]
  simp only [half_f32]
  rw [half_tanh]; rfl

/-- The store at the columns of `cb`. -/
theorem blk_dcb : k0_pay860 (F := Ideal) (k0_pay846 w0) (k0_pay847 w1) (k0_pay848 w2) (k0_pay852 cg) (k0_pay853 (k0_pay93 i) cc cx)
    (k0_pay854 (blkNo i) (k0_pay95 i) pc px) rowNo 1#32 gc (ix3 0 r j) = dcb x0 x1 x8 b (128 * n + r.val) j := by
  unfold k0_pay860
  pointwise
  rw [blk_ct H, blk_y H, blk_gate H]; rfl

/-- The cotangent of the convolution's output. -/
theorem blk_dy : k0_pay864 (F := Ideal) (k0_pay849 cb) (k0_pay858 gc) (k0_pay859 (k0_pay852 cg)) (ix2 r j)
    = dy x0 x1 b (128 * n + r.val) j := by
  unfold k0_pay864
  pointwise
  rw [blk_ct H, blk_cb H, blk_gate H]; rfl

/-- The cotangent of the convolution's input. -/
theorem blk_du : k0_pay865 (F := Ideal) (k0_pay93 i) (k0_pay846 w0) (k0_pay847 w1) (k0_pay848 w2) (k0_pay849 cb) (k0_pay858 gc)
    (k0_pay859 (k0_pay852 cg)) nx (ix2 r j) = du x0 x1 x8 b (128 * n + r.val) j := by
  unfold k0_pay865
  pointwise
  rw [word_lt127, word_lt126, sel_bit, sel_bit, blk_w0 H, blk_w1 H, blk_w2 H, blk_dy H, blk_dy H, blk_dy H, H.hnx, H.hnx, blk_valid H]
  have hr := r.isLt
  have e1 : (if r.val < 127 then dy x0 x1 b (128 * n + (r.val + 128 - 127) % 128) j
      else dy x0 x1 b (128 * (n + 1) + (r.val + 128 - 127) % 128) j) = dy x0 x1 b (128 * n + r.val + 1) j := by
    split <;> (congr 1; omega)
  have e2 : (if r.val < 126 then dy x0 x1 b (128 * n + (r.val + 128 - 126) % 128) j
      else dy x0 x1 b (128 * (n + 1) + (r.val + 128 - 126) % 128) j) = dy x0 x1 b (128 * n + r.val + 2) j := by
    split <;> (congr 1; omega)
  unfold du
  rw [← e1, ← e2]

/-- The store at the columns of `cc`. -/
theorem blk_dcc : k0_pay867 (F := Ideal) (k0_pay866 (k0_pay93 i) (k0_pay846 w0) (k0_pay847 w1) (k0_pay848 w2) (k0_pay849 cb) (k0_pay851 cx)
    (k0_pay858 gc) (k0_pay859 (k0_pay852 cg)) nx) (ix3 0 r j)
    = du x0 x1 x8 b (128 * n + r.val) j * col x0 4352 b (128 * n + r.val) j := by
  unfold k0_pay867 k0_pay866
  pointwise
  rw [blk_du H, blk_cx H]

/-- The store at the columns of `cx`. -/
theorem blk_dcx : k0_pay868 (F := Ideal) (k0_pay850 cc) (k0_pay865 (k0_pay93 i) (k0_pay846 w0) (k0_pay847 w1) (k0_pay848 w2) (k0_pay849 cb)
    (k0_pay858 gc) (k0_pay859 (k0_pay852 cg)) nx) (ix3 0 r j)
    = du x0 x1 x8 b (128 * n + r.val) j * col x0 3840 b (128 * n + r.val) j := by
  unfold k0_pay868
  pointwise
  rw [blk_du H, blk_cc H]

/-- The store at the columns of the gate's argument, the derivative still undistributed. -/
theorem blk_dcg : k0_pay863 (F := Ideal) (k0_pay852 cg) (k0_pay861 (k0_pay846 w0) (k0_pay847 w1) (k0_pay848 w2) (k0_pay849 cb)
    (k0_pay853 (k0_pay93 i) cc cx) (k0_pay854 (blkNo i) (k0_pay95 i) pc px) rowNo 1#32 gc) (k0_pay862 (k0_pay852 cg)) (ix3 0 r j)
    = kdcg x0 x1 x8 b (128 * n + r.val) j := by
  unfold k0_pay863 k0_pay861 k0_pay862
  pointwise
  rw [blk_cg H, blk_ct H, blk_cb H, blk_y H]
  simp only [half_f32]
  rw [half_tanh]
  rfl

/-- The row of `dcw` of the tap two rows back: the old row plus this block's sum. -/
theorem blk_sum2 (acc : Vec Ideal S1x512 .f32) :
    k0_pay869 (F := Ideal) (k0_pay856 (k0_pay853 (k0_pay93 i) cc cx) (k0_pay854 (blkNo i) (k0_pay95 i) pc px))
      (k0_pay864 (k0_pay849 cb) (k0_pay858 gc) (k0_pay859 (k0_pay852 cg))) acc (ix2 0 j)
      = acc (ix2 0 j) + ∑ r : Fin 128, dy x0 x1 b (128 * n + r.val) j * back x0 2 b (128 * n + r.val) j := by
  unfold k0_pay869
  pointwise
  exact congrArg _ (Finset.sum_congr rfl fun r _ => by rw [blk_dy H, blk_u2 H])

/-- The row of the tap one row back. -/
theorem blk_sum1 (acc : Vec Ideal S1x512 .f32) :
    k0_pay870 (F := Ideal) (k0_pay855 (k0_pay853 (k0_pay93 i) cc cx) (k0_pay854 (blkNo i) (k0_pay95 i) pc px) rowNo 1#32)
      (k0_pay864 (k0_pay849 cb) (k0_pay858 gc) (k0_pay859 (k0_pay852 cg))) acc (ix2 0 j)
      = acc (ix2 0 j) + ∑ r : Fin 128, dy x0 x1 b (128 * n + r.val) j * back x0 1 b (128 * n + r.val) j := by
  unfold k0_pay870
  pointwise
  exact congrArg _ (Finset.sum_congr rfl fun r _ => by rw [blk_dy H, blk_u1 H])

/-- The row of the tap on the row itself. -/
theorem blk_sum0 (acc : Vec Ideal S1x512 .f32) :
    k0_pay871 (F := Ideal) (k0_pay853 (k0_pay93 i) cc cx)
      (k0_pay864 (k0_pay849 cb) (k0_pay858 gc) (k0_pay859 (k0_pay852 cg))) acc (ix2 0 j)
      = acc (ix2 0 j) + ∑ r : Fin 128, dy x0 x1 b (128 * n + r.val) j * back x0 0 b (128 * n + r.val) j := by
  unfold k0_pay871
  pointwise
  exact congrArg _ (Finset.sum_congr rfl fun r _ => by rw [blk_dy H, blk_u H]; rfl)

/-- The block of `dy` as it is stored for the next step. -/
theorem blk_keep : k0_pay872 (F := Ideal) (k0_pay864 (k0_pay849 cb) (k0_pay858 gc) (k0_pay859 (k0_pay852 cg))) (ix3 0 r j)
    = dy x0 x1 b (128 * n + r.val) j := by
  unfold k0_pay872
  pointwise
  exact blk_dy H r j

end Blk

/-! The second sequence's expressions are the first one's. -/

section Two

variable (i : grid0.Coords) (cb cc cx cg pc px nx : Vec Ideal S1x128x512 .f32) (gc : Vec Ideal S1x128x512 .bf16)
  (w0 w1 w2 : FVec Ideal S1x512 .f32) (acc : Vec Ideal S1x512 .f32) (f g : FVec Ideal S128x512 .f32)

theorem two_dcb : k0_pay884 w0 w1 w2 (k0_pay876 cg) (k0_pay877 (k0_pay93 i) cc cx) (k0_pay878 (blkNo i) (k0_pay95 i) pc px)
      (k0_pay879 (blkNo i) (k0_pay93 i) (k0_pay95 i) cc cx pc px) rowNo 2#32 gc
    = k0_pay860 w0 w1 w2 (k0_pay852 cg) (k0_pay853 (k0_pay93 i) cc cx) (k0_pay854 (blkNo i) (k0_pay95 i) pc px) rowNo 1#32 gc := rfl

theorem two_dcg : k0_pay889 (k0_pay885 w0 w1 w2 (k0_pay873 cb) (k0_pay877 (k0_pay93 i) cc cx) (k0_pay878 (blkNo i) (k0_pay95 i) pc px)
      (k0_pay879 (blkNo i) (k0_pay93 i) (k0_pay95 i) cc cx pc px) rowNo 2#32 gc) (k0_pay886 (k0_pay876 cg)) (k0_pay887 (k0_pay876 cg)) k0_pay888
    = k0_pay863 (k0_pay852 cg) (k0_pay861 w0 w1 w2 (k0_pay849 cb) (k0_pay853 (k0_pay93 i) cc cx)
      (k0_pay854 (blkNo i) (k0_pay95 i) pc px) rowNo 1#32 gc) (k0_pay862 (k0_pay852 cg)) := rfl

theorem two_dy : k0_pay890 (k0_pay873 cb) (k0_pay882 gc) (k0_pay883 (k0_pay876 cg))
    = k0_pay864 (k0_pay849 cb) (k0_pay858 gc) (k0_pay859 (k0_pay852 cg)) := rfl

theorem two_dcc : k0_pay892 (k0_pay93 i) w0 w1 w2 (k0_pay873 cb) (k0_pay875 cx) (k0_pay882 gc) (k0_pay883 (k0_pay876 cg)) nx
    = k0_pay867 (k0_pay866 (k0_pay93 i) w0 w1 w2 (k0_pay849 cb) (k0_pay851 cx) (k0_pay858 gc) (k0_pay859 (k0_pay852 cg)) nx) := rfl

theorem two_dcx : k0_pay894 (k0_pay893 (k0_pay93 i) w0 w1 w2 (k0_pay873 cb) (k0_pay874 cc) (k0_pay882 gc) (k0_pay883 (k0_pay876 cg)) nx)
    = k0_pay868 (k0_pay850 cc) (k0_pay865 (k0_pay93 i) w0 w1 w2 (k0_pay849 cb) (k0_pay858 gc) (k0_pay859 (k0_pay852 cg)) nx) := rfl

theorem two_u : k0_pay877 (k0_pay93 i) cc cx = k0_pay853 (k0_pay93 i) cc cx := rfl

theorem two_u1 : k0_pay879 (blkNo i) (k0_pay93 i) (k0_pay95 i) cc cx pc px
    = k0_pay855 (k0_pay853 (k0_pay93 i) cc cx) (k0_pay854 (blkNo i) (k0_pay95 i) pc px) rowNo 1#32 := rfl

theorem two_u2 : k0_pay880 (k0_pay877 (k0_pay93 i) cc cx) (k0_pay878 (blkNo i) (k0_pay95 i) pc px) rowNo 2#32
    = k0_pay856 (k0_pay853 (k0_pay93 i) cc cx) (k0_pay854 (blkNo i) (k0_pay95 i) pc px) := rfl

theorem two_sum2 : k0_pay895 f g acc = k0_pay869 f g acc := rfl
theorem two_sum1 : k0_pay896 f g acc = k0_pay870 f g acc := rfl
theorem two_sum0 : k0_pay897 f g acc = k0_pay871 f g acc := rfl
theorem two_keep : k0_pay1 g = k0_pay872 g := rfl

end Two

end Cert.Conv
-- ==== Proof.Conv.Pieces.lean ====
module

public import proofs.«01_k».proof.Proof.Conv.Block
public import Idealize.ShloMosaic.Lib.Pipeline.FrameBody
public import Idealize.ShloMosaic.Lib.Pipeline.ValueKit.Tiles

/-!
# What the convolution's stores leave in the buffers

The body ends with the gated convolution's stores: for each of the two sequences four pieces of the gradient of the
projection, one piece of `dy` and three rows added into the taps' gradient. Here are those lists of pieces, as functions
of what was loaded, and what they hold at an index.
-/

set_option maxRecDepth 16384

@[expose] public section

noncomputable section

namespace Cert.Conv

open Idealize.ShloMosaic Cert.KernelIdeal Cert.KernelIdeal.Gen

/-- What the body has loaded for one sequence. -/
structure Seq where
  cb : Vec Ideal S1x128x512 .f32
  cc : Vec Ideal S1x128x512 .f32
  cx : Vec Ideal S1x128x512 .f32
  cg : Vec Ideal S1x128x512 .f32
  pc : Vec Ideal S1x128x512 .f32
  px : Vec Ideal S1x128x512 .f32
  nx : Vec Ideal S1x128x512 .f32
  gc : Vec Ideal S1x128x512 .bf16

/-- The three taps' rows as loaded. -/
structure Taps where
  w0 : Vec Ideal S1x1x512 .f32
  w1 : Vec Ideal S1x1x512 .f32
  w2 : Vec Ideal S1x1x512 .f32

/-- The loads are the arguments' at block `n`. -/
abbrev Loaded (i : grid0.Coords) (n : ℕ) (x0 : Proj) (x1 : Cot) (x8 : Wts) (b : Fin 2) (w : Taps) (s : Seq) : Prop :=
  Loads i n x0 x1 x8 b s.cb s.cc s.cx s.cg s.pc s.px s.nx s.gc w.w0 w.w1 w.w2

section

variable (i : grid0.Coords) (w : Taps) (s : Seq)

def uOf : FVec Ideal S128x512 .f32 := k0_pay853 (k0_pay93 i) s.cc s.cx
def upOf : FVec Ideal S128x512 .f32 := k0_pay854 (blkNo i) (k0_pay95 i) s.pc s.px
def u1Of : FVec Ideal S128x512 .f32 := k0_pay855 (uOf i s) (upOf i s) rowNo 1#32
def u2Of : FVec Ideal S128x512 .f32 := k0_pay856 (uOf i s) (upOf i s)
def dyOf : FVec Ideal S128x512 .f32 := k0_pay864 (k0_pay849 s.cb) (k0_pay858 s.gc) (k0_pay859 (k0_pay852 s.cg))

/-- The four stores into the projection's gradient. -/
def stCb : FVec Ideal S1x128x512 .bf16 :=
  k0_pay860 (k0_pay846 w.w0) (k0_pay847 w.w1) (k0_pay848 w.w2) (k0_pay852 s.cg) (uOf i s) (upOf i s) rowNo 1#32 s.gc
def stCc : FVec Ideal S1x128x512 .bf16 :=
  k0_pay867 (k0_pay866 (k0_pay93 i) (k0_pay846 w.w0) (k0_pay847 w.w1) (k0_pay848 w.w2) (k0_pay849 s.cb) (k0_pay851 s.cx)
    (k0_pay858 s.gc) (k0_pay859 (k0_pay852 s.cg)) s.nx)
def stCx : FVec Ideal S1x128x512 .bf16 :=
  k0_pay868 (k0_pay850 s.cc) (k0_pay865 (k0_pay93 i) (k0_pay846 w.w0) (k0_pay847 w.w1) (k0_pay848 w.w2) (k0_pay849 s.cb)
    (k0_pay858 s.gc) (k0_pay859 (k0_pay852 s.cg)) s.nx)
def stCg : FVec Ideal S1x128x512 .bf16 :=
  k0_pay863 (k0_pay852 s.cg) (k0_pay861 (k0_pay846 w.w0) (k0_pay847 w.w1) (k0_pay848 w.w2) (k0_pay849 s.cb) (uOf i s) (upOf i s)
    rowNo 1#32 s.gc) (k0_pay862 (k0_pay852 s.cg))
/-- The store of `dy`. -/
def stDy : FVec Ideal S1x128x512 .f32 := k0_pay872 (dyOf s)
/-- A tap's row with this block's sum added. -/
def row2 (o : Vec Ideal S1x512 .f32) : FVec Ideal S1x512 .f32 := k0_pay869 (u2Of i s) (dyOf s) o
def row1 (o : Vec Ideal S1x512 .f32) : FVec Ideal S1x512 .f32 := k0_pay870 (u1Of i s) (dyOf s) o
def row0 (o : Vec Ideal S1x512 .f32) : FVec Ideal S1x512 .f32 := k0_pay871 (uOf i s) (dyOf s) o

end

theorem inb3 (b k w : ℕ) (hb : b < 2) (h : k + 512 ≤ w) : ∀ a : Fin 3, ![b, 0, k] a + ![1, 128, 512] a ≤ ![2, 128, w] a := by
  intro a
  fin_cases a
  · show b + 1 ≤ 2; omega
  · show 0 + 128 ≤ 128; omega
  · show k + 512 ≤ w; omega

theorem inb2 (k : ℕ) (h : k < 8) : ∀ a : Fin 2, ![k, 0] a + ![1, 512] a ≤ ![8, 512] a := by
  intro a
  fin_cases a
  · show k + 1 ≤ 8; omega
  · show 0 + 512 ≤ 512; omega

theorem inb1 (k : ℕ) (h : k < 3) : ∀ a : Fin 3, ![0, k, 0] a + ![1, 1, 512] a ≤ ![1, 3, 512] a := by
  intro a
  fin_cases a
  · show 0 + 1 ≤ 1; omega
  · show k + 1 ≤ 3; omega
  · show 0 + 512 ≤ 512; omega

/-- Columns `k … k + 511` of sequence `b` of the projection's block. -/
abbrev box (b k : ℕ) (hb : b < 2) (h : k + 512 ≤ 5376) : Rect S2x128x5376 := Rect.unit ![b, 0, k] ![1, 128, 512] (inb3 b k 5376 hb h)
abbrev boxP (b k : ℕ) (hb : b < 2) (h : k + 512 ≤ 1280) : Rect S2x128x1280 := Rect.unit ![b, 0, k] ![1, 128, 512] (inb3 b k 1280 hb h)
abbrev boxC (b k : ℕ) (hb : b < 2) (h : k + 512 ≤ 1536) : Rect S2x128x1536 := Rect.unit ![b, 0, k] ![1, 128, 512] (inb3 b k 1536 hb h)
abbrev boxD (b : ℕ) (hb : b < 2) : Rect S2x128x512 := Rect.unit ![b, 0, 0] ![1, 128, 512] (inb3 b 0 512 hb (by omega))
abbrev boxR (k : ℕ) (h : k < 8) : Rect S8x512 := Rect.unit ![k, 0] ![1, 512] (inb2 k h)
abbrev boxW (k : ℕ) (h : k < 3) : Rect S1x3x512 := Rect.unit ![0, k, 0] ![1, 1, 512] (inb1 k h)

/-- The loads of one sequence out of the blocks. -/
def seqOf (X0 : Vec Ideal S2x128x5376 .f32) (X2 : Vec Ideal S2x128x1280 .f32) (X3 : Vec Ideal S2x128x1536 .bf16) (b : ℕ) (hb : b < 2)
    (nx : Vec Ideal S1x128x512 .f32) : Seq where
  cb := View.ld X0 (box b 3328 hb (by omega))
  cc := View.ld X0 (box b 3840 hb (by omega))
  cx := View.ld X0 (box b 4352 hb (by omega))
  cg := View.ld X0 (box b 4864 hb (by omega))
  pc := View.ld X2 (boxP b 0 hb (by omega))
  px := View.ld X2 (boxP b 512 hb (by omega))
  nx := nx
  gc := View.ld X3 (boxC b 1024 hb (by omega))

def tapsOf (X10 : Vec Ideal S1x3x512 .f32) : Taps where
  w0 := View.ld X10 (boxW 0 (by omega))
  w1 := View.ld X10 (boxW 1 (by omega))
  w2 := View.ld X10 (boxW 2 (by omega))

/-- The eight last stores into the projection's gradient, over the earlier ones. -/
def heads (i : grid0.Coords) (w : Taps) (s0 s1 : Seq) (rest : List (View.Piece (Elt Ideal) S2x128x5376 .bf16)) :
    List (View.Piece (Elt Ideal) S2x128x5376 .bf16) :=
  ⟨box 1 4352 (by omega) (by omega), stCx i w s1⟩ :: ⟨box 1 3840 (by omega) (by omega), stCc i w s1⟩ ::
  ⟨box 1 4864 (by omega) (by omega), stCg i w s1⟩ :: ⟨box 1 3328 (by omega) (by omega), stCb i w s1⟩ ::
  ⟨box 0 4352 (by omega) (by omega), stCx i w s0⟩ :: ⟨box 0 3840 (by omega) (by omega), stCc i w s0⟩ ::
  ⟨box 0 4864 (by omega) (by omega), stCg i w s0⟩ :: ⟨box 0 3328 (by omega) (by omega), stCb i w s0⟩ :: rest

/-- The two stores of `dy`. -/
def keeps (s0 s1 : Seq) (rest : List (View.Piece (Elt Ideal) S2x128x512 .f32)) : List (View.Piece (Elt Ideal) S2x128x512 .f32) :=
  ⟨boxD 1 (by omega), stDy s1⟩ :: ⟨boxD 0 (by omega), stDy s0⟩ :: rest

/-- The six stores of the taps' rows. -/
def sums (i : grid0.Coords) (s0 s1 : Seq) (p0 p1 p2 q0 q1 q2 : Vec Ideal S1x512 .f32) (rest : List (View.Piece (Elt Ideal) S8x512 .f32)) :
    List (View.Piece (Elt Ideal) S8x512 .f32) :=
  ⟨boxR 2 (by omega), row0 i s1 q2⟩ :: ⟨boxR 1 (by omega), row1 i s1 q1⟩ :: ⟨boxR 0 (by omega), row2 i s1 q0⟩ ::
  ⟨boxR 2 (by omega), row0 i s0 p2⟩ :: ⟨boxR 1 (by omega), row1 i s0 p1⟩ :: ⟨boxR 0 (by omega), row2 i s0 p0⟩ :: rest

section Canon

variable {Val : EltTy → Type} [∀ e, Nonempty (Val e)] {S : Shape} {e : EltTy}

/-- The last store's own index. -/
theorem canon_hit (off size : Fin S.rank → ℕ) (inb : ∀ a, off a + size a ≤ S.size a) (v : (Rect.unit off size inb).shape.Idx → Val e)
    (L : List (View.Piece Val S e)) (y : S.Idx) (x : (Rect.unit off size inb).shape.Idx) (h : ∀ a, (y a).val = off a + (x a).val) :
    View.canon (⟨Rect.unit off size inb, v⟩ :: L) y = v x := by
  have e : (Rect.unit off size inb).emb x = y := funext fun a => Fin.ext ((Rect.idx_unit_val off size inb x a).trans (h a).symm)
  rw [← e, View.canon_cons_emb]

/-- An index off the last store. -/
theorem canon_miss (off size : Fin S.rank → ℕ) (inb : ∀ a, off a + size a ≤ S.size a) (v : (Rect.unit off size inb).shape.Idx → Val e)
    (L : List (View.Piece Val S e)) (y : S.Idx) (a : Fin S.rank) (h : (y a).val < off a ∨ off a + size a ≤ (y a).val) :
    View.canon (⟨Rect.unit off size inb, v⟩ :: L) y = View.canon L y := by
  refine View.canon_cons_of_not_mem _ L ?_
  intro hm
  have := (Rect.mem_set_unit (inb := inb).mp hm) a
  omega

end Canon

section Literal

variable {Val : EltTy → Type} [∀ e, Nonempty (Val e)] {e : EltTy}

theorem hit3 {A B C a b c : ℕ} (o0 o1 o2 : ℕ) (inb : ∀ x : Fin 3, ![o0, o1, o2] x + ![a, b, c] x ≤ ![A, B, C] x)
    (v : (⟨3, ![a, b, c]⟩ : Shape).Idx → Val e) (L : List (View.Piece Val ⟨3, ![A, B, C]⟩ e)) (x0 : Fin a) (x1 : Fin b) (x2 : Fin c)
    (y0 : Fin A) (y1 : Fin B) (y2 : Fin C) (h0 : y0.val = o0 + x0.val) (h1 : y1.val = o1 + x1.val) (h2 : y2.val = o2 + x2.val) :
    View.canon ((⟨Rect.unit (s := ⟨3, ![A, B, C]⟩) ![o0, o1, o2] ![a, b, c] inb, v⟩ : View.Piece Val ⟨3, ![A, B, C]⟩ e) :: L) (ix3 y0 y1 y2)
      = v (ix3 x0 x1 x2) :=
  canon_hit (S := ⟨3, ![A, B, C]⟩) ![o0, o1, o2] ![a, b, c] inb v L (ix3 y0 y1 y2) (ix3 x0 x1 x2)
    ((Fin.forall_fin_succ (n := 2)).mpr ⟨h0, Fin.forall_fin_two.mpr ⟨h1, h2⟩⟩)

theorem miss3 {A B C a b c : ℕ} (o0 o1 o2 : ℕ) (inb : ∀ x : Fin 3, ![o0, o1, o2] x + ![a, b, c] x ≤ ![A, B, C] x)
    (v : (⟨3, ![a, b, c]⟩ : Shape).Idx → Val e) (L : List (View.Piece Val ⟨3, ![A, B, C]⟩ e))
    (y0 : Fin A) (y1 : Fin B) (y2 : Fin C) (h : (y0.val < o0 ∨ o0 + a ≤ y0.val) ∨ (y2.val < o2 ∨ o2 + c ≤ y2.val)) :
    View.canon ((⟨Rect.unit (s := ⟨3, ![A, B, C]⟩) ![o0, o1, o2] ![a, b, c] inb, v⟩ : View.Piece Val ⟨3, ![A, B, C]⟩ e) :: L) (ix3 y0 y1 y2)
      = View.canon L (ix3 y0 y1 y2) := by
  rcases h with h | h
  · exact canon_miss (S := ⟨3, ![A, B, C]⟩) ![o0, o1, o2] ![a, b, c] inb v L (ix3 y0 y1 y2) (0 : Fin 3) h
  · exact canon_miss (S := ⟨3, ![A, B, C]⟩) ![o0, o1, o2] ![a, b, c] inb v L (ix3 y0 y1 y2) (2 : Fin 3) h

theorem hit2 {A B a b : ℕ} (o0 o1 : ℕ) (inb : ∀ x : Fin 2, ![o0, o1] x + ![a, b] x ≤ ![A, B] x)
    (v : (⟨2, ![a, b]⟩ : Shape).Idx → Val e) (L : List (View.Piece Val ⟨2, ![A, B]⟩ e)) (x0 : Fin a) (x1 : Fin b)
    (y0 : Fin A) (y1 : Fin B) (h0 : y0.val = o0 + x0.val) (h1 : y1.val = o1 + x1.val) :
    View.canon ((⟨Rect.unit (s := ⟨2, ![A, B]⟩) ![o0, o1] ![a, b] inb, v⟩ : View.Piece Val ⟨2, ![A, B]⟩ e) :: L) (ix2 y0 y1)
      = v (ix2 x0 x1) :=
  canon_hit (S := ⟨2, ![A, B]⟩) ![o0, o1] ![a, b] inb v L (ix2 y0 y1) (ix2 x0 x1) (Fin.forall_fin_two.mpr ⟨h0, h1⟩)

theorem miss2 {A B a b : ℕ} (o0 o1 : ℕ) (inb : ∀ x : Fin 2, ![o0, o1] x + ![a, b] x ≤ ![A, B] x)
    (v : (⟨2, ![a, b]⟩ : Shape).Idx → Val e) (L : List (View.Piece Val ⟨2, ![A, B]⟩ e))
    (y0 : Fin A) (y1 : Fin B) (h : y0.val < o0 ∨ o0 + a ≤ y0.val) :
    View.canon ((⟨Rect.unit (s := ⟨2, ![A, B]⟩) ![o0, o1] ![a, b] inb, v⟩ : View.Piece Val ⟨2, ![A, B]⟩ e) :: L) (ix2 y0 y1)
      = View.canon L (ix2 y0 y1) :=
  canon_miss (S := ⟨2, ![A, B]⟩) ![o0, o1] ![a, b] inb v L (ix2 y0 y1) (0 : Fin 2) h

end Literal

theorem box_hit (b k : ℕ) (hb : b < 2) (hk : k + 512 ≤ 5376) (v : Vec Ideal S1x128x512 .bf16) (L : List (View.Piece (Elt Ideal) S2x128x5376 .bf16))
    (b' : Fin 2) (r : Fin 128) (j : Fin 512) (c : Fin 5376) (h0 : b'.val = b) (h : c.val = k + j.val) :
    View.canon (⟨box b k hb hk, v⟩ :: L) (ix3 b' r c) = v (ix3 0 r j) :=
  hit3 b 0 k _ v L (0 : Fin 1) r j b' r c h0 (Nat.zero_add _).symm h

theorem box_miss (b k : ℕ) (hb : b < 2) (hk : k + 512 ≤ 5376) (v : Vec Ideal S1x128x512 .bf16) (L : List (View.Piece (Elt Ideal) S2x128x5376 .bf16))
    (b' : Fin 2) (r : Fin 128) (c : Fin 5376) (h : (b'.val < b ∨ b + 1 ≤ b'.val) ∨ (c.val < k ∨ k + 512 ≤ c.val)) :
    View.canon (⟨box b k hb hk, v⟩ :: L) (ix3 b' r c) = View.canon L (ix3 b' r c) :=
  miss3 b 0 k _ v L b' r c h

theorem boxR_hit (k : ℕ) (hk : k < 8) (v : Vec Ideal S1x512 .f32) (L : List (View.Piece (Elt Ideal) S8x512 .f32)) (k' : Fin 8) (j : Fin 512)
    (h : k'.val = k) : View.canon (⟨boxR k hk, v⟩ :: L) (ix2 k' j) = v (ix2 0 j) :=
  hit2 k 0 _ v L (0 : Fin 1) j k' j h (Nat.zero_add _).symm

theorem boxR_miss (k : ℕ) (hk : k < 8) (v : Vec Ideal S1x512 .f32) (L : List (View.Piece (Elt Ideal) S8x512 .f32)) (k' : Fin 8) (j : Fin 512)
    (h : k'.val < k ∨ k + 1 ≤ k'.val) : View.canon (⟨boxR k hk, v⟩ :: L) (ix2 k' j) = View.canon L (ix2 k' j) :=
  miss2 k 0 _ v L k' j h

theorem boxD_hit (b : ℕ) (hb : b < 2) (v : Vec Ideal S1x128x512 .f32) (L : List (View.Piece (Elt Ideal) S2x128x512 .f32))
    (b' : Fin 2) (r : Fin 128) (j : Fin 512) (h : b'.val = b) : View.canon (⟨boxD b hb, v⟩ :: L) (ix3 b' r j) = v (ix3 0 r j) :=
  hit3 b 0 0 _ v L (0 : Fin 1) r j b' r j h (Nat.zero_add _).symm (Nat.zero_add _).symm

theorem boxD_miss (b : ℕ) (hb : b < 2) (v : Vec Ideal S1x128x512 .f32) (L : List (View.Piece (Elt Ideal) S2x128x512 .f32))
    (b' : Fin 2) (r : Fin 128) (j : Fin 512) (h : b'.val < b ∨ b + 1 ≤ b'.val) :
    View.canon (⟨boxD b hb, v⟩ :: L) (ix3 b' r j) = View.canon L (ix3 b' r j) :=
  miss3 b 0 0 _ v L b' r j (.inl h)

/-- The gradient of the convolution's columns as the kernel stores it. -/
def kdcols (x0 : Proj) (x1 : Cot) (x8 : Wts) (b : Fin 2) (L : ℕ) (q : Fin 4) (j : Fin 512) : EReal :=
  if q = 3 then kdcg x0 x1 x8 b L j else dcols x0 x1 x8 b L q j

section Held

variable {i : grid0.Coords} {n : ℕ} {x0 : Proj} {x1 : Cot} {x8 : Wts} {w : Taps} {s0 s1 : Seq}
  (H0 : Loaded i n x0 x1 x8 0 w s0) (H1 : Loaded i n x0 x1 x8 1 w s1)

include H0 H1

/-- The eight stores hold the gradient of the convolution's columns. -/
theorem heads_held (rest : List (View.Piece (Elt Ideal) S2x128x5376 .bf16)) (b : Fin 2) (r : Fin 128) (q : Fin 4) (j : Fin 512) :
    View.canon (heads i w s0 s1 rest) (ix3 b r (⟨3328 + 512 * q.val + j.val, by omega⟩ : Fin 5376))
      = kdcols x0 x1 x8 b (128 * n + r.val) q j := by
  unfold heads
  have hj := j.isLt
  obtain ⟨b, hb⟩ := b
  obtain ⟨q, hq⟩ := q
  obtain rfl | rfl : b = 0 ∨ b = 1 := by omega
  all_goals obtain rfl | rfl | rfl | rfl : q = 0 ∨ q = 1 ∨ q = 2 ∨ q = 3 := by omega
  · iterate 7 rw [box_miss _ _ _ _ _ _ _ _ _ (by dsimp only; omega)]
    exact (box_hit 0 3328 _ _ _ _ _ r j _ rfl (by dsimp only)).trans (blk_dcb H0 r j)
  · iterate 5 rw [box_miss _ _ _ _ _ _ _ _ _ (by dsimp only; omega)]
    exact (box_hit 0 3840 _ _ _ _ _ r j _ rfl (by dsimp only)).trans (blk_dcc H0 r j)
  · iterate 4 rw [box_miss _ _ _ _ _ _ _ _ _ (by dsimp only; omega)]
    exact (box_hit 0 4352 _ _ _ _ _ r j _ rfl (by dsimp only)).trans (blk_dcx H0 r j)
  · iterate 6 rw [box_miss _ _ _ _ _ _ _ _ _ (by dsimp only; omega)]
    exact (box_hit 0 4864 _ _ _ _ _ r j _ rfl (by dsimp only)).trans (blk_dcg H0 r j)
  · iterate 3 rw [box_miss _ _ _ _ _ _ _ _ _ (by dsimp only; omega)]
    exact (box_hit 1 3328 _ _ _ _ _ r j _ rfl (by dsimp only)).trans (blk_dcb H1 r j)
  · iterate 1 rw [box_miss _ _ _ _ _ _ _ _ _ (by dsimp only; omega)]
    exact (box_hit 1 3840 _ _ _ _ _ r j _ rfl (by dsimp only)).trans (blk_dcc H1 r j)
  · exact (box_hit 1 4352 _ _ _ _ _ r j _ rfl (by dsimp only)).trans (blk_dcx H1 r j)
  · iterate 2 rw [box_miss _ _ _ _ _ _ _ _ _ (by dsimp only; omega)]
    exact (box_hit 1 4864 _ _ _ _ _ r j _ rfl (by dsimp only)).trans (blk_dcg H1 r j)

/-- The two stores of `dy` hold it. -/
theorem keeps_held (rest : List (View.Piece (Elt Ideal) S2x128x512 .f32)) (b : Fin 2) (r : Fin 128) (j : Fin 512) :
    View.canon (keeps s0 s1 rest) (ix3 b r j) = dy x0 x1 b (128 * n + r.val) j := by
  unfold keeps
  obtain ⟨b, hb⟩ := b
  obtain rfl | rfl : b = 0 ∨ b = 1 := by omega
  · rw [boxD_miss _ _ _ _ _ _ _ (by dsimp only; omega)]
    exact (boxD_hit 0 _ _ _ _ r j rfl).trans (blk_keep H0 r j)
  · exact (boxD_hit 1 _ _ _ _ r j rfl).trans (blk_keep H1 r j)

/-- What one step adds to a tap's row. -/
def added (n : ℕ) (x0 : Proj) (x1 : Cot) (k : ℕ) (j : Fin 512) : EReal :=
  ∑ b : Fin 2, ∑ r : Fin 128, dy x0 x1 b (128 * n + r.val) j * back x0 (2 - k) b (128 * n + r.val) j

/-- The six rows hold the old row plus what the step adds, where each sequence's row starts from the row before it. -/
theorem sums_held (rest : List (View.Piece (Elt Ideal) S8x512 .f32)) (p0 p1 p2 q0 q1 q2 : Vec Ideal S1x512 .f32) (base : Fin 8 → Fin 512 → EReal)
    (hp0 : ∀ j, p0 (ix2 0 j) = base 0 j) (hp1 : ∀ j, p1 (ix2 0 j) = base 1 j) (hp2 : ∀ j, p2 (ix2 0 j) = base 2 j)
    (hq0 : ∀ j, q0 (ix2 0 j) = row2 i s0 p0 (ix2 0 j)) (hq1 : ∀ j, q1 (ix2 0 j) = row1 i s0 p1 (ix2 0 j))
    (hq2 : ∀ j, q2 (ix2 0 j) = row0 i s0 p2 (ix2 0 j)) (k : Fin 8) (hk : k.val < 3) (j : Fin 512) :
    View.canon (sums i s0 s1 p0 p1 p2 q0 q1 q2 rest) (ix2 k j) = base k j + added n x0 x1 k.val j := by
  unfold sums added
  rw [Fin.sum_univ_two, ← add_assoc]
  obtain ⟨k, hk8⟩ := k
  obtain rfl | rfl | rfl : k = 0 ∨ k = 1 ∨ k = 2 := by simp at hk; omega
  · iterate 2 rw [boxR_miss _ _ _ _ _ _ (by dsimp only; omega)]
    refine (boxR_hit 0 _ _ _ _ j rfl).trans ((blk_sum2 H1 j q0).trans ?_)
    rw [hq0]; refine congrArg (· + _) ((blk_sum2 H0 j p0).trans ?_)
    rw [hp0]; rfl
  · iterate 1 rw [boxR_miss _ _ _ _ _ _ (by dsimp only; omega)]
    refine (boxR_hit 1 _ _ _ _ j rfl).trans ((blk_sum1 H1 j q1).trans ?_)
    rw [hq1]; refine congrArg (· + _) ((blk_sum1 H0 j p1).trans ?_)
    rw [hp1]; rfl
  · refine (boxR_hit 2 _ _ _ _ j rfl).trans ((blk_sum0 H1 j q2).trans ?_)
    rw [hq2]; refine congrArg (· + _) ((blk_sum0 H0 j p2).trans ?_)
    rw [hp2]; rfl

end Held

section Reads

variable {sig : RefSig} {κ : Kind} {sp : Space}

theorem zero_dy (x : S2x128x512.Idx) : k0_pay92 (F := Ideal) x = 0 := by
  obtain ⟨b, r, j, rfl⟩ : ∃ (b : Fin 2) (r : Fin 128) (j : Fin 512), x = ix3 b r j := ⟨x 0, x 1, x 2, eq_ix3 x⟩
  unfold k0_pay92
  pointwise

theorem zero_rows (x : S8x512.Idx) : k0_pay80 (F := Ideal) x = 0 := by
  obtain ⟨k, j, rfl⟩ : ∃ (k : Fin 8) (j : Fin 512), x = ix2 k j := ⟨x 0, x 1, eq_ix2 x⟩
  unfold k0_pay80
  pointwise

/-- The whole buffer of `dy`, and of the taps' gradient. -/
abbrev allD : Rect S2x128x512 := Rect.unit ![0, 0, 0] ![2, 128, 512] (by decide)
abbrev allR : Rect S8x512 := Rect.unit ![0, 0] ![8, 512] (by decide)

theorem allD_hit (v : Vec Ideal S2x128x512 .f32) (L : List (View.Piece (Elt Ideal) S2x128x512 .f32)) (b : Fin 2) (r : Fin 128) (j : Fin 512) :
    View.canon (⟨allD, v⟩ :: L) (ix3 b r j) = v (ix3 b r j) :=
  hit3 0 0 0 _ v L b r j b r j (Nat.zero_add _).symm (Nat.zero_add _).symm (Nat.zero_add _).symm

theorem allR_hit (v : Vec Ideal S8x512 .f32) (L : List (View.Piece (Elt Ideal) S8x512 .f32)) (k : Fin 8) (j : Fin 512) :
    View.canon (⟨allR, v⟩ :: L) (ix2 k j) = v (ix2 k j) :=
  hit2 0 0 _ v L k j k j (Nat.zero_add _).symm (Nat.zero_add _).symm

theorem boxD_idx (b : ℕ) (hb : b < 2) (r : Fin 128) (j : Fin 512) :
    (boxD b hb).toLoadRect.idx (ix3 (0 : Fin 1) r j) = ix3 (⟨b, hb⟩ : Fin 2) r j := by
  refine (eq_ix3 _).trans ?_
  have h0 : (boxD b hb).toLoadRect.idx (ix3 (0 : Fin 1) r j) 0 = (⟨b, hb⟩ : Fin 2) :=
    Fin.ext (Rect.idx_unit_val (s := S2x128x512) ![b, 0, 0] ![1, 128, 512] _ (ix3 (0 : Fin 1) r j) (0 : Fin 3))
  rw [h0]
  congr 1 <;> refine Fin.ext ?_
  · exact (Rect.idx_unit_val (s := S2x128x512) ![b, 0, 0] ![1, 128, 512] _ (ix3 (0 : Fin 1) r j) (1 : Fin 3)).trans (Nat.zero_add _)
  · exact (Rect.idx_unit_val (s := S2x128x512) ![b, 0, 0] ![1, 128, 512] _ (ix3 (0 : Fin 1) r j) (2 : Fin 3)).trans (Nat.zero_add _)

theorem boxR_idx (k : ℕ) (hk : k < 8) (j : Fin 512) :
    (boxR k hk).toLoadRect.idx (ix2 (0 : Fin 1) j) = ix2 (⟨k, hk⟩ : Fin 8) j := by
  refine (eq_ix2 _).trans ?_
  have h0 : (boxR k hk).toLoadRect.idx (ix2 (0 : Fin 1) j) 0 = (⟨k, hk⟩ : Fin 8) :=
    Fin.ext (Rect.idx_unit_val (s := S8x512) ![k, 0] ![1, 512] _ (ix2 (0 : Fin 1) j) (0 : Fin 2))
  rw [h0]
  congr 1 <;> refine Fin.ext ?_
  · exact (Rect.idx_unit_val (s := S8x512) ![k, 0] ![1, 512] _ (ix2 (0 : Fin 1) j) (1 : Fin 2)).trans (Nat.zero_add _)

/-- A read of a sequence's `dy` after stores is what the stores hold there. -/
theorem readD (v : View sig κ sp S2x128x512 .f32) (L : List (View.Piece (Elt Ideal) S2x128x512 .f32)) (b : ℕ) (hb : b < 2) (r : Fin 128) (j : Fin 512) :
    v.readCov L (boxD b hb).toLoadRect (ix3 0 r j) = View.canon L (ix3 (⟨b, hb⟩ : Fin 2) r j) :=
  (congrFun (View.readCov_eq_canon' v L (boxD b hb).toLoadRect) (ix3 (0 : Fin 1) r j)).trans (congrArg (View.canon L) (boxD_idx b hb r j))

/-- A read of a row after stores. -/
theorem readR (v : View sig κ sp S8x512 .f32) (L : List (View.Piece (Elt Ideal) S8x512 .f32)) (k : ℕ) (hk : k < 8) (j : Fin 512) :
    v.readCov L (boxR k hk).toLoadRect (ix2 0 j) = View.canon L (ix2 (⟨k, hk⟩ : Fin 8) j) :=
  (congrFun (View.readCov_eq_canon' v L (boxR k hk).toLoadRect) (ix2 (0 : Fin 1) j)).trans (congrArg (View.canon L) (boxR_idx k hk j))

theorem first_next0 (v : View sig κ sp S2x128x512 .f32) (L : List (View.Piece (Elt Ideal) S2x128x512 .f32)) (r : Fin 128) (j : Fin 512) :
    v.readCov (⟨allD, k0_pay92 (F := Ideal)⟩ :: L) (boxD 0 (by omega)).toLoadRect (ix3 0 r j) = 0 := by
  rw [readD, allD_hit, zero_dy]

theorem first_next1 (v : View sig κ sp S2x128x512 .f32) (L : List (View.Piece (Elt Ideal) S2x128x512 .f32)) (a : Vec Ideal S1x128x512 .f32)
    (r : Fin 128) (j : Fin 512) :
    v.readCov (⟨boxD 0 (by omega), a⟩ :: ⟨allD, k0_pay92 (F := Ideal)⟩ :: L) (boxD 1 (by omega)).toLoadRect (ix3 0 r j) = 0 := by
  rw [readD, boxD_miss _ _ _ _ _ _ _ (by dsimp only; omega), allD_hit, zero_dy]

theorem first_row0 (v : View sig κ sp S8x512 .f32) (L : List (View.Piece (Elt Ideal) S8x512 .f32)) (j : Fin 512) :
    v.readCov (⟨allR, k0_pay80 (F := Ideal)⟩ :: L) (boxR 0 (by omega)).toLoadRect (ix2 0 j) = 0 := by
  rw [readR, allR_hit, zero_rows]

theorem first_row1 (v : View sig κ sp S8x512 .f32) (L : List (View.Piece (Elt Ideal) S8x512 .f32)) (a : Vec Ideal S1x512 .f32) (j : Fin 512) :
    v.readCov (⟨boxR 0 (by omega), a⟩ :: ⟨allR, k0_pay80 (F := Ideal)⟩ :: L) (boxR 1 (by omega)).toLoadRect (ix2 0 j) = 0 := by
  rw [readR, boxR_miss _ _ _ _ _ _ (by dsimp only; omega), allR_hit, zero_rows]

theorem first_row2 (v : View sig κ sp S8x512 .f32) (L : List (View.Piece (Elt Ideal) S8x512 .f32)) (a b : Vec Ideal S1x512 .f32) (j : Fin 512) :
    v.readCov (⟨boxR 1 (by omega), a⟩ :: ⟨boxR 0 (by omega), b⟩ :: ⟨allR, k0_pay80 (F := Ideal)⟩ :: L) (boxR 2 (by omega)).toLoadRect (ix2 0 j) = 0 := by
  rw [readR, boxR_miss _ _ _ _ _ _ (by dsimp only; omega), boxR_miss _ _ _ _ _ _ (by dsimp only; omega), allR_hit, zero_rows]

theorem second_row0 (v : View sig κ sp S8x512 .f32) (L : List (View.Piece (Elt Ideal) S8x512 .f32)) (a b c : Vec Ideal S1x512 .f32) (j : Fin 512) :
    v.readCov (⟨boxR 2 (by omega), a⟩ :: ⟨boxR 1 (by omega), b⟩ :: ⟨boxR 0 (by omega), c⟩ :: L) (boxR 0 (by omega)).toLoadRect (ix2 0 j)
      = c (ix2 0 j) := by
  rw [readR, boxR_miss _ _ _ _ _ _ (by dsimp only; omega), boxR_miss _ _ _ _ _ _ (by dsimp only; omega)]
  exact boxR_hit _ _ _ _ _ _ rfl

theorem second_row1 (v : View sig κ sp S8x512 .f32) (L : List (View.Piece (Elt Ideal) S8x512 .f32)) (a b c : Vec Ideal S1x512 .f32) (j : Fin 512) :
    v.readCov (⟨boxR 0 (by omega), a⟩ :: ⟨boxR 2 (by omega), b⟩ :: ⟨boxR 1 (by omega), c⟩ :: L) (boxR 1 (by omega)).toLoadRect (ix2 0 j)
      = c (ix2 0 j) := by
  rw [readR, boxR_miss _ _ _ _ _ _ (by dsimp only; omega), boxR_miss _ _ _ _ _ _ (by dsimp only; omega)]
  exact boxR_hit _ _ _ _ _ _ rfl

theorem second_row2 (v : View sig κ sp S8x512 .f32) (L : List (View.Piece (Elt Ideal) S8x512 .f32)) (a b c : Vec Ideal S1x512 .f32) (j : Fin 512) :
    v.readCov (⟨boxR 1 (by omega), a⟩ :: ⟨boxR 0 (by omega), b⟩ :: ⟨boxR 2 (by omega), c⟩ :: L) (boxR 2 (by omega)).toLoadRect (ix2 0 j)
      = c (ix2 0 j) := by
  rw [readR, boxR_miss _ _ _ _ _ _ (by dsimp only; omega), boxR_miss _ _ _ _ _ _ (by dsimp only; omega)]
  exact boxR_hit _ _ _ _ _ _ rfl

/-- A read of a row of contents not yet written. -/
theorem old_row (v : View sig κ sp S8x512 .f32) (f : v.ty.Contents (Elt Ideal)) (x : Vec Ideal S8x512 .f32) (h : v.read (Elt Ideal) f = x)
    (k : ℕ) (hk : k < 8) (j : Fin 512) : v.readAt (Elt Ideal) (boxR k hk).toLoadRect f (ix2 0 j) = x (ix2 (⟨k, hk⟩ : Fin 8) j) := by
  rw [← h, ← boxR_idx k hk j]
  rfl

/-- A read of `dy` as the step before left it. -/
theorem old_next (v : View sig κ sp S2x128x512 .f32) (f : v.ty.Contents (Elt Ideal)) (x : Vec Ideal S2x128x512 .f32) (h : v.read (Elt Ideal) f = x)
    (b : ℕ) (hb : b < 2) (r : Fin 128) (j : Fin 512) :
    v.readAt (Elt Ideal) (boxD b hb).toLoadRect f (ix3 0 r j) = x (ix3 (⟨b, hb⟩ : Fin 2) r j) := by
  rw [← h, ← boxD_idx b hb r j]
  rfl

/-- A row no store reaches keeps its contents. -/
theorem kept_row (v : View sig κ sp S8x512 .f32) (f : v.ty.Contents (Elt Ideal)) (x : Vec Ideal S8x512 .f32) (h : v.read (Elt Ideal) f = x)
    (i : grid0.Coords) (s0 s1 : Seq) (p0 p1 p2 q0 q1 q2 : Vec Ideal S1x512 .f32) (k : Fin 8) (hk : 3 ≤ k.val) (j : Fin 512) :
    v.read (Elt Ideal) (v.writes (Elt Ideal) f (sums i s0 s1 p0 p1 p2 q0 q1 q2 [])) (ix2 k j) = x (ix2 k j) := by
  subst h
  have off : ∀ (o : ℕ) (ho : o < 3) , ix2 k j ∉ (boxR o (by omega)).set := fun o ho hm => by
    have h := (Rect.mem_set_unit (s := S8x512) (off := ![o, 0]) (size := ![1, 512]).mp hm) (0 : Fin 2)
    have h2 : k.val < o + 1 := h.2
    omega
  refine View.read_writes_apply_of_forall_not_mem v f (ix2 k j) _ ?_
  intro p hp
  simp only [sums, List.mem_cons, List.not_mem_nil, or_false] at hp
  rcases hp with rfl | rfl | rfl | rfl | rfl | rfl
  · exact off 2 (by omega)
  · exact off 1 (by omega)
  · exact off 0 (by omega)
  · exact off 2 (by omega)
  · exact off 1 (by omega)
  · exact off 0 (by omega)

/-- A row a store reaches reads the stores. -/
theorem held_row (v : View sig κ sp S8x512 .f32) (f : v.ty.Contents (Elt Ideal))
    (i : grid0.Coords) (s0 s1 : Seq) (p0 p1 p2 q0 q1 q2 : Vec Ideal S1x512 .f32) (L : List (View.Piece (Elt Ideal) S8x512 .f32))
    (k : Fin 8) (hk : k.val < 3) (j : Fin 512) :
    v.read (Elt Ideal) (v.writes (Elt Ideal) f (sums i s0 s1 p0 p1 p2 q0 q1 q2 L)) (ix2 k j)
      = View.canon (sums i s0 s1 p0 p1 p2 q0 q1 q2 L) (ix2 k j) := by
  have on : ix2 k j ∈ (boxR k.val k.isLt).set :=
    (Rect.mem_set_unit (s := S8x512) (off := ![k.val, 0]) (size := ![1, 512])).mpr
      (Fin.forall_fin_two.mpr ⟨⟨le_refl k.val, Nat.lt_succ_self k.val⟩, ⟨Nat.zero_le _, by show j.val < 0 + 512; omega⟩⟩)
  refine View.read_writes_apply_eq_canon v f (ix2 k j) _ ?_
  obtain ⟨k, hk8⟩ := k
  obtain rfl | rfl | rfl : k = 0 ∨ k = 1 ∨ k = 2 := by simp at hk; omega
  · exact ⟨⟨boxR 0 (by omega), row2 i s1 q0⟩, by simp [sums], on⟩
  · exact ⟨⟨boxR 1 (by omega), row1 i s1 q1⟩, by simp [sums], on⟩
  · exact ⟨⟨boxR 2 (by omega), row0 i s1 q2⟩, by simp [sums], on⟩

/-- Rows of the first step no store reaches are zero. -/
theorem zero_row (i : grid0.Coords) (s0 s1 : Seq) (p0 p1 p2 q0 q1 q2 : Vec Ideal S1x512 .f32) (L : List (View.Piece (Elt Ideal) S8x512 .f32))
    (k : Fin 8) (hk : 3 ≤ k.val) (j : Fin 512) :
    View.canon (sums i s0 s1 p0 p1 p2 q0 q1 q2 (⟨allR, k0_pay80 (F := Ideal)⟩ :: L)) (ix2 k j) = 0 := by
  unfold sums
  iterate 6 rw [boxR_miss _ _ _ _ _ _ (by omega)]
  rw [allR_hit, zero_rows]

end Reads

end Cert.Conv
-- ==== Proof.Conv.Fetch.lean ====
module

public import proofs.«01_k».proof.Proof.Gen.KernelIdeal.Frame
public import proofs.«01_k».proof.Proof.Conv.Pieces
public import Idealize.ShloMosaic.Lib.Pipeline.ValueKit.Geometry
public import Idealize.ShloMosaic.Lib.Pipeline.ValueKit.Tiles

/-! The blocks a step of the grid is handed, as slices of the argument arrays: step `t` works on block `16 - t`. -/

@[expose] public section

set_option maxRecDepth 16384

noncomputable section

namespace Cert.Conv

open Idealize.ShloMosaic Idealize.ShloMosaic.TcCoe Cert.KernelIdeal Cert.KernelIdeal.Gen

variable (m : (ℓ : Loc nD τ sig) → Buf (Elt Ideal) ℓ) (c : Dev nD) (t : Fin cfg0.N)

/-- The projections, the branches' cotangents and the convolution's weights as the program is given them. -/
def argP : Proj := m ((c : Thread nD τ).loc main_arg0)
def argC : Cot := m ((c : Thread nD τ).loc main_arg1)
def argW : Wts := m ((c : Thread nD τ).loc main_arg8)

theorem steps : cfg0.N = 17 := by decide +kernel
theorem coord : ∀ t : Fin cfg0.N, (grid0.coords t 0).val = t.val := (by decide +kernel : ∀ t : Fin grid0.N, (grid0.coords t 0).val = t.val)
theorem place0 : ∀ t : Fin cfg0.N, win0_0.index t = ![0, 16 - t.val, 0] := (by decide +kernel : ∀ t : Fin grid0.N, win0_0.index t = ![0, 16 - t.val, 0])
theorem place2 : ∀ t : Fin cfg0.N, win0_2.index t = ![0, 15 - t.val, 3] := (by decide +kernel : ∀ t : Fin grid0.N, win0_2.index t = ![0, 15 - t.val, 3])
theorem place3 : ∀ t : Fin cfg0.N, win0_3.index t = ![0, 16 - t.val, 0] := (by decide +kernel : ∀ t : Fin grid0.N, win0_3.index t = ![0, 16 - t.val, 0])
theorem place10 : ∀ t : Fin cfg0.N, win0_10.index t = ![1, 0, 0] := (by decide +kernel : ∀ t : Fin grid0.N, win0_10.index t = ![1, 0, 0])
theorem place11 : ∀ t : Fin cfg0.N, win0_11.index t = ![0, 16 - t.val, 0] := (by decide +kernel : ∀ t : Fin grid0.N, win0_11.index t = ![0, 16 - t.val, 0])

/-- The projections' block. -/
theorem block0 (b : Fin 2) (r : Fin 128) (k : Fin 5376) :
    iblk m c 0 t (ix3 b r k) = argP m c (ix3 b (⟨128 * (16 - t.val) + r.val, by omega⟩ : Fin 2176) k) := by
  blk_simp [iblk]
  refine congrArg (argP m c) (funext fun a => Fin.ext ?_)
  blk_simp [place0]
  match a with
  | ⟨0, _⟩ => show 0 * 2 + b.val = b.val; omega
  | ⟨1, _⟩ => show (16 - t.val) * 128 + r.val = 128 * (16 - t.val) + r.val; omega
  | ⟨2, _⟩ => show 0 * 5376 + k.val = k.val; omega

/-- The block before it, at the columns from 3840 on. -/
theorem block2 (b : Fin 2) (r : Fin 128) (k : Fin 1280) :
    X0_2 m c t (ix3 b r k) = argP m c (ix3 b (⟨128 * (15 - t.val) + r.val, by omega⟩ : Fin 2176) (⟨3840 + k.val, by omega⟩ : Fin 5376)) := by
  unfold X0_2 Pipeline.Window.fill
  rw [dif_pos (moved0_2 t _)]
  blk_simp [iblk]
  refine congrArg (argP m c) (funext fun a => Fin.ext ?_)
  blk_simp [place2]
  match a with
  | ⟨0, _⟩ => show 0 * 2 + b.val = b.val; omega
  | ⟨1, _⟩ => show (15 - t.val) * 128 + r.val = 128 * (15 - t.val) + r.val; omega
  | ⟨2, _⟩ => show 3 * 1280 + k.val = 3840 + k.val; omega

/-- The cotangents' block. -/
theorem block3 (b : Fin 2) (r : Fin 128) (k : Fin 1536) :
    iblk m c 3 t (ix3 b r k) = argC m c (ix3 b (⟨128 * (16 - t.val) + r.val, by omega⟩ : Fin 2176) k) := by
  blk_simp [iblk]
  refine congrArg (argC m c) (funext fun a => Fin.ext ?_)
  blk_simp [place3]
  match a with
  | ⟨0, _⟩ => show 0 * 2 + b.val = b.val; omega
  | ⟨1, _⟩ => show (16 - t.val) * 128 + r.val = 128 * (16 - t.val) + r.val; omega
  | ⟨2, _⟩ => show 0 * 1536 + k.val = k.val; omega

/-- The second layer's taps. -/
theorem block10 (z : Fin 1) (k : Fin 3) (j : Fin 512) :
    iblk m c 10 t (ix3 z k j) = argW m c (ix3 1 k j) := by
  blk_simp [iblk]
  refine congrArg (argW m c) (funext fun a => Fin.ext ?_)
  blk_simp [place10]
  match a with
  | ⟨0, _⟩ => show 1 * 1 + z.val = 1; omega
  | ⟨1, _⟩ => show 0 * 3 + k.val = k.val; omega
  | ⟨2, _⟩ => show 0 * 512 + j.val = j.val; omega

/-- A box loaded out of a rank-3 block, at coordinates. -/
theorem load3 {e : EltTy} {A B C a b c : ℕ} (X : (⟨3, ![A, B, C]⟩ : Shape).Idx → Elt Ideal e) (o0 o1 o2 : ℕ)
    (inb : ∀ x : Fin 3, ![o0, o1, o2] x + ![a, b, c] x ≤ ![A, B, C] x) (p : Fin a) (q : Fin b) (r : Fin c) (p' : Fin A) (q' : Fin B) (r' : Fin C)
    (hp : p'.val = o0 + p.val) (hq : q'.val = o1 + q.val) (hr : r'.val = o2 + r.val) :
    View.ld X (Rect.unit (s := (⟨3, ![A, B, C]⟩ : Shape)) ![o0, o1, o2] ![a, b, c] inb) (ix3 p q r) = X (ix3 p' q' r') :=
  View.ld_unit_apply_of X _ _ inb _ _ fun x => match x with
    | ⟨0, _⟩ => hp
    | ⟨1, _⟩ => hq
    | ⟨2, _⟩ => hr

/-- One sequence's loads are the arguments' at block `16 - t`, where the carried rows are the next block's `dy`. -/
theorem loaded (b : Fin 2) (nx : Vec Ideal S1x128x512 .f32)
    (h : ∀ (r : Fin 128) (j : Fin 512), nx (ix3 0 r j) = dy (argP m c) (argC m c) b (128 * (16 - t.val + 1) + r.val) j) :
    Loaded (grid0.coords t) (16 - t.val) (argP m c) (argC m c) (argW m c) b (tapsOf (iblk m c 10 t))
      (seqOf (iblk m c 0 t) (X0_2 m c t) (iblk m c 3 t) b.val b.isLt nx) := by
  have ht : t.val < 17 := lt_of_lt_of_eq t.isLt steps
  have cols : ∀ (o : ℕ) (ho : o + 512 ≤ 5376) (r : Fin 128) (j : Fin 512),
      View.ld (e' := .f32) (Val := Elt Ideal) (S := S2x128x5376) (iblk m c 0 t) (box b.val o b.isLt ho) (ix3 0 r j) = col (argP m c) o b (128 * (16 - t.val) + r.val) j := by
    intro o ho r j
    refine (load3 (e := .f32) (iblk m c 0 t) b.val 0 o _ 0 r j b r ⟨o + j.val, by omega⟩ rfl (Nat.zero_add _).symm rfl).trans ?_
    rw [block0]
    unfold col
    rw [dif_pos ⟨by omega, by omega⟩]
  have prev : ∀ (o : ℕ) (ho : o + 512 ≤ 1280) (r : Fin 128) (j : Fin 512), 0 < 16 - t.val →
      View.ld (e' := .f32) (Val := Elt Ideal) (S := S2x128x1280) (X0_2 m c t) (boxP b.val o b.isLt ho) (ix3 0 r j) = col (argP m c) (3840 + o) b (128 * (16 - t.val - 1) + r.val) j := by
    intro o ho r j hn
    refine (load3 (e := .f32) (X0_2 m c t) b.val 0 o _ 0 r j b r ⟨o + j.val, by omega⟩ rfl (Nat.zero_add _).symm rfl).trans ?_
    rw [block2]
    unfold col
    rw [dif_pos ⟨by omega, by omega⟩]
    refine congrArg (argP m c) (funext fun a => Fin.ext ?_)
    match a with
    | ⟨0, _⟩ => rfl
    | ⟨1, _⟩ => show 128 * (15 - t.val) + r.val = 128 * (16 - t.val - 1) + r.val; omega
    | ⟨2, _⟩ => show 3840 + (o + j.val) = 3840 + o + j.val; omega
  have taps : ∀ (k : ℕ) (hk : k < 3) (j : Fin 512),
      View.ld (e' := .f32) (Val := Elt Ideal) (S := S1x3x512) (iblk m c 10 t) (boxW k hk) (ix3 0 0 j) = tap (argW m c) ⟨k, hk⟩ j := by
    intro k hk j
    refine (load3 (e := .f32) (iblk m c 10 t) 0 k 0 _ 0 0 j 0 ⟨k, hk⟩ j rfl rfl (Nat.zero_add _).symm).trans ?_
    rw [block10]; rfl
  exact {
    hn := by omega
    hi := by rw [coord]; omega
    hcb := fun r j => cols 3328 _ r j
    hcc := fun r j => cols 3840 _ r j
    hcx := fun r j => cols 4352 _ r j
    hcg := fun r j => cols 4864 _ r j
    hpc := fun hn r j => prev 0 _ r j hn
    hpx := fun hn r j => prev 512 _ r j hn
    hnx := h
    hct := fun r j => by
      refine (load3 (e := .bf16) (iblk m c 3 t) b.val 0 1024 _ 0 r j b r ⟨1024 + j.val, by omega⟩ rfl (Nat.zero_add _).symm rfl).trans ?_
      rw [block3]
      unfold ct
      rw [dif_pos (by omega)]
    hw0 := fun j => taps 0 _ j
    hw1 := fun j => taps 1 _ j
    hw2 := fun j => taps 2 _ j }

end Cert.Conv
-- ==== Proof.Conv.Carry.lean ====
module

public import proofs.«01_k».proof.Proof.Conv.Fetch

/-! What each step of the grid is to leave, in terms of the argument arrays. -/

@[expose] public section

set_option maxRecDepth 16384

noncomputable section

namespace Cert.Conv

open Idealize.ShloMosaic Idealize.ShloMosaic.TcCoe Cert.KernelIdeal Cert.KernelIdeal.Gen

variable (m : (ℓ : Loc nD τ sig) → Buf (Elt Ideal) ℓ) (c : Dev nD)

/-- What a step's outputs and the carried rows hold. -/
structure Holds (t : ℕ) (o11 : Vec Ideal S2x128x5376 .bf16) (o14 : Vec Ideal S8x512 .f32) (s4 : Vec Ideal S2x128x512 .f32) : Prop where
  cols : ∀ (b : Fin 2) (r : Fin 128) (q : Fin 4) (j : Fin 512), o11 (ix3 b r (⟨3328 + 512 * q.val + j.val, by omega⟩ : Fin 5376))
    = kdcols (argP m c) (argC m c) (argW m c) b (128 * (16 - t) + r.val) q j
  rows : ∀ (k : Fin 8) (j : Fin 512), k.val < 3 → o14 (ix2 k j) = ∑ s ∈ Finset.range (t + 1), added (16 - s) (argP m c) (argC m c) k.val j
  rest : ∀ (k : Fin 8) (j : Fin 512), 3 ≤ k.val → o14 (ix2 k j) = 0
  kept : ∀ (b : Fin 2) (r : Fin 128) (j : Fin 512), s4 (ix3 b r j) = dy (argP m c) (argC m c) b (128 * (16 - t) + r.val) j

/-- The outputs and the carried rows after a step. -/
abbrev HoldsAt (t : Fin cfg0.N) : Prop :=
  Holds m c t.val (outsAt0 m c t.val t.isLt).1 (outsAt0 m c t.val t.isLt).2.2.2.1 (outsAt0 m c t.val t.isLt).2.2.2.2.2.2.2.2

end Cert.Conv
-- ==== Proof.Conv.PointA.lean ====
module

public import proofs.«01_k».proof.Proof.Gen.KernelIdeal.Frame
public import proofs.«01_k».proof.Proof.Conv.Pieces

/-!
# The stores of the first point of the grid, read from its run

The run's pieces begin with the
convolution's, and what the point leaves in the gradient of the projection, in the taps' gradient and in `dy` is, over the
loads, the convolution's gradient at that block.
-/

set_option maxRecDepth 16384
set_option maxHeartbeats 0

@[expose] public section

noncomputable section

namespace Cert.Conv

open Idealize.ShloMosaic Cert.KernelIdeal Cert.KernelIdeal.Gen

variable (c : Dev nD) (i : grid0.Coords) (arg1 : Memref sig .tc .vmem S2x128x5376 .f32) (harg1 : arg1.IsWhole) (arg2 : Memref sig .tc .vmem S2x128x256 .f32) (harg2 : arg2.IsWhole) (arg3 : Memref sig .tc .vmem S2x128x1280 .f32) (harg3 : arg3.IsWhole) (arg4 : Memref sig .tc .vmem S2x128x1536 .bf16) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x256 .i32) (harg8 : arg8.IsWhole) (arg9 : Memref sig .tc .smem S32x8 .f32) (harg9 : arg9.IsWhole) (arg10 : Memref sig .tc .smem S2x8 .f32) (harg10 : arg10.IsWhole) (arg11 : Memref sig .tc .vmem S1x3x512 .f32) (harg11 : arg11.IsWhole) (arg12 : Memref sig .tc .vmem S2x128x5376 .bf16) (harg12 : arg12.IsWhole) (arg13 : Memref sig .tc .vmem S32x128 .f32) (harg13 : arg13.IsWhole) (arg14 : Memref sig .tc .vmem S8x128 .f32) (harg14 : arg14.IsWhole) (arg15 : Memref sig .tc .vmem S8x512 .f32) (harg15 : arg15.IsWhole) (arg16 : Memref sig .tc .vmem S8x128x256 .f32) (harg16 : arg16.IsWhole) (arg17 : Memref sig .tc .vmem S8x128x256 .f32) (harg17 : arg17.IsWhole) (arg18 : Memref sig .tc .vmem S2x128x256 .f32) (harg18 : arg18.IsWhole) (arg19 : Memref sig .tc .vmem S2x4x128x128 .f32) (harg19 : arg19.IsWhole) (arg20 : Memref sig .tc .vmem S2x128x512 .f32) (harg20 : arg20.IsWhole) (hc0 : cond0_0 i) (hc1 : ¬cond0_1 i)
  (x0 : Vec Ideal S2x128x5376 .f32) (x1 : Vec Ideal S2x128x256 .f32) (x2 : Vec Ideal S2x128x1280 .f32) (x3 : Vec Ideal S2x128x1536 .bf16) (x4 : Vec Ideal S2x1x4x128x128 .f32) (x5 : Vec Ideal S128x128 .f32) (x6 : Vec Ideal S128x128 .f32) (x7 : Vec Ideal S128x256 .i32) (x8 : Vec Ideal S32x8 .f32) (x9 : Vec Ideal S2x8 .f32) (x10 : Vec Ideal S1x3x512 .f32)

/-- The run's lists of pieces begin with the convolution's. -/
theorem pieces_A : ∃ (n0 n1 : Vec Ideal S1x128x512 .f32) (p0 p1 p2 q0 q1 q2 : Vec Ideal S1x512 .f32) (r0 : List (View.Piece (Elt Ideal) S2x128x5376 .bf16))
      (r1 : List (View.Piece (Elt Ideal) S8x512 .f32)) (r2 : List (View.Piece (Elt Ideal) S2x128x512 .f32)),
      (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10).1 = heads i (tapsOf x10) (seqOf x0 x2 x3 0 (by omega) n0) (seqOf x0 x2 x3 1 (by omega) n1) r0
      ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10).2.2.2.1 = sums i (seqOf x0 x2 x3 0 (by omega) n0) (seqOf x0 x2 x3 1 (by omega) n1) p0 p1 p2 q0 q1 q2 (⟨allR, k0_pay80 (F := Ideal)⟩ :: r1)
      ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10).2.2.2.2.2.2.2.2.1 = keeps (seqOf x0 x2 x3 0 (by omega) n0) (seqOf x0 x2 x3 1 (by omega) n1) r2
      ∧ (∀ r j, n0 (ix3 0 r j) = 0) ∧ (∀ r j, n1 (ix3 0 r j) = 0)
      ∧ (∀ j, p0 (ix2 0 j) = (fun _ _ => (0 : EReal)) (0 : Fin 8) j) ∧ (∀ j, p1 (ix2 0 j) = (fun _ _ => (0 : EReal)) (1 : Fin 8) j) ∧ (∀ j, p2 (ix2 0 j) = (fun _ _ => (0 : EReal)) (2 : Fin 8) j)
      ∧ (∀ j, q0 (ix2 0 j) = row2 i (seqOf x0 x2 x3 0 (by omega) n0) p0 (ix2 0 j)) ∧ (∀ j, q1 (ix2 0 j) = row1 i (seqOf x0 x2 x3 0 (by omega) n0) p1 (ix2 0 j))
      ∧ (∀ j, q2 (ix2 0 j) = row0 i (seqOf x0 x2 x3 0 (by omega) n0) p2 (ix2 0 j)) := by
  have key : ∃ (n0 n1 : Vec Ideal S1x128x512 .f32) (p0 p1 p2 q0 q1 q2 : Vec Ideal S1x512 .f32) (r0 : List (View.Piece (Elt Ideal) S2x128x5376 .bf16))
      (r1 : List (View.Piece (Elt Ideal) S8x512 .f32)) (r2 : List (View.Piece (Elt Ideal) S2x128x512 .f32)),
      (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10).1 = heads i (tapsOf (arg11.view.read (Elt Ideal) (harg11.unread x10))) (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) r0
      ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10).2.2.2.1 = sums i (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) p0 p1 p2 q0 q1 q2 (⟨allR, k0_pay80 (F := Ideal)⟩ :: r1)
      ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10).2.2.2.2.2.2.2.2.1 = keeps (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) r2
      ∧ (∀ r j, n0 (ix3 0 r j) = 0) ∧ (∀ r j, n1 (ix3 0 r j) = 0)
      ∧ (∀ j, p0 (ix2 0 j) = (fun _ _ => (0 : EReal)) (0 : Fin 8) j) ∧ (∀ j, p1 (ix2 0 j) = (fun _ _ => (0 : EReal)) (1 : Fin 8) j) ∧ (∀ j, p2 (ix2 0 j) = (fun _ _ => (0 : EReal)) (2 : Fin 8) j)
      ∧ (∀ j, q0 (ix2 0 j) = row2 i (seqOf (arg1.view.read (Elt Ideal) (harg1.unread x0)) (arg3.view.read (Elt Ideal) (harg3.unread x2)) (arg4.view.read (Elt Ideal) (harg4.unread x3)) 0 (by omega) n0) p0 (ix2 0 j)) ∧ (∀ j, q1 (ix2 0 j) = row1 i (seqOf (arg1.view.read (Elt Ideal) (harg1.unread x0)) (arg3.view.read (Elt Ideal) (harg3.unread x2)) (arg4.view.read (Elt Ideal) (harg4.unread x3)) 0 (by omega) n0) p1 (ix2 0 j))
      ∧ (∀ j, q2 (ix2 0 j) = row0 i (seqOf (arg1.view.read (Elt Ideal) (harg1.unread x0)) (arg3.view.read (Elt Ideal) (harg3.unread x2)) (arg4.view.read (Elt Ideal) (harg4.unread x3)) 0 (by omega) n0) p2 (ix2 0 j)) := by
    refine ⟨_, _, _, _, _, _, _, _, _, _, _, rfl, rfl, rfl, ?_, ?_, ?_, ?_, ?_, ?_, ?_, ?_⟩
    · exact fun r j => first_next0 _ _ r j
    · exact fun r j => first_next1 _ _ _ r j
    · exact fun j => first_row0 _ _ j
    · exact fun j => first_row1 _ _ _ j
    · exact fun j => first_row2 _ _ _ _ j
    · exact fun j => second_row0 _ _ _ _ _ j
    · exact fun j => second_row1 _ _ _ _ _ j
    · exact fun j => second_row2 _ _ _ _ _ j
  rw [harg1.read_unread, harg3.read_unread, harg4.read_unread, harg11.read_unread] at key
  exact key

/-- What the point leaves: the gradient of the convolution's columns at block `n`, the taps' gradient with the block's
    sums added, and `dy` of the block. -/
theorem left_A (n : ℕ) (a0 : Proj) (a1 : Cot) (a8 : Wts)
    (H0 : ∀ nx : Vec Ideal S1x128x512 .f32, (∀ r j, nx (ix3 0 r j) = 0) → Loaded i n a0 a1 a8 0 (tapsOf x10) (seqOf x0 x2 x3 0 (by omega) nx))
    (H1 : ∀ nx : Vec Ideal S1x128x512 .f32, (∀ r j, nx (ix3 0 r j) = 0) → Loaded i n a0 a1 a8 1 (tapsOf x10) (seqOf x0 x2 x3 1 (by omega) nx)) :
    (∀ (b : Fin 2) (r : Fin 128) (q : Fin 4) (j : Fin 512), out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 (ix3 b r (⟨3328 + 512 * q.val + j.val, by omega⟩ : Fin 5376))
        = kdcols a0 a1 a8 b (128 * n + r.val) q j)
    ∧ (∀ (k : Fin 8) (j : Fin 512), k.val < 3 → out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 (ix2 k j) = 0 + added n a0 a1 k.val j)
    ∧ (∀ (k : Fin 8) (j : Fin 512), 3 ≤ k.val → out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 (ix2 k j) = 0)
    ∧ (∀ (b : Fin 2) (r : Fin 128) (j : Fin 512), sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 (ix3 b r j) = dy a0 a1 b (128 * n + r.val) j) := by
  obtain ⟨n0, n1, p0, p1, p2, q0, q1, q2, r0, r1, r2, e0, e1, e2, hn0, hn1, hp0, hp1, hp2, hq0, hq1, hq2⟩ := pieces_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10
  have G0 := H0 n0 hn0
  have G1 := H1 n1 hn1
  refine ⟨?_, ?_, ?_, ?_⟩
  · intro b r q j
    unfold out0_A_11
    rw [View.read_writes_junk_eq_canon, e0]
    exact heads_held G0 G1 r0 b r q j
  · intro k j hk
    unfold out0_A_14
    rw [View.read_writes_junk_eq_canon, e1]
    exact sums_held G0 G1 _ p0 p1 p2 q0 q1 q2 (fun _ _ => 0) hp0 hp1 hp2 hq0 hq1 hq2 k hk j
  · intro k j hk
    unfold out0_A_14
    rw [View.read_writes_junk_eq_canon, e1]
    exact zero_row i _ _ p0 p1 p2 q0 q1 q2 r1 k hk j
  · intro b r j
    unfold sout0_A_4
    rw [View.read_writes_junk_eq_canon, e2]
    exact keeps_held G0 G1 r2 b r j

end Cert.Conv
-- ==== Proof.Conv.PointB.lean ====
module

public import proofs.«01_k».proof.Proof.Gen.KernelIdeal.Frame
public import proofs.«01_k».proof.Proof.Conv.Pieces

/-!
# The stores of a middle point of the grid, read from its run

The run's pieces begin with the
convolution's, and what the point leaves in the gradient of the projection, in the taps' gradient and in `dy` is, over the
loads, the convolution's gradient at that block.
-/

set_option maxRecDepth 16384
set_option maxHeartbeats 0

@[expose] public section

noncomputable section

namespace Cert.Conv

open Idealize.ShloMosaic Cert.KernelIdeal Cert.KernelIdeal.Gen

variable (c : Dev nD) (i : grid0.Coords) (arg1 : Memref sig .tc .vmem S2x128x5376 .f32) (harg1 : arg1.IsWhole) (arg2 : Memref sig .tc .vmem S2x128x256 .f32) (harg2 : arg2.IsWhole) (arg3 : Memref sig .tc .vmem S2x128x1280 .f32) (harg3 : arg3.IsWhole) (arg4 : Memref sig .tc .vmem S2x128x1536 .bf16) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x256 .i32) (harg8 : arg8.IsWhole) (arg9 : Memref sig .tc .smem S32x8 .f32) (harg9 : arg9.IsWhole) (arg10 : Memref sig .tc .smem S2x8 .f32) (harg10 : arg10.IsWhole) (arg11 : Memref sig .tc .vmem S1x3x512 .f32) (harg11 : arg11.IsWhole) (arg12 : Memref sig .tc .vmem S2x128x5376 .bf16) (harg12 : arg12.IsWhole) (arg13 : Memref sig .tc .vmem S32x128 .f32) (harg13 : arg13.IsWhole) (arg14 : Memref sig .tc .vmem S8x128 .f32) (harg14 : arg14.IsWhole) (arg15 : Memref sig .tc .vmem S8x512 .f32) (harg15 : arg15.IsWhole) (arg16 : Memref sig .tc .vmem S8x128x256 .f32) (harg16 : arg16.IsWhole) (arg17 : Memref sig .tc .vmem S8x128x256 .f32) (harg17 : arg17.IsWhole) (arg18 : Memref sig .tc .vmem S2x128x256 .f32) (harg18 : arg18.IsWhole) (arg19 : Memref sig .tc .vmem S2x4x128x128 .f32) (harg19 : arg19.IsWhole) (arg20 : Memref sig .tc .vmem S2x128x512 .f32) (harg20 : arg20.IsWhole) (hc0 : ¬cond0_0 i) (hc1 : ¬cond0_1 i)
  (x0 : Vec Ideal S2x128x5376 .f32) (x1 : Vec Ideal S2x128x256 .f32) (x2 : Vec Ideal S2x128x1280 .f32) (x3 : Vec Ideal S2x128x1536 .bf16) (x4 : Vec Ideal S2x1x4x128x128 .f32) (x5 : Vec Ideal S128x128 .f32) (x6 : Vec Ideal S128x128 .f32) (x7 : Vec Ideal S128x256 .i32) (x8 : Vec Ideal S32x8 .f32) (x9 : Vec Ideal S2x8 .f32) (x10 : Vec Ideal S1x3x512 .f32) (xo13 : Vec Ideal S8x128 .f32) (xo14 : Vec Ideal S8x512 .f32) (xs0 : Vec Ideal S8x128x256 .f32) (xs1 : Vec Ideal S8x128x256 .f32) (xs2 : Vec Ideal S2x128x256 .f32) (xs3 : Vec Ideal S2x4x128x128 .f32) (xs4 : Vec Ideal S2x128x512 .f32)

/-- The run's lists of pieces begin with the convolution's. -/
theorem pieces_B : ∃ (n0 n1 : Vec Ideal S1x128x512 .f32) (p0 p1 p2 q0 q1 q2 : Vec Ideal S1x512 .f32) (r0 : List (View.Piece (Elt Ideal) S2x128x5376 .bf16)) (r2 : List (View.Piece (Elt Ideal) S2x128x512 .f32)),
      (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).1 = heads i (tapsOf x10) (seqOf x0 x2 x3 0 (by omega) n0) (seqOf x0 x2 x3 1 (by omega) n1) r0
      ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.1 = sums i (seqOf x0 x2 x3 0 (by omega) n0) (seqOf x0 x2 x3 1 (by omega) n1) p0 p1 p2 q0 q1 q2 []
      ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.2.2.2.2.2.1 = keeps (seqOf x0 x2 x3 0 (by omega) n0) (seqOf x0 x2 x3 1 (by omega) n1) r2
      ∧ (∀ r j, n0 (ix3 0 r j) = xs4 (ix3 0 r j)) ∧ (∀ r j, n1 (ix3 0 r j) = xs4 (ix3 1 r j))
      ∧ (∀ j, p0 (ix2 0 j) = (fun k j => xo14 (ix2 k j)) (0 : Fin 8) j) ∧ (∀ j, p1 (ix2 0 j) = (fun k j => xo14 (ix2 k j)) (1 : Fin 8) j) ∧ (∀ j, p2 (ix2 0 j) = (fun k j => xo14 (ix2 k j)) (2 : Fin 8) j)
      ∧ (∀ j, q0 (ix2 0 j) = row2 i (seqOf x0 x2 x3 0 (by omega) n0) p0 (ix2 0 j)) ∧ (∀ j, q1 (ix2 0 j) = row1 i (seqOf x0 x2 x3 0 (by omega) n0) p1 (ix2 0 j))
      ∧ (∀ j, q2 (ix2 0 j) = row0 i (seqOf x0 x2 x3 0 (by omega) n0) p2 (ix2 0 j)) := by
  have key : ∃ (n0 n1 : Vec Ideal S1x128x512 .f32) (p0 p1 p2 q0 q1 q2 : Vec Ideal S1x512 .f32) (r0 : List (View.Piece (Elt Ideal) S2x128x5376 .bf16)) (r2 : List (View.Piece (Elt Ideal) S2x128x512 .f32)),
      (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).1 = heads i (tapsOf (arg11.view.read (Elt Ideal) (harg11.unread x10))) (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) r0
      ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.1 = sums i (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) p0 p1 p2 q0 q1 q2 []
      ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.2.2.2.2.2.1 = keeps (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) r2
      ∧ (∀ r j, n0 (ix3 0 r j) = xs4 (ix3 0 r j)) ∧ (∀ r j, n1 (ix3 0 r j) = xs4 (ix3 1 r j))
      ∧ (∀ j, p0 (ix2 0 j) = (fun k j => xo14 (ix2 k j)) (0 : Fin 8) j) ∧ (∀ j, p1 (ix2 0 j) = (fun k j => xo14 (ix2 k j)) (1 : Fin 8) j) ∧ (∀ j, p2 (ix2 0 j) = (fun k j => xo14 (ix2 k j)) (2 : Fin 8) j)
      ∧ (∀ j, q0 (ix2 0 j) = row2 i (seqOf (arg1.view.read (Elt Ideal) (harg1.unread x0)) (arg3.view.read (Elt Ideal) (harg3.unread x2)) (arg4.view.read (Elt Ideal) (harg4.unread x3)) 0 (by omega) n0) p0 (ix2 0 j)) ∧ (∀ j, q1 (ix2 0 j) = row1 i (seqOf (arg1.view.read (Elt Ideal) (harg1.unread x0)) (arg3.view.read (Elt Ideal) (harg3.unread x2)) (arg4.view.read (Elt Ideal) (harg4.unread x3)) 0 (by omega) n0) p1 (ix2 0 j))
      ∧ (∀ j, q2 (ix2 0 j) = row0 i (seqOf (arg1.view.read (Elt Ideal) (harg1.unread x0)) (arg3.view.read (Elt Ideal) (harg3.unread x2)) (arg4.view.read (Elt Ideal) (harg4.unread x3)) 0 (by omega) n0) p2 (ix2 0 j)) := by
    refine ⟨_, _, _, _, _, _, _, _, _, _, rfl, rfl, rfl, ?_, ?_, ?_, ?_, ?_, ?_, ?_, ?_⟩
    · exact fun r j => old_next _ _ xs4 (harg20.read_unread xs4) 0 (by omega) r j
    · exact fun r j => old_next _ _ xs4 (harg20.read_unread xs4) 1 (by omega) r j
    · exact fun j => old_row _ _ xo14 (harg15.read_unread xo14) 0 (by omega) j
    · exact fun j => old_row _ _ xo14 (harg15.read_unread xo14) 1 (by omega) j
    · exact fun j => old_row _ _ xo14 (harg15.read_unread xo14) 2 (by omega) j
    · exact fun j => second_row0 _ _ _ _ _ j
    · exact fun j => second_row1 _ _ _ _ _ j
    · exact fun j => second_row2 _ _ _ _ _ j
  rw [harg1.read_unread, harg3.read_unread, harg4.read_unread, harg11.read_unread] at key
  exact key

/-- What the point leaves: the gradient of the convolution's columns at block `n`, the taps' gradient with the block's
    sums added, and `dy` of the block. -/
theorem left_B (n : ℕ) (a0 : Proj) (a1 : Cot) (a8 : Wts)
    (H0 : ∀ nx : Vec Ideal S1x128x512 .f32, (∀ r j, nx (ix3 0 r j) = xs4 (ix3 0 r j)) → Loaded i n a0 a1 a8 0 (tapsOf x10) (seqOf x0 x2 x3 0 (by omega) nx))
    (H1 : ∀ nx : Vec Ideal S1x128x512 .f32, (∀ r j, nx (ix3 0 r j) = xs4 (ix3 1 r j)) → Loaded i n a0 a1 a8 1 (tapsOf x10) (seqOf x0 x2 x3 1 (by omega) nx)) :
    (∀ (b : Fin 2) (r : Fin 128) (q : Fin 4) (j : Fin 512), out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix3 b r (⟨3328 + 512 * q.val + j.val, by omega⟩ : Fin 5376))
        = kdcols a0 a1 a8 b (128 * n + r.val) q j)
    ∧ (∀ (k : Fin 8) (j : Fin 512), k.val < 3 → out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix2 k j) = xo14 (ix2 k j) + added n a0 a1 k.val j)
    ∧ (∀ (k : Fin 8) (j : Fin 512), 3 ≤ k.val → out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix2 k j) = xo14 (ix2 k j))
    ∧ (∀ (b : Fin 2) (r : Fin 128) (j : Fin 512), sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix3 b r j) = dy a0 a1 b (128 * n + r.val) j) := by
  obtain ⟨n0, n1, p0, p1, p2, q0, q1, q2, r0, r2, e0, e1, e2, hn0, hn1, hp0, hp1, hp2, hq0, hq1, hq2⟩ := pieces_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4
  have G0 := H0 n0 hn0
  have G1 := H1 n1 hn1
  refine ⟨?_, ?_, ?_, ?_⟩
  · intro b r q j
    unfold out0_B_11
    rw [View.read_writes_junk_eq_canon, e0]
    exact heads_held G0 G1 r0 b r q j
  · intro k j hk
    unfold out0_B_14
    rw [e1]
    refine (held_row _ _ i _ _ p0 p1 p2 q0 q1 q2 [] k hk j).trans ?_
    exact sums_held G0 G1 _ p0 p1 p2 q0 q1 q2 (fun k j => xo14 (ix2 k j)) hp0 hp1 hp2 hq0 hq1 hq2 k hk j
  · intro k j hk
    unfold out0_B_14
    rw [e1]
    exact kept_row _ _ xo14 (harg15.read_unread xo14) i _ _ p0 p1 p2 q0 q1 q2 k hk j
  · intro b r j
    unfold sout0_B_4
    rw [View.read_writes_junk_eq_canon, e2]
    exact keeps_held G0 G1 r2 b r j

end Cert.Conv
-- ==== Proof.Conv.PointC.lean ====
module

public import proofs.«01_k».proof.Proof.Gen.KernelIdeal.Frame
public import proofs.«01_k».proof.Proof.Conv.Pieces

/-!
# The stores of the last point of the grid, read from its run

The run's pieces begin with the
convolution's, and what the point leaves in the gradient of the projection, in the taps' gradient and in `dy` is, over the
loads, the convolution's gradient at that block.
-/

set_option maxRecDepth 16384
set_option maxHeartbeats 0

@[expose] public section

noncomputable section

namespace Cert.Conv

open Idealize.ShloMosaic Cert.KernelIdeal Cert.KernelIdeal.Gen

variable (c : Dev nD) (i : grid0.Coords) (arg1 : Memref sig .tc .vmem S2x128x5376 .f32) (harg1 : arg1.IsWhole) (arg2 : Memref sig .tc .vmem S2x128x256 .f32) (harg2 : arg2.IsWhole) (arg3 : Memref sig .tc .vmem S2x128x1280 .f32) (harg3 : arg3.IsWhole) (arg4 : Memref sig .tc .vmem S2x128x1536 .bf16) (harg4 : arg4.IsWhole) (arg5 : Memref sig .tc .vmem S2x1x4x128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x256 .i32) (harg8 : arg8.IsWhole) (arg9 : Memref sig .tc .smem S32x8 .f32) (harg9 : arg9.IsWhole) (arg10 : Memref sig .tc .smem S2x8 .f32) (harg10 : arg10.IsWhole) (arg11 : Memref sig .tc .vmem S1x3x512 .f32) (harg11 : arg11.IsWhole) (arg12 : Memref sig .tc .vmem S2x128x5376 .bf16) (harg12 : arg12.IsWhole) (arg13 : Memref sig .tc .vmem S32x128 .f32) (harg13 : arg13.IsWhole) (arg14 : Memref sig .tc .vmem S8x128 .f32) (harg14 : arg14.IsWhole) (arg15 : Memref sig .tc .vmem S8x512 .f32) (harg15 : arg15.IsWhole) (arg16 : Memref sig .tc .vmem S8x128x256 .f32) (harg16 : arg16.IsWhole) (arg17 : Memref sig .tc .vmem S8x128x256 .f32) (harg17 : arg17.IsWhole) (arg18 : Memref sig .tc .vmem S2x128x256 .f32) (harg18 : arg18.IsWhole) (arg19 : Memref sig .tc .vmem S2x4x128x128 .f32) (harg19 : arg19.IsWhole) (arg20 : Memref sig .tc .vmem S2x128x512 .f32) (harg20 : arg20.IsWhole) (hc0 : ¬cond0_0 i) (hc1 : cond0_1 i)
  (x0 : Vec Ideal S2x128x5376 .f32) (x1 : Vec Ideal S2x128x256 .f32) (x2 : Vec Ideal S2x128x1280 .f32) (x3 : Vec Ideal S2x128x1536 .bf16) (x4 : Vec Ideal S2x1x4x128x128 .f32) (x5 : Vec Ideal S128x128 .f32) (x6 : Vec Ideal S128x128 .f32) (x7 : Vec Ideal S128x256 .i32) (x8 : Vec Ideal S32x8 .f32) (x9 : Vec Ideal S2x8 .f32) (x10 : Vec Ideal S1x3x512 .f32) (xo13 : Vec Ideal S8x128 .f32) (xo14 : Vec Ideal S8x512 .f32) (xs0 : Vec Ideal S8x128x256 .f32) (xs1 : Vec Ideal S8x128x256 .f32) (xs2 : Vec Ideal S2x128x256 .f32) (xs3 : Vec Ideal S2x4x128x128 .f32) (xs4 : Vec Ideal S2x128x512 .f32)

/-- The run's lists of pieces begin with the convolution's. -/
theorem pieces_C : ∃ (n0 n1 : Vec Ideal S1x128x512 .f32) (p0 p1 p2 q0 q1 q2 : Vec Ideal S1x512 .f32) (r0 : List (View.Piece (Elt Ideal) S2x128x5376 .bf16)) (r2 : List (View.Piece (Elt Ideal) S2x128x512 .f32)),
      (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).1 = heads i (tapsOf x10) (seqOf x0 x2 x3 0 (by omega) n0) (seqOf x0 x2 x3 1 (by omega) n1) r0
      ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.1 = sums i (seqOf x0 x2 x3 0 (by omega) n0) (seqOf x0 x2 x3 1 (by omega) n1) p0 p1 p2 q0 q1 q2 []
      ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.2.2.2.2.2.1 = keeps (seqOf x0 x2 x3 0 (by omega) n0) (seqOf x0 x2 x3 1 (by omega) n1) r2
      ∧ (∀ r j, n0 (ix3 0 r j) = xs4 (ix3 0 r j)) ∧ (∀ r j, n1 (ix3 0 r j) = xs4 (ix3 1 r j))
      ∧ (∀ j, p0 (ix2 0 j) = (fun k j => xo14 (ix2 k j)) (0 : Fin 8) j) ∧ (∀ j, p1 (ix2 0 j) = (fun k j => xo14 (ix2 k j)) (1 : Fin 8) j) ∧ (∀ j, p2 (ix2 0 j) = (fun k j => xo14 (ix2 k j)) (2 : Fin 8) j)
      ∧ (∀ j, q0 (ix2 0 j) = row2 i (seqOf x0 x2 x3 0 (by omega) n0) p0 (ix2 0 j)) ∧ (∀ j, q1 (ix2 0 j) = row1 i (seqOf x0 x2 x3 0 (by omega) n0) p1 (ix2 0 j))
      ∧ (∀ j, q2 (ix2 0 j) = row0 i (seqOf x0 x2 x3 0 (by omega) n0) p2 (ix2 0 j)) := by
  have key : ∃ (n0 n1 : Vec Ideal S1x128x512 .f32) (p0 p1 p2 q0 q1 q2 : Vec Ideal S1x512 .f32) (r0 : List (View.Piece (Elt Ideal) S2x128x5376 .bf16)) (r2 : List (View.Piece (Elt Ideal) S2x128x512 .f32)),
      (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).1 = heads i (tapsOf (arg11.view.read (Elt Ideal) (harg11.unread x10))) (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) r0
      ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.1 = sums i (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) p0 p1 p2 q0 q1 q2 []
      ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4).2.2.2.2.2.2.2.2.1 = keeps (seqOf (arg1.view.read (Elt Ideal) (harg1.unread x0)) (arg3.view.read (Elt Ideal) (harg3.unread x2)) (arg4.view.read (Elt Ideal) (harg4.unread x3)) 0 (by omega) n0) (seqOf (arg1.view.read (Elt Ideal) (harg1.unread x0)) (arg3.view.read (Elt Ideal) (harg3.unread x2)) (arg4.view.read (Elt Ideal) (harg4.unread x3)) 1 (by omega) n1) r2
      ∧ (∀ r j, n0 (ix3 0 r j) = xs4 (ix3 0 r j)) ∧ (∀ r j, n1 (ix3 0 r j) = xs4 (ix3 1 r j))
      ∧ (∀ j, p0 (ix2 0 j) = (fun k j => xo14 (ix2 k j)) (0 : Fin 8) j) ∧ (∀ j, p1 (ix2 0 j) = (fun k j => xo14 (ix2 k j)) (1 : Fin 8) j) ∧ (∀ j, p2 (ix2 0 j) = (fun k j => xo14 (ix2 k j)) (2 : Fin 8) j)
      ∧ (∀ j, q0 (ix2 0 j) = row2 i (seqOf (arg1.view.read (Elt Ideal) (harg1.unread x0)) (arg3.view.read (Elt Ideal) (harg3.unread x2)) (arg4.view.read (Elt Ideal) (harg4.unread x3)) 0 (by omega) n0) p0 (ix2 0 j)) ∧ (∀ j, q1 (ix2 0 j) = row1 i (seqOf (arg1.view.read (Elt Ideal) (harg1.unread x0)) (arg3.view.read (Elt Ideal) (harg3.unread x2)) (arg4.view.read (Elt Ideal) (harg4.unread x3)) 0 (by omega) n0) p1 (ix2 0 j))
      ∧ (∀ j, q2 (ix2 0 j) = row0 i (seqOf (arg1.view.read (Elt Ideal) (harg1.unread x0)) (arg3.view.read (Elt Ideal) (harg3.unread x2)) (arg4.view.read (Elt Ideal) (harg4.unread x3)) 0 (by omega) n0) p2 (ix2 0 j)) := by
    refine ⟨_, _, _, _, _, _, _, _, _, _, rfl, rfl, rfl, ?_, ?_, ?_, ?_, ?_, ?_, ?_, ?_⟩
    · exact fun r j => old_next _ _ xs4 (harg20.read_unread xs4) 0 (by omega) r j
    · exact fun r j => old_next _ _ xs4 (harg20.read_unread xs4) 1 (by omega) r j
    · exact fun j => old_row _ _ xo14 (harg15.read_unread xo14) 0 (by omega) j
    · exact fun j => old_row _ _ xo14 (harg15.read_unread xo14) 1 (by omega) j
    · exact fun j => old_row _ _ xo14 (harg15.read_unread xo14) 2 (by omega) j
    · exact fun j => second_row0 _ _ _ _ _ j
    · exact fun j => second_row1 _ _ _ _ _ j
    · exact fun j => second_row2 _ _ _ _ _ j
  rw [harg1.read_unread, harg3.read_unread, harg4.read_unread, harg11.read_unread] at key
  exact key

/-- What the point leaves: the gradient of the convolution's columns at block `n`, the taps' gradient with the block's
    sums added, and `dy` of the block. -/
theorem left_C (n : ℕ) (a0 : Proj) (a1 : Cot) (a8 : Wts)
    (H0 : ∀ nx : Vec Ideal S1x128x512 .f32, (∀ r j, nx (ix3 0 r j) = xs4 (ix3 0 r j)) → Loaded i n a0 a1 a8 0 (tapsOf x10) (seqOf x0 x2 x3 0 (by omega) nx))
    (H1 : ∀ nx : Vec Ideal S1x128x512 .f32, (∀ r j, nx (ix3 0 r j) = xs4 (ix3 1 r j)) → Loaded i n a0 a1 a8 1 (tapsOf x10) (seqOf x0 x2 x3 1 (by omega) nx)) :
    (∀ (b : Fin 2) (r : Fin 128) (q : Fin 4) (j : Fin 512), out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix3 b r (⟨3328 + 512 * q.val + j.val, by omega⟩ : Fin 5376))
        = kdcols a0 a1 a8 b (128 * n + r.val) q j)
    ∧ (∀ (k : Fin 8) (j : Fin 512), k.val < 3 → out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix2 k j) = xo14 (ix2 k j) + added n a0 a1 k.val j)
    ∧ (∀ (k : Fin 8) (j : Fin 512), 3 ≤ k.val → out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix2 k j) = xo14 (ix2 k j))
    ∧ (∀ (b : Fin 2) (r : Fin 128) (j : Fin 512), sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4 (ix3 b r j) = dy a0 a1 b (128 * n + r.val) j) := by
  obtain ⟨n0, n1, p0, p1, p2, q0, q1, q2, r0, r2, e0, e1, e2, hn0, hn1, hp0, hp1, hp2, hq0, hq1, hq2⟩ := pieces_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 xo13 xo14 xs0 xs1 xs2 xs3 xs4
  have G0 := H0 n0 hn0
  have G1 := H1 n1 hn1
  refine ⟨?_, ?_, ?_, ?_⟩
  · intro b r q j
    unfold out0_C_11
    rw [View.read_writes_junk_eq_canon, e0]
    exact heads_held G0 G1 r0 b r q j
  · intro k j hk
    unfold out0_C_14
    rw [e1]
    refine (held_row _ _ i _ _ p0 p1 p2 q0 q1 q2 [] k hk j).trans ?_
    exact sums_held G0 G1 _ p0 p1 p2 q0 q1 q2 (fun k j => xo14 (ix2 k j)) hp0 hp1 hp2 hq0 hq1 hq2 k hk j
  · intro k j hk
    unfold out0_C_14
    rw [e1]
    exact kept_row _ _ xo14 (harg15.read_unread xo14) i _ _ p0 p1 p2 q0 q1 q2 k hk j
  · intro b r j
    unfold sout0_C_4
    rw [View.read_writes_junk_eq_canon, e2]
    exact keeps_held G0 G1 r2 b r j

end Cert.Conv
-- ==== Proof.Conv.Steps.lean ====
module

public import proofs.«01_k».proof.Proof.Conv.Ref
public import proofs.«01_k».proof.Proof.Conv.Carry
public import proofs.«01_k».proof.Proof.Conv.PointA
public import proofs.«01_k».proof.Proof.Conv.PointB
public import proofs.«01_k».proof.Proof.Conv.PointC

/-! What each step of the grid leaves: step `t` writes block `16 - t` of the projections' gradient, keeps that block's
    `dy` for the next step, and has added the blocks from the last one down to it into the taps' gradient. -/

@[expose] public section

set_option maxRecDepth 16384
set_option maxHeartbeats 0

noncomputable section

namespace Cert.Conv

open Idealize.ShloMosaic Idealize.ShloMosaic.TcCoe Cert.KernelIdeal Cert.KernelIdeal.Gen

variable (m : (ℓ : Loc nD τ sig) → Buf (Elt Ideal) ℓ) (c : Dev nD)

theorem holds_first (t : Fin cfg0.N) (h0 : t.val % 17 = 0) (h1 : ¬t.val % 17 = 16) : HoldsAt m c t := by
  have ht : t.val = 0 := by have := lt_of_lt_of_eq t.isLt steps; omega
  have H : ∀ (b : Fin 2) (nx : Vec Ideal S1x128x512 .f32), (∀ (r : Fin 128) (j : Fin 512), nx (ix3 0 r j) = 0) →
      Loaded (grid0.coords t) (16 - t.val) (argP m c) (argC m c) (argW m c) b (tapsOf (iblk m c 10 t)) (seqOf (iblk m c 0 t) (X0_2 m c t) (iblk m c 3 t) b.val b.isLt nx) :=
    fun b nx hnx => loaded m c t b nx fun r j => (hnx r j).trans (dy_zero _ _ _ _ _ (by omega)).symm
  have G := left_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (16 - t.val) (argP m c) (argC m c) (argW m c) (H 0) (H 1)
  unfold HoldsAt
  rw [outsAt0_A m c t h0 h1]
  exact {
    cols := G.1
    rows := fun k j hk => (G.2.1 k j hk).trans (by rw [ht, Finset.sum_range_one, zero_add])
    rest := G.2.2.1
    kept := G.2.2.2 }

theorem holds_middle (t : Fin cfg0.N) (h0 : ¬t.val % 17 = 0) (h1 : ¬t.val % 17 = 16)
    (ih : HoldsAt m c (⟨t.val - 1, Nat.lt_of_le_of_lt (Nat.sub_le _ _) t.isLt⟩ : Fin cfg0.N)) : HoldsAt m c t := by
  have ht : t.val < 17 := lt_of_lt_of_eq t.isLt steps
  have H : ∀ (b : Fin 2) (nx : Vec Ideal S1x128x512 .f32), (∀ (r : Fin 128) (j : Fin 512), nx (ix3 0 r j) = (outsAt0 m c (t.val - 1) (Nat.lt_of_le_of_lt (Nat.sub_le _ _) t.isLt)).2.2.2.2.2.2.2.2 (ix3 b r j)) →
      Loaded (grid0.coords t) (16 - t.val) (argP m c) (argC m c) (argW m c) b (tapsOf (iblk m c 10 t)) (seqOf (iblk m c 0 t) (X0_2 m c t) (iblk m c 3 t) b.val b.isLt nx) :=
    fun b nx hnx => loaded m c t b nx fun r j => (hnx r j).trans ((ih.kept b r j).trans
      (congrArg (fun n => dy (argP m c) (argC m c) b (128 * n + r.val) j) (by show 16 - (t.val - 1) = 16 - t.val + 1; omega)))
  have G := left_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (16 - t.val) (argP m c) (argC m c) (argW m c) (H 0) (H 1)
  unfold HoldsAt
  rw [outsAt0_B m c t h0 h1]
  exact {
    cols := G.1
    rows := fun k j hk => (G.2.1 k j hk).trans (by
      rw [ih.rows k j hk, Finset.sum_range_succ _ t.val, show t.val - 1 + 1 = t.val by omega])
    rest := fun k j hk => (G.2.2.1 k j hk).trans (ih.rest k j hk)
    kept := G.2.2.2 }

theorem holds_last (t : Fin cfg0.N) (h0 : ¬t.val % 17 = 0) (h1 : t.val % 17 = 16)
    (ih : HoldsAt m c (⟨t.val - 1, Nat.lt_of_le_of_lt (Nat.sub_le _ _) t.isLt⟩ : Fin cfg0.N)) : HoldsAt m c t := by
  have ht : t.val < 17 := lt_of_lt_of_eq t.isLt steps
  have H : ∀ (b : Fin 2) (nx : Vec Ideal S1x128x512 .f32), (∀ (r : Fin 128) (j : Fin 512), nx (ix3 0 r j) = (outsAt0 m c (t.val - 1) (Nat.lt_of_le_of_lt (Nat.sub_le _ _) t.isLt)).2.2.2.2.2.2.2.2 (ix3 b r j)) →
      Loaded (grid0.coords t) (16 - t.val) (argP m c) (argC m c) (argW m c) b (tapsOf (iblk m c 10 t)) (seqOf (iblk m c 0 t) (X0_2 m c t) (iblk m c 3 t) b.val b.isLt nx) :=
    fun b nx hnx => loaded m c t b nx fun r j => (hnx r j).trans ((ih.kept b r j).trans
      (congrArg (fun n => dy (argP m c) (argC m c) b (128 * n + r.val) j) (by show 16 - (t.val - 1) = 16 - t.val + 1; omega)))
  have G := left_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (X0_2 m c t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (16 - t.val) (argP m c) (argC m c) (argW m c) (H 0) (H 1)
  unfold HoldsAt
  rw [outsAt0_C m c t h0 h1]
  exact {
    cols := G.1
    rows := fun k j hk => (G.2.1 k j hk).trans (by
      rw [ih.rows k j hk, Finset.sum_range_succ _ t.val, show t.val - 1 + 1 = t.val by omega])
    rest := fun k j hk => (G.2.2.1 k j hk).trans (ih.rest k j hk)
    kept := G.2.2.2 }

/-- Every step. -/
theorem holds : ∀ (n : ℕ) (hn : n < cfg0.N), HoldsAt m c ⟨n, hn⟩
  | 0, hn => holds_first m c ⟨0, hn⟩ rfl (by show ¬0 % 17 = 16; omega)
  | n + 1, hn => by
    have ht : n + 1 < 17 := lt_of_lt_of_eq hn steps
    by_cases h1 : (n + 1) % 17 = 16
    · exact holds_last m c ⟨n + 1, hn⟩ (by show ¬(n + 1) % 17 = 0; omega) h1 (holds n (by omega))
    · exact holds_middle m c ⟨n + 1, hn⟩ (by show ¬(n + 1) % 17 = 0; omega) h1 (holds n (by omega))

end Cert.Conv
-- ==== Proof.Real.lean ====
module

public import Idealize.ShloMosaic.Lib.IdealHost

/-! Values that are real numbers: what follows from a comparison with infinity, and closure under the operations used. -/

@[expose] public section

noncomputable section

namespace Cert

open Idealize.ShloMosaic

/-- The value is a real number. -/
def IsR (x : EReal) : Prop := ∃ r : ℝ, x = (r : EReal)

theorem IsR.mul {x z : EReal} (hx : IsR x) (hz : IsR z) : IsR (x * z) := by
  obtain ⟨r, rfl⟩ := hx; obtain ⟨s, rfl⟩ := hz; exact ⟨r * s, (EReal.coe_mul r s).symm⟩

theorem IsR.add {x z : EReal} (hx : IsR x) (hz : IsR z) : IsR (x + z) := by
  obtain ⟨r, rfl⟩ := hx; obtain ⟨s, rfl⟩ := hz; exact ⟨r + s, (EReal.coe_add r s).symm⟩

theorem isR_zero : IsR 0 := ⟨0, EReal.coe_zero.symm⟩
theorem isR_one : IsR 1 := ⟨1, EReal.coe_one.symm⟩

/-- A finite sum of real numbers, as a value, is their sum. -/
theorem coe_sum {n : ℕ} (f : Fin n → ℝ) : (∑ k, ((f k : ℝ) : EReal)) = ((∑ k, f k : ℝ) : EReal) :=
  (map_sum (⟨⟨fun r : ℝ => (r : EReal), EReal.coe_zero⟩, EReal.coe_add⟩ : ℝ →+ EReal) f Finset.univ).symm

/-- A finite sum of real values is real. -/
theorem IsR.sum {n : ℕ} {f : Fin n → EReal} (h : ∀ k, IsR (f k)) : IsR (∑ k, f k) := by
  choose g hg using h
  exact ⟨∑ k, g k, by simp only [hg, coe_sum]⟩

/-- A value whose absolute value lies below infinity is a real number. -/
theorem isR_of_below (x : EReal)
    (h : Idealize.ShloMosaic.Ideal.cmp .olt (max x (-x)) (Idealize.ShloMosaic.Ideal.ofBits .f32 0x7F800000#32) = 1#1) : IsR x := by
  have htop : Idealize.ShloMosaic.Ideal.ofBits .f32 0x7F800000#32 = ⊤ := by simp [Idealize.ShloMosaic.Ideal.ofBits, Idealize.ShloMosaic.Ideal.ieee]
  rw [htop] at h
  unfold Idealize.ShloMosaic.Ideal.cmp at h
  induction x using EReal.rec with
  | bot => simp at h
  | top => simp at h
  | coe r => exact ⟨r, rfl⟩

end Cert
-- ==== Proof.Conv.Finite.lean ====
module

public import proofs.«01_k».proof.Proof.Real
public import proofs.«01_k».proof.Proof.Conv.Pieces
public import proofs.«01_k».proof.Proof.Gen.Pre_finite
public import Idealize.ShloMosaic.Lib.ReduceAll

/-! What the precondition gives: every element of the three arrays is a real number, and on real numbers the gate's
    gradient as the kernel factors it is the derivative of `x * logistic x` in its two terms. -/

@[expose] public section

set_option maxRecDepth 16384

noncomputable section

namespace Cert.Conv

open Idealize.ShloMosaic

/-- The precondition: all three arrays hold real numbers. -/
theorem finite_args [Cert.Pre_finite.Facts] (x0 : Proj) (x1 : Cot) (x2 x3 x4 x5 x6 x7) (x8 : Wts) (i)
    (h : Cert.Pre_finite.fn (F := Ideal) x0 x1 x2 x3 x4 x5 x6 x7 x8 i = 1#1) :
    (∀ i, IsR (x0 i)) ∧ (∀ i, IsR (x1 i)) ∧ (∀ i, IsR (x8 i)) := by
  obtain ⟨h01, h8⟩ := IntOp.andi_eq_one.1 h
  obtain ⟨h0, h1⟩ := IntOp.andi_eq_one.1 h01
  haveI : Subsingleton Cert.Pre_finite.S_.Idx := ⟨fun a b => funext fun k => k.elim0⟩
  exact ⟨fun k => isR_of_below _ (Host.reduce_andi_all _ _ _ _ _ h0 k), fun k => isR_of_below _ (Host.reduce_andi_all _ _ _ _ _ h1 k),
    fun k => isR_of_below _ (Host.reduce_andi_all _ _ _ _ _ h8 k)⟩

section Real
variable {x0 : Proj} {x1 : Cot} {x8 : Wts} (h0 : ∀ i, IsR (x0 i)) (h1 : ∀ i, IsR (x1 i)) (h8 : ∀ i, IsR (x8 i))
variable (b : Fin 2) (L : ℕ) (j : Fin 512)

include h0 in
theorem isR_col (o : ℕ) : IsR (col x0 o b L j) := by
  unfold col; split; exacts [h0 _, isR_zero]

include h1 in
theorem isR_ct : IsR (ct x1 b L j) := by
  unfold ct; split; exacts [h1 _, isR_zero]

theorem isR_valid : IsR (valid L) := by
  unfold valid; split; exacts [isR_one, isR_zero]

include h0 in
theorem isR_u : IsR (u x0 b L j) := ((isR_col h0 b L j _).mul (isR_col h0 b L j _)).mul (isR_valid L)

include h0 in
theorem isR_back (k : ℕ) : IsR (back x0 k b L j) := by
  unfold back; split; exacts [isR_u h0 _ _ _, isR_zero]

include h0 h8 in
theorem isR_y : IsR (y x0 x8 b L j) :=
  (((h8 _).mul (isR_back h0 b L j 2)).add ((h8 _).mul (isR_back h0 b L j 1))).add ((h8 _).mul (isR_u h0 b L j))

include h0 h1 h8 in
/-- On real numbers the factored gradient of the gate is the derivative's two terms. -/
theorem kdcg_eq : kdcg x0 x1 x8 b L j = dcg x0 x1 x8 b L j := by
  unfold kdcg dcg
  obtain ⟨a, ha⟩ := ((isR_ct h1 b L j).mul (isR_col h0 b L j 3328)).mul (isR_y h0 h8 b L j)
  obtain ⟨x, hx⟩ := isR_col h0 b L j 4864
  dsimp only
  rw [ha, hx, Idealize.ShloMosaic.Ideal.logistic_coe]
  generalize (1 + Real.exp (-x))⁻¹ = s
  norm_cast
  ring

include h0 h1 h8 in
/-- The four gradients. -/
theorem kdcols_eq (q : Fin 4) : kdcols x0 x1 x8 b L q j = dcols x0 x1 x8 b L q.val j := by
  unfold kdcols
  split
  · next h => subst h; rw [kdcg_eq h0 h1 h8]; rfl
  · rfl

end Real

/-- A sum over `n` blocks of 128 positions is the sum over all the positions. -/
theorem sum_blocks (g : ℕ → EReal) : ∀ n : ℕ, ∑ s ∈ Finset.range n, ∑ r : Fin 128, g (128 * s + r.val) = ∑ L ∈ Finset.range (128 * n), g L
  | 0 => by simp
  | n + 1 => by
    rw [Finset.sum_range_succ, sum_blocks g n, show 128 * (n + 1) = 128 * n + 128 by omega, Finset.sum_range_add,
      Finset.sum_range fun x => g (128 * n + x)]

/-- The blocks' shares of a tap's gradient, added from the last block to the first, are the whole gradient. -/
theorem sum_added (x0 : Proj) (x1 : Cot) (k : ℕ) (hk : k < 3) (j : Fin 512) :
    ∑ s ∈ Finset.range 17, added (16 - s) x0 x1 k j = dtap x0 x1 k j := by
  have e := Finset.sum_range_reflect (fun s => added s x0 x1 k j) 17
  have e' : ∑ s ∈ Finset.range 17, added (16 - s) x0 x1 k j = ∑ s ∈ Finset.range 17, added s x0 x1 k j := e
  rw [e']
  unfold dtap added
  rw [if_pos hk, Finset.sum_comm]
  refine Finset.sum_congr rfl fun b _ => ?_
  rw [sum_blocks (fun L => dy x0 x1 b L j * back x0 (2 - k) b L j) 17]
  exact Finset.sum_range fun L => dy x0 x1 b L j * back x0 (2 - k) b L j

end Cert.Conv
-- ==== Proof.Conv.Final.lean ====
module

public import proofs.«01_k».proof.Proof.Conv.Carry
public import proofs.«01_k».proof.Proof.Conv.Finite
public import proofs.«01_k».proof.Proof.Gen.KernelIdeal.Value

/-! The two result arrays after the whole run, from what each step leaves. -/

@[expose] public section

set_option maxRecDepth 16384

noncomputable section

namespace Cert.Conv

open Idealize.ShloMosaic Idealize.ShloMosaic.TcCoe Cert.KernelIdeal Cert.KernelIdeal.Gen

variable (m : (ℓ : Loc nD τ sig) → Buf (Elt Ideal) ℓ) (c : Dev nD) (H : ∀ (n : ℕ) (hn : n < cfg0.N), HoldsAt m c ⟨n, hn⟩)

include H in
/-- The projections' gradient, at the convolution's columns. -/
theorem final_cols (b : Fin 2) (L : Fin 2176) (q : Fin 4) (j : Fin 512) :
    (dats m 0 c).arrAt 11 cfg0.N (ix3 b L (⟨3328 + 512 * q.val + j.val, by omega⟩ : Fin 5376)) = kdcols (argP m c) (argC m c) (argW m c) b L.val q j := by
  have A := (dats m 0 c).arrAt_forall_of_covers 11 (fun i v => ∀ (b : Fin 2) (L : Fin 2176) (q : Fin 4) (j : Fin 512),
    (i 0).val = b.val → (i 1).val = L.val → (i 2).val = 3328 + 512 * q.val + j.val → v = kdcols (argP m c) (argC m c) (argW m c) b L.val q j)
    (by decide +kernel) (fun t hf y => by
      intro b L q j
      blk_simp [place11]
      intro h0 h1 h2
      rw [after0_11]
      have ht : t.val < 17 := lt_of_lt_of_eq t.isLt steps
      have hr : (y 1).val < 128 := (y 1).isLt
      have e : y = ix3 b (⟨(y 1).val, hr⟩ : Fin 128) (⟨3328 + 512 * q.val + j.val, by omega⟩ : Fin 5376) :=
        funext fun a => match a with
          | ⟨0, _⟩ => Fin.ext h0
          | ⟨1, _⟩ => rfl
          | ⟨2, _⟩ => Fin.ext h2
      refine (congrArg (outsAt0 m c t.val t.isLt).1 e).trans (((H t.val t.isLt).cols b ⟨(y 1).val, hr⟩ q j).trans ?_)
      exact congrArg (fun n => kdcols (argP m c) (argC m c) (argW m c) b n q j) (by show 128 * (16 - t.val) + (y 1).val = L.val; omega))
  exact A (ix3 b L (⟨3328 + 512 * q.val + j.val, by omega⟩ : Fin 5376)) b L q j rfl rfl rfl

include H in
/-- The taps' gradient: the three taps' rows, and zeros below them. -/
theorem final_taps (k : Fin 8) (j : Fin 512) :
    (dats m 0 c).arrAt 14 cfg0.N (ix2 k j) = dtap (argP m c) (argC m c) k.val j := by
  refine ((dats m 0 c).arrAt_emb_eq_after_last 14 ⟨16, by rw [steps]; omega⟩ (by decide +kernel) (ix2 k j)).trans ?_
  rw [after0_14]
  have G := H 16 (by rw [steps]; omega)
  by_cases hk : k.val < 3
  · refine Eq.trans ?_ ((G.rows k j hk).trans (sum_added _ _ k.val hk j))
    rfl
  · refine Eq.trans ?_ ((G.rest k j (by omega)).trans ?_)
    · rfl
    · unfold dtap; rw [if_neg hk]

end Cert.Conv
-- ==== Proof.Conv.RefTail.lean ====
module

public import proofs.«01_k».proof.Proof.Conv.Ref
public import Idealize.ShloMosaic.Lib.IdealHost
public import Idealize.ShloMosaic.Lib.Pipeline.Value

@[expose] public section

set_option maxRecDepth 16384

noncomputable section

/-! The reference's two results, in the terms of the specification. -/

namespace Cert.Conv

open Idealize.ShloMosaic Cert.ReferenceIdeal Cert.ReferenceIdeal.Gen Cert.ReferenceIdeal.Read

/-- A sum over the two leading axes, read at a channel. -/
theorem sum_lead {n0 n1 n2 : ℕ} (h : (⟨3, ![n0, n1, n2]⟩ : Shape).ReducesTo [0, 1] (⟨1, ![n2]⟩ : Shape))
    (v : (⟨3, ![n0, n1, n2]⟩ : Shape).Idx → EReal) (init : EReal) (i : (⟨1, ![n2]⟩ : Shape).Idx) (j : Fin n2) (hi : (i 0).val = j.val) :
    Idealize.ShloMosaic.Ideal.hostReduceAdd h v init i = init + ∑ a : Fin n0, ∑ b : Fin n1, v (ix3 a b j) := by
  have key : ∀ x : (⟨3, ![n0, n1, n2]⟩ : Shape).Idx, h.drop x = i ↔ ∃ k : Fin n0 × Fin n1, ix3 k.1 k.2 j = x := by
    intro x
    have hv : (h.drop x 0).val = (x 2).val := Shape.ReducesTo.drop_apply_val h x 0
    constructor
    · rintro rfl
      exact ⟨(x 0, x 1), idx3 rfl rfl (hi.symm.trans hv)⟩
    · rintro ⟨k, rfl⟩
      funext a
      match a with
      | ⟨0, _⟩ => exact Fin.ext (hv.trans hi.symm)
  refine congrArg (init + ·) ((Finset.sum_filter_eq_sum_of_fiber _ (fun k : Fin n0 × Fin n1 => ix3 k.1 k.2 j)
    (fun _ _ e => Prod.ext (congrFun e 0) (congrFun e 1)) key v).trans ?_)
  simp only [Fintype.sum_prod_type]

variable (x0 : Proj) (x1 : Cot) (x8 : Wts) (b : Fin 2) (L : Fin 2176) (j : Fin 512)

/-- One tap's sum over the sequences and positions. -/
def total (k : ℕ) (j : Fin 512) : EReal := ∑ b : Fin 2, ∑ L : Fin 2176, dy x0 x1 b L.val j * back x0 k b L.val j

theorem init_zero (i : (⟨0, ![]⟩ : Shape).Idx) : (constant (F := Ideal) (⟨0, ![]⟩ : Shape) .f32 0x00000000#32) i = (0 : EReal) := zero_f32

/-- The sum over the two leading axes, then over two axes of extent 1. -/
theorem ref_total (p : (⟨3, ![2, 2176, 512]⟩ : Shape).Idx → EReal) (k : ℕ) (hp : ∀ b L j, p (ix3 b L j) = dy x0 x1 b L.val j * back x0 k b L.val j)
    (q : (⟨3, ![1, 1, 512]⟩ : Shape).Idx → EReal) (i0 i1 : EReal) (h0 : i0 = 0) (h1 : i1 = 0)
    (h : (⟨3, ![2, 2176, 512]⟩ : Shape).ReducesTo [0, 1] (⟨1, ![512]⟩ : Shape))
    (h' : (⟨3, ![1, 1, 512]⟩ : Shape).ReducesTo [0, 1] (⟨1, ![512]⟩ : Shape))
    (hq : ∀ i, ∀ j : Fin 512, (i 2).val = j.val → ∃ i', (i' 0).val = j.val ∧ q i = Idealize.ShloMosaic.Ideal.hostReduceAdd h p i0 i')
    (i : (⟨1, ![512]⟩ : Shape).Idx) (hi : (i 0).val = j.val) :
    Idealize.ShloMosaic.Ideal.hostReduceAdd h' q i1 i = total x0 x1 k j := by
  rw [sum_lead h' q i1 i j hi, h1, zero_add, Fin.sum_univ_one, Fin.sum_univ_one]
  obtain ⟨i', hi', e⟩ := hq (ix3 0 0 j) j rfl
  rw [e, sum_lead h p i0 i' j hi', h0, zero_add]
  exact Finset.sum_congr rfl fun b _ => Finset.sum_congr rfl fun L _ => hp b L j

theorem ref_sum0 (i : (⟨1, ![512]⟩ : Shape).Idx) (hi : (i 0).val = j.val) : val_main_v53 (F := Ideal) x0 x1 i = total x0 x1 0 j :=
  ref_total x0 x1 j (val_main_v50 (F := Ideal) x0 x1) 0 (fun b L j => by
      rw [val_main_v50_apply, ref_dy, ref_back0]; rfl)
    (val_main_v52 (F := Ideal) x0 x1) _ _ (init_zero _) (init_zero _) reducesTo_S2x2176x512_S512_d0_1 reducesTo_S1x1x512_S512_d0_1
    (fun i j h => ⟨idx_main_v52 i, by
      have h0 : (i 0).val < 1 := (i 0).isLt
      have h1 : (i 1).val < 1 := (i 1).isLt
      show ((i 0).val * 1 + (i 1).val) * 512 + (i 2).val = j.val
      omega, by rw [val_main_v52_apply]; rfl⟩) i hi

theorem ref_sum1 (i : (⟨1, ![512]⟩ : Shape).Idx) (hi : (i 0).val = j.val) : val_main_v62 (F := Ideal) x0 x1 i = total x0 x1 1 j :=
  ref_total x0 x1 j (val_main_v59 (F := Ideal) x0 x1) 1 (fun b L j => by
      rw [val_main_v59_apply, ref_dy, ref_back1]; rfl)
    (val_main_v61 (F := Ideal) x0 x1) _ _ (init_zero _) (init_zero _) reducesTo_S2x2176x512_S512_d0_1 reducesTo_S1x1x512_S512_d0_1
    (fun i j h => ⟨idx_main_v61 i, by
      have h0 : (i 0).val < 1 := (i 0).isLt
      have h1 : (i 1).val < 1 := (i 1).isLt
      show ((i 0).val * 1 + (i 1).val) * 512 + (i 2).val = j.val
      omega, by rw [val_main_v61_apply]; rfl⟩) i hi

theorem ref_sum2 (i : (⟨1, ![512]⟩ : Shape).Idx) (hi : (i 0).val = j.val) : val_main_v73 (F := Ideal) x0 x1 i = total x0 x1 2 j :=
  ref_total x0 x1 j (val_main_v70 (F := Ideal) x0 x1) 2 (fun b L j => by
      rw [val_main_v70_apply, ref_dy, ref_back2]; rfl)
    (val_main_v72 (F := Ideal) x0 x1) _ _ (init_zero _) (init_zero _) reducesTo_S2x2176x512_S512_d0_1 reducesTo_S1x1x512_S512_d0_1
    (fun i j h => ⟨idx_main_v72 i, by
      have h0 : (i 0).val < 1 := (i 0).isLt
      have h1 : (i 1).val < 1 := (i 1).isLt
      show ((i 0).val * 1 + (i 1).val) * 512 + (i 2).val = j.val
      omega, by rw [val_main_v72_apply]; rfl⟩) i hi

/-- A row padded to rows `lo … lo + n - 1` of `m`, zero elsewhere. -/
theorem pad_rows {n m : ℕ} (lo hi : ℕ) (x : (⟨2, ![n, 512]⟩ : Shape).Idx → EReal) (v : (⟨0, ![]⟩ : Shape).Idx → EReal)
    (h : (⟨2, ![n, 512]⟩ : Shape).Pads ![lo, 0] ![hi, 0] ![0, 0] ⟨2, ![m, 512]⟩)
    (hu : 0 < (⟨0, ![]⟩ : Shape).numel) (hv : ∀ i, v i = 0) (k : Fin m) (f : ℕ → EReal)
    (hf : ∀ r : Fin n, x (ix2 r j) = f r.val) :
    pad ⟨2, ![m, 512]⟩ ![lo, 0] ![hi, 0] ![0, 0] x v h hu (ix2 k j) = if lo ≤ k.val ∧ k.val - lo < n then f (k.val - lo) else 0 := by
  by_cases hin : lo ≤ k.val ∧ k.val - lo < n
  · rw [if_pos hin, pad_apply_of_inside _ _ _ _ _ _ _ (ix2 k j) (ix2 (⟨k.val - lo, hin.2⟩ : Fin n) j) (fun a => by
      match a with
      | ⟨0, _⟩ => show k.val = lo + (k.val - lo) * 1; omega
      | ⟨1, _⟩ => show j.val = 0 + j.val * 1; omega)]
    exact hf _
  · rw [if_neg hin, pad_apply_of_not_inside _ _ _ _ _ _ _ (ix2 k j) 0 (by
      show ¬(lo ≤ k.val ∧ (k.val - lo) % (0 + 1) = 0 ∧ (k.val - lo) / (0 + 1) < n)
      simp; omega), hv]

theorem int_zero (c : (⟨0, ![]⟩ : Shape).Idx → BitVec 32) (hc : ∀ i, c i = 0#32) (i : (⟨0, ![]⟩ : Shape).Idx) :
    (sitofp (F := Ideal) (s := (⟨0, ![]⟩ : Shape)) .f32 c) i = (0 : EReal) := by
  show (((c i).toInt : ℝ) : EReal) = 0
  rw [hc]; simp

/-- The reference's gradient of the taps. -/
theorem ref_taps (k : Fin 8) : val_main_v88 (F := Ideal) x0 x1 (ix2 k j) = dtap x0 x1 k.val j := by
  have e56 : ∀ r : Fin 3, val_main_v56 (F := Ideal) x0 x1 (ix2 r j) = if 2 ≤ r.val ∧ r.val - 2 < 1 then total x0 x1 0 j else 0 := fun r =>
    pad_rows j 2 0 (val_main_v55 (F := Ideal) x0 x1) _ _ _ init_zero r (fun _ => total x0 x1 0 j) (fun r => by
      rw [val_main_v55_apply]; exact ref_sum0 x0 x1 j _ rfl)
  have e66 : ∀ r : Fin 3, val_main_v66 (F := Ideal) x0 x1 (ix2 r j) = if 1 ≤ r.val ∧ r.val - 1 < 1 then total x0 x1 1 j else 0 := fun r =>
    pad_rows j 1 1 (val_main_v65 (F := Ideal) x0 x1) _ _ _ init_zero r (fun _ => total x0 x1 1 j) (fun r => by
      rw [val_main_v65_apply]; exact ref_sum1 x0 x1 j _ rfl)
  have e77 : ∀ r : Fin 3, val_main_v77 (F := Ideal) x0 x1 (ix2 r j) = if 0 ≤ r.val ∧ r.val - 0 < 1 then total x0 x1 2 j else 0 := fun r =>
    pad_rows j 0 2 (val_main_v76 (F := Ideal) x0 x1) _ _ _ init_zero r (fun _ => total x0 x1 2 j) (fun r => by
      rw [val_main_v76_apply]; exact ref_sum2 x0 x1 j _ rfl)
  have e78 : ∀ r : Fin 3, val_main_v78 (F := Ideal) x0 x1 (ix2 r j) = dtap x0 x1 r.val j := by
    intro r
    rw [val_main_v78_apply, val_main_v67_apply, e56, e66, e77]
    obtain ⟨r, hr⟩ := r
    unfold dtap
    rw [if_pos hr]
    obtain rfl | rfl | rfl : r = 0 ∨ r = 1 ∨ r = 2 := by omega
    · show ((0 : EReal) + 0) + total x0 x1 2 j = _; rw [zero_add, zero_add]; rfl
    · show ((0 : EReal) + total x0 x1 1 j) + 0 = _; rw [zero_add, add_zero]; rfl
    · show (total x0 x1 0 j + (0 : EReal)) + 0 = _; rw [add_zero, add_zero]; rfl
  refine (pad_rows j 0 5 (val_main_v78 (F := Ideal) x0 x1) _ _ _ (int_zero _ (fun _ => rfl)) k (fun r => dtap x0 x1 r j) e78).trans ?_
  by_cases h : k.val < 3
  · rw [if_pos ⟨Nat.zero_le _, h⟩]; rfl
  · rw [if_neg (by omega)]; unfold dtap; rw [if_neg h]

/-- Four arrays joined along the last axis, read at a column of the `k`-th. -/
theorem cat4 (p0 p1 p2 p3 : (⟨3, ![2, 2176, 512]⟩ : Shape).Idx → EReal)
    (h : Shape.Concatenates [(⟨3, ![2, 2176, 512]⟩ : Shape), ⟨3, ![2, 2176, 512]⟩, ⟨3, ![2, 2176, 512]⟩, ⟨3, ![2, 2176, 512]⟩] (⟨3, ![2, 2176, 2048]⟩ : Shape) 2)
    (c : Fin 2048) (k : ℕ) (hk : k < 4) (hc : c.val = 512 * k + j.val) (f : EReal)
    (hf : [p0 (ix3 b L j), p1 (ix3 b L j), p2 (ix3 b L j), p3 (ix3 b L j)][k]'hk = f) :
    concatenate (⟨3, ![2, 2176, 2048]⟩ : Shape) 2 [⟨(⟨3, ![2, 2176, 512]⟩ : Shape), p0⟩, ⟨(⟨3, ![2, 2176, 512]⟩ : Shape), p1⟩, ⟨(⟨3, ![2, 2176, 512]⟩ : Shape), p2⟩, ⟨(⟨3, ![2, 2176, 512]⟩ : Shape), p3⟩] h (ix3 b L c) = f := by
  have side : ∀ a : Fin 3, a ≠ 2 → ((ix3 b L j : (⟨3, ![2, 2176, 512]⟩ : Shape).Idx) a).val = ((ix3 b L c : (⟨3, ![2, 2176, 2048]⟩ : Shape).Idx) a).val := by
    intro a ha
    match a with
    | ⟨0, _⟩ => rfl
    | ⟨1, _⟩ => rfl
    | ⟨2, _⟩ => exact absurd rfl ha
  obtain rfl | rfl | rfl | rfl : k = 0 ∨ k = 1 ∨ k = 2 ∨ k = 3 := by omega
  · exact (concatenate_apply_piece _ [⟨(⟨3, ![2, 2176, 512]⟩ : Shape), p0⟩, ⟨(⟨3, ![2, 2176, 512]⟩ : Shape), p1⟩, ⟨(⟨3, ![2, 2176, 512]⟩ : Shape), p2⟩, ⟨(⟨3, ![2, 2176, 512]⟩ : Shape), p3⟩] h (ix3 b L c) 0 (by show 0 < 4; decide) _ p0 rfl rfl 0 rfl (ix3 b L j) side (by show 0 + j.val = c.val; omega)).trans hf
  · exact (concatenate_apply_piece _ [⟨(⟨3, ![2, 2176, 512]⟩ : Shape), p0⟩, ⟨(⟨3, ![2, 2176, 512]⟩ : Shape), p1⟩, ⟨(⟨3, ![2, 2176, 512]⟩ : Shape), p2⟩, ⟨(⟨3, ![2, 2176, 512]⟩ : Shape), p3⟩] h (ix3 b L c) 1 (by show 1 < 4; decide) _ p1 rfl rfl 512 rfl (ix3 b L j) side (by show 512 + j.val = c.val; omega)).trans hf
  · exact (concatenate_apply_piece _ [⟨(⟨3, ![2, 2176, 512]⟩ : Shape), p0⟩, ⟨(⟨3, ![2, 2176, 512]⟩ : Shape), p1⟩, ⟨(⟨3, ![2, 2176, 512]⟩ : Shape), p2⟩, ⟨(⟨3, ![2, 2176, 512]⟩ : Shape), p3⟩] h (ix3 b L c) 2 (by show 2 < 4; decide) _ p2 rfl rfl 1024 rfl (ix3 b L j) side (by show 1024 + j.val = c.val; omega)).trans hf
  · exact (concatenate_apply_piece _ [⟨(⟨3, ![2, 2176, 512]⟩ : Shape), p0⟩, ⟨(⟨3, ![2, 2176, 512]⟩ : Shape), p1⟩, ⟨(⟨3, ![2, 2176, 512]⟩ : Shape), p2⟩, ⟨(⟨3, ![2, 2176, 512]⟩ : Shape), p3⟩] h (ix3 b L c) 3 (by show 3 < 4; decide) _ p3 rfl rfl 1536 rfl (ix3 b L j) side (by show 1536 + j.val = c.val; omega)).trans hf

/-- The joined gradient of the four factors. -/
theorem ref_join (q : Fin 4) : val_main_v85 (F := Ideal) x0 x1 x8 (ix3 b L (⟨512 * q.val + j.val, by omega⟩ : Fin 2048))
    = dcols x0 x1 x8 b L.val q.val j := by
  refine cat4 b L j (val_main_v47 (F := Ideal) x0 x1 x8) (val_main_v84 (F := Ideal) x0 x1 x8) (val_main_v83 (F := Ideal) x0 x1 x8) (val_main_v45 (F := Ideal) x0 x1 x8) _ _ q.val q.isLt rfl _ ?_
  rw [ref_dcb, ref_dcc, ref_dcx, ref_dcg]
  obtain ⟨q, hq⟩ := q
  obtain rfl | rfl | rfl | rfl : q = 0 ∨ q = 1 ∨ q = 2 ∨ q = 3 := by omega
  all_goals rfl

/-- An array padded with 3328 columns on the left, read right of them. -/
theorem pad_left (x : (⟨3, ![2, 2176, 2048]⟩ : Shape).Idx → EReal) (v : (⟨0, ![]⟩ : Shape).Idx → EReal)
    (h : (⟨3, ![2, 2176, 2048]⟩ : Shape).Pads ![0, 0, 3328] ![0, 0, 0] ![0, 0, 0] ⟨3, ![2, 2176, 5376]⟩)
    (hu : 0 < (⟨0, ![]⟩ : Shape).numel) (c : Fin 2048) (c' : Fin 5376) (hc : c'.val = 3328 + c.val) :
    pad ⟨3, ![2, 2176, 5376]⟩ ![0, 0, 3328] ![0, 0, 0] ![0, 0, 0] x v h hu (ix3 b L c') = x (ix3 b L c) :=
  pad_apply_of_inside _ _ _ _ _ _ _ (ix3 b L c') (ix3 b L c) (fun a => by
      match a with
      | ⟨0, _⟩ => show b.val = 0 + b.val * 1; omega
      | ⟨1, _⟩ => show L.val = 0 + L.val * 1; omega
      | ⟨2, _⟩ => show c'.val = 3328 + c.val * 1; omega)

/-- The reference's gradient of the projections at the convolution's columns. -/
theorem ref_cols (q : Fin 4) : val_main_v87 (F := Ideal) x0 x1 x8 (ix3 b L (⟨3328 + 512 * q.val + j.val, by omega⟩ : Fin 5376))
    = dcols x0 x1 x8 b L.val q.val j :=
  (pad_left b L (val_main_v85 (F := Ideal) x0 x1 x8) (val_main_call2_v0 (F := Ideal)) pads_S2x2176x2048_S2x2176x5376_000_000_332800 h_S_ (⟨512 * q.val + j.val, by omega⟩ : Fin 2048) _ (by show 3328 + 512 * q.val + j.val = 3328 + (512 * q.val + j.val); omega)).trans
    (ref_join x0 x1 x8 b L j q)

end Cert.Conv
-- ==== Proof.Conv.Algebra.lean ====
module

public import proofs.«01_k».proof.Defs
public import Idealize.ShloMosaic.Lib.WordCmp
public import proofs.«01_k».proof.Proof.Conv.Steps
public import proofs.«01_k».proof.Proof.Conv.Final
public import proofs.«01_k».proof.Proof.Conv.RefTail
public import proofs.«01_k».proof.Proof.Gen.ReferenceIdeal.Run
public import proofs.«01_k».proof.Proof.Gen.On_conv_columns

/-! The two programs' results agree: the kernel's arrays and the reference's are the same functions of the arguments
    at the convolution's columns and at the taps' gradient. -/

@[expose] public section

set_option maxRecDepth 16384

noncomputable section

namespace Cert.Conv

open Idealize.ShloMosaic Idealize.ShloMosaic.TcCoe Idealize.SL.Sem

/-- Where the mask is set, the column is one of the convolution's. -/
theorem mask_cols [Cert.On_conv_columns.Facts] (x0 x1 x2 x3 x4 x5 x6 x7 x8) (i : (⟨3, ![2, 2176, 5376]⟩ : Shape).Idx)
    (h : (Cert.On_conv_columns.fn (F := Ideal) x0 x1 x2 x3 x4 x5 x6 x7 x8).1 i = 1#1) : 3328 ≤ (i 2).val := by
  have h' : IntOp.cmpi .sge (BitVec.ofNat 32 (i 2).val) (BitVec.ofNat 32 3328) = 1#1 := h
  have hi : (i 2).val < 5376 := (i 2).isLt
  exact (WordCmp.cmpi_sge_ofNat_eq_one_iff (by omega) (by norm_num)).1 h'

/-- An index of the projections' array at a masked column, by its coordinates. -/
theorem split_col (i : (⟨3, ![2, 2176, 5376]⟩ : Shape).Idx) (h : 3328 ≤ (i 2).val) :
    ∃ (b : Fin 2) (L : Fin 2176) (q : Fin 4) (j : Fin 512), i = ix3 b L (⟨3328 + 512 * q.val + j.val, by omega⟩ : Fin 5376) := by
  have hi : (i 2).val < 5376 := (i 2).isLt
  refine ⟨i 0, i 1, ⟨((i 2).val - 3328) / 512, by omega⟩, ⟨((i 2).val - 3328) % 512, by omega⟩, funext fun a => ?_⟩
  match a with
  | ⟨0, _⟩ => rfl
  | ⟨1, _⟩ => rfl
  | ⟨2, _⟩ => exact Fin.ext (by show (i 2).val = 3328 + 512 * (((i 2).val - 3328) / 512) + ((i 2).val - 3328) % 512; omega)

/-- An index of the taps' array, by its coordinates. -/
theorem split_tap (i : (⟨2, ![8, 512]⟩ : Shape).Idx) : ∃ (k : Fin 8) (j : Fin 512), i = ix2 k j :=
  ⟨i 0, i 1, funext fun a => match a with
    | ⟨0, _⟩ => rfl
    | ⟨1, _⟩ => rfl⟩

/-- From finite arguments the two programs end with the same gradients at the masked elements. -/
theorem algebraic : Cert.algebraic_KernelIdeal_ReferenceIdeal_on_conv_columns_pre_finite (hKernelIdeal := Cert.KernelIdeal.Gen.facts)
    (hReferenceIdeal := Cert.ReferenceIdeal.Gen.facts) (hPre_finite := Cert.Pre_finite.Gen.facts) (hOn_conv_columns := Cert.On_conv_columns.Gen.facts) := by
  intro m g m' g' hpre hargs
  refine ⟨fun c => (Cert.KernelIdeal.Gen.dats m 0 c).arrAt 11 Cert.KernelIdeal.cfg0.N,
    fun c => (Cert.KernelIdeal.Gen.dats m 0 c).arrAt 14 Cert.KernelIdeal.cfg0.N, ?_, ?_⟩
  · refine (θ_run Cert.KernelIdeal.defs _ _).mono (fun r h c => ?_) (Cert.KernelIdeal.Value.run_blocks m g)
    obtain ⟨e0, -, -, e3, a0, a1, a2, a3, a4, a5, a6, a7, a8⟩ := h c
    exact ⟨fun i _ => congrFun e0 i, fun i _ => congrFun e3 i, a0, a1, a2, a3, a4, a5, a6, a7, a8⟩
  · refine (θ_run Cert.ReferenceIdeal.defs _ _).mono (fun r h c => ?_) (Cert.ReferenceIdeal.Value.run m' g')
    obtain ⟨e0, e1, a0, a1, a2, a3, a4, a5, a6, a7, a8⟩ := h c
    obtain ⟨b0, b1, -, -, -, -, -, -, b8⟩ := hargs c
    obtain ⟨f0, f1, f8⟩ := finite_args _ _ _ _ _ _ _ _ _ (fun k => k.elim0) (congrFun (hpre c) _)
    refine ⟨fun i hi => ?_, fun i _ => ?_, a0, a1, a2, a3, a4, a5, a6, a7, a8⟩
    · obtain ⟨b, L, q, j, e⟩ := split_col i (mask_cols _ _ _ _ _ _ _ _ _ i hi)
      rw [e]
      refine (congrFun e0 _).trans ?_
      rw [Cert.ReferenceIdeal.Read.val_main_v87_eq, b0, b1, b8]
      refine (ref_cols _ _ _ b L j q).trans ?_
      refine Eq.trans ?_ (final_cols m c (holds m c) b L q j).symm
      exact (kdcols_eq f0 f1 f8 b L.val j q).symm
    · obtain ⟨k, j, e⟩ := split_tap i
      rw [e]
      refine (congrFun e1 _).trans ?_
      rw [Cert.ReferenceIdeal.Read.val_main_v88_eq, b0, b1]
      exact (ref_taps _ _ j k).trans (final_taps m c (holds m c) k j).symm

end Cert.Conv
-- ==== Proof.Wgrad.Final.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

/-! The gradient of the input projections' weights: every block the kernel writes back is the block of the product of the
    joined cotangents, transposed, and the normed rows. -/

@[expose] public section

set_option maxRecDepth 16384

noncomputable section

namespace Cert.Wgrad

open Idealize.ShloMosaic Idealize.ShloMosaic.TcCoe Idealize.SL.Sem Cert.Kernel2Ideal Cert.Kernel2Ideal.Gen

/-- The block of the first cotangent a step reads: the columns move with the step and stay at the last block. -/
theorem place1 : ∀ t : Fin cfg0.N, win0_1.index t = ![0, min t.val 6] :=
  (by decide +kernel : ∀ t : Fin grid0.N, win0_1.index t = ![0, min t.val 6])

/-- The block of the second cotangent a step reads: the first one until the first cotangent is used up. -/
theorem place2 : ∀ t : Fin cfg0.N, win0_2.index t = ![0, t.val - 7] :=
  (by decide +kernel : ∀ t : Fin grid0.N, win0_2.index t = ![0, t.val - 7])

/-- The block of normed rows: always the whole array. -/
theorem place0 : ∀ t : Fin cfg0.N, win0_0.index t = ![0, 0] :=
  (by decide +kernel : ∀ t : Fin grid0.N, win0_0.index t = ![0, 0])

/-- The block of the result a step writes. -/
theorem place3 : ∀ t : Fin cfg0.N, win0_3.index t = ![t.val, 0] :=
  (by decide +kernel : ∀ t : Fin grid0.N, win0_3.index t = ![t.val, 0])

/-- What the reference computes, read at an element: the sum over the rows of the joined cotangents' column times the
    normed rows' column. -/
def dweight (x0 : (⟨2, ![4352, 1024]⟩ : Shape).Idx → EReal) (x1 : (⟨2, ![4352, 5376]⟩ : Shape).Idx → EReal)
    (x2 : (⟨2, ![4352, 3072]⟩ : Shape).Idx → EReal) (p : Fin 8448) (q : Fin 1024) : EReal :=
  if h : p.val < 5376 then ∑ k : Fin 4352, x1 (ix2 k ⟨p.val, h⟩) * x0 (ix2 k q)
  else ∑ k : Fin 4352, x2 (ix2 k ⟨p.val - 5376, by omega⟩) * x0 (ix2 k q)

/-- The reference's result is that sum. -/
theorem reference_eq (x0 : (⟨Cert.Reference2Ideal.S4352x1024, .bf16⟩ : BufTy).Contents (Elt Ideal))
    (x1 : (⟨Cert.Reference2Ideal.S4352x5376, .bf16⟩ : BufTy).Contents (Elt Ideal))
    (x2 : (⟨Cert.Reference2Ideal.S4352x3072, .bf16⟩ : BufTy).Contents (Elt Ideal)) (i : Cert.Reference2Ideal.S8448x1024.Idx) :
    Cert.Reference2Ideal.Read.val_main_v7 (F := Ideal) x0 x1 x2 i = dweight x0 x1 x2 (i 0) (i 1) := by
  pointwise [Cert.Reference2Ideal.Read.val_main_v7, Cert.Reference2Ideal.Read.val_main_v6, Cert.Reference2Ideal.Read.val_main_v5,
    Cert.Reference2Ideal.Read.val_main_v2, Cert.Reference2Ideal.Read.val_main_v1, Cert.Reference2Ideal.Read.val_main_v0]
  unfold dweight
  split
  · rfl
  · rfl

variable (m : (ℓ : Loc nD τ sig) → Buf (Elt Ideal) ℓ) (c : Dev nD)

/-- The result array after the whole run. -/
theorem final (i : S8448x1024.Idx) : (dats m 0 c).arrAt 3 cfg0.N i
    = dweight (m ((c : Thread nD τ).loc main_arg0)) (m ((c : Thread nD τ).loc main_arg1))
        (m ((c : Thread nD τ).loc main_arg2)) (i 0) (i 1) := by
  refine (dats m 0 c).arrAt_forall_of_covers 3 (fun i v => v = dweight (m ((c : Thread nD τ).loc main_arg0))
    (m ((c : Thread nD τ).loc main_arg1)) (m ((c : Thread nD τ).loc main_arg2)) (i 0) (i 1))
    (by decide +kernel) (fun t hf y => ?_) i
  blk_simp
  rw [after0_3]
  have ht : t.val < 11 := t.isLt
  have hy : (y 0).val < 768 := (y 0).isLt
  by_cases h : t.val < 7
  · rw [outsAt0_A m c t h (by omega)]
    frame_out
    pointwise [k0_pay1]
    unfold dweight
    rw [dif_pos (by blk_simp [place3]; omega)]
    blk_point [iblk, V, place0 t, place1 t, place3 t]
  · rw [outsAt0_B m c t h (by omega)]
    frame_out
    pointwise [k0_pay2]
    unfold dweight
    rw [dif_neg (by blk_simp [place3]; omega)]
    blk_point [iblk, V, place0 t, place2 t, place3 t]

end Cert.Wgrad
-- ==== Proof.Wgrad.Algebra.lean ====
module

public import proofs.«01_k».proof.Defs
public import proofs.«01_k».proof.Proof.Wgrad.Final

/-! The two programs' gradients of the projections' weights are the same array. -/

@[expose] public section

set_option maxRecDepth 16384

noncomputable section

namespace Cert.Wgrad

open Idealize.ShloMosaic Idealize.ShloMosaic.TcCoe Idealize.SL.Sem

/-- From the same arguments the two programs end with the same gradient of the projections' weights. -/
theorem algebraic : Cert.algebraic_Kernel2Ideal_Reference2Ideal (hKernel2Ideal := Cert.Kernel2Ideal.Gen.facts)
    (hReference2Ideal := Cert.Reference2Ideal.Gen.facts) := by
  intro m g m' g' hpre hargs
  refine ⟨fun c => (Cert.Kernel2Ideal.Gen.dats m 0 c).arrAt 3 Cert.Kernel2Ideal.cfg0.N, ?_, ?_⟩
  · exact (θ_run Cert.Kernel2Ideal.defs _ _).mono (fun r h c => h c) (Cert.Kernel2Ideal.Value.run_blocks m g)
  · refine (θ_run Cert.Reference2Ideal.defs _ _).mono (fun r h c => ?_) (Cert.Reference2Ideal.Value.run m' g')
    obtain ⟨e0, a0, a1, a2⟩ := h c
    obtain ⟨b0, b1, b2⟩ := hargs c
    refine ⟨e0.trans (funext fun i => ?_), a0, a1, a2⟩
    rw [Cert.Reference2Ideal.Read.val_main_v7_eq, b0, b1, b2]
    exact (reference_eq _ _ _ i).trans (final m c i).symm

end Cert.Wgrad
-- ==== Proof.Dgrad.Acc.lean ====
module

public import proofs.«01_k».proof.Proof.Gen.Kernel3Ideal.Value
public import Idealize.ShloMosaic.Lib.Pipeline.ValueKit
public import Idealize.ShloMosaic.Lib.Pipeline.ReadBack

/-! The gradient of the projections' input, first half: the scratch array gathers, over eleven steps, the product of the
    joined cotangents and the weights. -/

@[expose] public section

set_option maxRecDepth 16384

noncomputable section

namespace Cert.Dgrad

open Idealize.ShloMosaic Idealize.ShloMosaic.TcCoe Idealize.SL.Sem Cert.Kernel3Ideal Cert.Kernel3Ideal.Gen

/-- The rows move with the outer step, the columns of the first cotangent with the inner step up to the last block. -/
theorem place0 : ∀ t : Fin cfg0.N, win0_0.index t = ![t.val / 11, min (t.val % 11) 6] :=
  (by decide +kernel : ∀ t : Fin grid0.N, win0_0.index t = ![t.val / 11, min (t.val % 11) 6])

/-- The columns of the second cotangent move once the first one is used up. -/
theorem place1 : ∀ t : Fin cfg0.N, win0_1.index t = ![t.val / 11, t.val % 11 - 7] :=
  (by decide +kernel : ∀ t : Fin grid0.N, win0_1.index t = ![t.val / 11, t.val % 11 - 7])

/-- The weights' rows move with the inner step. -/
theorem place2 : ∀ t : Fin cfg0.N, win0_2.index t = ![t.val % 11, 0] :=
  (by decide +kernel : ∀ t : Fin grid0.N, win0_2.index t = ![t.val % 11, 0])

/-- The input's rows. -/
theorem place3 : ∀ t : Fin cfg0.N, win0_3.index t = ![t.val / 11, 0] :=
  (by decide +kernel : ∀ t : Fin grid0.N, win0_3.index t = ![t.val / 11, 0])

/-- The norm's weight of the second layer. -/
theorem place4 : ∀ t : Fin cfg0.N, win0_4.index t = ![1, 0, 0] :=
  (by decide +kernel : ∀ t : Fin grid0.N, win0_4.index t = ![1, 0, 0])

/-- The rows of the residual's cotangent. -/
theorem place5 : ∀ t : Fin cfg0.N, win0_5.index t = ![t.val / 11, 0] :=
  (by decide +kernel : ∀ t : Fin grid0.N, win0_5.index t = ![t.val / 11, 0])

/-- The rows of the result. -/
theorem place6 : ∀ t : Fin cfg0.N, win0_6.index t = ![t.val / 11, 0] :=
  (by decide +kernel : ∀ t : Fin grid0.N, win0_6.index t = ![t.val / 11, 0])

/-- The joined cotangents. -/
def joined (x0 : (⟨2, ![4352, 5376]⟩ : Shape).Idx → EReal) (x1 : (⟨2, ![4352, 3072]⟩ : Shape).Idx → EReal) (R : Fin 4352) (k : Fin 8448) : EReal :=
  if h : k.val < 5376 then x0 (ix2 R ⟨k.val, h⟩) else x1 (ix2 R ⟨k.val - 5376, by omega⟩)

/-- The cotangent of the normed rows: the joined cotangents times the weights. -/
def dh (x0 : (⟨2, ![4352, 5376]⟩ : Shape).Idx → EReal) (x1 : (⟨2, ![4352, 3072]⟩ : Shape).Idx → EReal)
    (x2 : (⟨2, ![8448, 1024]⟩ : Shape).Idx → EReal) (R : Fin 4352) (q : Fin 1024) : EReal :=
  ∑ k : Fin 8448, joined x0 x1 R k * x2 (ix2 k q)

variable (m : (ℓ : Loc nD τ sig) → Buf (Elt Ideal) ℓ) (c : Dev nD)

/-- A block of a cotangent times a block of the weights. -/
def times (a : S1088x768.Idx → EReal) (b : S768x1024.Idx → EReal) (j : S1088x1024.Idx) : EReal :=
  ∑ k : Fin 768, a (ix2 (j 0) k) * b (ix2 k (j 1))

/-- What a step adds to the scratch array: its block of the first or of the second cotangent times its block of the weights. -/
def part (t : Fin cfg0.N) (j : S1088x1024.Idx) : EReal :=
  if t.val % 11 ≤ 6 then times (iblk m c 0 t) (iblk m c 2 t) j else times (iblk m c 1 t) (iblk m c 2 t) j

/-- The first inner step starts the sum. -/
theorem acc_first (t : Fin cfg0.N) (h : t.val % 11 = 0) (j : S1088x1024.Idx) :
    (outsAt0 m c t.val t.isLt).2.2 j = 0 + part m c t j := by
  unfold part
  rw [if_pos (by omega)]
  by_cases h0 : t.val % 44 = 0
  · rw [outsAt0_A m c t h0 h (by omega) (by omega) (by omega)]
    frame_out
    pointwise [k0_pay3, k0_pay2, times]
  · rw [outsAt0_E m c t h0 h (by omega) (by omega) (by omega)]
    frame_out
    pointwise [k0_pay3, k0_pay2, times]

/-- The later ones add to what the step before left. -/
theorem acc_next (t : Fin cfg0.N) (h : ¬t.val % 11 = 0) (j : S1088x1024.Idx) :
    (outsAt0 m c t.val t.isLt).2.2 j = (outsAt0 m c (t.val - 1) (Nat.lt_of_le_of_lt (Nat.sub_le _ _) t.isLt)).2.2 j + part m c t j := by
  unfold part
  by_cases h2 : t.val % 11 ≤ 6
  · rw [if_pos h2, outsAt0_B m c t (by omega) h h2 (by omega) (by omega)]
    frame_out [read_unread_whole]
    pointwise [k0_pay3, times]

  · rw [if_neg h2]
    by_cases h4 : t.val % 11 = 10
    · rw [outsAt0_D m c t (by omega) h h2 (by omega) h4]
      frame_out [read_unread_whole]
      pointwise [k0_pay4, times]
    · rw [outsAt0_C m c t (by omega) h h2 (by omega) h4]
      frame_out [read_unread_whole]
      pointwise [k0_pay4, times]

/-- After the last inner step the scratch array is the cotangent of the normed rows, at the outer step's rows. -/
theorem acc_last (t : Fin cfg0.N) (h : t.val % 11 = 10) (r : Fin 1088) (q : Fin 1024) :
    (outsAt0 m c t.val t.isLt).2.2 (ix2 r q)
      = dh (m ((c : Thread nD τ).loc main_arg0)) (m ((c : Thread nD τ).loc main_arg1)) (m ((c : Thread nD τ).loc main_arg2))
          (⟨1088 * (t.val / 11) + r.val, by have := t.isLt; have : t.val < 44 := t.isLt; omega⟩ : Fin 4352) q := by
  rw [Pipeline.eq_sum_fin_of_reset_step_apply_of_flush (fun n hn => (outsAt0 m c n hn).2.2) 11 (fun _ => 0) (part m c)
    (acc_first m c) (acc_next m c) t h (ix2 r q), zero_add]
  have ht : t.val < 44 := t.isLt
  unfold dh
  refine Eq.trans (b := ∑ s : Fin 11, ∑ k : Fin 768, joined (m ((c : Thread nD τ).loc main_arg0)) (m ((c : Thread nD τ).loc main_arg1))
      (⟨1088 * (t.val / 11) + r.val, by omega⟩ : Fin 4352) (⟨s.val * 768 + k.val, by omega⟩ : Fin 8448)
      * (m ((c : Thread nD τ).loc main_arg2)) (ix2 (⟨s.val * 768 + k.val, by omega⟩ : Fin 8448) q)) ?_
    (Fin.sum_mul_add_congr fun s k hl => rfl)
  refine Finset.sum_congr rfl fun s _ => ?_
  have hs : s.val < 11 := s.isLt
  unfold part joined times
  by_cases h6 : s.val ≤ 6
  · rw [if_pos (by show (11 * (t.val / 11) + s.val) % 11 ≤ 6; omega)]
    refine Finset.sum_congr rfl fun k _ => ?_
    rw [dif_pos (by show s.val * 768 + k.val < 5376; omega)]
    congr 1 <;> blk_ext [iblk, V, place0, place2]
  · rw [if_neg (by show ¬(11 * (t.val / 11) + s.val) % 11 ≤ 6; omega)]
    refine Finset.sum_congr rfl fun k _ => ?_
    rw [dif_neg (by show ¬s.val * 768 + k.val < 5376; omega)]
    congr 1 <;> blk_ext [iblk, V, place1, place2]

end Cert.Dgrad
-- ==== Proof.Dgrad.Point.lean ====
module

public import proofs.«01_k».proof.Proof.Dgrad.Acc
public import Idealize.ShloMosaic.Lib.WritesUnit

/-! The gradient of the projections' input, second half. -/

@[expose] public section

set_option maxRecDepth 16384

noncomputable section

namespace Cert.Dgrad

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- At the last inner step the block of the input's gradient is computed from the finished sum. -/
theorem dx_last (t : Fin cfg0.N) (h : t.val % 11 = 10) (r : Fin 1088) (q : Fin 1024) :
    (outsAt0 m c t.val t.isLt).1 (ix2 r q)
      = k0_pay8 (F := Ideal) (iblk m c 3 t) (outsAt0 m c t.val t.isLt).2.2 (iblk m c 4 t) (iblk m c 5 t) (ix2 r q) := by
  rw [outsAt0_D m c t (by omega) (by omega) (by omega) (by omega) h]
  frame_out [read_unread_whole]

/-- At the last inner step the first row of the norm weight's gradient is added to. -/
theorem dg_last (t : Fin cfg0.N) (h : t.val % 11 = 10) (r : Fin 8) (q : Fin 1024) (hr : r.val = 0) :
    (outsAt0 m c t.val t.isLt).2.1 (ix2 r q)
      = k0_pay7 (F := Ideal) (iblk m c 3 t) (outsAt0 m c t.val t.isLt).2.2
          (View.ld (outsAt0 m c (t.val - 1) (Nat.lt_of_le_of_lt (Nat.sub_le _ _) t.isLt)).2.1 (Rect.unit (s := S8x1024) ![0, 0] ![1, 1024] (by decide)))
          (ix2 (0 : Fin 1) q) := by
  rw [outsAt0_D m c t (by omega) (by omega) (by omega) (by omega) h]
  frame_out [read_unread_whole]
  refine (View.read_writes_cons_rows_of_mem _ _ _ _ _ _ (ix2 (0 : Fin 1) q) rfl ?_ ?_).trans ?_
  · exact hr
  · rfl
  · rfl

/-- The other rows stay. -/
theorem dg_last_below (t : Fin cfg0.N) (h : t.val % 11 = 10) (r : Fin 8) (q : Fin 1024) (hr : ¬r.val = 0) :
    (outsAt0 m c t.val t.isLt).2.1 (ix2 r q)
      = (outsAt0 m c (t.val - 1) (Nat.lt_of_le_of_lt (Nat.sub_le _ _) t.isLt)).2.1 (ix2 r q) := by
  rw [outsAt0_D m c t (by omega) (by omega) (by omega) (by omega) h]
  frame_out [read_unread_whole]
  refine (View.read_writes_cons_rows_of_not_mem _ _ _ _ _ _ (o := 0) (W := 1) rfl rfl (Or.inr ?_)).trans ?_
  · show 0 + 1 ≤ r.val
    omega
  · rw [View.writes_nil]
    exact congrFun (Memref.IsWhole.read_unread _ _) _

/-- At the other steps but the first one the norm weight's gradient stays. -/
theorem dg_other (t : Fin cfg0.N) (h : ¬t.val % 11 = 10) (h0 : ¬t.val % 44 = 0) (j : S8x1024.Idx) :
    (outsAt0 m c t.val t.isLt).2.1 j = (outsAt0 m c (t.val - 1) (Nat.lt_of_le_of_lt (Nat.sub_le _ _) t.isLt)).2.1 j := by
  by_cases h1 : t.val % 11 = 0
  · rw [outsAt0_E m c t h0 h1 (by omega) (by omega) (by omega)]
    rfl
  · by_cases h2 : t.val % 11 ≤ 6
    · rw [outsAt0_B m c t h0 h1 (by omega) (by omega) (by omega)]
      rfl
    · rw [outsAt0_C m c t h0 h1 (by omega) (by omega) (by omega)]
      rfl

/-- The first step sets it to zero. -/
theorem dg_first (t : Fin cfg0.N) (h : t.val % 44 = 0) (j : S8x1024.Idx) :
    (outsAt0 m c t.val t.isLt).2.1 j = 0 := by
  rw [outsAt0_A m c t h (by omega) (by omega) (by omega) (by omega)]
  frame_out [read_unread_whole]
  pointwise [k0_pay1]

end Cert.Dgrad
-- ==== Proof.Norm.lean ====
module

public import proofs.«01_k».proof.Proof.Real

/-! The backward pass of the root-mean-square norm of a row: the kernel's factored form and the two terms of the derivative
    are the same on real numbers. -/

@[expose] public section

noncomputable section

namespace Cert.Norm

open Idealize.ShloMosaic

/-- The row's length as a number. -/
def len : EReal := Idealize.ShloMosaic.Ideal.ofBits .f32 0x44800000#32
/-- The small number added to the mean square. -/
def eps : EReal := Idealize.ShloMosaic.Ideal.ofBits .f32 0x358637BD#32
/-- Minus a half. -/
def mhalf : EReal := Idealize.ShloMosaic.Ideal.ofBits .f32 0xBF000000#32

theorem len_eq : len = ((1024 : ℝ) : EReal) := by
  simp [len, Idealize.ShloMosaic.Ideal.ofBits, Idealize.ShloMosaic.Ideal.ieee]; norm_num; rw [← EReal.coe_mul]; norm_num

theorem mhalf_eq : mhalf = ((-(1 / 2) : ℝ) : EReal) := by
  simp [mhalf, Idealize.ShloMosaic.Ideal.ofBits, Idealize.ShloMosaic.Ideal.ieee]; norm_num; rw [← EReal.coe_mul]; norm_num

theorem eps_eq : ∃ e : ℝ, 0 < e ∧ eps = (e : EReal) := by
  refine ⟨_, ?_, by simp [eps, Idealize.ShloMosaic.Ideal.ofBits, Idealize.ShloMosaic.Ideal.ieee]; rfl⟩
  norm_num

variable (x h g : Fin 1024 → EReal)

/-- The mean square plus the small number. -/
def square : EReal := Idealize.ShloMosaic.Ideal.div (∑ k, x k * x k) len + eps
/-- The factor the row is scaled by. -/
def scale : EReal := Idealize.ShloMosaic.Ideal.rsqrt (square x)

/-- The gradient at one element as the kernel computes it, added to `o`. -/
def factored (o : EReal) (q : Fin 1024) : EReal :=
  o + scale x * (h q * g q - x q * scale x * Idealize.ShloMosaic.Ideal.div (∑ k, h k * g k * (x k * scale x)) len)

/-- The derivative's term through the scale. -/
def through : EReal :=
  Idealize.ShloMosaic.Ideal.div ((∑ k, x k * (h k * g k)) * (mhalf * Idealize.ShloMosaic.Ideal.div (scale x) (square x))) len

/-- The gradient at one element as the derivative's terms, added to `o`. -/
def terms (o : EReal) (q : Fin 1024) : EReal :=
  o + h q * g q * scale x + x q * through x h g + through x h g * x q

variable {x h g}

/-- On real numbers the two are the same. -/
theorem factored_eq_terms (hx : ∀ k, IsR (x k)) (hh : ∀ k, IsR (h k)) (hg : ∀ k, IsR (g k)) (o : EReal) (q : Fin 1024) :
    factored x h g o q = terms x h g o q := by
  choose X eX using hx
  choose H eH using hh
  choose G eG using hg
  obtain ⟨e, he, ee⟩ := eps_eq
  have hs : 0 ≤ ∑ k, X k * X k := Finset.sum_nonneg fun k _ => mul_self_nonneg _
  have hv : 0 < (∑ k, X k * X k) * (1 / 1024) + e := by positivity
  have e1 : square x = (((∑ k, X k * X k) * (1 / 1024) + e : ℝ) : EReal) := by
    unfold square
    rw [len_eq, ee, Idealize.ShloMosaic.Ideal.div_coe (by norm_num)]
    simp only [eX, ← EReal.coe_mul, coe_sum, ← EReal.coe_add]
  generalize (∑ k, X k * X k) * (1 / 1024) + e = v at e1 hv
  have e2 : scale x = (((Real.sqrt v)⁻¹ : ℝ) : EReal) := by
    unfold scale
    rw [e1, Idealize.ShloMosaic.Ideal.rsqrt_coe, if_neg (not_lt.2 hv.le), if_neg hv.ne']
  have hq : (Real.sqrt v)⁻¹ * (Real.sqrt v)⁻¹ = 1 / v := by
    rw [← mul_inv, Real.mul_self_sqrt hv.le, one_div]
  have e3 : (∑ k, H k * G k * (X k * (Real.sqrt v)⁻¹)) = (∑ k, X k * (H k * G k)) * (Real.sqrt v)⁻¹ := by
    rw [Finset.sum_mul]
    exact Finset.sum_congr rfl fun k _ => by ring
  unfold factored terms through
  rw [e2, e1, len_eq, mhalf_eq, Idealize.ShloMosaic.Ideal.div_coe (by norm_num), Idealize.ShloMosaic.Ideal.div_coe (by norm_num), Idealize.ShloMosaic.Ideal.div_coe hv.ne', add_assoc, add_assoc]
  congr 1
  simp only [eX, eH, eG, ← EReal.coe_mul, coe_sum, ← EReal.coe_add, ← EReal.coe_sub]
  rw [e3]
  generalize (∑ k, X k * (H k * G k)) = T at *
  generalize (Real.sqrt v)⁻¹ = s at *
  norm_cast
  have : s * (X q * s * (T * s * (1 / 1024))) = X q * (T * (s * (s * s)) * (1 / 1024)) := by ring
  rw [mul_sub, this, hq]
  ring

/-- The row's scale is a real number. -/
theorem isR_scale (hx : ∀ k, IsR (x k)) : IsR (scale x) := by
  choose X eX using hx
  obtain ⟨e, he, ee⟩ := eps_eq
  have hs : 0 ≤ ∑ k, X k * X k := Finset.sum_nonneg fun k _ => mul_self_nonneg _
  have hv : 0 < (∑ k, X k * X k) * (1 / 1024) + e := by positivity
  have e1 : square x = (((∑ k, X k * X k) * (1 / 1024) + e : ℝ) : EReal) := by
    unfold square
    rw [len_eq, ee, Idealize.ShloMosaic.Ideal.div_coe (by norm_num)]
    simp only [eX, ← EReal.coe_mul, coe_sum, ← EReal.coe_add]
  unfold scale
  rw [e1, Idealize.ShloMosaic.Ideal.rsqrt_coe, if_neg (not_lt.2 hv.le), if_neg hv.ne']
  exact ⟨_, rfl⟩

end Cert.Norm
-- ==== Proof.Dgrad.Ref.lean ====
module

public import proofs.«01_k».proof.Proof.Dgrad.Acc
public import proofs.«01_k».proof.Proof.Norm
public import proofs.«01_k».proof.Proof.Gen.Reference3Ideal.Run
public import proofs.«01_k».proof.Proof.Gen.Reference3Ideal.Read

/-! What the reference computes for the gradient of the projections' input and of the norm's weight. -/

@[expose] public section

set_option maxRecDepth 16384

noncomputable section

namespace Cert.Dgrad

open Idealize.ShloMosaic Idealize.ShloMosaic.TcCoe Idealize.SL.Sem

open Cert.Reference3Ideal (S4352x5376 S4352x3072 S8448x1024 S4352x1024 S2x1x1024 S8x1024)
open Cert.Reference3Ideal.Read

variable (x0 : (⟨S4352x5376, .bf16⟩ : BufTy).Contents (Elt Ideal)) (x1 : (⟨S4352x3072, .bf16⟩ : BufTy).Contents (Elt Ideal))
  (x2 : (⟨S8448x1024, .bf16⟩ : BufTy).Contents (Elt Ideal)) (x3 : (⟨S4352x1024, .f32⟩ : BufTy).Contents (Elt Ideal))
  (x4 : (⟨S2x1x1024, .f32⟩ : BufTy).Contents (Elt Ideal)) (x5 : (⟨S4352x1024, .f32⟩ : BufTy).Contents (Elt Ideal))

/-- A row of the input. -/
def row (x3 : (⟨2, ![4352, 1024]⟩ : Shape).Idx → EReal) (R : Fin 4352) (k : Fin 1024) : EReal := x3 (ix2 R k)

/-- The norm's weight of the second layer. -/
def weight (x4 : (⟨3, ![2, 1, 1024]⟩ : Shape).Idx → EReal) (k : Fin 1024) : EReal := x4 (ix3 (1 : Fin 2) (0 : Fin 1) k)

/-- The reference's cotangent of the normed rows. -/
theorem ref_dh (i : S4352x1024.Idx) : val_main_v23 (F := Ideal) x0 x1 x2 i = dh x0 x1 x2 (i 0) (i 1) := by
  unfold dh
  rw [Fin.sum_univ_add (a := 5376) (b := 3072)]
  pointwise [val_main_v23, val_main_v0, val_main_v1, val_main_v2, val_main_v3]
  refine congrArg₂ (fun a b : EReal => a + b) ?_ ?_
  · refine Finset.sum_congr rfl fun k _ => ?_
    unfold joined
    rw [dif_pos (by simp)]
    rfl
  · refine Finset.sum_congr rfl fun k _ => ?_
    unfold joined
    rw [dif_neg (by simp)]
    simp
    rfl

/-- The reference's gradient of the input. -/
theorem ref_dx (R : Fin 4352) (q : Fin 1024) : val_main_v44 (F := Ideal) x0 x1 x2 x3 x4 x5 (ix2 R q)
    = Cert.Norm.terms (row x3 R) (dh x0 x1 x2 R) (weight x4) (x5 (ix2 R q)) q := by
  pointwise [
    val_main_v4, val_main_v5, val_main_v6, val_main_cst, val_main_v7, val_main_v8, val_main_cst_0, val_main_v9,
    val_main_v10, val_main_cst_1, val_main_v11, val_main_v12, val_main_v13, val_main_v14, val_main_cst_2, val_main_v15,
    val_main_v16, val_main_v17, val_main_v18, val_main_v19, val_main_v20, val_main_v27, val_main_v28, val_main_v30,
    val_main_cst_5, val_main_v31, val_main_v32, val_main_v33, val_main_v34, val_main_v35, val_main_v36, val_main_cst_6,
    val_main_v37, val_main_v38, val_main_cst_7, val_main_v39, val_main_v40, val_main_v41, val_main_v42, val_main_v43,
    val_main_v44]
  simp only [Fin.sum_univ_one, ref_dh]
  rfl

/-- The reference's gradient of the norm's weight: a sum over the rows, in the first of eight rows. -/
def dweight (x0 : (⟨2, ![4352, 5376]⟩ : Shape).Idx → EReal) (x1 : (⟨2, ![4352, 3072]⟩ : Shape).Idx → EReal)
    (x2 : (⟨2, ![8448, 1024]⟩ : Shape).Idx → EReal) (x3 : (⟨2, ![4352, 1024]⟩ : Shape).Idx → EReal) (r : Fin 8) (q : Fin 1024) : EReal :=
  if r.val = 0 then ∑ R : Fin 4352, dh x0 x1 x2 R q * (row x3 R q * Cert.Norm.scale (row x3 R)) else 0

theorem ref_dg (r : Fin 8) (q : Fin 1024) : val_main_v46 (F := Ideal) x0 x1 x2 x3 (ix2 r q) = dweight x0 x1 x2 x3 r q := by
  pointwise [
    val_main_v6, val_main_cst, val_main_v7, val_main_v8, val_main_cst_0, val_main_v9, val_main_v10, val_main_cst_1,
    val_main_v11, val_main_v12, val_main_v13, val_main_v17, val_main_v18, val_main_v24, val_main_cst_3, val_main_v25,
    val_main_v26, val_main_cst_4, val_main_v29, val_main_v45, val_main_c, val_main_call0_v0, val_main_v46]
  simp only [Fin.sum_univ_one, ref_dh]
  unfold dweight
  by_cases h : r.val = 0
  · rw [if_pos h, dif_pos (by show r.val < 1; omega)]
    exact Finset.sum_congr rfl fun R _ => mul_comm _ _
  · rw [if_neg h, dif_neg (by show ¬r.val < 1; omega)]
    simp [FloatOps.sitofp]

end Cert.Dgrad
-- ==== Proof.Dgrad.Final.lean ====
module

public import proofs.«01_k».proof.Proof.Dgrad.Point
public import proofs.«01_k».proof.Proof.Dgrad.Ref

/-! The two result arrays of the projections' backward pass after the whole run. -/

@[expose] public section

set_option maxRecDepth 16384

noncomputable section

namespace Cert.Dgrad

open Idealize.ShloMosaic Idealize.ShloMosaic.TcCoe Idealize.SL.Sem Cert.Kernel3Ideal Cert.Kernel3Ideal.Gen

/-- The last step's value of the input's gradient, from the four blocks it reads. -/
theorem pay8_eq (v17 : Vec Ideal S1088x1024 .f32) (v28 : Vec Ideal S1088x1024 .f32) (v36 : Vec Ideal S1x1x1024 .f32)
    (v40 : Vec Ideal S1088x1024 .f32) (r : Fin 1088) (q : Fin 1024) :
    k0_pay8 (F := Ideal) v17 v28 v36 v40 (ix2 r q)
      = Cert.Norm.factored (fun k => v17 (ix2 r k)) (fun k => v28 (ix2 r k)) (fun k => v36 (ix3 (0 : Fin 1) (0 : Fin 1) k)) (v40 (ix2 r q)) q := by
  pointwise [k0_pay8, k0_pay6, k0_pay5]
  rfl

/-- What the last step adds to the norm weight's gradient. -/
theorem pay7_eq (v17 : Vec Ideal S1088x1024 .f32) (v28 : Vec Ideal S1088x1024 .f32) (v29 : Vec Ideal S1x1024 .f32) (q : Fin 1024) :
    k0_pay7 (F := Ideal) v17 v28 v29 (ix2 (0 : Fin 1) q)
      = v29 (ix2 (0 : Fin 1) q) + ∑ r : Fin 1088, v28 (ix2 r q) * (v17 (ix2 r q) * Cert.Norm.scale (fun k => v17 (ix2 r k))) := by
  pointwise [k0_pay7, k0_pay6, k0_pay5]
  rfl

variable (m : (ℓ : Loc nD τ sig) → Buf (Elt Ideal) ℓ) (c : Dev nD)

/-- The cotangent of the normed rows, from the launch's arguments. -/
abbrev cot (R : Fin 4352) (q : Fin 1024) : EReal :=
  dh (m ((c : Thread nD τ).loc main_arg0)) (m ((c : Thread nD τ).loc main_arg1)) (m ((c : Thread nD τ).loc main_arg2)) R q

/-- The outer step's rows of the input, as the step's block holds them. -/
theorem block_row (t : Fin cfg0.N) (r : Fin 1088) (k : Fin 1024) :
    iblk m c 3 t (ix2 r k) = row (m ((c : Thread nD τ).loc main_arg3)) (⟨1088 * (t.val / 11) + r.val, by have : t.val < 44 := t.isLt; omega⟩ : Fin 4352) k := by
  unfold row
  blk_ext [iblk, V, place3]

/-- The step's block of the norm's weight. -/
theorem block_weight (t : Fin cfg0.N) (k : Fin 1024) :
    iblk m c 4 t (ix3 (0 : Fin 1) (0 : Fin 1) k) = weight (m ((c : Thread nD τ).loc main_arg4)) k := by
  unfold weight
  blk_ext [iblk, V, place4]

/-- The input's gradient after the whole run. -/
theorem final_dx (i : S4352x1024.Idx) : (dats m 0 c).arrAt 6 cfg0.N i
    = Cert.Norm.factored (row (m ((c : Thread nD τ).loc main_arg3)) (i 0)) (cot m c (i 0)) (weight (m ((c : Thread nD τ).loc main_arg4)))
        (m ((c : Thread nD τ).loc main_arg5) i) (i 1) := by
  refine (dats m 0 c).arrAt_forall_of_covers 6 (fun i v => v = Cert.Norm.factored (row (m ((c : Thread nD τ).loc main_arg3)) (i 0)) (cot m c (i 0))
    (weight (m ((c : Thread nD τ).loc main_arg4))) (m ((c : Thread nD τ).loc main_arg5) i) (i 1)) (by decide +kernel) (fun t hf y => ?_) i
  have ht : t.val < 44 := t.isLt
  have hl : t.val % 11 = 10 := (by decide +kernel : ∀ t : Fin cfg0.N, (cfg0.win 6).flush t = true → t.val % 11 = 10) t hf
  obtain ⟨r, q, rfl⟩ : ∃ (r : Fin 1088) (q : Fin 1024), y = ix2 r q := ⟨y 0, y 1, by funext a; match a with | ⟨0, _⟩ => rfl | ⟨1, _⟩ => rfl⟩
  have hr : 1088 * (t.val / 11) + r.val < 4352 := by omega
  have e : ((View.whole main_v0_0).slice (win0_6.rect t)).emb (ix2 r q) = (ix2 (⟨1088 * (t.val / 11) + r.val, hr⟩ : Fin 4352) q) := by
    blk_ext [place6]
  blk_simp
  rw [after0_6, e]
  refine (dx_last m c t hl r q).trans ((pay8_eq _ _ _ _ _ _).trans ?_)
  have e5 : iblk m c 5 t (ix2 r q) = m ((c : Thread nD τ).loc main_arg5) (ix2 (⟨1088 * (t.val / 11) + r.val, hr⟩ : Fin 4352) q) := by
    blk_ext [iblk, V, place5]
  simp only [acc_last m c t hl, block_row, block_weight, e5]
  rfl

/-- What one outer step's rows give to the norm weight's gradient. -/
def rows (a : ℕ) (q : Fin 1024) : EReal :=
  ∑ r : Fin 1088, if h : 1088 * a + r.val < 4352 then
    cot m c ⟨1088 * a + r.val, h⟩ q * (row (m ((c : Thread nD τ).loc main_arg3)) ⟨1088 * a + r.val, h⟩ q
      * Cert.Norm.scale (row (m ((c : Thread nD τ).loc main_arg3)) ⟨1088 * a + r.val, h⟩)) else 0

/-- What a step adds to the norm weight's gradient: something at the last inner step, in the first row. -/
def given (t : Fin cfg0.N) (j : S8x1024.Idx) : EReal :=
  if t.val % 11 = 10 ∧ (j 0).val = 0 then rows m c (t.val / 11) (j 1) else 0

/-- Each step but the first adds that. -/
theorem dg_step (t : Fin cfg0.N) (h : ¬t.val % 44 = 0) (j : S8x1024.Idx) :
    (outsAt0 m c t.val t.isLt).2.1 j
      = (outsAt0 m c (t.val - 1) (Nat.lt_of_le_of_lt (Nat.sub_le _ _) t.isLt)).2.1 j + given m c t j := by
  have ht : t.val < 44 := t.isLt
  obtain ⟨r, q, rfl⟩ : ∃ (r : Fin 8) (q : Fin 1024), j = ix2 r q := ⟨j 0, j 1, by funext a; match a with | ⟨0, _⟩ => rfl | ⟨1, _⟩ => rfl⟩
  unfold given
  by_cases hl : t.val % 11 = 10
  · by_cases hr : r.val = 0
    · rw [if_pos ⟨hl, hr⟩, dg_last m c t hl r q hr, pay7_eq]
      have hr' : r = 0 := Fin.ext hr
      subst hr'
      refine congrArg₂ (fun a b : EReal => a + b) ?_ (Finset.sum_congr rfl fun p _ => ?_)
      · unfold View.ld
        refine congrArg (outsAt0 m c (t.val - 1) _).2.1 ?_
        funext a
        match a with
        | ⟨0, _⟩ => rfl
        | ⟨1, _⟩ => exact Fin.ext (by show 0 + 1 * q.val = q.val; omega)
      · simp only [acc_last m c t hl, block_row]
        rw [dif_pos (by omega)]
        rfl
    · rw [if_neg fun h => hr h.2, add_zero, dg_last_below m c t hl r q hr]
  · rw [if_neg fun h => hl h.1, add_zero, dg_other m c t hl h]

/-- The norm weight's gradient after the whole run. -/
theorem final_dg (r : Fin 8) (q : Fin 1024) : (dats m 0 c).arrAt 7 cfg0.N (ix2 r q)
    = dweight (m ((c : Thread nD τ).loc main_arg0)) (m ((c : Thread nD τ).loc main_arg1)) (m ((c : Thread nD τ).loc main_arg2))
        (m ((c : Thread nD τ).loc main_arg3)) r q := by
  refine ((dats m 0 c).arrAt_emb_eq_after_last 7 (⟨43, by decide⟩ : Fin cfg0.N) (by decide +kernel) (ix2 r q)).trans ?_
  rw [after0_7]
  refine (Pipeline.eq_sum_fin_of_reset_step_apply_last (fun n hn => (outsAt0 m c n hn).2.1) 44 (fun _ => 0) (given m c)
    (fun t h j => ?_) (dg_step m c) (by decide) (⟨43, by decide⟩ : Fin cfg0.N) (by decide) (ix2 r q)).trans ?_
  · have h' : ¬t.val % 11 = 10 := by omega
    unfold given
    rw [dg_first m c t h j, if_neg fun h => h' h.1, add_zero]
  · rw [zero_add]
    refine (Fin.sum_divmod_congr (A := 4) (S := 11) (f := fun a s => if s.val = 10 ∧ r.val = 0 then rows m c a.val q else 0)
      (fun t ha hs => rfl) (by decide)).trans ?_
    unfold dweight
    by_cases hr : r.val = 0
    · rw [if_pos hr]
      refine Eq.trans (b := ∑ a : Fin 4, rows m c a.val q) (Finset.sum_congr rfl fun a _ => ?_) ?_
      · exact (Finset.sum_eq_single (10 : Fin 11) (fun b _ hb => if_neg fun h => hb (Fin.ext h.1)) (fun h => absurd (Finset.mem_univ _) h)).trans
          (if_pos ⟨rfl, hr⟩)
      · unfold rows
        refine Fin.sum_mul_add_congr (f := fun R : Fin 4352 => cot m c R q * (row (m ((c : Thread nD τ).loc main_arg3)) R q
          * Cert.Norm.scale (row (m ((c : Thread nD τ).loc main_arg3)) R))) fun a p hl => ?_
        have e : 1088 * a.val + p.val = a.val * 1088 + p.val := by omega
        simp only [e]
        rw [dif_pos hl]
    · rw [if_neg hr]
      exact Finset.sum_eq_zero fun a _ => Finset.sum_eq_zero fun b _ => if_neg fun h => hr h.2

end Cert.Dgrad
-- ==== Proof.Dgrad.Algebra.lean ====
module

public import proofs.«01_k».proof.Defs
public import proofs.«01_k».proof.Proof.Gen.Pre_finite_rows
public import proofs.«01_k».proof.Proof.Dgrad.Final
public import Idealize.ShloMosaic.Lib.ReduceAll

/-! The two programs' gradients of the projections' input and of the norm's weight are the same arrays. -/

@[expose] public section

set_option maxRecDepth 16384

noncomputable section

namespace Cert.Dgrad

open Idealize.ShloMosaic Idealize.ShloMosaic.TcCoe Idealize.SL.Sem

/-- The precondition: the cotangents, the weights, the input and the norm's weight hold real numbers. -/
theorem finite_args [Cert.Pre_finite_rows.Facts] (x0 x1 x2 x3 x4 x5 x6) (i)
    (h : Cert.Pre_finite_rows.fn (F := Ideal) x0 x1 x2 x3 x4 x5 x6 i = 1#1) :
    (∀ i, IsR (x0 i)) ∧ (∀ i, IsR (x1 i)) ∧ (∀ i, IsR (x2 i)) ∧ (∀ i, IsR (x3 i)) ∧ (∀ i, IsR (x4 i)) := by
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_finite_rows.S_.Idx := ⟨fun a b => funext fun k => k.elim0⟩
  exact ⟨fun k => isR_of_below _ (Host.reduce_andi_all _ _ _ _ _ h0 k), fun k => isR_of_below _ (Host.reduce_andi_all _ _ _ _ _ h1 k),
    fun k => isR_of_below _ (Host.reduce_andi_all _ _ _ _ _ h2 k), fun k => isR_of_below _ (Host.reduce_andi_all _ _ _ _ _ h3 k),
    fun k => isR_of_below _ (Host.reduce_andi_all _ _ _ _ _ h4 k)⟩

/-- The cotangent of the normed rows is made of real numbers if the factors are. -/
theorem isR_dh (x0 : (⟨2, ![4352, 5376]⟩ : Shape).Idx → EReal) (x1 : (⟨2, ![4352, 3072]⟩ : Shape).Idx → EReal)
    (x2 : (⟨2, ![8448, 1024]⟩ : Shape).Idx → EReal) (h0 : ∀ i, IsR (x0 i)) (h1 : ∀ i, IsR (x1 i)) (h2 : ∀ i, IsR (x2 i))
    (R : Fin 4352) (q : Fin 1024) : IsR (dh x0 x1 x2 R q) := by
  unfold dh joined
  refine IsR.sum fun k => IsR.mul ?_ (h2 _)
  split
  · exact h0 _
  · exact h1 _

/-- From finite arguments the two programs end with the same gradients. -/
theorem algebraic : Cert.algebraic_Kernel3Ideal_Reference3Ideal_pre_finite_rows (hKernel3Ideal := Cert.Kernel3Ideal.Gen.facts)
    (hReference3Ideal := Cert.Reference3Ideal.Gen.facts) (hPre_finite_rows := Cert.Pre_finite_rows.Gen.facts) := by
  intro m g m' g' hpre hargs
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N, ?_, ?_⟩
  · exact (θ_run Cert.Kernel3Ideal.defs _ _).mono (fun r h c => h c) (Cert.Kernel3Ideal.Value.run_blocks m g)
  · refine (θ_run Cert.Reference3Ideal.defs _ _).mono (fun r h c => ?_) (Cert.Reference3Ideal.Value.run m' g')
    obtain ⟨e0, e1, a0, a1, a2, a3, a4, a5, a6⟩ := h c
    obtain ⟨b0, b1, b2, b3, b4, b5, b6⟩ := hargs c
    obtain ⟨f0, f1, f2, f3, f4⟩ := finite_args _ _ _ _ _ _ _ (fun k => k.elim0) (congrFun (hpre c) _)
    refine ⟨e0.trans (funext fun i => ?_), e1.trans (funext fun i => ?_), a0, a1, a2, a3, a4, a5, a6⟩
    · obtain ⟨R, q, rfl⟩ : ∃ (R : Fin 4352) (q : Fin 1024), i = ix2 R q := ⟨i 0, i 1, by funext a; match a with | ⟨0, _⟩ => rfl | ⟨1, _⟩ => rfl⟩
      rw [Cert.Reference3Ideal.Read.val_main_v44_eq, b0, b1, b2, b3, b4, b5]
      refine (ref_dx _ _ _ _ _ _ R q).trans (Eq.trans ?_ (final_dx m c (ix2 R q)).symm)
      exact (Cert.Norm.factored_eq_terms (fun k => f3 _) (isR_dh _ _ _ f0 f1 f2 R) (fun k => f4 _) _ q).symm
    · obtain ⟨r, q, rfl⟩ : ∃ (r : Fin 8) (q : Fin 1024), i = ix2 r q := ⟨i 0, i 1, by funext a; match a with | ⟨0, _⟩ => rfl | ⟨1, _⟩ => rfl⟩
      rw [Cert.Reference3Ideal.Read.val_main_v46_eq, b0, b1, b2, b3]
      exact (ref_dg _ _ _ _ r q).trans (final_dg m c r q).symm

end Cert.Dgrad
-- ==== Proof.NormCols0.Run.lean ====
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.Pipeline.TableIdle

/-! The norm and the projection behind it: what the program leaves in its two result arrays, step by step. The first step of
    a block of rows stores the normed rows; the six after it read them back from where the first step left them. -/

@[expose] public section

set_option maxRecDepth 16384

noncomputable section

namespace Cert.NormCols0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-- The assertions about the program's memory. -/
abbrev Asrt (F : FTy → Type) [FloatOps F] := sProp (MT nD τ sig Unit (Elt F) ℕ (UR sig nD τ) ℕ)

variable (m : (ℓ : Loc nD τ sig) → Buf (Elt F) ℓ) (ρ : Dev nD → PrngReg)

/-- A step is the first one of its block of rows. -/
abbrev isFirst (i : grid0.Coords) : Prop := k0_cond1 i = 1#1

/-- Every seventh step is the first one of its block of rows. -/
theorem isFirst_iff : ∀ t : Fin cfg0.N, isFirst (grid0.coords t) ↔ t.val % 7 = 0 :=
  (by decide +kernel : ∀ t : Fin grid0.N, k0_cond1 (grid0.coords t) = 1#1 ↔ t.val % 7 = 0)

abbrev rRows : Rect S2176x1024 := Rect.unit (s := S2176x1024) ![0, 0] S2176x1024.size inb_S2176x1024_S2176x1024_0_0
abbrev rWeight : Rect S1x1x1024 := Rect.unit (s := S1x1x1024) ![0, 0, 0] S1x1x1024.size inb_S1x1x1024_S1x1x1024_0_0_0
abbrev rCols : Rect S768x1024 := Rect.unit (s := S768x1024) ![0, 0] S768x1024.size inb_S768x1024_S768x1024_0_0
abbrev rOut : Rect S2176x768 := Rect.unit (s := S2176x768) ![0, 0] S2176x768.size inb_S2176x768_S2176x768_0_0

/-- The block of normed rows, from the block of rows and the norm's weight. -/
def normed (x0 : Vec F S2176x1024 .f32) (x1 : Vec F S1x1x1024 .f32) : Vec F S2176x1024 .bf16 :=
  View.canon [⟨rRows, k0_pay1 (View.ld x0 rRows) (View.ld x1 rWeight)⟩]

/-- The block of the projection, from a block of normed rows and a block of transposed weights. -/
def projected (x3 : Vec F S2176x1024 .bf16) (x2 : Vec F S768x1024 .bf16) : Vec F S2176x768 .f32 :=
  View.canon [⟨rOut, k0_pay2 (View.ld x3 rRows) (View.ld x2 rCols)⟩]

/-- The one store of normed rows covers its block. -/
theorem cover_rows (p0 : Vec F S2176x1024 .bf16) (y : S2176x1024.Idx) :
    ∃ pc ∈ ([⟨rRows, p0⟩] : List (View.Piece (Elt F) S2176x1024 .bf16)), y ∈ pc.1.set :=
  View.cover_of_tiled [⟨rRows, p0⟩] S2176x1024.size (by rfl) y

/-- The one store of the projection covers its block. -/
theorem cover_out (p0 : Vec F S2176x768 .f32) (y : S2176x768.Idx) :
    ∃ pc ∈ ([⟨rOut, p0⟩] : List (View.Piece (Elt F) S2176x768 .f32)), y ∈ pc.1.set :=
  View.cover_of_tiled [⟨rOut, p0⟩] S2176x768.size (by rfl) y

set_option maxHeartbeats 1000000 in
/-- A first step leaves the normed rows and their projection. -/
theorem first_step (c : Dev nD) (i : grid0.Coords) (arg2 : Memref sig .tc .vmem S2176x1024 .f32) (harg2 : arg2.IsWhole)
    (arg3 : Memref sig .tc .vmem S1x1x1024 .f32) (harg3 : arg3.IsWhole) (arg4 : Memref sig .tc .vmem S768x1024 .bf16)
    (harg4 : arg4.IsWhole) (arg6 : Memref sig .tc .vmem S2176x1024 .bf16) (harg6 : arg6.IsWhole)
    (arg7 : Memref sig .tc .vmem S2176x768 .f32) (harg7 : arg7.IsWhole) (hc0 : isFirst i)
    (x0 : Vec F S2176x1024 .f32) (x1 : Vec F S1x1x1024 .f32) (x2 : Vec F S768x1024 .bf16) (E : Set ℕ) (K : PUnit → Asrt F) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (normed x0 x1) ∗ owns (c : Thread nD τ) arg7 fullShare (projected (normed x0 x1) x2)) -∗ K ⟨⟩))
      ⊢ wp frame (wpE (defs₀ (F := F)) Variants.none c none) E (cc0_norm_matmul i arg2 harg2 arg3 harg3 arg4 harg4 (Memref.whole main_arg3) (Memref.isWhole_whole _) arg6 harg6 arg7 harg7) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    exact View.read_writes_eq_canon _ _ _ (cover_rows _)
  iexists _; isplitr; swap; · iexact H4
  ipureintro
  refine (View.read_writes_eq_canon _ _ _ (cover_out _)).trans ?_
  unfold projected
  have e : first_step.sl.v3 c arg2 arg3 arg6 f0 f1 = View.ld (normed (View.read (Elt F) arg2.view f0) (View.read (Elt F) arg3.view f1)) rRows := by
    unfold first_step.sl.v3 first_step.sl.H3_1 View.readCov normed
    exact congrArg (fun v => View.ld v rRows) (View.read_writes_eq_canon arg6.view arg6.view.junk _ (cover_rows _))
  rw [e]
  rfl

set_option maxHeartbeats 1000000 in
/-- A later step keeps the normed rows and leaves their projection. -/
theorem later_step (c : Dev nD) (i : grid0.Coords) (arg2 : Memref sig .tc .vmem S2176x1024 .f32) (harg2 : arg2.IsWhole)
    (arg3 : Memref sig .tc .vmem S1x1x1024 .f32) (harg3 : arg3.IsWhole) (arg4 : Memref sig .tc .vmem S768x1024 .bf16)
    (harg4 : arg4.IsWhole) (arg6 : Memref sig .tc .vmem S2176x1024 .bf16) (harg6 : arg6.IsWhole)
    (arg7 : Memref sig .tc .vmem S2176x768 .f32) (harg7 : arg7.IsWhole) (hc0 : ¬isFirst i)
    (x0 : Vec F S2176x1024 .f32) (x1 : Vec F S1x1x1024 .f32) (x2 : Vec F S768x1024 .bf16) (x3 : Vec F S2176x1024 .bf16)
    (E : Set ℕ) (K : PUnit → Asrt F) :
    iprop(owns (c : Thread nD τ) arg2 fullShare x0 ∗ owns (c : Thread nD τ) arg3 fullShare x1 ∗ owns (c : Thread nD τ) arg4 fullShare x2
        ∗ owns (c : Thread nD τ) arg6 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg6 fullShare x3 ∗ owns (c : Thread nD τ) arg7 fullShare (projected x3 x2)) -∗ K ⟨⟩))
      ⊢ wp frame (wpE (defs₀ (F := F)) Variants.none c none) E (cc0_norm_matmul i arg2 harg2 arg3 harg3 arg4 harg4 (Memref.whole main_arg3) (Memref.isWhole_whole _) arg6 harg6 arg7 harg7) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap; · iexact H4
  ipureintro
  exact View.read_writes_eq_canon _ _ _ (cover_out _)

/-- The first step of the block of rows a step is in. -/
def first (t : Fin cfg0.N) : Fin cfg0.N := ⟨t.val - t.val % 7, Nat.lt_of_le_of_lt (Nat.sub_le _ _) t.isLt⟩

/-- What the program leaves in each array's block after each step: the arguments' blocks as they were, the rows normed at the
    first step of their block, and the projection of those. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed (iblk m c 0 (first t)) (iblk m c 1 (first t))
    | ⟨4, _⟩ => projected (normed (iblk m c 0 (first t)) (iblk m c 1 (first t))) (iblk m c 2 t)
  Φ _ := Pipeline.ΦA spec0 c
  q _ := fullShare
  owed _ := 0

/-- The arrays at the start are as launched. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = normed (iblk m c 0 (first t)) (iblk m c 1 (first t)) := by dsimp only [dats]
theorem after0_4 (c : Dev nD) (t : Fin cfg0.N) :
    (dats m 0 c).after 4 t = projected (normed (iblk m c 0 (first t)) (iblk m c 1 (first t))) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The steps before which nothing was stored in the current block of normed rows: the first ones. -/
def freshTab (n : ℕ) : Bool := n % 7 == 0

theorem freshTab_step : ∀ t : Fin cfg0.N,
    freshTab (t.val + 1) = ((cfg0.win 3).flush t || (cfg0.idle 3 (cfg0.grid.coords t) && freshTab t.val)) := by decide +kernel

theorem fresh_eq (t : Fin cfg0.N) : cfg0.fresh 3 t.val = freshTab t.val :=
  Pipeline.Cfg.fresh_tab cfg0 3 freshTab rfl freshTab_step t.val (Nat.le_of_lt t.isLt)

/-- A later step is in the block of rows of the step before it. -/
theorem first_pred (t : Fin cfg0.N) (h0 : ¬t.val % 7 = 0) :
    first (⟨t.val - 1, Nat.lt_of_le_of_lt (Nat.sub_le _ _) t.isLt⟩ : Fin cfg0.N) = first t :=
  Fin.ext (by unfold first; dsimp only; omega)

/-- Between first steps the normed rows stay. -/
theorem carried (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ _ hf
  rw [fresh_eq t] at hf
  rw [after0_3, after0_3, first_pred t (by simpa [freshTab] using hf)]

/-- A later step finds the rows normed at the first step of its block. -/
theorem before0_3 (c : Dev nD) (t : Fin cfg0.N) (h0 : ¬t.val % 7 = 0) (d) :
    (dats m 0 c).before 3 t d = normed (iblk m c 0 (first t)) (iblk m c 1 (first t)) := by
  rw [Dat.before_out_traj _ 3 rfl (fun _ _ => rfl) (carried m c) t.val t rfl d,
    if_neg (by rw [fresh_eq t]; simpa [freshTab] using h0), after0_3, first_pred t h0]

/-- Where a step ends with the normed rows of its block, it ends as the run asks of it. -/
theorem leaves_rows (c : Dev nD) (t : Fin cfg0.N) :
    (owns (c : Thread nD τ) (st0_3 t) fullShare (normed (iblk m c 0 (first t)) (iblk m c 1 (first t))) : Asrt F) ⊢ (dats m 0 c).leavesExact 3 t := by
  unfold Dat.leavesExact
  by_cases h0 : t.val % 7 = 0
  · rw [(by decide +kernel : ∀ t : Fin cfg0.N, t.val % 7 = 0 → cfg0.idle 3 (cfg0.grid.coords t) = false) t h0, after0_3]
  · rw [(by decide +kernel : ∀ t : Fin cfg0.N, ¬t.val % 7 = 0 → cfg0.idle 3 (cfg0.grid.coords t) = true) t h0]
    cases (cfg0.win 3).flush t
    · simp only [before0_3 m c t h0]
      iintro H
      iexists (normed (iblk m c 0 (first t)) (iblk m c 1 (first t)))
      iexact H
    · dsimp only
      rw [after0_3]

/-- What a step starts from, -/
def bodyPre (c : Dev nD) (t : Fin cfg0.N) : Asrt F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def bodyPost (c : Dev nD) (t : Fin cfg0.N) : Asrt F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1000000 in
/-- Every step ends with the stated blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 4 t = owns (c : Thread nD τ) (st0_4 t) fullShare ((dats m 0 c).after 4 t) from rfl,
    after0_0, after0_1, after0_2, after0_4]
  by_cases h0 : t.val % 7 = 0
  · have e : first t = t := Fin.ext (by unfold first; dsimp only; omega)
    have hl := leaves_rows m c t
    rw [e] at hl ⊢
    iintro ⟨HΦ, Ho, ⟨%d0, H0⟩, ⟨%d1, H1⟩, ⟨%d2, H2⟩, ⟨%d3, H3⟩, ⟨%d4, H4⟩⟩
    iapply (first_step c (grid0.coords t) _ _ _ _ _ _ _ _ _ _ ((isFirst_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply hl; iexact H3
    iexact H4
  · have hl := leaves_rows m c t
    simp only [before0_3 m c t h0]
    iintro ⟨HΦ, Ho, ⟨%d0, H0⟩, ⟨%d1, H1⟩, ⟨%d2, H2⟩, ⟨%d3, H3⟩, ⟨%d4, H4⟩⟩
    iapply (later_step c (grid0.coords t) _ _ _ _ _ _ _ _ _ _ (fun h => h0 ((isFirst_iff t).mp h)) (iblk m c 0 t) (iblk m c 1 t) (iblk m c 2 t)
      (normed (iblk m c 0 (first t)) (iblk m c 1 (first t))) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply hl; iexact H3
    iexact H4

/-- The program's body is the one above. -/
theorem defs₀_row (t : Fin cfg0.N) :
    defs₀ (F := F) .tc cfg0.body (cfg0.bodyArgs t (cfg0.slots t)) = bodyAt0 t := by
  unfold defs₀; rw [Defs.onTc_tc]

/-- Every step of the run ends with the stated blocks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run ends with the arrays the steps' blocks make, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run ends with the arrays the steps' blocks make. -/
theorem run_main : θ_run defs (onTc (τ := τ) (main (F := F))) (s₀ m ρ) (Pipeline.FramePost cfgs (dats m) 0 (V m)) :=
  (θ_run defs _ _).mono (fun _ h => h.1) (run_main_quiescent m ρ)

/-- The run ends, leaves its arguments as they were, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The run ends with its two results at the arrays the steps' blocks make and its arguments as they were. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 3, (h.1 c).1 4, h.2 c⟩)
    (θ_run_and (run_main m ρ) (frame_of m ρ (dats m) (A_eq m) (run_main m ρ)))

end Cert.NormCols0
-- ==== Proof.NormCols0.Final.lean ====
module

public import proofs.«01_k».proof.Proof.Norm
public import proofs.«01_k».proof.Proof.NormCols0.Run
public import proofs.«01_k».proof.Proof.Gen.Reference4Ideal.Run
public import proofs.«01_k».proof.Proof.Gen.Reference4Ideal.Read

/-! The norm and the projection behind it: every block the kernel writes back is the block of the normed rows, or of their
    product with the first 5376 rows of the transposed weights. -/

@[expose] public section

set_option maxRecDepth 16384

noncomputable section

namespace Cert.NormCols0

open Idealize.ShloMosaic Idealize.ShloMosaic.TcCoe Idealize.SL.Sem Cert.Kernel4Ideal Cert.Kernel4Ideal.Gen

/-- The block of rows a step reads: the same for seven steps. -/
theorem place0 : ∀ t : Fin cfg0.N, win0_0.index t = ![t.val / 7, 0] :=
  (by decide +kernel : ∀ t : Fin grid0.N, win0_0.index t = ![t.val / 7, 0])

/-- The block of the norm's weight: always the first layer's. -/
theorem place1 : ∀ t : Fin cfg0.N, win0_1.index t = ![0, 0, 0] :=
  (by decide +kernel : ∀ t : Fin grid0.N, win0_1.index t = ![0, 0, 0])

/-- The block of transposed weights a step reads: one of the first seven. -/
theorem place2 : ∀ t : Fin cfg0.N, win0_2.index t = ![t.val % 7, 0] :=
  (by decide +kernel : ∀ t : Fin grid0.N, win0_2.index t = ![t.val % 7, 0])

/-- The block of normed rows a step belongs to. -/
theorem place3 : ∀ t : Fin cfg0.N, win0_3.index t = ![t.val / 7, 0] :=
  (by decide +kernel : ∀ t : Fin grid0.N, win0_3.index t = ![t.val / 7, 0])

/-- The block of the projection a step writes. -/
theorem place4 : ∀ t : Fin cfg0.N, win0_4.index t = ![t.val / 7, t.val % 7] :=
  (by decide +kernel : ∀ t : Fin grid0.N, win0_4.index t = ![t.val / 7, t.val % 7])

/-- A normed row, from the row and the norm's weight. -/
def normRow (x g : Fin 1024 → EReal) (q : Fin 1024) : EReal := x q * Cert.Norm.scale x * g q

/-- A row of the input. -/
def row (x0 : (⟨2, ![4352, 1024]⟩ : Shape).Idx → EReal) (R : Fin 4352) (k : Fin 1024) : EReal := x0 (ix2 R k)

/-- The norm's weight of the first layer. -/
def weight (x1 : (⟨3, ![2, 1, 1024]⟩ : Shape).Idx → EReal) (k : Fin 1024) : EReal := x1 (ix3 (0 : Fin 2) (0 : Fin 1) k)

/-- The normed rows, read at an element. -/
def hidden (x0 : (⟨2, ![4352, 1024]⟩ : Shape).Idx → EReal) (x1 : (⟨3, ![2, 1, 1024]⟩ : Shape).Idx → EReal)
    (R : Fin 4352) (q : Fin 1024) : EReal := normRow (row x0 R) (weight x1) q

/-- The projection, read at an element: the sum over the features of a normed row times a row of the transposed weights. -/
def product (x0 : (⟨2, ![4352, 1024]⟩ : Shape).Idx → EReal) (x1 : (⟨3, ![2, 1, 1024]⟩ : Shape).Idx → EReal)
    (x2 : (⟨2, ![8448, 1024]⟩ : Shape).Idx → EReal) (R : Fin 4352) (q : Fin 5376) : EReal :=
  ∑ k : Fin 1024, hidden x0 x1 R k * x2 (ix2 ⟨q.val, by omega⟩ k)

section Reference

open Cert.Reference4Ideal.Read

variable (x0 : (⟨Cert.Reference4Ideal.S4352x1024, .f32⟩ : BufTy).Contents (Elt Ideal))
  (x1 : (⟨Cert.Reference4Ideal.S2x1x1024, .f32⟩ : BufTy).Contents (Elt Ideal))
  (x2 : (⟨Cert.Reference4Ideal.S8448x1024, .bf16⟩ : BufTy).Contents (Elt Ideal))

/-- The reference's normed rows before they are rounded. -/
theorem ref_norm (R : Fin 4352) (q : Fin 1024) : val_main_v14 (F := Ideal) x0 x1 (ix2 R q) = hidden x0 x1 R q := by
  pointwise [val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14]
  rfl

/-- The reference's first result. -/
theorem ref_rows (R : Fin 4352) (q : Fin 1024) : val_main_v15 (F := Ideal) x0 x1 (ix2 R q) = hidden x0 x1 R q :=
  ref_norm x0 x1 R q

/-- The reference's second result. -/
theorem ref_product (R : Fin 4352) (q : Fin 5376) : val_main_v19 (F := Ideal) x0 x1 x2 (ix2 R q) = product x0 x1 x2 R q := by
  rw [val_main_v19_apply]
  unfold product
  refine Finset.sum_congr rfl fun k _ => ?_
  refine congrArg₂ (fun a b : EReal => a * b) ?_ ?_
  · exact (congrArg (val_main_v14 (F := Ideal) x0 x1) (by funext a; match a with | ⟨0, _⟩ => rfl | ⟨1, _⟩ => rfl)).trans (ref_norm x0 x1 R k)
  · rw [val_main_v18_apply, val_main_v17_apply, val_main_v16_apply]
    exact congrArg x2 (by funext a; match a with | ⟨0, _⟩ => rfl | ⟨1, _⟩ => rfl)

end Reference

/-- A block of normed rows, read at an element. -/
theorem normed_eq (x0 : Vec Ideal S2176x1024 .f32) (x1 : Vec Ideal S1x1x1024 .f32) (r : Fin 2176) (q : Fin 1024) :
    normed (F := Ideal) x0 x1 (ix2 r q)
      = normRow (fun k => x0 (ix2 r k)) (fun k => x1 (ix3 (0 : Fin 1) (0 : Fin 1) k)) q := by
  unfold normed
  frame_out
  pointwise [k0_pay1]
  rfl

/-- A block of the projection, read at an element. -/
theorem projected_eq (x3 : Vec Ideal S2176x1024 .bf16) (x2 : Vec Ideal S768x1024 .bf16) (r : Fin 2176) (q : Fin 768) :
    projected (F := Ideal) x3 x2 (ix2 r q) = ∑ k : Fin 1024, x3 (ix2 r k) * x2 (ix2 q k) := by
  unfold projected
  frame_out
  pointwise [k0_pay2]

variable (m : (ℓ : Loc nD τ sig) → Buf (Elt Ideal) ℓ) (c : Dev nD)

/-- A block of rows' rows of the input. -/
theorem block_row (t : Fin cfg0.N) (r : Fin 2176) (k : Fin 1024) :
    iblk m c 0 (first t) (ix2 r k) = row (m ((c : Thread nD τ).loc main_arg0)) (⟨2176 * (t.val / 7) + r.val, by have : t.val < 14 := t.isLt; omega⟩ : Fin 4352) k := by
  have e : (first t).val / 7 = t.val / 7 := by unfold first; dsimp only; omega
  unfold row
  blk_ext [iblk, V, place0, e]

/-- The block of the norm's weight. -/
theorem block_weight (t : Fin cfg0.N) (k : Fin 1024) :
    iblk m c 1 t (ix3 (0 : Fin 1) (0 : Fin 1) k) = weight (m ((c : Thread nD τ).loc main_arg1)) k := by
  unfold weight
  blk_ext [iblk, V, place1]

/-- The normed rows of a step's block. -/
theorem block_hidden (t : Fin cfg0.N) (r : Fin 2176) (q : Fin 1024) :
    normed (iblk m c 0 (first t)) (iblk m c 1 (first t)) (ix2 r q)
      = hidden (m ((c : Thread nD τ).loc main_arg0)) (m ((c : Thread nD τ).loc main_arg1))
          (⟨2176 * (t.val / 7) + r.val, by have : t.val < 14 := t.isLt; omega⟩ : Fin 4352) q := by
  rw [normed_eq]
  simp only [block_row, block_weight]
  rfl

/-- The array of normed rows after the whole run. -/
theorem final_rows (i : S4352x1024.Idx) : (dats m 0 c).arrAt 3 cfg0.N i
    = hidden (m ((c : Thread nD τ).loc main_arg0)) (m ((c : Thread nD τ).loc main_arg1)) (i 0) (i 1) := by
  refine (dats m 0 c).arrAt_forall_of_covers 3 (fun i v => v = hidden (m ((c : Thread nD τ).loc main_arg0))
    (m ((c : Thread nD τ).loc main_arg1)) (i 0) (i 1)) (by decide +kernel) (fun t hf y => ?_) i
  have ht : t.val < 14 := t.isLt
  obtain ⟨r, q, rfl⟩ : ∃ (r : Fin 2176) (q : Fin 1024), y = ix2 r q := ⟨y 0, y 1, by funext a; match a with | ⟨0, _⟩ => rfl | ⟨1, _⟩ => rfl⟩
  have e : ((View.whole main_v0_0).slice (win0_3.rect t)).emb (ix2 r q)
      = (ix2 (⟨2176 * (t.val / 7) + r.val, by omega⟩ : Fin 4352) q) := by
    blk_ext [place3]
  blk_simp
  rw [after0_3, e]
  exact block_hidden m c t r q

/-- The array of the projection after the whole run. -/
theorem final_product (i : S4352x5376.Idx) : (dats m 0 c).arrAt 4 cfg0.N i
    = product (m ((c : Thread nD τ).loc main_arg0)) (m ((c : Thread nD τ).loc main_arg1)) (m ((c : Thread nD τ).loc main_arg2)) (i 0) (i 1) := by
  refine (dats m 0 c).arrAt_forall_of_covers 4 (fun i v => v = product (m ((c : Thread nD τ).loc main_arg0))
    (m ((c : Thread nD τ).loc main_arg1)) (m ((c : Thread nD τ).loc main_arg2)) (i 0) (i 1)) (by decide +kernel) (fun t hf y => ?_) i
  have ht : t.val < 14 := t.isLt
  obtain ⟨r, q, rfl⟩ : ∃ (r : Fin 2176) (q : Fin 768), y = ix2 r q := ⟨y 0, y 1, by funext a; match a with | ⟨0, _⟩ => rfl | ⟨1, _⟩ => rfl⟩
  have hq : 768 * (t.val % 7) + q.val < 5376 := by omega
  have e : ((View.whole main_v0_1).slice (win0_4.rect t)).emb (ix2 r q)
      = (ix2 (⟨2176 * (t.val / 7) + r.val, by omega⟩ : Fin 4352) (⟨768 * (t.val % 7) + q.val, hq⟩ : Fin 5376)) := by
    blk_ext [place4]
  have e2 : ∀ k : Fin 1024, iblk m c 2 t (ix2 q k)
      = m ((c : Thread nD τ).loc main_arg2) (ix2 (⟨768 * (t.val % 7) + q.val, by omega⟩ : Fin 8448) k) := fun k => by
    blk_ext [iblk, V, place2]
  blk_simp
  rw [after0_4, e, projected_eq]
  simp only [block_hidden, e2]
  rfl

end Cert.NormCols0
-- ==== Proof.NormCols0.Algebra.lean ====
module

public import proofs.«01_k».proof.Defs
public import proofs.«01_k».proof.Proof.NormCols0.Final

/-! The two programs' normed rows, and their projections, are the same arrays. -/

@[expose] public section

set_option maxRecDepth 16384

noncomputable section

namespace Cert.NormCols0

open Idealize.ShloMosaic Idealize.ShloMosaic.TcCoe Idealize.SL.Sem

/-- From the same arguments the two programs end with the same normed rows and the same projection of them. -/
theorem algebraic : Cert.algebraic_Kernel4Ideal_Reference4Ideal (hKernel4Ideal := Cert.Kernel4Ideal.Gen.facts)
    (hReference4Ideal := Cert.Reference4Ideal.Gen.facts) := by
  intro m g m' g' hpre hargs
  refine ⟨fun c => (dats m 0 c).arrAt 3 Cert.Kernel4Ideal.cfg0.N,
    fun c => (dats m 0 c).arrAt 4 Cert.Kernel4Ideal.cfg0.N, ?_, ?_⟩
  · exact (θ_run Cert.Kernel4Ideal.defs _ _).mono (fun r h c => h c) (run_blocks m g)
  · refine (θ_run Cert.Reference4Ideal.defs _ _).mono (fun r h c => ?_) (Cert.Reference4Ideal.Value.run m' g')
    obtain ⟨e0, e1, a0, a1, a2, a3⟩ := h c
    obtain ⟨b0, b1, b2, b3⟩ := hargs c
    refine ⟨e0.trans (funext fun i => ?_), e1.trans (funext fun i => ?_), a0, a1, a2, a3⟩
    · obtain ⟨R, q, rfl⟩ : ∃ (R : Fin 4352) (q : Fin 1024), i = ix2 R q := ⟨i 0, i 1, by funext a; match a with | ⟨0, _⟩ => rfl | ⟨1, _⟩ => rfl⟩
      rw [Cert.Reference4Ideal.Read.val_main_v15_eq, b0, b1]
      exact (ref_rows _ _ R q).trans (final_rows m c (ix2 R q)).symm
    · obtain ⟨R, q, rfl⟩ : ∃ (R : Fin 4352) (q : Fin 5376), i = ix2 R q := ⟨i 0, i 1, by funext a; match a with | ⟨0, _⟩ => rfl | ⟨1, _⟩ => rfl⟩
      rw [Cert.Reference4Ideal.Read.val_main_v19_eq, b0, b1, b2]
      exact (ref_product _ _ _ R q).trans (final_product m c (ix2 R q)).symm

end Cert.NormCols0
-- ==== Proof.NormCols.Run.lean ====
module

public import proofs.«01_k».proof.Proof.Gen.Kernel5Ideal.Frame
public import proofs.«01_k».proof.Proof.Gen.Kernel5Ideal.Skeleton
public import Idealize.ShloMosaic.Lib.Pipeline.ValueKit
public import Idealize.ShloMosaic.Lib.Pipeline.TableIdle

/-! The norm and the projection behind it: what the program leaves in its two result arrays, step by step. The first step of
    a block of rows stores the normed rows; the six after it read them back from where the first step left them. -/

@[expose] public section

set_option maxRecDepth 16384

noncomputable section

namespace Cert.NormCols

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

/-- The assertions about the program's memory. -/
abbrev Asrt (F : FTy → Type) [FloatOps F] := sProp (MT nD τ sig Unit (Elt F) ℕ (UR sig nD τ) ℕ)

variable (m : (ℓ : Loc nD τ sig) → Buf (Elt F) ℓ) (ρ : Dev nD → PrngReg)

/-- A step is the first one of its block of rows. -/
abbrev isFirst (i : grid0.Coords) : Prop := k0_cond1 i = 1#1

/-- Every seventh step is the first one of its block of rows. -/
theorem isFirst_iff : ∀ t : Fin cfg0.N, isFirst (grid0.coords t) ↔ t.val % 7 = 0 :=
  (by decide +kernel : ∀ t : Fin grid0.N, k0_cond1 (grid0.coords t) = 1#1 ↔ t.val % 7 = 0)

abbrev rRows : Rect S2176x1024 := Rect.unit (s := S2176x1024) ![0, 0] S2176x1024.size inb_S2176x1024_S2176x1024_0_0
abbrev rWeight : Rect S1x1x1024 := Rect.unit (s := S1x1x1024) ![0, 0, 0] S1x1x1024.size inb_S1x1x1024_S1x1x1024_0_0_0
abbrev rCols : Rect S768x1024 := Rect.unit (s := S768x1024) ![0, 0] S768x1024.size inb_S768x1024_S768x1024_0_0
abbrev rOut : Rect S2176x768 := Rect.unit (s := S2176x768) ![0, 0] S2176x768.size inb_S2176x768_S2176x768_0_0

/-- The block of normed rows, from the block of rows and the norm's weight. -/
def normed (x0 : Vec F S2176x1024 .f32) (x1 : Vec F S1x1x1024 .f32) : Vec F S2176x1024 .bf16 :=
  View.canon [⟨rRows, k0_pay1 (View.ld x0 rRows) (View.ld x1 rWeight)⟩]

/-- The block of the projection, from a block of normed rows and a block of transposed weights. -/
def projected (x3 : Vec F S2176x1024 .bf16) (x2 : Vec F S768x1024 .bf16) : Vec F S2176x768 .f32 :=
  View.canon [⟨rOut, k0_pay2 (View.ld x3 rRows) (View.ld x2 rCols)⟩]

/-- The one store of normed rows covers its block. -/
theorem cover_rows (p0 : Vec F S2176x1024 .bf16) (y : S2176x1024.Idx) :
    ∃ pc ∈ ([⟨rRows, p0⟩] : List (View.Piece (Elt F) S2176x1024 .bf16)), y ∈ pc.1.set :=
  View.cover_of_tiled [⟨rRows, p0⟩] S2176x1024.size (by rfl) y

/-- The one store of the projection covers its block. -/
theorem cover_out (p0 : Vec F S2176x768 .f32) (y : S2176x768.Idx) :
    ∃ pc ∈ ([⟨rOut, p0⟩] : List (View.Piece (Elt F) S2176x768 .f32)), y ∈ pc.1.set :=
  View.cover_of_tiled [⟨rOut, p0⟩] S2176x768.size (by rfl) y

set_option maxHeartbeats 1000000 in
/-- A first step leaves the normed rows and their projection. -/
theorem first_step (c : Dev nD) (i : grid0.Coords) (arg2 : Memref sig .tc .vmem S2176x1024 .f32) (harg2 : arg2.IsWhole)
    (arg3 : Memref sig .tc .vmem S1x1x1024 .f32) (harg3 : arg3.IsWhole) (arg4 : Memref sig .tc .vmem S768x1024 .bf16)
    (harg4 : arg4.IsWhole) (arg6 : Memref sig .tc .vmem S2176x1024 .bf16) (harg6 : arg6.IsWhole)
    (arg7 : Memref sig .tc .vmem S2176x768 .f32) (harg7 : arg7.IsWhole) (hc0 : isFirst i)
    (x0 : Vec F S2176x1024 .f32) (x1 : Vec F S1x1x1024 .f32) (x2 : Vec F S768x1024 .bf16) (E : Set ℕ) (K : PUnit → Asrt F) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (normed x0 x1) ∗ owns (c : Thread nD τ) arg7 fullShare (projected (normed x0 x1) x2)) -∗ K ⟨⟩))
      ⊢ wp frame (wpE (defs₀ (F := F)) Variants.none c none) E (cc0_norm_matmul i arg2 harg2 arg3 harg3 arg4 harg4 (Memref.whole main_arg3) (Memref.isWhole_whole _) arg6 harg6 arg7 harg7) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    exact View.read_writes_eq_canon _ _ _ (cover_rows _)
  iexists _; isplitr; swap; · iexact H4
  ipureintro
  refine (View.read_writes_eq_canon _ _ _ (cover_out _)).trans ?_
  unfold projected
  have e : first_step.sl.v3 c arg2 arg3 arg6 f0 f1 = View.ld (normed (View.read (Elt F) arg2.view f0) (View.read (Elt F) arg3.view f1)) rRows := by
    unfold first_step.sl.v3 first_step.sl.H3_1 View.readCov normed
    exact congrArg (fun v => View.ld v rRows) (View.read_writes_eq_canon arg6.view arg6.view.junk _ (cover_rows _))
  rw [e]
  rfl

set_option maxHeartbeats 1000000 in
/-- A later step keeps the normed rows and leaves their projection. -/
theorem later_step (c : Dev nD) (i : grid0.Coords) (arg2 : Memref sig .tc .vmem S2176x1024 .f32) (harg2 : arg2.IsWhole)
    (arg3 : Memref sig .tc .vmem S1x1x1024 .f32) (harg3 : arg3.IsWhole) (arg4 : Memref sig .tc .vmem S768x1024 .bf16)
    (harg4 : arg4.IsWhole) (arg6 : Memref sig .tc .vmem S2176x1024 .bf16) (harg6 : arg6.IsWhole)
    (arg7 : Memref sig .tc .vmem S2176x768 .f32) (harg7 : arg7.IsWhole) (hc0 : ¬isFirst i)
    (x0 : Vec F S2176x1024 .f32) (x1 : Vec F S1x1x1024 .f32) (x2 : Vec F S768x1024 .bf16) (x3 : Vec F S2176x1024 .bf16)
    (E : Set ℕ) (K : PUnit → Asrt F) :
    iprop(owns (c : Thread nD τ) arg2 fullShare x0 ∗ owns (c : Thread nD τ) arg3 fullShare x1 ∗ owns (c : Thread nD τ) arg4 fullShare x2
        ∗ owns (c : Thread nD τ) arg6 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg6 fullShare x3 ∗ owns (c : Thread nD τ) arg7 fullShare (projected x3 x2)) -∗ K ⟨⟩))
      ⊢ wp frame (wpE (defs₀ (F := F)) Variants.none c none) E (cc0_norm_matmul i arg2 harg2 arg3 harg3 arg4 harg4 (Memref.whole main_arg3) (Memref.isWhole_whole _) arg6 harg6 arg7 harg7) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap; · iexact H4
  ipureintro
  exact View.read_writes_eq_canon _ _ _ (cover_out _)

/-- The first step of the block of rows a step is in. -/
def first (t : Fin cfg0.N) : Fin cfg0.N := ⟨t.val - t.val % 7, Nat.lt_of_le_of_lt (Nat.sub_le _ _) t.isLt⟩

/-- What the program leaves in each array's block after each step: the arguments' blocks as they were, the rows normed at the
    first step of their block, and the projection of those. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed (iblk m c 0 (first t)) (iblk m c 1 (first t))
    | ⟨4, _⟩ => projected (normed (iblk m c 0 (first t)) (iblk m c 1 (first t))) (iblk m c 2 t)
  Φ _ := Pipeline.ΦA spec0 c
  q _ := fullShare
  owed _ := 0

/-- The arrays at the start are as launched. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = normed (iblk m c 0 (first t)) (iblk m c 1 (first t)) := by dsimp only [dats]
theorem after0_4 (c : Dev nD) (t : Fin cfg0.N) :
    (dats m 0 c).after 4 t = projected (normed (iblk m c 0 (first t)) (iblk m c 1 (first t))) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The steps before which nothing was stored in the current block of normed rows: the first ones. -/
def freshTab (n : ℕ) : Bool := n % 7 == 0

theorem freshTab_step : ∀ t : Fin cfg0.N,
    freshTab (t.val + 1) = ((cfg0.win 3).flush t || (cfg0.idle 3 (cfg0.grid.coords t) && freshTab t.val)) := by decide +kernel

theorem fresh_eq (t : Fin cfg0.N) : cfg0.fresh 3 t.val = freshTab t.val :=
  Pipeline.Cfg.fresh_tab cfg0 3 freshTab rfl freshTab_step t.val (Nat.le_of_lt t.isLt)

/-- A later step is in the block of rows of the step before it. -/
theorem first_pred (t : Fin cfg0.N) (h0 : ¬t.val % 7 = 0) :
    first (⟨t.val - 1, Nat.lt_of_le_of_lt (Nat.sub_le _ _) t.isLt⟩ : Fin cfg0.N) = first t :=
  Fin.ext (by unfold first; dsimp only; omega)

/-- Between first steps the normed rows stay. -/
theorem carried (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ _ hf
  rw [fresh_eq t] at hf
  rw [after0_3, after0_3, first_pred t (by simpa [freshTab] using hf)]

/-- A later step finds the rows normed at the first step of its block. -/
theorem before0_3 (c : Dev nD) (t : Fin cfg0.N) (h0 : ¬t.val % 7 = 0) (d) :
    (dats m 0 c).before 3 t d = normed (iblk m c 0 (first t)) (iblk m c 1 (first t)) := by
  rw [Dat.before_out_traj _ 3 rfl (fun _ _ => rfl) (carried m c) t.val t rfl d,
    if_neg (by rw [fresh_eq t]; simpa [freshTab] using h0), after0_3, first_pred t h0]

/-- Where a step ends with the normed rows of its block, it ends as the run asks of it. -/
theorem leaves_rows (c : Dev nD) (t : Fin cfg0.N) :
    (owns (c : Thread nD τ) (st0_3 t) fullShare (normed (iblk m c 0 (first t)) (iblk m c 1 (first t))) : Asrt F) ⊢ (dats m 0 c).leavesExact 3 t := by
  unfold Dat.leavesExact
  by_cases h0 : t.val % 7 = 0
  · rw [(by decide +kernel : ∀ t : Fin cfg0.N, t.val % 7 = 0 → cfg0.idle 3 (cfg0.grid.coords t) = false) t h0, after0_3]
  · rw [(by decide +kernel : ∀ t : Fin cfg0.N, ¬t.val % 7 = 0 → cfg0.idle 3 (cfg0.grid.coords t) = true) t h0]
    cases (cfg0.win 3).flush t
    · simp only [before0_3 m c t h0]
      iintro H
      iexists (normed (iblk m c 0 (first t)) (iblk m c 1 (first t)))
      iexact H
    · dsimp only
      rw [after0_3]

/-- What a step starts from, -/
def bodyPre (c : Dev nD) (t : Fin cfg0.N) : Asrt F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it ends with. -/
def bodyPost (c : Dev nD) (t : Fin cfg0.N) : Asrt F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1000000 in
/-- Every step ends with the stated blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 4 t = owns (c : Thread nD τ) (st0_4 t) fullShare ((dats m 0 c).after 4 t) from rfl,
    after0_0, after0_1, after0_2, after0_4]
  by_cases h0 : t.val % 7 = 0
  · have e : first t = t := Fin.ext (by unfold first; dsimp only; omega)
    have hl := leaves_rows m c t
    rw [e] at hl ⊢
    iintro ⟨HΦ, Ho, ⟨%d0, H0⟩, ⟨%d1, H1⟩, ⟨%d2, H2⟩, ⟨%d3, H3⟩, ⟨%d4, H4⟩⟩
    iapply (first_step c (grid0.coords t) _ _ _ _ _ _ _ _ _ _ ((isFirst_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply hl; iexact H3
    iexact H4
  · have hl := leaves_rows m c t
    simp only [before0_3 m c t h0]
    iintro ⟨HΦ, Ho, ⟨%d0, H0⟩, ⟨%d1, H1⟩, ⟨%d2, H2⟩, ⟨%d3, H3⟩, ⟨%d4, H4⟩⟩
    iapply (later_step c (grid0.coords t) _ _ _ _ _ _ _ _ _ _ (fun h => h0 ((isFirst_iff t).mp h)) (iblk m c 0 t) (iblk m c 1 t) (iblk m c 2 t)
      (normed (iblk m c 0 (first t)) (iblk m c 1 (first t))) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply hl; iexact H3
    iexact H4

/-- The program's body is the one above. -/
theorem defs₀_row (t : Fin cfg0.N) :
    defs₀ (F := F) .tc cfg0.body (cfg0.bodyArgs t (cfg0.slots t)) = bodyAt0 t := by
  unfold defs₀; rw [Defs.onTc_tc]

/-- Every step of the run ends with the stated blocks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run ends with the arrays the steps' blocks make, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run ends with the arrays the steps' blocks make. -/
theorem run_main : θ_run defs (onTc (τ := τ) (main (F := F))) (s₀ m ρ) (Pipeline.FramePost cfgs (dats m) 0 (V m)) :=
  (θ_run defs _ _).mono (fun _ h => h.1) (run_main_quiescent m ρ)

/-- The run ends, leaves its arguments as they were, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The run ends with its two results at the arrays the steps' blocks make and its arguments as they were. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 3, (h.1 c).1 4, h.2 c⟩)
    (θ_run_and (run_main m ρ) (frame_of m ρ (dats m) (A_eq m) (run_main m ρ)))

end Cert.NormCols
-- ==== Proof.NormCols.Final.lean ====
module

public import proofs.«01_k».proof.Proof.Norm
public import proofs.«01_k».proof.Proof.NormCols.Run
public import proofs.«01_k».proof.Proof.Gen.Reference5Ideal.Run
public import proofs.«01_k».proof.Proof.Gen.Reference5Ideal.Read

/-! The norm and the projection behind it: every block the kernel writes back is the block of the normed rows, or of their
    product with the first 5376 rows of the transposed weights. -/

@[expose] public section

set_option maxRecDepth 16384

noncomputable section

namespace Cert.NormCols

open Idealize.ShloMosaic Idealize.ShloMosaic.TcCoe Idealize.SL.Sem Cert.Kernel5Ideal Cert.Kernel5Ideal.Gen

/-- The block of rows a step reads: the same for seven steps. -/
theorem place0 : ∀ t : Fin cfg0.N, win0_0.index t = ![t.val / 7, 0] :=
  (by decide +kernel : ∀ t : Fin grid0.N, win0_0.index t = ![t.val / 7, 0])

/-- The block of the norm's weight: always the second layer's. -/
theorem place1 : ∀ t : Fin cfg0.N, win0_1.index t = ![1, 0, 0] :=
  (by decide +kernel : ∀ t : Fin grid0.N, win0_1.index t = ![1, 0, 0])

/-- The block of transposed weights a step reads: one of the first seven. -/
theorem place2 : ∀ t : Fin cfg0.N, win0_2.index t = ![t.val % 7, 0] :=
  (by decide +kernel : ∀ t : Fin grid0.N, win0_2.index t = ![t.val % 7, 0])

/-- The block of normed rows a step belongs to. -/
theorem place3 : ∀ t : Fin cfg0.N, win0_3.index t = ![t.val / 7, 0] :=
  (by decide +kernel : ∀ t : Fin grid0.N, win0_3.index t = ![t.val / 7, 0])

/-- The block of the projection a step writes. -/
theorem place4 : ∀ t : Fin cfg0.N, win0_4.index t = ![t.val / 7, t.val % 7] :=
  (by decide +kernel : ∀ t : Fin grid0.N, win0_4.index t = ![t.val / 7, t.val % 7])

/-- A normed row, from the row and the norm's weight. -/
def normRow (x g : Fin 1024 → EReal) (q : Fin 1024) : EReal := x q * Cert.Norm.scale x * g q

/-- A row of the input. -/
def row (x0 : (⟨2, ![4352, 1024]⟩ : Shape).Idx → EReal) (R : Fin 4352) (k : Fin 1024) : EReal := x0 (ix2 R k)

/-- The norm's weight of the second layer. -/
def weight (x1 : (⟨3, ![2, 1, 1024]⟩ : Shape).Idx → EReal) (k : Fin 1024) : EReal := x1 (ix3 (1 : Fin 2) (0 : Fin 1) k)

/-- The normed rows, read at an element. -/
def hidden (x0 : (⟨2, ![4352, 1024]⟩ : Shape).Idx → EReal) (x1 : (⟨3, ![2, 1, 1024]⟩ : Shape).Idx → EReal)
    (R : Fin 4352) (q : Fin 1024) : EReal := normRow (row x0 R) (weight x1) q

/-- The projection, read at an element: the sum over the features of a normed row times a row of the transposed weights. -/
def product (x0 : (⟨2, ![4352, 1024]⟩ : Shape).Idx → EReal) (x1 : (⟨3, ![2, 1, 1024]⟩ : Shape).Idx → EReal)
    (x2 : (⟨2, ![8448, 1024]⟩ : Shape).Idx → EReal) (R : Fin 4352) (q : Fin 5376) : EReal :=
  ∑ k : Fin 1024, hidden x0 x1 R k * x2 (ix2 ⟨q.val, by omega⟩ k)

section Reference

open Cert.Reference5Ideal.Read

variable (x0 : (⟨Cert.Reference5Ideal.S4352x1024, .f32⟩ : BufTy).Contents (Elt Ideal))
  (x1 : (⟨Cert.Reference5Ideal.S2x1x1024, .f32⟩ : BufTy).Contents (Elt Ideal))
  (x2 : (⟨Cert.Reference5Ideal.S8448x1024, .bf16⟩ : BufTy).Contents (Elt Ideal))

/-- The reference's normed rows before they are rounded. -/
theorem ref_norm (R : Fin 4352) (q : Fin 1024) : val_main_v14 (F := Ideal) x0 x1 (ix2 R q) = hidden x0 x1 R q := by
  pointwise [val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14]
  rfl

/-- The reference's first result. -/
theorem ref_rows (R : Fin 4352) (q : Fin 1024) : val_main_v15 (F := Ideal) x0 x1 (ix2 R q) = hidden x0 x1 R q :=
  ref_norm x0 x1 R q

/-- The reference's second result. -/
theorem ref_product (R : Fin 4352) (q : Fin 5376) : val_main_v19 (F := Ideal) x0 x1 x2 (ix2 R q) = product x0 x1 x2 R q := by
  rw [val_main_v19_apply]
  unfold product
  refine Finset.sum_congr rfl fun k _ => ?_
  refine congrArg₂ (fun a b : EReal => a * b) ?_ ?_
  · exact (congrArg (val_main_v14 (F := Ideal) x0 x1) (by funext a; match a with | ⟨0, _⟩ => rfl | ⟨1, _⟩ => rfl)).trans (ref_norm x0 x1 R k)
  · rw [val_main_v18_apply, val_main_v17_apply, val_main_v16_apply]
    exact congrArg x2 (by funext a; match a with | ⟨0, _⟩ => rfl | ⟨1, _⟩ => rfl)

end Reference

/-- A block of normed rows, read at an element. -/
theorem normed_eq (x0 : Vec Ideal S2176x1024 .f32) (x1 : Vec Ideal S1x1x1024 .f32) (r : Fin 2176) (q : Fin 1024) :
    normed (F := Ideal) x0 x1 (ix2 r q)
      = normRow (fun k => x0 (ix2 r k)) (fun k => x1 (ix3 (0 : Fin 1) (0 : Fin 1) k)) q := by
  unfold normed
  frame_out
  pointwise [k0_pay1]
  rfl

/-- A block of the projection, read at an element. -/
theorem projected_eq (x3 : Vec Ideal S2176x1024 .bf16) (x2 : Vec Ideal S768x1024 .bf16) (r : Fin 2176) (q : Fin 768) :
    projected (F := Ideal) x3 x2 (ix2 r q) = ∑ k : Fin 1024, x3 (ix2 r k) * x2 (ix2 q k) := by
  unfold projected
  frame_out
  pointwise [k0_pay2]

variable (m : (ℓ : Loc nD τ sig) → Buf (Elt Ideal) ℓ) (c : Dev nD)

/-- A block of rows' rows of the input. -/
theorem block_row (t : Fin cfg0.N) (r : Fin 2176) (k : Fin 1024) :
    iblk m c 0 (first t) (ix2 r k) = row (m ((c : Thread nD τ).loc main_arg0)) (⟨2176 * (t.val / 7) + r.val, by have : t.val < 14 := t.isLt; omega⟩ : Fin 4352) k := by
  have e : (first t).val / 7 = t.val / 7 := by unfold first; dsimp only; omega
  unfold row
  blk_ext [iblk, V, place0, e]

/-- The block of the norm's weight. -/
theorem block_weight (t : Fin cfg0.N) (k : Fin 1024) :
    iblk m c 1 t (ix3 (0 : Fin 1) (0 : Fin 1) k) = weight (m ((c : Thread nD τ).loc main_arg1)) k := by
  unfold weight
  blk_ext [iblk, V, place1]

/-- The normed rows of a step's block. -/
theorem block_hidden (t : Fin cfg0.N) (r : Fin 2176) (q : Fin 1024) :
    normed (iblk m c 0 (first t)) (iblk m c 1 (first t)) (ix2 r q)
      = hidden (m ((c : Thread nD τ).loc main_arg0)) (m ((c : Thread nD τ).loc main_arg1))
          (⟨2176 * (t.val / 7) + r.val, by have : t.val < 14 := t.isLt; omega⟩ : Fin 4352) q := by
  rw [normed_eq]
  simp only [block_row, block_weight]
  rfl

/-- The array of normed rows after the whole run. -/
theorem final_rows (i : S4352x1024.Idx) : (dats m 0 c).arrAt 3 cfg0.N i
    = hidden (m ((c : Thread nD τ).loc main_arg0)) (m ((c : Thread nD τ).loc main_arg1)) (i 0) (i 1) := by
  refine (dats m 0 c).arrAt_forall_of_covers 3 (fun i v => v = hidden (m ((c : Thread nD τ).loc main_arg0))
    (m ((c : Thread nD τ).loc main_arg1)) (i 0) (i 1)) (by decide +kernel) (fun t hf y => ?_) i
  have ht : t.val < 14 := t.isLt
  obtain ⟨r, q, rfl⟩ : ∃ (r : Fin 2176) (q : Fin 1024), y = ix2 r q := ⟨y 0, y 1, by funext a; match a with | ⟨0, _⟩ => rfl | ⟨1, _⟩ => rfl⟩
  have e : ((View.whole main_v0_0).slice (win0_3.rect t)).emb (ix2 r q)
      = (ix2 (⟨2176 * (t.val / 7) + r.val, by omega⟩ : Fin 4352) q) := by
    blk_ext [place3]
  blk_simp
  rw [after0_3, e]
  exact block_hidden m c t r q

/-- The array of the projection after the whole run. -/
theorem final_product (i : S4352x5376.Idx) : (dats m 0 c).arrAt 4 cfg0.N i
    = product (m ((c : Thread nD τ).loc main_arg0)) (m ((c : Thread nD τ).loc main_arg1)) (m ((c : Thread nD τ).loc main_arg2)) (i 0) (i 1) := by
  refine (dats m 0 c).arrAt_forall_of_covers 4 (fun i v => v = product (m ((c : Thread nD τ).loc main_arg0))
    (m ((c : Thread nD τ).loc main_arg1)) (m ((c : Thread nD τ).loc main_arg2)) (i 0) (i 1)) (by decide +kernel) (fun t hf y => ?_) i
  have ht : t.val < 14 := t.isLt
  obtain ⟨r, q, rfl⟩ : ∃ (r : Fin 2176) (q : Fin 768), y = ix2 r q := ⟨y 0, y 1, by funext a; match a with | ⟨0, _⟩ => rfl | ⟨1, _⟩ => rfl⟩
  have hq : 768 * (t.val % 7) + q.val < 5376 := by omega
  have e : ((View.whole main_v0_1).slice (win0_4.rect t)).emb (ix2 r q)
      = (ix2 (⟨2176 * (t.val / 7) + r.val, by omega⟩ : Fin 4352) (⟨768 * (t.val % 7) + q.val, hq⟩ : Fin 5376)) := by
    blk_ext [place4]
  have e2 : ∀ k : Fin 1024, iblk m c 2 t (ix2 q k)
      = m ((c : Thread nD τ).loc main_arg2) (ix2 (⟨768 * (t.val % 7) + q.val, by omega⟩ : Fin 8448) k) := fun k => by
    blk_ext [iblk, V, place2]
  blk_simp
  rw [after0_4, e, projected_eq]
  simp only [block_hidden, e2]
  rfl

end Cert.NormCols
-- ==== Proof.NormCols.Algebra.lean ====
module

public import proofs.«01_k».proof.Defs
public import proofs.«01_k».proof.Proof.NormCols.Final

/-! The two programs' normed rows, and their projections, are the same arrays. -/

@[expose] public section

set_option maxRecDepth 16384

noncomputable section

namespace Cert.NormCols

open Idealize.ShloMosaic Idealize.ShloMosaic.TcCoe Idealize.SL.Sem

/-- From the same arguments the two programs end with the same normed rows and the same projection of them. -/
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => (dats m 0 c).arrAt 3 Cert.Kernel5Ideal.cfg0.N,
    fun c => (dats m 0 c).arrAt 4 Cert.Kernel5Ideal.cfg0.N, ?_, ?_⟩
  · exact (θ_run Cert.Kernel5Ideal.defs _ _).mono (fun r h c => h c) (run_blocks m g)
  · refine (θ_run Cert.Reference5Ideal.defs _ _).mono (fun r h c => ?_) (Cert.Reference5Ideal.Value.run m' g')
    obtain ⟨e0, e1, a0, a1, a2, a3⟩ := h c
    obtain ⟨b0, b1, b2, b3⟩ := hargs c
    refine ⟨e0.trans (funext fun i => ?_), e1.trans (funext fun i => ?_), a0, a1, a2, a3⟩
    · obtain ⟨R, q, rfl⟩ : ∃ (R : Fin 4352) (q : Fin 1024), i = ix2 R q := ⟨i 0, i 1, by funext a; match a with | ⟨0, _⟩ => rfl | ⟨1, _⟩ => rfl⟩
      rw [Cert.Reference5Ideal.Read.val_main_v15_eq, b0, b1]
      exact (ref_rows _ _ R q).trans (final_rows m c (ix2 R q)).symm
    · obtain ⟨R, q, rfl⟩ : ∃ (R : Fin 4352) (q : Fin 5376), i = ix2 R q := ⟨i 0, i 1, by funext a; match a with | ⟨0, _⟩ => rfl | ⟨1, _⟩ => rfl⟩
      rw [Cert.Reference5Ideal.Read.val_main_v19_eq, b0, b1, b2]
      exact (ref_product _ _ _ R q).trans (final_product m c (ix2 R q)).symm

end Cert.NormCols
-- ==== Proof.Cols.Final.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

/-! The product with the merge's projection: every block the kernel writes back is the block of the product of the rows and
    the projection's columns, the last 3072 rows of the transposed weights. -/

@[expose] public section

set_option maxRecDepth 16384

noncomputable section

namespace Cert.Cols

open Idealize.ShloMosaic Idealize.ShloMosaic.TcCoe Idealize.SL.Sem Cert.Kernel6Ideal Cert.Kernel6Ideal.Gen

/-- The block of rows a step reads: the same for four steps. -/
theorem place0 : ∀ t : Fin cfg0.N, win0_0.index t = ![t.val / 4, 0] :=
  (by decide +kernel : ∀ t : Fin grid0.N, win0_0.index t = ![t.val / 4, 0])

/-- The block of transposed weights a step reads: one of the last four. -/
theorem place1 : ∀ t : Fin cfg0.N, win0_1.index t = ![t.val % 4 + 7, 0] :=
  (by decide +kernel : ∀ t : Fin grid0.N, win0_1.index t = ![t.val % 4 + 7, 0])

/-- The block of the result a step writes. -/
theorem place2 : ∀ t : Fin cfg0.N, win0_2.index t = ![t.val / 4, t.val % 4] :=
  (by decide +kernel : ∀ t : Fin grid0.N, win0_2.index t = ![t.val / 4, t.val % 4])

/-- What the reference computes, read at an element: the sum over the features of a row times a column of the projection. -/
def product (x0 : (⟨2, ![4352, 1024]⟩ : Shape).Idx → EReal) (x1 : (⟨2, ![8448, 1024]⟩ : Shape).Idx → EReal)
    (p : Fin 4352) (q : Fin 3072) : EReal :=
  ∑ k : Fin 1024, x0 (ix2 p k) * x1 (ix2 ⟨q.val + 5376, by omega⟩ k)

/-- The reference's result is that sum. -/
theorem reference_eq (x0 : (⟨Cert.Reference6Ideal.S4352x1024, .bf16⟩ : BufTy).Contents (Elt Ideal))
    (x1 : (⟨Cert.Reference6Ideal.S8448x1024, .bf16⟩ : BufTy).Contents (Elt Ideal)) (i : Cert.Reference6Ideal.S4352x3072.Idx) :
    Cert.Reference6Ideal.Read.val_main_v5 (F := Ideal) x0 x1 i = product x0 x1 (i 0) (i 1) := by
  pointwise [Cert.Reference6Ideal.Read.val_main_v5, Cert.Reference6Ideal.Read.val_main_v4, Cert.Reference6Ideal.Read.val_main_v3,
    Cert.Reference6Ideal.Read.val_main_v2, Cert.Reference6Ideal.Read.val_main_v1, Cert.Reference6Ideal.Read.val_main_v0]
  unfold product
  refine Finset.sum_congr rfl fun k _ => ?_
  congr 2
  funext a
  match a with
  | ⟨0, _⟩ => exact Fin.ext (by simp; omega)
  | ⟨1, _⟩ => rfl

variable (m : (ℓ : Loc nD τ sig) → Buf (Elt Ideal) ℓ) (c : Dev nD)

/-- The result array after the whole run. -/
theorem final (i : S4352x3072.Idx) : (dats m 0 c).arrAt 2 cfg0.N i
    = product (m ((c : Thread nD τ).loc main_arg0)) (m ((c : Thread nD τ).loc main_arg1)) (i 0) (i 1) := by
  refine (dats m 0 c).arrAt_forall_of_covers 2 (fun i v => v = product (m ((c : Thread nD τ).loc main_arg0))
    (m ((c : Thread nD τ).loc main_arg1)) (i 0) (i 1)) (by decide +kernel) (fun t hf y => ?_) i
  blk_simp
  rw [after0_2]
  unfold out0_2
  frame_out
  pointwise [k0_pay1]
  unfold product
  blk_point [iblk, V, place0 t, place1 t, place2 t]

end Cert.Cols
-- ==== Proof.Cols.Algebra.lean ====
module

public import proofs.«01_k».proof.Defs
public import proofs.«01_k».proof.Proof.Cols.Final

/-! The two programs' products with the merge's projection are the same array. -/

@[expose] public section

set_option maxRecDepth 16384

noncomputable section

namespace Cert.Cols

open Idealize.ShloMosaic Idealize.ShloMosaic.TcCoe Idealize.SL.Sem

/-- From the same arguments the two programs end with the same product of the rows and the merge's projection. -/
theorem algebraic : Cert.algebraic_Kernel6Ideal_Reference6Ideal (hKernel6Ideal := Cert.Kernel6Ideal.Gen.facts)
    (hReference6Ideal := Cert.Reference6Ideal.Gen.facts) := by
  intro m g m' g' hpre hargs
  refine ⟨fun c => (Cert.Kernel6Ideal.Gen.dats m 0 c).arrAt 2 Cert.Kernel6Ideal.cfg0.N, ?_, ?_⟩
  · exact (θ_run Cert.Kernel6Ideal.defs _ _).mono (fun r h c => h c) (Cert.Kernel6Ideal.Value.run_blocks m g)
  · refine (θ_run Cert.Reference6Ideal.defs _ _).mono (fun r h c => ?_) (Cert.Reference6Ideal.Value.run m' g')
    obtain ⟨e0, a0, a1⟩ := h c
    obtain ⟨b0, b1⟩ := hargs c
    refine ⟨e0.trans (funext fun i => ?_), a0, a1⟩
    rw [Cert.Reference6Ideal.Read.val_main_v5_eq, b0, b1]
    exact (reference_eq _ _ i).trans (final m c i).symm

end Cert.Cols
-- ==== Proof.Branches.lean ====
module

public import proofs.«01_k».proof.Proof.Gate
public import proofs.«01_k».proof.Proof.Real
public import Idealize.ShloMosaic.Lib.Pointwise.Index

/-! The three branches merged: their projections, their gates, the gated sum and its mixing, read at an element. -/

@[expose] public section

set_option maxRecDepth 16384

noncomputable section

namespace Cert.Branches

open Idealize.ShloMosaic Idealize.ShloMosaic.TcCoe

variable (x1 : (⟨2, ![4352, 1536]⟩ : Shape).Idx → EReal)
  (x2 : (⟨2, ![4352, 3072]⟩ : Shape).Idx → EReal) (x3 : (⟨4, ![4, 3, 512, 256]⟩ : Shape).Idx → EReal)
  (x4 : (⟨2, ![1024, 1024]⟩ : Shape).Idx → EReal)

/-- A branch's projection, read at an element: a row of the branch's 512 columns times a column of its weights. -/
def lift (R : Fin 4352) (g : Fin 3) (q : Fin 1024) : EReal :=
  ∑ k : Fin 512, x1 (ix2 R ⟨g.val * 512 + k.val, by omega⟩)
    * x3 (ix4 ⟨q.val / 256, by omega⟩ g k ⟨q.val % 256, Nat.mod_lt _ (by decide)⟩)

/-- A branch's gate. -/
def gate (R : Fin 4352) (g : Fin 3) (q : Fin 1024) : EReal :=
  Idealize.ShloMosaic.Ideal.logistic (x2 (ix2 R ⟨g.val * 1024 + q.val, by omega⟩))

/-- The gated sum of the branches' projections. -/
def gated (R : Fin 4352) (q : Fin 1024) : EReal := ∑ g : Fin 3, gate x2 R g q * lift x1 x3 R g q

/-- The gated sum times the mixing weights. -/
def mixed (R : Fin 4352) (q : Fin 1024) : EReal := ∑ d : Fin 1024, gated x1 x2 x3 R d * x4 (ix2 d q)

/-- The 256 columns of a branch's weights that a load takes lie inside. -/
theorem piece_in : ∀ (g : Fin 3) (p : Fin 4), ∀ a, (![p.val, g.val, 0, 0] : Fin 4 → ℕ) a + ![1, 1, 512, 256] a ≤ (⟨4, ![4, 3, 512, 256]⟩ : Shape).size a := by
  decide

/-- The 256 columns of a branch's weights that a load takes. -/
def piece (w : Vec Ideal (⟨4, ![4, 3, 512, 256]⟩ : Shape) .bf16) (g : Fin 3) (p : Fin 4) : Vec Ideal (⟨4, ![1, 1, 512, 256]⟩ : Shape) .bf16 :=
  View.ld w (Rect.unit (s := (⟨4, ![4, 3, 512, 256]⟩ : Shape)) ![p.val, g.val, 0, 0] ![1, 1, 512, 256] (piece_in g p))

/-- Those columns, read at an element. -/
theorem piece_eq (w : Vec Ideal (⟨4, ![4, 3, 512, 256]⟩ : Shape) .bf16) (g : Fin 3) (p : Fin 4) (k : Fin 512) (e : Fin 256) :
    piece w g p (ix4 (0 : Fin 1) (0 : Fin 1) k e) = w (ix4 p g k e) := by
  unfold piece
  show w _ = w _
  congr 1
  funext a
  match a with
  | ⟨0, _⟩ => exact Fin.ext (by simp)
  | ⟨1, _⟩ => exact Fin.ext (by simp)
  | ⟨2, _⟩ => exact Fin.ext (by simp)
  | ⟨3, _⟩ => exact Fin.ext (by simp)

end Cert.Branches
-- ==== Proof.MergeFwd.Final.lean ====
module

public import proofs.«01_k».proof.Proof.Norm
public import proofs.«01_k».proof.Proof.Branches
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

/-! The merge of the three branches: every block of rows the kernel writes back is the block of the gated sum of the
    branches' projections, mixed, normed and added to the input. -/

@[expose] public section

set_option maxRecDepth 16384

noncomputable section

namespace Cert.MergeFwd

open Idealize.ShloMosaic Idealize.ShloMosaic.TcCoe Idealize.SL.Sem Cert.Branches Cert.Kernel7Ideal Cert.Kernel7Ideal.Gen

/-- The block of rows of the input a step reads. -/
theorem place0 : ∀ t : Fin cfg0.N, win0_0.index t = ![t.val, 0] :=
  (by decide +kernel : ∀ t : Fin grid0.N, win0_0.index t = ![t.val, 0])
/-- The block of rows of the branches a step reads. -/
theorem place1 : ∀ t : Fin cfg0.N, win0_1.index t = ![t.val, 0] :=
  (by decide +kernel : ∀ t : Fin grid0.N, win0_1.index t = ![t.val, 0])
/-- The block of rows of the gates' arguments a step reads. -/
theorem place2 : ∀ t : Fin cfg0.N, win0_2.index t = ![t.val, 0] :=
  (by decide +kernel : ∀ t : Fin grid0.N, win0_2.index t = ![t.val, 0])
/-- The branches' weights: always whole. -/
theorem place3 : ∀ t : Fin cfg0.N, win0_3.index t = ![0, 0, 0, 0] :=
  (by decide +kernel : ∀ t : Fin grid0.N, win0_3.index t = ![0, 0, 0, 0])
/-- The mixing weights: always whole. -/
theorem place4 : ∀ t : Fin cfg0.N, win0_4.index t = ![0, 0] :=
  (by decide +kernel : ∀ t : Fin grid0.N, win0_4.index t = ![0, 0])
/-- The norm's weight: always the first layer's. -/
theorem place5 : ∀ t : Fin cfg0.N, win0_5.index t = ![0, 0, 0] :=
  (by decide +kernel : ∀ t : Fin grid0.N, win0_5.index t = ![0, 0, 0])
/-- The block of rows of the result a step writes. -/
theorem place6 : ∀ t : Fin cfg0.N, win0_6.index t = ![t.val, 0] :=
  (by decide +kernel : ∀ t : Fin grid0.N, win0_6.index t = ![t.val, 0])

section Spec

variable (x0 : (⟨2, ![4352, 1024]⟩ : Shape).Idx → EReal) (x1 : (⟨2, ![4352, 1536]⟩ : Shape).Idx → EReal)
  (x2 : (⟨2, ![4352, 3072]⟩ : Shape).Idx → EReal) (x3 : (⟨4, ![4, 3, 512, 256]⟩ : Shape).Idx → EReal)
  (x4 : (⟨2, ![1024, 1024]⟩ : Shape).Idx → EReal) (x5 : (⟨3, ![2, 1, 1024]⟩ : Shape).Idx → EReal)

/-- The result: the input plus the normed mixed rows. -/
def merged (R : Fin 4352) (q : Fin 1024) : EReal :=
  x0 (ix2 R q) + mixed x1 x2 x3 x4 R q * Cert.Norm.scale (mixed x1 x2 x3 x4 R) * x5 (ix3 (0 : Fin 2) (0 : Fin 1) q)

end Spec

section Reference

open Cert.Reference7Ideal.Read

variable (x0 : (⟨Cert.Reference7Ideal.S4352x1024, .f32⟩ : BufTy).Contents (Elt Ideal))
  (x1 : (⟨Cert.Reference7Ideal.S4352x1536, .bf16⟩ : BufTy).Contents (Elt Ideal))
  (x2 : (⟨Cert.Reference7Ideal.S4352x3072, .bf16⟩ : BufTy).Contents (Elt Ideal))
  (x3 : (⟨Cert.Reference7Ideal.S4x3x512x256, .bf16⟩ : BufTy).Contents (Elt Ideal))
  (x4 : (⟨Cert.Reference7Ideal.S1024x1024, .bf16⟩ : BufTy).Contents (Elt Ideal))
  (x5 : (⟨Cert.Reference7Ideal.S2x1x1024, .f32⟩ : BufTy).Contents (Elt Ideal))

/-- The reference's weights laid side by side. -/
theorem ref_weights (g : Fin 3) (k : Fin 512) (q : Fin 1024) : val_main_v14 (F := Ideal) x3 (ix3 g k q)
    = x3 (ix4 ⟨q.val / 256, by omega⟩ g k ⟨q.val % 256, Nat.mod_lt _ (by decide)⟩) := by
  pointwise [val_main_v2, val_main_v6, val_main_v7, val_main_v8, val_main_v9, val_main_v10, val_main_v11, val_main_v12,
    val_main_v13, val_main_v14, Cert.Reference7Ideal.Value.fn_main_v14]
  exact Cert.Gate.side_by_side (fun p e => x3 (ix4 p g k e)) q

/-- The reference's gate. -/
theorem ref_gate (R : Fin 4352) (g : Fin 3) (q : Fin 1024) : val_main_v24 (F := Ideal) x2 (ix3 R g q) = gate x2 R g q := by
  pointwise [val_main_v1, val_main_v18, val_main_v19, val_main_v20, val_main_cst, val_main_v21, val_main_v22, val_main_cst_0,
    val_main_v23, val_main_v24]
  rfl

/-- The reference's branch projection. -/
theorem ref_lift (R : Fin 4352) (g : Fin 3) (q : Fin 1024) : val_main_v17 (F := Ideal) x1 x3 (ix3 R g q) = lift x1 x3 R g q := by
  pointwise [val_main_v0, val_main_v15, val_main_v16, val_main_v17]
  simp only [ref_weights]
  exact Finset.sum_congr rfl fun k _ => mul_comm _ _

/-- The reference's mixed rows. -/
theorem ref_mixed (R : Fin 4352) (q : Fin 1024) : val_main_v27 (F := Ideal) x1 x2 x3 x4 (ix2 R q) = mixed x1 x2 x3 x4 R q := by
  pointwise [val_main_v3, val_main_v25, val_main_cst_1, val_main_v26, val_main_v27]
  simp only [ref_gate, ref_lift]
  rfl

/-- The reference's result. -/
theorem ref_merged (R : Fin 4352) (q : Fin 1024) : val_main_v41 (F := Ideal) x0 x1 x2 x3 x4 x5 (ix2 R q) = merged x0 x1 x2 x3 x4 x5 R q := by
  pointwise [val_main_v4, val_main_v5, val_main_v28, val_main_cst_2, val_main_v29, val_main_v30, val_main_cst_3, val_main_v31,
    val_main_v32, val_main_cst_4, val_main_v33, val_main_v34, val_main_v35, val_main_v36, val_main_v37, val_main_v38, val_main_v39,
    val_main_v40, val_main_v41]
  simp only [ref_mixed]
  rfl

end Reference

/-- The first branch of a block. -/
theorem pay2_eq (v0 : Vec Ideal S544x512 .bf16) (w : Fin 4 → Vec Ideal S1x1x512x256 .bf16) (v14 : Vec Ideal S544x1024 .bf16)
    (r : Fin 544) (q : Fin 1024) :
    k0_pay2 (F := Ideal) v0 (w 0) (w 1) (w 2) (w 3) v14 (ix2 r q)
      = Idealize.ShloMosaic.Ideal.logistic (v14 (ix2 r q))
        * ∑ k : Fin 512, v0 (ix2 r k) * w ⟨q.val / 256, by omega⟩ (ix4 (0 : Fin 1) (0 : Fin 1) k (⟨q.val % 256, Nat.mod_lt _ (by decide)⟩ : Fin 256)) := by
  rw [← Cert.Gate.half_tanh, ← Cert.Gate.half_f32]
  pointwise [k0_pay2]
  exact congrArg _ (Cert.Gate.side_by_side (fun p e => ∑ k : Fin 512, v0 (ix2 r k) * w p (ix4 (0 : Fin 1) (0 : Fin 1) k e)) q)

/-- The second branch of a block added to the first. -/
theorem pay3_eq (z : FVec Ideal S544x1024 .f32) (v0 : Vec Ideal S544x512 .bf16) (w : Fin 4 → Vec Ideal S1x1x512x256 .bf16)
    (v14 : Vec Ideal S544x1024 .bf16) (r : Fin 544) (q : Fin 1024) :
    k0_pay3 (F := Ideal) z v0 (w 0) (w 1) (w 2) (w 3) v14 (ix2 r q)
      = z (ix2 r q) + Idealize.ShloMosaic.Ideal.logistic (v14 (ix2 r q))
        * ∑ k : Fin 512, v0 (ix2 r k) * w ⟨q.val / 256, by omega⟩ (ix4 (0 : Fin 1) (0 : Fin 1) k (⟨q.val % 256, Nat.mod_lt _ (by decide)⟩ : Fin 256)) := by
  rw [← Cert.Gate.half_tanh, ← Cert.Gate.half_f32]
  pointwise [k0_pay3]
  exact congrArg _ (congrArg _ (Cert.Gate.side_by_side (fun p e => ∑ k : Fin 512, v0 (ix2 r k) * w p (ix4 (0 : Fin 1) (0 : Fin 1) k e)) q))

/-- The third branch added, and the sum mixed and scaled. -/
theorem pay5_eq (z : FVec Ideal S544x1024 .f32) (v0 : Vec Ideal S544x512 .bf16) (w : Fin 4 → Vec Ideal S1x1x512x256 .bf16)
    (v14 : Vec Ideal S544x1024 .bf16) (v : Vec Ideal S1024x1024 .bf16) (f : Fin 1024 → EReal) (r : Fin 544) (q : Fin 1024)
    (hf : ∀ e, f e = ∑ d : Fin 1024, (z (ix2 r d) + Idealize.ShloMosaic.Ideal.logistic (v14 (ix2 r d))
        * ∑ k : Fin 512, v0 (ix2 r k) * w ⟨d.val / 256, by omega⟩ (ix4 (0 : Fin 1) (0 : Fin 1) k (⟨d.val % 256, Nat.mod_lt _ (by decide)⟩ : Fin 256)))
          * v (ix2 d e)) :
    k0_pay5 (F := Ideal) z v0 (k0_pay4 (F := Ideal) v0 (w 0)) (w 1) (w 2) (w 3) v14 v (ix2 r q)
      = f q * Cert.Norm.scale f := by
  have s : ∀ q : Fin 1024, _ = _ := fun q => (Cert.Gate.side_by_side (fun p e => ∑ k : Fin 512, v0 (ix2 r k) * w p (ix4 (0 : Fin 1) (0 : Fin 1) k e)) q).symm
  beta_reduce at s
  unfold Cert.Norm.scale Cert.Norm.square
  simp only [hf, ← Cert.Gate.half_tanh, ← Cert.Gate.half_f32, s]
  pointwise [k0_pay5, k0_pay4]
  rfl

variable (m : (ℓ : Loc nD τ sig) → Buf (Elt Ideal) ℓ) (c : Dev nD)

/-- What a step writes, in its blocks' pieces. -/
theorem step_eq (t : Fin cfg0.N) (r : Fin 544) (q : Fin 1024) : outsAt0 m c t (ix2 r q)
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (⟨544 * t.val + r.val, by have : t.val < 8 := t.isLt; omega⟩ : Fin 4352) q := by
  have ht : t.val < 8 := t.isLt
  have e0 : ∀ q : Fin 1024, iblk m c 0 t (ix2 r q) = m ((c : Thread nD τ).loc main_arg0) (ix2 (⟨544 * t.val + r.val, by omega⟩ : Fin 4352) q) := fun q => by
    blk_ext [iblk, V, place0]
  have e1 : ∀ (k : Fin 1536), iblk m c 1 t (ix2 r k) = m ((c : Thread nD τ).loc main_arg1) (ix2 (⟨544 * t.val + r.val, by omega⟩ : Fin 4352) k) := fun k => by
    blk_ext [iblk, V, place1]
  have e2 : ∀ (k : Fin 3072), iblk m c 2 t (ix2 r k) = m ((c : Thread nD τ).loc main_arg2) (ix2 (⟨544 * t.val + r.val, by omega⟩ : Fin 4352) k) := fun k => by
    blk_ext [iblk, V, place2]
  have e3 : ∀ (p : Fin 4) (g : Fin 3) (k : Fin 512) (e : Fin 256), iblk m c 3 t (ix4 p g k e) = m ((c : Thread nD τ).loc main_arg3) (ix4 p g k e) := fun p g k e => by
    blk_ext [iblk, V, place3]
  have e4 : ∀ (k q : Fin 1024), iblk m c 4 t (ix2 k q) = m ((c : Thread nD τ).loc main_arg4) (ix2 k q) := fun k q => by
    blk_ext [iblk, V, place4]
  have e5 : iblk m c 5 t (ix3 (0 : Fin 1) (0 : Fin 1) q) = m ((c : Thread nD τ).loc main_arg5) (ix3 (0 : Fin 2) (0 : Fin 1) q) := by
    blk_ext [iblk, V, place5]
  unfold outsAt0 out0_A_6
  frame_out
  pointwise [k0_pay1]
  rw [e0, e5]
  refine congrArg₂ _ rfl (congrArg₂ _ ((pay5_eq _ _ (piece (iblk m c 3 t) 2) _ _
    (mixed (m ((c : Thread nD τ).loc main_arg1)) (m ((c : Thread nD τ).loc main_arg2)) (m ((c : Thread nD τ).loc main_arg3)) (m ((c : Thread nD τ).loc main_arg4)) (⟨544 * t.val + r.val, by omega⟩ : Fin 4352))
    r q fun e => ?_).trans rfl) rfl)
  refine Finset.sum_congr rfl fun d _ => congrArg₂ _ ?_ (e4 d e).symm
  unfold gated
  rw [Fin.sum_univ_three]
  have c1 : ∀ (g : Fin 3) (inb : ∀ a, (![0, g.val * 512] : Fin 2 → ℕ) a + ![544, 512] a ≤ S544x1536.size a) (k : Fin 512),
      View.ld (e' := .bf16) (Val := Elt Ideal) (S := S544x1536) (iblk m c 1 t) (Rect.unit (s := S544x1536) ![0, g.val * 512] ![544, 512] inb) (ix2 r k)
        = m ((c : Thread nD τ).loc main_arg1) (ix2 (⟨544 * t.val + r.val, by omega⟩ : Fin 4352) (⟨g.val * 512 + k.val, by omega⟩ : Fin 1536)) :=
    fun g inb k => (View.ld_unit_apply_of _ _ _ inb (ix2 r k) (ix2 r (⟨g.val * 512 + k.val, by omega⟩ : Fin 1536)) fun x => match x with
      | ⟨0, _⟩ => (Nat.zero_add _).symm
      | ⟨1, _⟩ => rfl).trans (e1 _)
  have c2 : ∀ (g : Fin 3) (inb : ∀ a, (![0, g.val * 1024] : Fin 2 → ℕ) a + ![544, 1024] a ≤ S544x3072.size a) (k : Fin 1024),
      View.ld (e' := .bf16) (Val := Elt Ideal) (S := S544x3072) (iblk m c 2 t) (Rect.unit (s := S544x3072) ![0, g.val * 1024] ![544, 1024] inb) (ix2 r k)
        = m ((c : Thread nD τ).loc main_arg2) (ix2 (⟨544 * t.val + r.val, by omega⟩ : Fin 4352) (⟨g.val * 1024 + k.val, by omega⟩ : Fin 3072)) :=
    fun g inb k => (View.ld_unit_apply_of _ _ _ inb (ix2 r k) (ix2 r (⟨g.val * 1024 + k.val, by omega⟩ : Fin 3072)) fun x => match x with
      | ⟨0, _⟩ => (Nat.zero_add _).symm
      | ⟨1, _⟩ => rfl).trans (e2 _)
  have b : ∀ (g : Fin 3) inb1 inb2,
      Idealize.ShloMosaic.Ideal.logistic (View.ld (e' := .bf16) (Val := Elt Ideal) (S := S544x3072) (iblk m c 2 t) (Rect.unit (s := S544x3072) ![0, g.val * 1024] ![544, 1024] inb2) (ix2 r d))
        * ∑ k : Fin 512, View.ld (e' := .bf16) (Val := Elt Ideal) (S := S544x1536) (iblk m c 1 t) (Rect.unit (s := S544x1536) ![0, g.val * 512] ![544, 512] inb1) (ix2 r k)
          * piece (iblk m c 3 t) g ⟨d.val / 256, by omega⟩ (ix4 (0 : Fin 1) (0 : Fin 1) k (⟨d.val % 256, Nat.mod_lt _ (by decide)⟩ : Fin 256))
      = gate (m ((c : Thread nD τ).loc main_arg2)) (⟨544 * t.val + r.val, by omega⟩ : Fin 4352) g d
        * lift (m ((c : Thread nD τ).loc main_arg1)) (m ((c : Thread nD τ).loc main_arg3)) (⟨544 * t.val + r.val, by omega⟩ : Fin 4352) g d := by
    intro g inb1 inb2
    rw [c2]
    refine congrArg₂ _ rfl (Finset.sum_congr rfl fun k _ => ?_)
    rw [c1, piece_eq, e3]
  refine congrArg₂ _ (congrArg₂ _ ?_ (b 1 _ _).symm |>.trans (pay3_eq _ _ (piece (iblk m c 3 t) 1) _ r d).symm) (b 2 _ _).symm
  exact ((pay2_eq _ (piece (iblk m c 3 t) 0) _ r d).trans (b 0 _ _)).symm

/-- The result after the whole run. -/
theorem final_merged (i : S4352x1024.Idx) : (dats m 0 c).arrAt 6 cfg0.N i
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_forall_of_covers 6 (fun i v => v = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1)) (by decide +kernel) (fun t hf y => ?_) i
  have ht : t.val < 8 := t.isLt
  obtain ⟨r, q, rfl⟩ : ∃ (r : Fin 544) (q : Fin 1024), y = ix2 r q := ⟨y 0, y 1, by funext a; match a with | ⟨0, _⟩ => rfl | ⟨1, _⟩ => rfl⟩
  have e : ((View.whole main_v0).slice (win0_6.rect t)).emb (ix2 r q)
      = (ix2 (⟨544 * t.val + r.val, by omega⟩ : Fin 4352) q) := by
    blk_ext [place6]
  blk_simp
  rw [after0_6, e]
  exact step_eq m c t r q

end Cert.MergeFwd
-- ==== Proof.MergeFwd.Algebra.lean ====
module

public import proofs.«01_k».proof.Defs
public import proofs.«01_k».proof.Proof.MergeFwd.Final

/-! The two programs' merged rows are the same array. -/

@[expose] public section

set_option maxRecDepth 16384

noncomputable section

namespace Cert.MergeFwd

open Idealize.ShloMosaic Idealize.ShloMosaic.TcCoe Idealize.SL.Sem

/-- From the same arguments the two programs end with the same merged rows. -/
theorem algebraic : Cert.algebraic_Kernel7Ideal_Reference7Ideal (hKernel7Ideal := Cert.Kernel7Ideal.Gen.facts)
    (hReference7Ideal := Cert.Reference7Ideal.Gen.facts) := by
  intro m g m' g' hpre hargs
  refine ⟨fun c => (Cert.Kernel7Ideal.Gen.dats m 0 c).arrAt 6 Cert.Kernel7Ideal.cfg0.N, ?_, ?_⟩
  · exact (θ_run Cert.Kernel7Ideal.defs _ _).mono (fun r h c => h c) (Cert.Kernel7Ideal.Value.run_blocks m g)
  · refine (θ_run Cert.Reference7Ideal.defs _ _).mono (fun r h c => ?_) (Cert.Reference7Ideal.Value.run m' g')
    obtain ⟨e0, a⟩ := h c
    obtain ⟨b0, b1, b2, b3, b4, b5, b6⟩ := hargs c
    refine ⟨e0.trans (funext fun i => ?_), a⟩
    obtain ⟨R, q, rfl⟩ : ∃ (R : Fin 4352) (q : Fin 1024), i = ix2 R q := ⟨i 0, i 1, by funext a; match a with | ⟨0, _⟩ => rfl | ⟨1, _⟩ => rfl⟩
    rw [Cert.Reference7Ideal.Read.val_main_v41_eq, b0, b1, b2, b3, b4, b5]
    exact (ref_merged _ _ _ _ _ _ R q).trans (final_merged m c (ix2 R q)).symm

end Cert.MergeFwd
-- ==== Proof.Pieces.lean ====
module

public import Idealize.ShloMosaic.Lib.Pipeline.ValueKit

/-! What an array holds that was written piece by piece: pieces of columns, and the pieces of a stack of weights. -/

@[expose] public section

set_option maxRecDepth 16384

noncomputable section

namespace Cert.Pieces

open Idealize.ShloMosaic Idealize.ShloMosaic.TcCoe

section Columns

variable {Val : EltTy → Type} [∀ e, Nonempty (Val e)] {et : EltTy} {M N W o : ℕ}
  (inb : ∀ a, (![0, o] : Fin 2 → ℕ) a + (⟨2, ![M, W]⟩ : Shape).size a ≤ (⟨2, ![M, N]⟩ : Shape).size a)
  (w : (⟨2, ![M, W]⟩ : Shape).Idx → Val et) (L : List (View.Piece Val (⟨2, ![M, N]⟩ : Shape) et))

/-- Inside the newest piece of columns the array holds that piece. -/
theorem cols_hit (r : Fin M) (q : Fin N) (e : Fin W) (h : q.val = o + e.val) :
    View.canon ((⟨Rect.unit (s := (⟨2, ![M, N]⟩ : Shape)) ![0, o] (⟨2, ![M, W]⟩ : Shape).size inb, w⟩ : View.Piece Val (⟨2, ![M, N]⟩ : Shape) et) :: L) (ix2 r q)
      = w (ix2 r e) := by
  have hx : (ix2 r q : (⟨2, ![M, N]⟩ : Shape).Idx)
      = (Rect.unit (s := (⟨2, ![M, N]⟩ : Shape)) ![0, o] (⟨2, ![M, W]⟩ : Shape).size inb).emb (ix2 r e) := by
    funext a
    match a with
    | ⟨0, _⟩ => exact Fin.ext (by show r.val = 0 + 1 * r.val; omega)
    | ⟨1, _⟩ => exact Fin.ext (by show q.val = o + 1 * e.val; omega)
  rw [hx]
  exact View.canon_cons_emb (Rect.unit (s := (⟨2, ![M, N]⟩ : Shape)) ![0, o] (⟨2, ![M, W]⟩ : Shape).size inb) w L (ix2 r e)

/-- Outside the newest piece of columns the array holds the older pieces. -/
theorem cols_skip (r : Fin M) (q : Fin N) (h : q.val < o ∨ o + W ≤ q.val) :
    View.canon ((⟨Rect.unit (s := (⟨2, ![M, N]⟩ : Shape)) ![0, o] (⟨2, ![M, W]⟩ : Shape).size inb, w⟩ : View.Piece Val (⟨2, ![M, N]⟩ : Shape) et) :: L) (ix2 r q)
      = View.canon L (ix2 r q) := by
  refine View.canon_cons_of_not_mem _ L fun hm => ?_
  obtain ⟨i, hi, he⟩ := (LoadRect.mem_set _).mp hm (1 : Fin 2)
  have hi1 : i < W := hi
  have he' : q.val = o + 1 * i := he
  omega

end Columns

section Rows

variable {Val : EltTy → Type} [∀ e, Nonempty (Val e)] {et : EltTy} {M N : ℕ}
  (inb : ∀ a, (![0, 0] : Fin 2 → ℕ) a + (⟨2, ![1, N]⟩ : Shape).size a ≤ (⟨2, ![M, N]⟩ : Shape).size a)
  (w : (⟨2, ![1, N]⟩ : Shape).Idx → Val et) (L : List (View.Piece Val (⟨2, ![M, N]⟩ : Shape) et))

/-- In the first row, written last, the array holds that row. -/
theorem row_hit (r : Fin M) (q : Fin N) (h : r.val = 0) :
    View.canon ((⟨Rect.unit (s := (⟨2, ![M, N]⟩ : Shape)) ![0, 0] (⟨2, ![1, N]⟩ : Shape).size inb, w⟩ : View.Piece Val (⟨2, ![M, N]⟩ : Shape) et) :: L) (ix2 r q)
      = w (ix2 (0 : Fin 1) q) := by
  have hx : (ix2 r q : (⟨2, ![M, N]⟩ : Shape).Idx)
      = (Rect.unit (s := (⟨2, ![M, N]⟩ : Shape)) ![0, 0] (⟨2, ![1, N]⟩ : Shape).size inb).emb (ix2 (0 : Fin 1) q) := by
    funext a
    match a with
    | ⟨0, _⟩ => exact Fin.ext (by show r.val = 0 + 1 * 0; omega)
    | ⟨1, _⟩ => exact Fin.ext (by show q.val = 0 + 1 * q.val; omega)
  rw [hx]
  exact View.canon_cons_emb (Rect.unit (s := (⟨2, ![M, N]⟩ : Shape)) ![0, 0] (⟨2, ![1, N]⟩ : Shape).size inb) w L (ix2 (0 : Fin 1) q)

/-- In the other rows it holds the older pieces. -/
theorem row_skip (r : Fin M) (q : Fin N) (h : ¬r.val = 0) :
    View.canon ((⟨Rect.unit (s := (⟨2, ![M, N]⟩ : Shape)) ![0, 0] (⟨2, ![1, N]⟩ : Shape).size inb, w⟩ : View.Piece Val (⟨2, ![M, N]⟩ : Shape) et) :: L) (ix2 r q)
      = View.canon L (ix2 r q) := by
  refine View.canon_cons_of_not_mem _ L fun hm => ?_
  obtain ⟨i, hi, he⟩ := (LoadRect.mem_set _).mp hm (0 : Fin 2)
  have hi1 : i < 1 := hi
  have he' : r.val = 0 + 1 * i := he
  omega

end Rows

section Stack

variable {Val : EltTy → Type} [∀ e, Nonempty (Val e)] {et : EltTy} {A B C D a b : ℕ}
  (inb : ∀ x, (![a, b, 0, 0] : Fin 4 → ℕ) x + (⟨4, ![1, 1, C, D]⟩ : Shape).size x ≤ (⟨4, ![A, B, C, D]⟩ : Shape).size x)
  (w : (⟨4, ![1, 1, C, D]⟩ : Shape).Idx → Val et) (L : List (View.Piece Val (⟨4, ![A, B, C, D]⟩ : Shape) et))

/-- The element of a stack of matrices that an element of one of its matrices is. -/
theorem stack_emb (p : Fin A) (g : Fin B) (k : Fin C) (e : Fin D) (hp : p.val = a) (hg : g.val = b) : (ix4 p g k e : (⟨4, ![A, B, C, D]⟩ : Shape).Idx)
    = (Rect.unit (s := (⟨4, ![A, B, C, D]⟩ : Shape)) ![a, b, 0, 0] (⟨4, ![1, 1, C, D]⟩ : Shape).size inb).emb (ix4 (0 : Fin 1) (0 : Fin 1) k e) := by
  funext x
  match x with
  | ⟨0, _⟩ => exact Fin.ext (by show p.val = a + 1 * 0; omega)
  | ⟨1, _⟩ => exact Fin.ext (by show g.val = b + 1 * 0; omega)
  | ⟨2, _⟩ => exact Fin.ext (by show k.val = 0 + 1 * k.val; omega)
  | ⟨3, _⟩ => exact Fin.ext (by show e.val = 0 + 1 * e.val; omega)

/-- In the newest matrix the stack holds that matrix. -/
theorem stack_hit (p : Fin A) (g : Fin B) (k : Fin C) (e : Fin D) (hp : p.val = a) (hg : g.val = b) :
    View.canon ((⟨Rect.unit (s := (⟨4, ![A, B, C, D]⟩ : Shape)) ![a, b, 0, 0] (⟨4, ![1, 1, C, D]⟩ : Shape).size inb, w⟩ : View.Piece Val (⟨4, ![A, B, C, D]⟩ : Shape) et) :: L) (ix4 p g k e)
      = w (ix4 (0 : Fin 1) (0 : Fin 1) k e) := by
  rw [stack_emb inb p g k e hp hg]
  exact View.canon_cons_emb (Rect.unit (s := (⟨4, ![A, B, C, D]⟩ : Shape)) ![a, b, 0, 0] (⟨4, ![1, 1, C, D]⟩ : Shape).size inb) w L (ix4 (0 : Fin 1) (0 : Fin 1) k e)

/-- In the other matrices it holds the older pieces. -/
theorem stack_skip (p : Fin A) (g : Fin B) (k : Fin C) (e : Fin D) (h : ¬(p.val = a ∧ g.val = b)) :
    View.canon ((⟨Rect.unit (s := (⟨4, ![A, B, C, D]⟩ : Shape)) ![a, b, 0, 0] (⟨4, ![1, 1, C, D]⟩ : Shape).size inb, w⟩ : View.Piece Val (⟨4, ![A, B, C, D]⟩ : Shape) et) :: L) (ix4 p g k e)
      = View.canon L (ix4 p g k e) := by
  refine View.canon_cons_of_not_mem _ L fun hm => h ?_
  obtain ⟨i, hi, he⟩ := (LoadRect.mem_set _).mp hm (0 : Fin 4)
  obtain ⟨j, hj, hf⟩ := (LoadRect.mem_set _).mp hm (1 : Fin 4)
  have hi1 : i < 1 := hi
  have he' : p.val = a + 1 * i := he
  have hj1 : j < 1 := hj
  have hf' : g.val = b + 1 * j := hf
  omega

/-- A load of one matrix of the stack. -/
theorem stack_load (P : (⟨4, ![A, B, C, D]⟩ : Shape).Idx → Val et) (p : Fin A) (g : Fin B) (k : Fin C) (e : Fin D) (hp : p.val = a) (hg : g.val = b) :
    View.ld (Val := Val) P (Rect.unit (s := (⟨4, ![A, B, C, D]⟩ : Shape)) ![a, b, 0, 0] (⟨4, ![1, 1, C, D]⟩ : Shape).size inb) (ix4 (0 : Fin 1) (0 : Fin 1) k e)
      = P (ix4 p g k e) := by
  rw [stack_emb inb p g k e hp hg]
  rfl

/-- A load of one matrix of a stack written piece by piece. -/
theorem stack_back {sig : RefSig} {κ : Kind} {sp : Space} (v : View sig κ sp (⟨4, ![A, B, C, D]⟩ : Shape) et) (p : Fin A) (g : Fin B) (k : Fin C) (e : Fin D)
    (hp : p.val = a) (hg : g.val = b) :
    v.readCov L (Rect.unit (s := (⟨4, ![A, B, C, D]⟩ : Shape)) ![a, b, 0, 0] (⟨4, ![1, 1, C, D]⟩ : Shape).size inb).toLoadRect (ix4 (0 : Fin 1) (0 : Fin 1) k e)
      = View.canon L (ix4 p g k e) := by
  rw [stack_emb inb p g k e hp hg, View.readCov_eq_canon']
  rfl

end Stack

end Cert.Pieces
-- ==== Proof.Merge.Block.lean ====
module

public import proofs.«01_k».proof.Proof.Norm
public import proofs.«01_k».proof.Proof.Branches
public import proofs.«01_k».proof.Proof.Gen.Kernel8Ideal.Value
public import Idealize.ShloMosaic.Lib.Pipeline.ValueKit

/-! The backward pass of the merge: what the kernel's payloads hold, read at an element. -/

@[expose] public section

set_option maxRecDepth 16384

noncomputable section

namespace Cert.Merge

open Idealize.ShloMosaic Idealize.ShloMosaic.TcCoe Idealize.SL.Sem Cert.Branches Cert.Kernel8Ideal Cert.Kernel8Ideal.Gen

section Forward

variable (v : Vec Ideal S256x512 .bf16) (w : Fin 4 → Vec Ideal S1x1x512x256 .bf16) (u : Vec Ideal S256x1024 .bf16) (r : Fin 256) (q : Fin 1024)

/-- A branch's projection in a block of rows: 512 columns times the four pieces of its weights, side by side. -/
def liftB (r : Fin 256) (q : Fin 1024) : EReal :=
  ∑ k : Fin 512, v (ix2 r k) * w ⟨q.val / 256, by omega⟩ (ix4 (0 : Fin 1) (0 : Fin 1) k (⟨q.val % 256, Nat.mod_lt _ (by decide)⟩ : Fin 256))

/-- The first branch. -/
theorem lift0_eq : k0_pay6 (F := Ideal) v (w 0) (w 1) (w 2) (w 3) (ix2 r q) = liftB v w r q := by
  pointwise [k0_pay6]
  exact Cert.Gate.side_by_side (fun p e => ∑ k : Fin 512, v (ix2 r k) * w p (ix4 (0 : Fin 1) (0 : Fin 1) k e)) q
/-- The second branch. -/
theorem lift1_eq : k0_pay9 (F := Ideal) v (w 0) (w 1) (w 2) (w 3) (ix2 r q) = liftB v w r q := by
  pointwise [k0_pay9]
  exact Cert.Gate.side_by_side (fun p e => ∑ k : Fin 512, v (ix2 r k) * w p (ix4 (0 : Fin 1) (0 : Fin 1) k e)) q
/-- The third branch. -/
theorem lift2_eq : k0_pay13 (F := Ideal) v (k0_pay12 (F := Ideal) (w 0)) (constant S256x256 .f32 0x00000000#32) (w 1) (w 2) (w 3) (ix2 r q) = liftB v w r q := by
  pointwise [k0_pay13, k0_pay12]
  exact Cert.Gate.side_by_side (fun p e => ∑ k : Fin 512, v (ix2 r k) * w p (ix4 (0 : Fin 1) (0 : Fin 1) k e)) q

/-- The first gate. -/
theorem gate0_eq : k0_pay7 (F := Ideal) u (ix2 r q) = Idealize.ShloMosaic.Ideal.logistic (u (ix2 r q)) := by
  rw [← Cert.Gate.half_tanh, ← Cert.Gate.half_f32]
  pointwise [k0_pay7]
/-- The second gate. -/
theorem gate1_eq : k0_pay10 (F := Ideal) u (ix2 r q) = Idealize.ShloMosaic.Ideal.logistic (u (ix2 r q)) := by
  rw [← Cert.Gate.half_tanh, ← Cert.Gate.half_f32]
  pointwise [k0_pay10]
/-- The third gate. -/
theorem gate2_eq : k0_pay14 (F := Ideal) u (ix2 r q) = Idealize.ShloMosaic.Ideal.logistic (u (ix2 r q)) := by
  rw [← Cert.Gate.half_tanh, ← Cert.Gate.half_f32]
  pointwise [k0_pay14]

end Forward

/-- The mixed rows. -/
theorem mixed_eq (a b C D E' F' G' H X) (r : Fin 256) (q : Fin 1024) :
    k0_pay16 (F := Ideal) a b C D E' F' G' H X (ix2 r q) = ∑ d : Fin 1024, k0_pay15 (F := Ideal) a b C D E' F' G' H (ix2 r d) * X (ix2 d q) := by
  pointwise [k0_pay16]

/-- The mixed rows' scale. -/
theorem scale_eq (a b C D E' F' G' H X) (r : Fin 256) (f : Fin 1024 → EReal)
    (h : ∀ q, k0_pay16 (F := Ideal) a b C D E' F' G' H X (ix2 r q) = f q) :
    k0_pay17 (F := Ideal) a b C D E' F' G' H X (ix2 r (0 : Fin 1)) = Cert.Norm.scale f := by
  pointwise [k0_pay17]
  simp only [h]
  rfl

section Backward

variable (M : FVec Ideal S256x1024 .f32) (S : FVec Ideal S256x1 .f32) (o : Vec Ideal S256x1024 .f32) (y : Vec Ideal S1x1x1024 .f32)

/-- The mixed rows' gradient. -/
theorem dmix_eq (r : Fin 256) (q : Fin 1024) (f : Fin 1024 → EReal) (hM : ∀ k, M (ix2 r k) = f k) (hS : S (ix2 r (0 : Fin 1)) = Cert.Norm.scale f) :
    k0_pay20 (F := Ideal) M S o y (ix2 r q)
      = Cert.Norm.factored f (fun k => o (ix2 r k)) (fun k => y (ix3 (0 : Fin 1) (0 : Fin 1) k)) 0 q := by
  pointwise [k0_pay20, k0_pay18]
  simp only [hM, hS]
  exact (zero_add _).symm

/-- The mixing weights' gradient: a block's rows added. -/
theorem dmixing_eq (A : FVec Ideal S256x1024 .f32) (P : Vec Ideal S1024x1024 .f32) (e q : Fin 1024) :
    k0_pay21 (F := Ideal) A M S o y P (ix2 e q)
      = P (ix2 e q) + ∑ r : Fin 256, A (ix2 r e) * k0_pay20 (F := Ideal) M S o y (ix2 r q) := by
  pointwise [k0_pay21]

/-- The gated sum's gradient. -/
theorem dgated_eq (X : Vec Ideal S1024x1024 .bf16) (r : Fin 256) (e : Fin 1024) :
    k0_pay22 (F := Ideal) M S o y X (ix2 r e) = ∑ q : Fin 1024, k0_pay20 (F := Ideal) M S o y (ix2 r q) * X (ix2 e q) := by
  pointwise [k0_pay22]

/-- The norm weight's gradient: a block's rows added. -/
theorem dnorm_eq (P : Vec Ideal S1x1024 .f32) (q : Fin 1024) :
    k0_pay19 (F := Ideal) M S o P (ix2 (0 : Fin 1) q)
      = P (ix2 (0 : Fin 1) q) + ∑ r : Fin 256, o (ix2 r q) * (M (ix2 r q) * S (ix2 r (0 : Fin 1))) := by
  pointwise [k0_pay19, k0_pay18]

end Backward

section Branch

variable (B G D : FVec Ideal S256x1024 .f32)

/-- The projection's gradient: the gated sum's times the gate. -/
theorem dlift1_eq (i : S256x1024.Idx) : k0_pay37 (F := Ideal) G D i = D i * G i := rfl
/-- The same for the third branch. -/
theorem dlift2_eq : k0_pay52 (F := Ideal) G D = k0_pay37 (F := Ideal) G D := rfl
/-- The same for the first branch. -/
theorem dlift0_eq (M S o y X) : k0_pay23 (F := Ideal) G M S o y X = k0_pay37 (F := Ideal) G (k0_pay22 (F := Ideal) M S o y X) := rfl

/-- The gradient of a gate's argument. -/
theorem dgate1_eq (r : Fin 256) (q : Fin 1024) : k0_pay38 (F := Ideal) B G D (ix2 r q)
    = D (ix2 r q) * B (ix2 r q) * G (ix2 r q) * (1 - G (ix2 r q)) := by
  pointwise [k0_pay38]
/-- The same for the third branch. -/
theorem dgate2_eq : k0_pay53 (F := Ideal) B G D = k0_pay38 (F := Ideal) B G D := rfl
/-- The same for the first branch. -/
theorem dgate0_eq (M S o y X) : k0_pay25 (F := Ideal) G (k0_pay24 (F := Ideal) B M S o y X)
    = k0_pay38 (F := Ideal) B G (k0_pay22 (F := Ideal) M S o y X) := rfl

variable (w : Fin 4 → Vec Ideal S1x1x512x256 .bf16) (r : Fin 256) (k : Fin 512)

/-- A branch's gradient in a block of rows, from the gradient `p` of its projection. -/
def dbranchB (p : FVec Ideal S256x1024 .bf16) (r : Fin 256) (k : Fin 512) : EReal :=
  ∑ j : Fin 4, ∑ e : Fin 256, p (ix2 r (⟨j.val * 256 + e.val, by omega⟩ : Fin 1024)) * w j (ix4 (0 : Fin 1) (0 : Fin 1) k e)

/-- The first branch's gradient. -/
theorem dbranch0_eq (p : FVec Ideal S256x1024 .bf16) : k0_pay36 (F := Ideal) p (k0_pay29 (F := Ideal) p (w 0) (w 1)) (w 2) (w 3) (ix2 r k)
    = dbranchB w p r k := by
  unfold dbranchB
  rw [Fin.sum_univ_four]
  pointwise [k0_pay36, k0_pay29, k0_pay26, k0_pay28, k0_pay32, k0_pay34]
/-- The second branch's gradient. -/
theorem dbranch1_eq : k0_pay51 (F := Ideal) (k0_pay48 (F := Ideal) (k0_pay37 (F := Ideal) G D) (k0_pay42 (F := Ideal) G D (w 0) (w 1)) (w 2) (w 3)) (ix2 r k)
    = dbranchB w (k0_pay37 (F := Ideal) G D) r k := by
  unfold dbranchB
  rw [Fin.sum_univ_four]
  pointwise [k0_pay51, k0_pay48, k0_pay42, k0_pay39, k0_pay41, k0_pay45, k0_pay47]
/-- The third branch's gradient. -/
theorem dbranch2_eq : k0_pay2 (F := Ideal) (k0_pay63 (F := Ideal) (k0_pay52 (F := Ideal) G D) (k0_pay55 (F := Ideal) G D (w 0)) (k0_pay57 (F := Ideal) G D)
      (k0_pay58 (F := Ideal) (w 1)) (constant S256x512 .f32 0x00000000#32) (w 2) (w 3)) (ix2 r k)
    = dbranchB w (k0_pay37 (F := Ideal) G D) r k := by
  unfold dbranchB
  rw [Fin.sum_univ_four]
  pointwise [k0_pay2, k0_pay63, k0_pay55, k0_pay54, k0_pay57, k0_pay58, k0_pay60, k0_pay62]
  simp only [dlift2_eq]

end Branch

section Weights

variable (G D : FVec Ideal S256x1024 .f32) (p : FVec Ideal S256x1024 .bf16) (v : Vec Ideal S256x512 .bf16) (P : Vec Ideal S1x1x512x256 .f32)

/-- A piece of a branch's weights' gradient: what the block held plus a block's rows of the branch times 256 columns of the
    projection's gradient `p`. -/
def weightsB (p : FVec Ideal S256x1024 .bf16) (j : Fin 4) (k : Fin 512) (e : Fin 256) : EReal :=
  P (ix4 (0 : Fin 1) (0 : Fin 1) k e) + ∑ r : Fin 256, v (ix2 r k) * p (ix2 r (⟨j.val * 256 + e.val, by omega⟩ : Fin 1024))

variable (k : Fin 512) (e : Fin 256)

/-- The first branch, its first piece. -/
theorem weights00_eq : k0_pay27 (F := Ideal) v p P (ix4 (0 : Fin 1) (0 : Fin 1) k e) = weightsB v P p 0 k e := by
  unfold weightsB
  pointwise [k0_pay27, k0_pay26]
/-- The first branch, its second piece. -/
theorem weights10_eq : k0_pay31 (F := Ideal) (k0_pay30 (F := Ideal) v p P) (ix4 (0 : Fin 1) (0 : Fin 1) k e) = weightsB v P p 1 k e := by
  unfold weightsB
  pointwise [k0_pay31, k0_pay30, k0_pay28]
/-- The first branch, its third piece. -/
theorem weights20_eq : k0_pay33 (F := Ideal) v p P (ix4 (0 : Fin 1) (0 : Fin 1) k e) = weightsB v P p 2 k e := by
  unfold weightsB
  pointwise [k0_pay33, k0_pay32]
/-- The first branch, its fourth piece. -/
theorem weights30_eq : k0_pay35 (F := Ideal) v p P (ix4 (0 : Fin 1) (0 : Fin 1) k e) = weightsB v P p 3 k e := by
  unfold weightsB
  pointwise [k0_pay35, k0_pay34]
/-- The second branch, its first piece. -/
theorem weights01_eq : k0_pay40 (F := Ideal) G D v P (ix4 (0 : Fin 1) (0 : Fin 1) k e) = weightsB v P (k0_pay37 (F := Ideal) G D) 0 k e := by
  unfold weightsB
  pointwise [k0_pay40, k0_pay39]
/-- The second branch, its second piece. -/
theorem weights11_eq : k0_pay44 (F := Ideal) v (k0_pay41 (F := Ideal) G D) (k0_pay43 (F := Ideal) P) (ix4 (0 : Fin 1) (0 : Fin 1) k e) = weightsB v P (k0_pay37 (F := Ideal) G D) 1 k e := by
  unfold weightsB
  pointwise [k0_pay44, k0_pay43, k0_pay41]
/-- The second branch, its third piece. -/
theorem weights21_eq : k0_pay46 (F := Ideal) v p P (ix4 (0 : Fin 1) (0 : Fin 1) k e) = weightsB v P p 2 k e := by
  unfold weightsB
  pointwise [k0_pay46, k0_pay45]
/-- The second branch, its fourth piece. -/
theorem weights31_eq : k0_pay50 (F := Ideal) (k0_pay49 (F := Ideal) v p P) (ix4 (0 : Fin 1) (0 : Fin 1) k e) = weightsB v P p 3 k e := by
  unfold weightsB
  pointwise [k0_pay50, k0_pay49, k0_pay47]
/-- The third branch, its first piece. -/
theorem weights02_eq : k0_pay56 (F := Ideal) G D v P (ix4 (0 : Fin 1) (0 : Fin 1) k e) = weightsB v P (k0_pay37 (F := Ideal) G D) 0 k e := by
  unfold weightsB
  pointwise [k0_pay56, k0_pay54]
  simp only [dlift2_eq]
/-- The third branch, its second piece. -/
theorem weights12_eq : k0_pay59 (F := Ideal) v (k0_pay57 (F := Ideal) G D) P (ix4 (0 : Fin 1) (0 : Fin 1) k e) = weightsB v P (k0_pay37 (F := Ideal) G D) 1 k e := by
  unfold weightsB
  pointwise [k0_pay59, k0_pay57]
  simp only [dlift2_eq]
/-- The third branch, its third piece. -/
theorem weights22_eq : k0_pay61 (F := Ideal) v p P (ix4 (0 : Fin 1) (0 : Fin 1) k e) = weightsB v P p 2 k e := by
  unfold weightsB
  pointwise [k0_pay61, k0_pay60]
/-- The third branch, its fourth piece. -/
theorem weights32_eq : k0_pay1 (F := Ideal) v (k0_pay62 (F := Ideal) p) P (ix4 (0 : Fin 1) (0 : Fin 1) k e) = weightsB v P p 3 k e := by
  unfold weightsB
  pointwise [k0_pay1, k0_pay62]

end Weights

end Cert.Merge
-- ==== Proof.MergeGrad.lean ====
module

public import proofs.«01_k».proof.Proof.Norm
public import proofs.«01_k».proof.Proof.Branches

/-! The gradients of the merge of the three branches, read at an element. -/

@[expose] public section

set_option maxRecDepth 16384

noncomputable section

namespace Cert.Branches

open Idealize.ShloMosaic Idealize.ShloMosaic.TcCoe

variable (x0 : (⟨2, ![4352, 1024]⟩ : Shape).Idx → EReal) (x1 : (⟨2, ![4352, 1536]⟩ : Shape).Idx → EReal)
  (x2 : (⟨2, ![4352, 3072]⟩ : Shape).Idx → EReal) (x3 : (⟨4, ![4, 3, 512, 256]⟩ : Shape).Idx → EReal)
  (x4 : (⟨2, ![1024, 1024]⟩ : Shape).Idx → EReal) (w : Fin 1024 → EReal)

/-- The gradient of the mixed rows, as the kernel computes it: one factored form. -/
def dmix (R : Fin 4352) (q : Fin 1024) : EReal :=
  Cert.Norm.factored (mixed x1 x2 x3 x4 R) (fun k => x0 (ix2 R k)) w 0 q

/-- The gradient of the mixed rows as the derivative's terms. -/
def dmixTerms (R : Fin 4352) (q : Fin 1024) : EReal :=
  Cert.Norm.terms (mixed x1 x2 x3 x4 R) (fun k => x0 (ix2 R k)) w 0 q

section After

variable (d : Fin 4352 → Fin 1024 → EReal)

/-- The gradient of the gated sum, from the gradient `d` of the mixed rows. -/
def dgated (R : Fin 4352) (e : Fin 1024) : EReal := ∑ q : Fin 1024, d R q * x4 (ix2 e q)

/-- The gradient of a branch's projection. -/
def dlift (R : Fin 4352) (g : Fin 3) (e : Fin 1024) : EReal := dgated x4 d R e * gate x2 R g e

/-- The gradient of the branches. -/
def dbranch (R : Fin 4352) (g : Fin 3) (k : Fin 512) : EReal :=
  ∑ e : Fin 1024, dlift x2 x4 d R g e * x3 (ix4 ⟨e.val / 256, by omega⟩ g k ⟨e.val % 256, Nat.mod_lt _ (by decide)⟩)

/-- The gradient of the gates' arguments. -/
def dgate (R : Fin 4352) (g : Fin 3) (e : Fin 1024) : EReal :=
  dgated x4 d R e * lift x1 x3 R g e * gate x2 R g e * (1 - gate x2 R g e)

/-- The gradient of the branches' weights. -/
def dweights (p : Fin 4) (g : Fin 3) (k : Fin 512) (e : Fin 256) : EReal :=
  ∑ R : Fin 4352, x1 (ix2 R ⟨g.val * 512 + k.val, by omega⟩) * dlift x2 x4 d R g ⟨p.val * 256 + e.val, by omega⟩

/-- The gradient of the mixing weights. -/
def dmixing (e q : Fin 1024) : EReal := ∑ R : Fin 4352, gated x1 x2 x3 R e * d R q

end After

/-- The gradient of the norm's weight, in the first of eight rows. -/
def dnorm (r : Fin 8) (q : Fin 1024) : EReal :=
  if r.val = 0 then ∑ R : Fin 4352, x0 (ix2 R q) * (mixed x1 x2 x3 x4 R q * Cert.Norm.scale (mixed x1 x2 x3 x4 R)) else 0

variable {x0 x1 x2 x3 x4 w}

/-- A gate is a real number. -/
theorem isR_gate (R : Fin 4352) (g : Fin 3) (q : Fin 1024) : IsR (gate x2 R g q) := by
  unfold gate
  rw [← Cert.Gate.half_tanh]
  refine IsR.add (IsR.mul ⟨_, rfl⟩ ?_) ⟨_, rfl⟩
  generalize (_ : EReal) * x2 _ = y
  induction y with
  | bot => first | exact ⟨_, rfl⟩ | exact ⟨-1, by simp [Idealize.ShloMosaic.Ideal.tanh]⟩
  | top => first | exact ⟨_, rfl⟩ | exact ⟨1, by simp [Idealize.ShloMosaic.Ideal.tanh]⟩
  | coe r => exact ⟨_, rfl⟩

/-- The mixed rows of real arguments are real, whatever the gates' arguments. -/
theorem isR_mixed (h1 : ∀ i, IsR (x1 i)) (h3 : ∀ i, IsR (x3 i)) (h4 : ∀ i, IsR (x4 i)) (R : Fin 4352) (q : Fin 1024) :
    IsR (mixed x1 x2 x3 x4 R q) :=
  IsR.sum fun d => IsR.mul (IsR.sum fun g => IsR.mul (isR_gate R g d) (IsR.sum fun k => IsR.mul (h1 _) (h3 _))) (h4 _)

/-- On real numbers the two forms of the mixed rows' gradient are the same. -/
theorem dmix_eq_terms (h0 : ∀ i, IsR (x0 i)) (h1 : ∀ i, IsR (x1 i)) (h3 : ∀ i, IsR (x3 i)) (h4 : ∀ i, IsR (x4 i)) (hw : ∀ k, IsR (w k)) :
    dmix x0 x1 x2 x3 x4 w = dmixTerms x0 x1 x2 x3 x4 w := by
  funext R q
  exact Cert.Norm.factored_eq_terms (fun k => isR_mixed h1 h3 h4 R k) (fun k => h0 _) hw 0 q

end Cert.Branches
-- ==== Proof.Merge.Ref.lean ====
module

public import proofs.«01_k».proof.Proof.MergeGrad
public import proofs.«01_k».proof.Proof.Gen.Reference8Ideal.Run
public import proofs.«01_k».proof.Proof.Gen.Reference8Ideal.Read
public import Idealize.ShloMosaic.Lib.Pipeline.ValueKit

/-! The backward pass of the merge: the reference's results, read at an element. -/

@[expose] public section

set_option maxRecDepth 16384

noncomputable section

namespace Cert.Merge

open Idealize.ShloMosaic Idealize.ShloMosaic.TcCoe Cert.Branches Cert.Reference8Ideal.Read

variable (x0 : (⟨Cert.Reference8Ideal.S4352x1024, .f32⟩ : BufTy).Contents (Elt Ideal))
  (x1 : (⟨Cert.Reference8Ideal.S4352x1536, .bf16⟩ : BufTy).Contents (Elt Ideal))
  (x2 : (⟨Cert.Reference8Ideal.S4352x3072, .bf16⟩ : BufTy).Contents (Elt Ideal))
  (x3 : (⟨Cert.Reference8Ideal.S4x3x512x256, .bf16⟩ : BufTy).Contents (Elt Ideal))
  (x4 : (⟨Cert.Reference8Ideal.S1024x1024, .bf16⟩ : BufTy).Contents (Elt Ideal))
  (x5 : (⟨Cert.Reference8Ideal.S2x1x1024, .f32⟩ : BufTy).Contents (Elt Ideal))

/-- The layer's weight of the norm. -/
def weight : Fin 1024 → EReal := fun q => x5 (ix3 (1 : Fin 2) (0 : Fin 1) q)

/-- The reference's weights laid side by side. -/
theorem ref_weights (g : Fin 3) (k : Fin 512) (q : Fin 1024) : val_main_v14 (F := Ideal) x3 (ix3 g k q)
    = x3 (ix4 ⟨q.val / 256, by omega⟩ g k ⟨q.val % 256, Nat.mod_lt _ (by decide)⟩) := by
  pointwise [val_main_v2, val_main_v6, val_main_v7, val_main_v8, val_main_v9, val_main_v10, val_main_v11, val_main_v12,
    val_main_v13, val_main_v14, Cert.Reference8Ideal.Value.fn_main_v14]
  exact Cert.Gate.side_by_side (fun p e => x3 (ix4 p g k e)) q

/-- The reference's gate. -/
theorem ref_gate (R : Fin 4352) (g : Fin 3) (q : Fin 1024) : val_main_v24 (F := Ideal) x2 (ix3 R g q) = gate x2 R g q := by
  pointwise [val_main_v1, val_main_v18, val_main_v19, val_main_v20, val_main_cst, val_main_v21, val_main_v22, val_main_cst_0,
    val_main_v23, val_main_v24]
  rfl

/-- The reference's branch projection. -/
theorem ref_lift (R : Fin 4352) (g : Fin 3) (q : Fin 1024) : val_main_v17 (F := Ideal) x1 x3 (ix3 R g q) = lift x1 x3 R g q := by
  pointwise [val_main_v0, val_main_v15, val_main_v16, val_main_v17]
  simp only [ref_weights]
  exact Finset.sum_congr rfl fun k _ => mul_comm _ _

/-- The reference's gated sum. -/
theorem ref_gated (R : Fin 4352) (q : Fin 1024) : val_main_v29 (F := Ideal) x1 x2 x3 (ix2 R q) = gated x1 x2 x3 R q := by
  pointwise [val_main_v28, val_main_cst_2, val_main_v29]
  simp only [ref_gate, ref_lift]
  rfl

/-- The reference's mixed rows. -/
theorem ref_mixed (R : Fin 4352) (q : Fin 1024) : val_main_v30 (F := Ideal) x1 x2 x3 x4 (ix2 R q) = mixed x1 x2 x3 x4 R q := by
  pointwise [val_main_v3, val_main_v30]
  simp only [ref_gated]
  rfl

/-- The reference's scale. -/
theorem ref_scale (R : Fin 4352) : val_main_v38 (F := Ideal) x1 x2 x3 x4 (ix2 R (0 : Fin 1)) = Cert.Norm.scale (mixed x1 x2 x3 x4 R) := by
  pointwise [val_main_v31, val_main_v32, val_main_v33, val_main_v34, val_main_v35, val_main_v36, val_main_v37, val_main_v38, val_main_cst_3, val_main_cst_4, val_main_cst_5]
  simp only [ref_mixed]
  rfl

/-- The reference's cotangent times the norm's weight. -/
theorem ref_weighted (R : Fin 4352) (q : Fin 1024) : val_main_v51 (F := Ideal) x0 x5 (ix2 R q) = x0 (ix2 R q) * weight x5 q := by
  pointwise [val_main_v4, val_main_v5, val_main_v44, val_main_v50, val_main_v51]
  rfl

/-- The reference's gradient of the mixed rows. -/
theorem ref_dmix (R : Fin 4352) (q : Fin 1024) : val_main_v66 (F := Ideal) x0 x1 x2 x3 x4 x5 (ix2 R q) = dmixTerms x0 x1 x2 x3 x4 (weight x5) R q := by
  unfold dmixTerms Cert.Norm.terms Cert.Norm.through Cert.Norm.square
  pointwise [val_main_v31, val_main_v32, val_main_v33, val_main_v34, val_main_v35, val_main_v36, val_main_v37, val_main_v39, val_main_v40, val_main_v41, val_main_v53, val_main_v54, val_main_v55, val_main_v56, val_main_v57, val_main_v58, val_main_v59, val_main_v60, val_main_v61, val_main_v62, val_main_v63, val_main_v64, val_main_v65, val_main_v66, val_main_cst_3, val_main_cst_4, val_main_cst_5, val_main_cst_6, val_main_cst_9, val_main_cst_10, val_main_cst_11]
  simp only [Fin.sum_univ_one, ref_scale, ref_mixed, ref_weighted, zero_add]
  rfl

/-- The reference's gradient of the mixing weights. -/
theorem ref_dmixing (e q : Fin 1024) : val_main_v68 (F := Ideal) x0 x1 x2 x3 x4 x5 (ix2 e q) = dmixing x1 x2 x3 (dmixTerms x0 x1 x2 x3 x4 (weight x5)) e q := by
  pointwise [val_main_v67, val_main_v68]
  simp only [ref_dmix, ref_gated]
  exact Finset.sum_congr rfl fun R _ => mul_comm _ _

/-- The reference's gradient of the gated sum. -/
theorem ref_dgated (R : Fin 4352) (e : Fin 1024) : val_main_v69 (F := Ideal) x0 x1 x2 x3 x4 x5 (ix2 R e) = dgated x4 (dmixTerms x0 x1 x2 x3 x4 (weight x5)) R e := by
  pointwise [val_main_v3, val_main_v69]
  simp only [ref_dmix]
  rfl

/-- The reference's gradient of a branch's projection. -/
theorem ref_dlift (R : Fin 4352) (g : Fin 3) (e : Fin 1024) : val_main_v71 (F := Ideal) x0 x1 x2 x3 x4 x5 (ix3 R g e) = dlift x2 x4 (dmixTerms x0 x1 x2 x3 x4 (weight x5)) R g e := by
  pointwise [val_main_v70, val_main_v71]
  simp only [ref_gate, ref_dgated]
  exact mul_comm _ _

/-- The reference's gradient of the gates' arguments. -/
theorem ref_dgate (R : Fin 4352) (g : Fin 3) (e : Fin 1024) : val_main_v97 (F := Ideal) x0 x1 x2 x3 x4 x5
    (ix2 R (⟨g.val * 1024 + e.val, by omega⟩ : Fin 3072)) = dgate x1 x2 x3 x4 (dmixTerms x0 x1 x2 x3 x4 (weight x5)) R g e := by
  have h : val_main_v73 (F := Ideal) x0 x1 x2 x3 x4 x5 (ix3 R g e) = dgate x1 x2 x3 x4 (dmixTerms x0 x1 x2 x3 x4 (weight x5)) R g e := by
    unfold dgate
    pointwise [val_main_cst_1, val_main_v25, val_main_v26, val_main_v27, val_main_v70, val_main_v72, val_main_v73]
    simp only [ref_gate, ref_lift, ref_dgated]
    exact (mul_assoc _ _ _).symm
  refine Eq.trans ?_ h
  pointwise [val_main_v74, val_main_v97]

/-- The reference's gradient of the branches. -/
theorem ref_dbranch (R : Fin 4352) (g : Fin 3) (k : Fin 512) : val_main_v96 (F := Ideal) x0 x1 x2 x3 x4 x5
    (ix2 R (⟨g.val * 512 + k.val, by omega⟩ : Fin 1536)) = dbranch x2 x3 x4 (dmixTerms x0 x1 x2 x3 x4 (weight x5)) R g k := by
  have h : val_main_v77 (F := Ideal) x0 x1 x2 x3 x4 x5 (ix3 R g k) = dbranch x2 x3 x4 (dmixTerms x0 x1 x2 x3 x4 (weight x5)) R g k := by
    pointwise [val_main_v75, val_main_v76, val_main_v77]
    simp only [ref_dlift, ref_weights]
    rfl
  refine Eq.trans ?_ h
  pointwise [val_main_v80, val_main_v96]

/-- The reference's gradient of the branches' weights, side by side. -/
theorem ref_sides (g : Fin 3) (k : Fin 512) (e : Fin 1024) : val_main_v79 (F := Ideal) x0 x1 x2 x3 x4 x5 (ix3 g k e)
    = ∑ R : Fin 4352, x1 (ix2 R (⟨g.val * 512 + k.val, by omega⟩ : Fin 1536)) * dlift x2 x4 (dmixTerms x0 x1 x2 x3 x4 (weight x5)) R g e := by
  pointwise [val_main_v0, val_main_v15, val_main_v75, val_main_v78, val_main_v79]
  simp only [ref_dlift]
  exact Finset.sum_congr rfl fun R _ => mul_comm _ _

/-- The reference's gradient of the branches' weights. -/
theorem ref_dweights (p : Fin 4) (g : Fin 3) (k : Fin 512) (e : Fin 256) : val_main_v95 (F := Ideal) x0 x1 x2 x3 x4 x5 (ix4 p g k e)
    = dweights x1 x2 x4 (dmixTerms x0 x1 x2 x3 x4 (weight x5)) p g k e := by
  unfold dweights
  rw [← ref_sides x0 x1 x2 x3 x4 x5 g k (⟨p.val * 256 + e.val, by omega⟩ : Fin 1024)]
  obtain rfl | rfl | rfl | rfl : p = 0 ∨ p = 1 ∨ p = 2 ∨ p = 3 := by revert p; decide
  all_goals
    pointwise [val_main_v81, val_main_v82, val_main_v83, val_main_v84, val_main_v85, val_main_v86, val_main_v87, val_main_v88, val_main_v89, val_main_v90, val_main_v91, val_main_v92, val_main_v93, val_main_v94, val_main_v95, val_main_cst_12, val_main_cst_13, val_main_cst_14, val_main_cst_15]

/-- The reference's gradient of the norm's weight. -/
theorem ref_dnorm (r : Fin 8) (q : Fin 1024) : val_main_v99 (F := Ideal) x0 x1 x2 x3 x4 (ix2 r q) = dnorm x0 x1 x2 x3 x4 r q := by
  pointwise [val_main_v42, val_main_v43, val_main_v47, val_main_v48, val_main_v49, val_main_v52, val_main_v98, val_main_v99, val_main_cst_7, val_main_cst_8, val_main_c, val_main_call0_v0]
  simp only [Fin.sum_univ_one, ref_scale, ref_mixed]
  unfold dnorm
  by_cases h : r.val = 0
  · rw [if_pos h, dif_pos (by show r.val < 1; omega)]
    exact Finset.sum_congr rfl fun R _ => mul_comm _ _
  · rw [if_neg h, dif_neg (by show ¬r.val < 1; omega)]
    simp [FloatOps.sitofp]

end Cert.Merge
-- ==== Proof.Merge.Step.lean ====
module

public import proofs.«01_k».proof.Proof.Merge.Block
public import proofs.«01_k».proof.Proof.Merge.Ref

/-! The backward pass of the merge: what a step computes from its blocks, read at an element. -/

@[expose] public section

set_option maxRecDepth 16384

noncomputable section

namespace Cert.Merge

open Idealize.ShloMosaic Idealize.ShloMosaic.TcCoe Idealize.SL.Sem Cert.Branches Cert.Kernel8Ideal Cert.Kernel8Ideal.Gen

/-- The block of rows of the cotangent a step reads. -/
theorem place0 : ∀ t : Fin cfg0.N, win0_0.index t = ![t.val, 0] :=
  (by decide +kernel : ∀ t : Fin grid0.N, win0_0.index t = ![t.val, 0])
/-- The block of rows of the branches a step reads. -/
theorem place1 : ∀ t : Fin cfg0.N, win0_1.index t = ![t.val, 0] :=
  (by decide +kernel : ∀ t : Fin grid0.N, win0_1.index t = ![t.val, 0])
/-- The block of rows of the gates' arguments a step reads. -/
theorem place2 : ∀ t : Fin cfg0.N, win0_2.index t = ![t.val, 0] :=
  (by decide +kernel : ∀ t : Fin grid0.N, win0_2.index t = ![t.val, 0])
/-- The branches' weights: always whole. -/
theorem place3 : ∀ t : Fin cfg0.N, win0_3.index t = ![0, 0, 0, 0] :=
  (by decide +kernel : ∀ t : Fin grid0.N, win0_3.index t = ![0, 0, 0, 0])
/-- The mixing weights: always whole. -/
theorem place4 : ∀ t : Fin cfg0.N, win0_4.index t = ![0, 0] :=
  (by decide +kernel : ∀ t : Fin grid0.N, win0_4.index t = ![0, 0])
/-- The norm's weight: always the same layer's. -/
theorem place5 : ∀ t : Fin cfg0.N, win0_5.index t = ![1, 0, 0] :=
  (by decide +kernel : ∀ t : Fin grid0.N, win0_5.index t = ![1, 0, 0])

variable (m : (ℓ : Loc nD τ sig) → Buf (Elt Ideal) ℓ) (c : Dev nD)

/-- The launch's cotangent. -/
abbrev a0 : (⟨2, ![4352, 1024]⟩ : Shape).Idx → EReal := m ((c : Thread nD τ).loc main_arg0)
/-- The launch's branches. -/
abbrev a1 : (⟨2, ![4352, 1536]⟩ : Shape).Idx → EReal := m ((c : Thread nD τ).loc main_arg1)
/-- The launch's gates' arguments. -/
abbrev a2 : (⟨2, ![4352, 3072]⟩ : Shape).Idx → EReal := m ((c : Thread nD τ).loc main_arg2)
/-- The launch's branches' weights. -/
abbrev a3 : (⟨4, ![4, 3, 512, 256]⟩ : Shape).Idx → EReal := m ((c : Thread nD τ).loc main_arg3)
/-- The launch's mixing weights. -/
abbrev a4 : (⟨2, ![1024, 1024]⟩ : Shape).Idx → EReal := m ((c : Thread nD τ).loc main_arg4)
/-- The launch's weight of the norm. -/
abbrev a5 : Fin 1024 → EReal := weight (m ((c : Thread nD τ).loc main_arg5))
/-- The mixed rows' gradient, from the launch's arguments. -/
abbrev dm : Fin 4352 → Fin 1024 → EReal := dmix (a0 m c) (a1 m c) (a2 m c) (a3 m c) (a4 m c) (a5 m c)

/-- A row of a step's block, as a row of the whole array. -/
def rowAt (t : Fin cfg0.N) (r : Fin 256) : Fin 4352 :=
  ⟨t.val * 256 + r.val, by have : t.val < 17 := t.isLt; omega⟩

/-- The step's block of the cotangent. -/
theorem block0 (t : Fin cfg0.N) (r : Fin 256) (q : Fin 1024) : iblk m c 0 t (ix2 r q) = a0 m c (ix2 (rowAt t r) q) := by
  unfold rowAt
  blk_ext [iblk, V, place0]
/-- The step's block of the branches. -/
theorem block1 (t : Fin cfg0.N) (r : Fin 256) (q : Fin 1536) : iblk m c 1 t (ix2 r q) = a1 m c (ix2 (rowAt t r) q) := by
  unfold rowAt
  blk_ext [iblk, V, place1]
/-- The step's block of the gates' arguments. -/
theorem block2 (t : Fin cfg0.N) (r : Fin 256) (q : Fin 3072) : iblk m c 2 t (ix2 r q) = a2 m c (ix2 (rowAt t r) q) := by
  unfold rowAt
  blk_ext [iblk, V, place2]
/-- The step's block of the branches' weights. -/
theorem block3 (t : Fin cfg0.N) (p : Fin 4) (g : Fin 3) (k : Fin 512) (e : Fin 256) : iblk m c 3 t (ix4 p g k e) = a3 m c (ix4 p g k e) := by
  blk_ext [iblk, V, place3]
/-- The step's block of the mixing weights. -/
theorem block4 (t : Fin cfg0.N) (e q : Fin 1024) : iblk m c 4 t (ix2 e q) = a4 m c (ix2 e q) := by
  blk_ext [iblk, V, place4]
/-- The step's block of the norm's weight. -/
theorem block5 (t : Fin cfg0.N) (q : Fin 1024) : iblk m c 5 t (ix3 (0 : Fin 1) (0 : Fin 1) q) = a5 m c q := by
  unfold a5 weight
  blk_ext [iblk, V, place5]

/-- A branch's columns lie inside. -/
theorem in1 : ∀ (g : Fin 3), ∀ a, (![0, g.val * 512] : Fin 2 → ℕ) a + ![256, 512] a ≤ S256x1536.size a := by decide
/-- A gate's columns lie inside. -/
theorem in2 : ∀ (g : Fin 3), ∀ a, (![0, g.val * 1024] : Fin 2 → ℕ) a + ![256, 1024] a ≤ S256x3072.size a := by decide

variable (t : Fin cfg0.N)

/-- A branch's block. -/
def BR (g : Fin 3) : Vec Ideal S256x512 .bf16 :=
  View.ld (e' := .bf16) (Val := Elt Ideal) (S := S256x1536) (iblk m c 1 t) (Rect.unit (s := S256x1536) ![0, g.val * 512] ![256, 512] (in1 g))
/-- A gate's arguments' block. -/
def PM (g : Fin 3) : Vec Ideal S256x1024 .bf16 :=
  View.ld (e' := .bf16) (Val := Elt Ideal) (S := S256x3072) (iblk m c 2 t) (Rect.unit (s := S256x3072) ![0, g.val * 1024] ![256, 1024] (in2 g))
/-- A branch's weights. -/
def WB (g : Fin 3) : Fin 4 → Vec Ideal S1x1x512x256 .bf16 := fun p => piece (iblk m c 3 t) g p

/-- A branch's block, read at an element. -/
theorem BR_eq (g : Fin 3) (r : Fin 256) (k : Fin 512) : BR m c t g (ix2 r k) = a1 m c (ix2 (rowAt t r) (⟨g.val * 512 + k.val, by omega⟩ : Fin 1536)) :=
  (View.ld_unit_apply_of _ _ _ (in1 g) (ix2 r k) (ix2 r (⟨g.val * 512 + k.val, by omega⟩ : Fin 1536)) fun x => match x with
    | ⟨0, _⟩ => (Nat.zero_add _).symm
    | ⟨1, _⟩ => rfl).trans (block1 m c t r _)
/-- A gate's arguments, read at an element. -/
theorem PM_eq (g : Fin 3) (r : Fin 256) (k : Fin 1024) : PM m c t g (ix2 r k) = a2 m c (ix2 (rowAt t r) (⟨g.val * 1024 + k.val, by omega⟩ : Fin 3072)) :=
  (View.ld_unit_apply_of _ _ _ (in2 g) (ix2 r k) (ix2 r (⟨g.val * 1024 + k.val, by omega⟩ : Fin 3072)) fun x => match x with
    | ⟨0, _⟩ => (Nat.zero_add _).symm
    | ⟨1, _⟩ => rfl).trans (block2 m c t r _)
/-- A branch's weights, read at an element. -/
theorem WB_eq (g : Fin 3) (p : Fin 4) (k : Fin 512) (e : Fin 256) : WB m c t g p (ix4 (0 : Fin 1) (0 : Fin 1) k e) = a3 m c (ix4 p g k e) :=
  (piece_eq _ g p k e).trans (block3 m c t p g k e)

/-- The three branches' projections, as the step computes them. -/
def LIFT : Fin 3 → FVec Ideal S256x1024 .f32
  | 0 => k0_pay6 (F := Ideal) (BR m c t 0) (WB m c t 0 0) (WB m c t 0 1) (WB m c t 0 2) (WB m c t 0 3)
  | 1 => k0_pay9 (F := Ideal) (BR m c t 1) (WB m c t 1 0) (WB m c t 1 1) (WB m c t 1 2) (WB m c t 1 3)
  | 2 => k0_pay13 (F := Ideal) (BR m c t 2) (k0_pay12 (F := Ideal) (WB m c t 2 0)) (constant S256x256 .f32 0x00000000#32) (WB m c t 2 1) (WB m c t 2 2) (WB m c t 2 3)
/-- The three gates, as the step computes them. -/
def GATE : Fin 3 → FVec Ideal S256x1024 .f32
  | 0 => k0_pay7 (F := Ideal) (PM m c t 0)
  | 1 => k0_pay10 (F := Ideal) (PM m c t 1)
  | 2 => k0_pay14 (F := Ideal) (PM m c t 2)
/-- The first two branches' gated sum. -/
def TWO : FVec Ideal S256x1024 .f32 :=
  k0_pay11 (F := Ideal) (k0_pay8 (F := Ideal) (BR m c t 0) (WB m c t 0 0) (WB m c t 0 1) (WB m c t 0 2) (WB m c t 0 3) (PM m c t 0))
    (BR m c t 1) (WB m c t 1 0) (WB m c t 1 1) (WB m c t 1 2) (WB m c t 1 3) (PM m c t 1)
/-- The gated sum. -/
def GATED : FVec Ideal S256x1024 .f32 :=
  k0_pay15 (F := Ideal) (TWO m c t) (BR m c t 2) (k0_pay12 (F := Ideal) (WB m c t 2 0)) (constant S256x256 .f32 0x00000000#32)
    (WB m c t 2 1) (WB m c t 2 2) (WB m c t 2 3) (PM m c t 2)
/-- The mixed rows. -/
def MIXED : FVec Ideal S256x1024 .f32 :=
  k0_pay16 (F := Ideal) (TWO m c t) (BR m c t 2) (k0_pay12 (F := Ideal) (WB m c t 2 0)) (constant S256x256 .f32 0x00000000#32)
    (WB m c t 2 1) (WB m c t 2 2) (WB m c t 2 3) (PM m c t 2) (iblk m c 4 t)
/-- The mixed rows' scale. -/
def SCALE : FVec Ideal S256x1 .f32 :=
  k0_pay17 (F := Ideal) (TWO m c t) (BR m c t 2) (k0_pay12 (F := Ideal) (WB m c t 2 0)) (constant S256x256 .f32 0x00000000#32)
    (WB m c t 2 1) (WB m c t 2 2) (WB m c t 2 3) (PM m c t 2) (iblk m c 4 t)
/-- The gated sum's gradient. -/
def DPRE : FVec Ideal S256x1024 .f32 :=
  k0_pay22 (F := Ideal) (MIXED m c t) (SCALE m c t) (iblk m c 0 t) (iblk m c 5 t) (iblk m c 4 t)
/-- A branch's projection's gradient. -/
def DLIFT (g : Fin 3) : FVec Ideal S256x1024 .bf16 := k0_pay37 (F := Ideal) (GATE m c t g) (DPRE m c t)

/-- A block's projection is the spec's. -/
theorem liftB_eq (g : Fin 3) (r : Fin 256) (q : Fin 1024) : liftB (BR m c t g) (WB m c t g) r q = lift (a1 m c) (a3 m c) (rowAt t r) g q :=
  Finset.sum_congr rfl fun k _ => congrArg₂ (fun a b : EReal => a * b) (BR_eq m c t g r k) (WB_eq m c t g _ k _)

/-- The projections, read at an element. -/
theorem LIFT_eq : ∀ (g : Fin 3) (r : Fin 256) (q : Fin 1024), LIFT m c t g (ix2 r q) = lift (a1 m c) (a3 m c) (rowAt t r) g q
  | 0, r, q => (lift0_eq (BR m c t 0) (WB m c t 0) r q).trans (liftB_eq m c t 0 r q)
  | 1, r, q => (lift1_eq (BR m c t 1) (WB m c t 1) r q).trans (liftB_eq m c t 1 r q)
  | 2, r, q => (lift2_eq (BR m c t 2) (WB m c t 2) r q).trans (liftB_eq m c t 2 r q)

/-- The gates, read at an element. -/
theorem GATE_eq : ∀ (g : Fin 3) (r : Fin 256) (q : Fin 1024), GATE m c t g (ix2 r q) = gate (a2 m c) (rowAt t r) g q
  | 0, r, q => (gate0_eq (PM m c t 0) r q).trans (congrArg Idealize.ShloMosaic.Ideal.logistic (PM_eq m c t 0 r q))
  | 1, r, q => (gate1_eq (PM m c t 1) r q).trans (congrArg Idealize.ShloMosaic.Ideal.logistic (PM_eq m c t 1 r q))
  | 2, r, q => (gate2_eq (PM m c t 2) r q).trans (congrArg Idealize.ShloMosaic.Ideal.logistic (PM_eq m c t 2 r q))

/-- The gated sum is the three products' sum. -/
theorem GATED_sum (i : S256x1024.Idx) : GATED m c t i
    = GATE m c t 0 i * LIFT m c t 0 i + GATE m c t 1 i * LIFT m c t 1 i + GATE m c t 2 i * LIFT m c t 2 i := rfl

/-- The gated sum, read at an element. -/
theorem GATED_eq (r : Fin 256) (q : Fin 1024) : GATED m c t (ix2 r q) = gated (a1 m c) (a2 m c) (a3 m c) (rowAt t r) q := by
  unfold gated
  rw [GATED_sum, Fin.sum_univ_three, GATE_eq, GATE_eq, GATE_eq, LIFT_eq, LIFT_eq, LIFT_eq]

/-- The mixed rows, read at an element. -/
theorem MIXED_eq (r : Fin 256) (q : Fin 1024) : MIXED m c t (ix2 r q) = mixed (a1 m c) (a2 m c) (a3 m c) (a4 m c) (rowAt t r) q :=
  (mixed_eq _ _ _ _ _ _ _ _ _ r q).trans (Finset.sum_congr rfl fun d _ => congrArg₂ (fun a b : EReal => a * b) (GATED_eq m c t r d) (block4 m c t d q))

/-- The scale, read at a row. -/
theorem SCALE_eq (r : Fin 256) : SCALE m c t (ix2 r (0 : Fin 1)) = Cert.Norm.scale (mixed (a1 m c) (a2 m c) (a3 m c) (a4 m c) (rowAt t r)) :=
  scale_eq _ _ _ _ _ _ _ _ _ r _ (MIXED_eq m c t r)

/-- The mixed rows' gradient, read at an element. -/
theorem DMIX_eq (r : Fin 256) (q : Fin 1024) :
    k0_pay20 (F := Ideal) (MIXED m c t) (SCALE m c t) (iblk m c 0 t) (iblk m c 5 t) (ix2 r q) = dm m c (rowAt t r) q := by
  refine (dmix_eq _ _ _ _ r q _ (MIXED_eq m c t r) (SCALE_eq m c t r)).trans ?_
  have h0 : (fun k : Fin 1024 => iblk m c 0 t (ix2 r k)) = fun k => a0 m c (ix2 (rowAt t r) k) := funext fun k => block0 m c t r k
  have h5 : (fun k : Fin 1024 => iblk m c 5 t (ix3 (0 : Fin 1) (0 : Fin 1) k)) = a5 m c := funext fun k => block5 m c t k
  exact congrArg₂ (fun o w => Cert.Norm.factored (mixed (a1 m c) (a2 m c) (a3 m c) (a4 m c) (rowAt t r)) o w 0 q) h0 h5

/-- The gated sum's gradient, read at an element. -/
theorem DPRE_eq (r : Fin 256) (e : Fin 1024) : DPRE m c t (ix2 r e) = dgated (a4 m c) (dm m c) (rowAt t r) e :=
  (dgated_eq _ _ _ _ _ r e).trans (Finset.sum_congr rfl fun q _ => congrArg₂ (fun a b : EReal => a * b) (DMIX_eq m c t r q) (block4 m c t e q))

/-- A projection's gradient, read at an element. -/
theorem DLIFT_eq (g : Fin 3) (r : Fin 256) (e : Fin 1024) : DLIFT m c t g (ix2 r e) = dlift (a2 m c) (a4 m c) (dm m c) (rowAt t r) g e :=
  congrArg₂ (fun a b : EReal => a * b) (DPRE_eq m c t r e) (GATE_eq m c t g r e)

/-- A gate's arguments' gradient, read at an element. -/
theorem DGATE_eq (g : Fin 3) (r : Fin 256) (e : Fin 1024) : k0_pay38 (F := Ideal) (LIFT m c t g) (GATE m c t g) (DPRE m c t) (ix2 r e)
    = dgate (a1 m c) (a2 m c) (a3 m c) (a4 m c) (dm m c) (rowAt t r) g e := by
  rw [dgate1_eq, DPRE_eq, LIFT_eq, GATE_eq]
  rfl

/-- A branch's gradient, read at an element. -/
theorem DBRANCH_eq (g : Fin 3) (r : Fin 256) (k : Fin 512) : dbranchB (WB m c t g) (DLIFT m c t g) r k
    = dbranch (a2 m c) (a3 m c) (a4 m c) (dm m c) (rowAt t r) g k := by
  unfold dbranchB dbranch
  refine Fin.sum_mul_add_congr (f := fun e : Fin 1024 => dlift (a2 m c) (a4 m c) (dm m c) (rowAt t r) g e
    * a3 m c (ix4 ⟨e.val / 256, by omega⟩ g k ⟨e.val % 256, Nat.mod_lt _ (by decide)⟩)) fun j e hl => ?_
  refine congrArg₂ (fun a b : EReal => a * b) (DLIFT_eq m c t g r _) ((WB_eq m c t g j k e).trans ?_)
  have h1 : (⟨(j.val * 256 + e.val) / 256, by omega⟩ : Fin 4) = j := Fin.ext (by show (j.val * 256 + e.val) / 256 = j.val; omega)
  have h2 : (⟨(j.val * 256 + e.val) % 256, Nat.mod_lt _ (by decide)⟩ : Fin 256) = e := Fin.ext (by show (j.val * 256 + e.val) % 256 = e.val; omega)
  exact congrArg₂ (fun a b => a3 m c (ix4 a g k b)) h1.symm h2.symm

/-- What a block adds to a piece of the branches' weights' gradient. -/
theorem weightsB_eq (g : Fin 3) (j : Fin 4) (P : Vec Ideal S1x1x512x256 .f32) (k : Fin 512) (e : Fin 256) :
    weightsB (BR m c t g) P (DLIFT m c t g) j k e = P (ix4 (0 : Fin 1) (0 : Fin 1) k e)
      + ∑ r : Fin 256, a1 m c (ix2 (rowAt t r) (⟨g.val * 512 + k.val, by omega⟩ : Fin 1536))
          * dlift (a2 m c) (a4 m c) (dm m c) (rowAt t r) g (⟨j.val * 256 + e.val, by omega⟩ : Fin 1024) :=
  congrArg _ (Finset.sum_congr rfl fun r _ => congrArg₂ (fun a b : EReal => a * b) (BR_eq m c t g r k) (DLIFT_eq m c t g r _))

end Cert.Merge
-- ==== Proof.Merge.Outs.lean ====
module

public import proofs.«01_k».proof.Proof.Pieces
public import proofs.«01_k».proof.Proof.Merge.Step
public import Idealize.ShloMosaic.Lib.WritesUnit

/-! The backward pass of the merge: what a step leaves in four of its result blocks. -/

@[expose] public section

set_option maxRecDepth 16384

noncomputable section

namespace Cert.Merge

open Idealize.ShloMosaic Idealize.ShloMosaic.TcCoe Idealize.SL.Sem Cert.Branches Cert.Kernel8Ideal Cert.Kernel8Ideal.Gen

variable (m : (ℓ : Loc nD τ sig) → Buf (Elt Ideal) ℓ) (c : Dev nD) (t : Fin cfg0.N)

/-- A step's block of the branches' gradient. -/
theorem step_dbranch (r : Fin 256) (g : Fin 3) (k : Fin 512) :
    (outsAt0 m c t.val t.isLt).1 (ix2 r (⟨g.val * 512 + k.val, by omega⟩ : Fin 1536))
      = dbranch (a2 m c) (a3 m c) (a4 m c) (dm m c) (rowAt t r) g k := by
  by_cases h : t.val % 17 = 0
  · rw [outsAt0_A m c t h]
    frame_out [Memref.IsWhole.read_unread]
    obtain rfl | rfl | rfl : g = 0 ∨ g = 1 ∨ g = 2 := by revert g; decide
    · refine (Cert.Pieces.cols_skip (M := 256) (N := 1536) (W := 512) (o := 1024) _ _ _ r _ (Or.inl (by show 0 * 512 + k.val < 1024; omega))).trans ?_
      refine (Cert.Pieces.cols_skip (M := 256) (N := 1536) (W := 512) (o := 512) _ _ _ r _ (Or.inl (by show 0 * 512 + k.val < 512; omega))).trans ?_
      refine (Cert.Pieces.cols_hit (M := 256) (N := 1536) (W := 512) (o := 0) _ _ _ r _ k (by show 0 * 512 + k.val = 0 + k.val; omega)).trans ?_
      exact (dbranch0_eq (WB m c t 0) r k (DLIFT m c t 0)).trans (DBRANCH_eq m c t 0 r k)
    · refine (Cert.Pieces.cols_skip (M := 256) (N := 1536) (W := 512) (o := 1024) _ _ _ r _ (Or.inl (by show 1 * 512 + k.val < 1024; omega))).trans ?_
      refine (Cert.Pieces.cols_hit (M := 256) (N := 1536) (W := 512) (o := 512) _ _ _ r _ k (by show 1 * 512 + k.val = 512 + k.val; omega)).trans ?_
      exact (dbranch1_eq (GATE m c t 1) (DPRE m c t) (WB m c t 1) r k).trans (DBRANCH_eq m c t 1 r k)
    · refine (Cert.Pieces.cols_hit (M := 256) (N := 1536) (W := 512) (o := 1024) _ _ _ r _ k (by show 2 * 512 + k.val = 1024 + k.val; omega)).trans ?_
      exact (dbranch2_eq (GATE m c t 2) (DPRE m c t) (WB m c t 2) r k).trans (DBRANCH_eq m c t 2 r k)
  · rw [outsAt0_B m c t h]
    frame_out [Memref.IsWhole.read_unread]
    obtain rfl | rfl | rfl : g = 0 ∨ g = 1 ∨ g = 2 := by revert g; decide
    · refine (Cert.Pieces.cols_skip (M := 256) (N := 1536) (W := 512) (o := 1024) _ _ _ r _ (Or.inl (by show 0 * 512 + k.val < 1024; omega))).trans ?_
      refine (Cert.Pieces.cols_skip (M := 256) (N := 1536) (W := 512) (o := 512) _ _ _ r _ (Or.inl (by show 0 * 512 + k.val < 512; omega))).trans ?_
      refine (Cert.Pieces.cols_hit (M := 256) (N := 1536) (W := 512) (o := 0) _ _ _ r _ k (by show 0 * 512 + k.val = 0 + k.val; omega)).trans ?_
      exact (dbranch0_eq (WB m c t 0) r k (DLIFT m c t 0)).trans (DBRANCH_eq m c t 0 r k)
    · refine (Cert.Pieces.cols_skip (M := 256) (N := 1536) (W := 512) (o := 1024) _ _ _ r _ (Or.inl (by show 1 * 512 + k.val < 1024; omega))).trans ?_
      refine (Cert.Pieces.cols_hit (M := 256) (N := 1536) (W := 512) (o := 512) _ _ _ r _ k (by show 1 * 512 + k.val = 512 + k.val; omega)).trans ?_
      exact (dbranch1_eq (GATE m c t 1) (DPRE m c t) (WB m c t 1) r k).trans (DBRANCH_eq m c t 1 r k)
    · refine (Cert.Pieces.cols_hit (M := 256) (N := 1536) (W := 512) (o := 1024) _ _ _ r _ k (by show 2 * 512 + k.val = 1024 + k.val; omega)).trans ?_
      exact (dbranch2_eq (GATE m c t 2) (DPRE m c t) (WB m c t 2) r k).trans (DBRANCH_eq m c t 2 r k)

/-- A step's block of the gates' arguments' gradient. -/
theorem step_dgate (r : Fin 256) (g : Fin 3) (k : Fin 1024) :
    (outsAt0 m c t.val t.isLt).2.1 (ix2 r (⟨g.val * 1024 + k.val, by omega⟩ : Fin 3072))
      = dgate (a1 m c) (a2 m c) (a3 m c) (a4 m c) (dm m c) (rowAt t r) g k := by
  by_cases h : t.val % 17 = 0
  · rw [outsAt0_A m c t h]
    frame_out [Memref.IsWhole.read_unread]
    obtain rfl | rfl | rfl : g = 0 ∨ g = 1 ∨ g = 2 := by revert g; decide
    · refine (Cert.Pieces.cols_skip (M := 256) (N := 3072) (W := 1024) (o := 2048) _ _ _ r _ (Or.inl (by show 0 * 1024 + k.val < 2048; omega))).trans ?_
      refine (Cert.Pieces.cols_skip (M := 256) (N := 3072) (W := 1024) (o := 1024) _ _ _ r _ (Or.inl (by show 0 * 1024 + k.val < 1024; omega))).trans ?_
      refine (Cert.Pieces.cols_hit (M := 256) (N := 3072) (W := 1024) (o := 0) _ _ _ r _ k (by show 0 * 1024 + k.val = 0 + k.val; omega)).trans ?_
      exact DGATE_eq m c t 0 r k
    · refine (Cert.Pieces.cols_skip (M := 256) (N := 3072) (W := 1024) (o := 2048) _ _ _ r _ (Or.inl (by show 1 * 1024 + k.val < 2048; omega))).trans ?_
      refine (Cert.Pieces.cols_hit (M := 256) (N := 3072) (W := 1024) (o := 1024) _ _ _ r _ k (by show 1 * 1024 + k.val = 1024 + k.val; omega)).trans ?_
      exact DGATE_eq m c t 1 r k
    · refine (Cert.Pieces.cols_hit (M := 256) (N := 3072) (W := 1024) (o := 2048) _ _ _ r _ k (by show 2 * 1024 + k.val = 2048 + k.val; omega)).trans ?_
      exact DGATE_eq m c t 2 r k
  · rw [outsAt0_B m c t h]
    frame_out [Memref.IsWhole.read_unread]
    obtain rfl | rfl | rfl : g = 0 ∨ g = 1 ∨ g = 2 := by revert g; decide
    · refine (Cert.Pieces.cols_skip (M := 256) (N := 3072) (W := 1024) (o := 2048) _ _ _ r _ (Or.inl (by show 0 * 1024 + k.val < 2048; omega))).trans ?_
      refine (Cert.Pieces.cols_skip (M := 256) (N := 3072) (W := 1024) (o := 1024) _ _ _ r _ (Or.inl (by show 0 * 1024 + k.val < 1024; omega))).trans ?_
      refine (Cert.Pieces.cols_hit (M := 256) (N := 3072) (W := 1024) (o := 0) _ _ _ r _ k (by show 0 * 1024 + k.val = 0 + k.val; omega)).trans ?_
      exact DGATE_eq m c t 0 r k
    · refine (Cert.Pieces.cols_skip (M := 256) (N := 3072) (W := 1024) (o := 2048) _ _ _ r _ (Or.inl (by show 1 * 1024 + k.val < 2048; omega))).trans ?_
      refine (Cert.Pieces.cols_hit (M := 256) (N := 3072) (W := 1024) (o := 1024) _ _ _ r _ k (by show 1 * 1024 + k.val = 1024 + k.val; omega)).trans ?_
      exact DGATE_eq m c t 1 r k
    · refine (Cert.Pieces.cols_hit (M := 256) (N := 3072) (W := 1024) (o := 2048) _ _ _ r _ k (by show 2 * 1024 + k.val = 2048 + k.val; omega)).trans ?_
      exact DGATE_eq m c t 2 r k

/-- What a step adds to the mixing weights' gradient. -/
def addMixing (t : Fin cfg0.N) (j : S1024x1024.Idx) : EReal :=
  ∑ r : Fin 256, gated (a1 m c) (a2 m c) (a3 m c) (rowAt t r) (j 0) * dm m c (rowAt t r) (j 1)

/-- A step but the first adds it. -/
theorem step_dmixing (h : ¬t.val % 17 = 0) (e q : Fin 1024) : (outsAt0 m c t.val t.isLt).2.2.2.2 (ix2 e q)
    = (outsAt0 m c (t.val - 1) (Nat.lt_of_le_of_lt (Nat.sub_le _ _) t.isLt)).2.2.2.2 (ix2 e q) + addMixing m c t (ix2 e q) := by
  rw [outsAt0_B m c t h]
  frame_out [Memref.IsWhole.read_unread]
  refine (dmixing_eq (MIXED m c t) (SCALE m c t) (iblk m c 0 t) (iblk m c 5 t) (GATED m c t) _ e q).trans ?_
  exact congrArg _ (Finset.sum_congr rfl fun r _ => congrArg₂ (fun a b : EReal => a * b) (GATED_eq m c t r e) (DMIX_eq m c t r q))

/-- The first step starts from zero. -/
theorem start_dmixing (h : t.val % 17 = 0) (e q : Fin 1024) : (outsAt0 m c t.val t.isLt).2.2.2.2 (ix2 e q) = 0 + addMixing m c t (ix2 e q) := by
  rw [outsAt0_A m c t h]
  frame_out [Memref.IsWhole.read_unread]
  refine (dmixing_eq (MIXED m c t) (SCALE m c t) (iblk m c 0 t) (iblk m c 5 t) (GATED m c t) _ e q).trans ?_
  refine congrArg₂ (fun a b : EReal => a + b) ?_ (Finset.sum_congr rfl fun r _ => congrArg₂ (fun a b : EReal => a * b) (GATED_eq m c t r e) (DMIX_eq m c t r q))
  pointwise [k0_pay4]

/-- What a step adds to the norm weight's gradient, in the first row. -/
def addNorm (t : Fin cfg0.N) (j : S8x1024.Idx) : EReal :=
  if (j 0).val = 0 then ∑ r : Fin 256, a0 m c (ix2 (rowAt t r) (j 1)) * (mixed (a1 m c) (a2 m c) (a3 m c) (a4 m c) (rowAt t r) (j 1)
    * Cert.Norm.scale (mixed (a1 m c) (a2 m c) (a3 m c) (a4 m c) (rowAt t r))) else 0

/-- The first row's value. -/
theorem norm_row (P : Vec Ideal S1x1024 .f32) (r : Fin 8) (q : Fin 1024) (hr : r.val = 0) :
    k0_pay19 (F := Ideal) (MIXED m c t) (SCALE m c t) (iblk m c 0 t) P (ix2 (0 : Fin 1) q) = P (ix2 (0 : Fin 1) q) + addNorm m c t (ix2 r q) := by
  refine (dnorm_eq _ _ _ P q).trans (congrArg _ ?_)
  unfold addNorm
  refine Eq.trans ?_ (if_pos hr).symm
  exact Finset.sum_congr rfl fun p _ => congrArg₂ (fun a b : EReal => a * b) (block0 m c t p q)
    (congrArg₂ (fun a b : EReal => a * b) (MIXED_eq m c t p q) (SCALE_eq m c t p))

/-- The other rows get nothing. -/
theorem norm_below (r : Fin 8) (q : Fin 1024) (hr : ¬r.val = 0) : addNorm m c t (ix2 r q) = 0 := if_neg hr

/-- A step but the first adds it. -/
theorem step_dnorm (h : ¬t.val % 17 = 0) (r : Fin 8) (q : Fin 1024) : (outsAt0 m c t.val t.isLt).2.2.1 (ix2 r q)
    = (outsAt0 m c (t.val - 1) (Nat.lt_of_le_of_lt (Nat.sub_le _ _) t.isLt)).2.2.1 (ix2 r q) + addNorm m c t (ix2 r q) := by
  rw [outsAt0_B m c t h]
  frame_out [Memref.IsWhole.read_unread]
  by_cases hr : r.val = 0
  · refine (View.read_writes_cons_rows_of_mem _ _ _ _ _ _ (ix2 (0:Fin 1) q) rfl ?_ ?_).trans ?_
    · exact hr
    · rfl
    refine (norm_row m c t _ r q hr).trans (congrArg₂ (fun a b : EReal => a + b) ?_ rfl)
    have hr' : r = 0 := Fin.ext hr
    subst hr'
    unfold View.ld
    refine congrArg (outsAt0 m c (t.val - 1) _).2.2.1 ?_
    funext a
    match a with
    | ⟨0, _⟩ => rfl
    | ⟨1, _⟩ => exact Fin.ext (by show 0 + 1 * q.val = q.val; omega)
  · rw [norm_below m c t r q hr, add_zero]
    refine (View.read_writes_cons_rows_of_not_mem _ _ _ _ _ _ (o := 0) (W := 1) rfl rfl (Or.inr ?_)).trans ?_
    · show 0 + 1 ≤ r.val
      omega
    · rw [View.writes_nil]
      exact congrFun (Memref.IsWhole.read_unread _ _) _

/-- The block of zeros the first step writes. -/
theorem zero_norm (inb) (r : Fin 8) (q : Fin 1024) :
    View.canon [(⟨Rect.unit (s := S8x1024) ![0, 0] ![8, 1024] inb, k0_pay5 (F := Ideal)⟩ : View.Piece (Elt Ideal) S8x1024 .f32)] (ix2 r q) = 0 := by
  refine (congrFun (View.canon_cons_unit_lit inb _ _ (by decide)) _).trans ?_
  pointwise [k0_pay5]

/-- The first step starts from zero. -/
theorem start_dnorm (h : t.val % 17 = 0) (r : Fin 8) (q : Fin 1024) : (outsAt0 m c t.val t.isLt).2.2.1 (ix2 r q) = 0 + addNorm m c t (ix2 r q) := by
  rw [outsAt0_A m c t h]
  frame_out [Memref.IsWhole.read_unread]
  by_cases hr : r.val = 0
  · refine (Cert.Pieces.row_hit (M := 8) (N := 1024) _ _ _ r q hr).trans ?_
    refine (norm_row m c t _ r q hr).trans (congrArg₂ (fun a b : EReal => a + b) ?_ rfl)
    rw [View.readCov_eq_canon']
    refine Eq.trans (congrArg _ ?_) (zero_norm _ (0 : Fin 8) q)
    funext a
    match a with
    | ⟨0, _⟩ => rfl
    | ⟨1, _⟩ => exact Fin.ext (by show 0 + 1 * q.val = q.val; omega)
  · rw [norm_below m c t r q hr, add_zero]
    exact (Cert.Pieces.row_skip (M := 8) (N := 1024) _ _ _ r q hr).trans (zero_norm _ r q)

end Cert.Merge
-- ==== Proof.Merge.Weights.lean ====
module

public import proofs.«01_k».proof.Proof.Pieces
public import proofs.«01_k».proof.Proof.Merge.Step
public import Idealize.ShloMosaic.Lib.WritesUnit

/-! The backward pass of the merge: what a step leaves in its block of the branches' weights' gradient. -/

@[expose] public section

set_option maxRecDepth 16384

noncomputable section

namespace Cert.Merge

open Idealize.ShloMosaic Idealize.ShloMosaic.TcCoe Idealize.SL.Sem Cert.Branches Cert.Kernel8Ideal Cert.Kernel8Ideal.Gen

variable (m : (ℓ : Loc nD τ sig) → Buf (Elt Ideal) ℓ) (c : Dev nD) (t : Fin cfg0.N)

/-- What a step adds to the branches' weights' gradient. -/
def addWeights (t : Fin cfg0.N) (p : Fin 4) (g : Fin 3) (k : Fin 512) (e : Fin 256) : EReal :=
  ∑ r : Fin 256, a1 m c (ix2 (rowAt t r) (⟨g.val * 512 + k.val, by omega⟩ : Fin 1536))
    * dlift (a2 m c) (a4 m c) (dm m c) (rowAt t r) g (⟨p.val * 256 + e.val, by omega⟩ : Fin 1024)

set_option maxHeartbeats 4000000 in
/-- A step but the first adds it. -/
theorem step_dweights (h : ¬t.val % 17 = 0) (p : Fin 4) (g : Fin 3) (k : Fin 512) (e : Fin 256) : (outsAt0 m c t.val t.isLt).2.2.2.1 (ix4 p g k e)
    = (outsAt0 m c (t.val - 1) (Nat.lt_of_le_of_lt (Nat.sub_le _ _) t.isLt)).2.2.2.1 (ix4 p g k e) + addWeights m c t p g k e := by
  rw [outsAt0_B m c t h]
  frame_out [Memref.IsWhole.read_unread]
  obtain rfl | rfl | rfl : g = 0 ∨ g = 1 ∨ g = 2 := by revert g; decide
  all_goals obtain rfl | rfl | rfl | rfl : p = 0 ∨ p = 1 ∨ p = 2 ∨ p = 3 := by revert p; decide
  all_goals
    repeat refine (Cert.Pieces.stack_skip (A := 4) (B := 3) (C := 512) (D := 256) _ _ _ _ _ k e (by decide)).trans ?_
    refine (Cert.Pieces.stack_hit (A := 4) (B := 3) (C := 512) (D := 256) _ _ _ _ _ k e (by decide) (by decide)).trans ?_
  · exact (weights00_eq (DLIFT m c t 0) (BR m c t 0) _ k e).trans ((weightsB_eq m c t 0 0 _ k e).trans (congrArg₂ (fun a b : EReal => a + b) (Cert.Pieces.stack_load (A := 4) (B := 3) (C := 512) (D := 256) _ _ 0 0 k e (by decide) (by decide)) rfl))
  · exact (weights10_eq (DLIFT m c t 0) (BR m c t 0) _ k e).trans ((weightsB_eq m c t 0 1 _ k e).trans (congrArg₂ (fun a b : EReal => a + b) (Cert.Pieces.stack_load (A := 4) (B := 3) (C := 512) (D := 256) _ _ 1 0 k e (by decide) (by decide)) rfl))
  · exact (weights20_eq (DLIFT m c t 0) (BR m c t 0) _ k e).trans ((weightsB_eq m c t 0 2 _ k e).trans (congrArg₂ (fun a b : EReal => a + b) (Cert.Pieces.stack_load (A := 4) (B := 3) (C := 512) (D := 256) _ _ 2 0 k e (by decide) (by decide)) rfl))
  · exact (weights30_eq (DLIFT m c t 0) (BR m c t 0) _ k e).trans ((weightsB_eq m c t 0 3 _ k e).trans (congrArg₂ (fun a b : EReal => a + b) (Cert.Pieces.stack_load (A := 4) (B := 3) (C := 512) (D := 256) _ _ 3 0 k e (by decide) (by decide)) rfl))
  · exact (weights01_eq (GATE m c t 1) (DPRE m c t) (BR m c t 1) _ k e).trans ((weightsB_eq m c t 1 0 _ k e).trans (congrArg₂ (fun a b : EReal => a + b) (Cert.Pieces.stack_load (A := 4) (B := 3) (C := 512) (D := 256) _ _ 0 1 k e (by decide) (by decide)) rfl))
  · exact (weights11_eq (GATE m c t 1) (DPRE m c t) (BR m c t 1) _ k e).trans ((weightsB_eq m c t 1 1 _ k e).trans (congrArg₂ (fun a b : EReal => a + b) (Cert.Pieces.stack_load (A := 4) (B := 3) (C := 512) (D := 256) _ _ 1 1 k e (by decide) (by decide)) rfl))
  · exact (weights21_eq (DLIFT m c t 1) (BR m c t 1) _ k e).trans ((weightsB_eq m c t 1 2 _ k e).trans (congrArg₂ (fun a b : EReal => a + b) (Cert.Pieces.stack_load (A := 4) (B := 3) (C := 512) (D := 256) _ _ 2 1 k e (by decide) (by decide)) rfl))
  · exact (weights31_eq (DLIFT m c t 1) (BR m c t 1) _ k e).trans ((weightsB_eq m c t 1 3 _ k e).trans (congrArg₂ (fun a b : EReal => a + b) (Cert.Pieces.stack_load (A := 4) (B := 3) (C := 512) (D := 256) _ _ 3 1 k e (by decide) (by decide)) rfl))
  · exact (weights02_eq (GATE m c t 2) (DPRE m c t) (BR m c t 2) _ k e).trans ((weightsB_eq m c t 2 0 _ k e).trans (congrArg₂ (fun a b : EReal => a + b) (Cert.Pieces.stack_load (A := 4) (B := 3) (C := 512) (D := 256) _ _ 0 2 k e (by decide) (by decide)) rfl))
  · exact (weights12_eq (GATE m c t 2) (DPRE m c t) (BR m c t 2) _ k e).trans ((weightsB_eq m c t 2 1 _ k e).trans (congrArg₂ (fun a b : EReal => a + b) (Cert.Pieces.stack_load (A := 4) (B := 3) (C := 512) (D := 256) _ _ 1 2 k e (by decide) (by decide)) rfl))
  · exact (weights22_eq (DLIFT m c t 2) (BR m c t 2) _ k e).trans ((weightsB_eq m c t 2 2 _ k e).trans (congrArg₂ (fun a b : EReal => a + b) (Cert.Pieces.stack_load (A := 4) (B := 3) (C := 512) (D := 256) _ _ 2 2 k e (by decide) (by decide)) rfl))
  · exact (weights32_eq (DLIFT m c t 2) (BR m c t 2) _ k e).trans ((weightsB_eq m c t 2 3 _ k e).trans (congrArg₂ (fun a b : EReal => a + b) (Cert.Pieces.stack_load (A := 4) (B := 3) (C := 512) (D := 256) _ _ 3 2 k e (by decide) (by decide)) rfl))

/-- The block of zeros the first step writes. -/
theorem zero_weights (inb) (p : Fin 4) (g : Fin 3) (k : Fin 512) (e : Fin 256) :
    View.canon [(⟨Rect.unit (s := S4x3x512x256) ![0, 0, 0, 0] ![4, 3, 512, 256] inb, k0_pay3 (F := Ideal)⟩ : View.Piece (Elt Ideal) S4x3x512x256 .f32)] (ix4 p g k e) = 0 := by
  refine (congrFun (View.canon_cons_unit_lit inb _ _ (by decide)) _).trans ?_
  pointwise [k0_pay3]

set_option maxHeartbeats 4000000 in
/-- The first step starts from zero. -/
theorem start_dweights (h : t.val % 17 = 0) (p : Fin 4) (g : Fin 3) (k : Fin 512) (e : Fin 256) : (outsAt0 m c t.val t.isLt).2.2.2.1 (ix4 p g k e)
    = 0 + addWeights m c t p g k e := by
  rw [outsAt0_A m c t h]
  frame_out [Memref.IsWhole.read_unread]
  obtain rfl | rfl | rfl : g = 0 ∨ g = 1 ∨ g = 2 := by revert g; decide
  all_goals obtain rfl | rfl | rfl | rfl : p = 0 ∨ p = 1 ∨ p = 2 ∨ p = 3 := by revert p; decide
  · iterate 11 refine (Cert.Pieces.stack_skip (A := 4) (B := 3) (C := 512) (D := 256) _ _ _ 0 0 k e (by decide)).trans ?_
    refine (Cert.Pieces.stack_hit (A := 4) (B := 3) (C := 512) (D := 256) _ _ _ 0 0 k e (by decide) (by decide)).trans ?_
    refine (weights00_eq (DLIFT m c t 0) (BR m c t 0) _ k e).trans ((weightsB_eq m c t 0 0 _ k e).trans (congrArg₂ (fun a b : EReal => a + b) ?_ rfl))
    refine (Cert.Pieces.stack_back (A := 4) (B := 3) (C := 512) (D := 256) _ _ _ 0 0 k e (by decide) (by decide)).trans ?_
    iterate 0 refine (Cert.Pieces.stack_skip (A := 4) (B := 3) (C := 512) (D := 256) _ _ _ 0 0 k e (by decide)).trans ?_
    exact zero_weights _ 0 0 k e
  · iterate 10 refine (Cert.Pieces.stack_skip (A := 4) (B := 3) (C := 512) (D := 256) _ _ _ 1 0 k e (by decide)).trans ?_
    refine (Cert.Pieces.stack_hit (A := 4) (B := 3) (C := 512) (D := 256) _ _ _ 1 0 k e (by decide) (by decide)).trans ?_
    refine (weights10_eq (DLIFT m c t 0) (BR m c t 0) _ k e).trans ((weightsB_eq m c t 0 1 _ k e).trans (congrArg₂ (fun a b : EReal => a + b) ?_ rfl))
    refine (Cert.Pieces.stack_back (A := 4) (B := 3) (C := 512) (D := 256) _ _ _ 1 0 k e (by decide) (by decide)).trans ?_
    iterate 1 refine (Cert.Pieces.stack_skip (A := 4) (B := 3) (C := 512) (D := 256) _ _ _ 1 0 k e (by decide)).trans ?_
    exact zero_weights _ 1 0 k e
  · iterate 9 refine (Cert.Pieces.stack_skip (A := 4) (B := 3) (C := 512) (D := 256) _ _ _ 2 0 k e (by decide)).trans ?_
    refine (Cert.Pieces.stack_hit (A := 4) (B := 3) (C := 512) (D := 256) _ _ _ 2 0 k e (by decide) (by decide)).trans ?_
    refine (weights20_eq (DLIFT m c t 0) (BR m c t 0) _ k e).trans ((weightsB_eq m c t 0 2 _ k e).trans (congrArg₂ (fun a b : EReal => a + b) ?_ rfl))
    refine (Cert.Pieces.stack_back (A := 4) (B := 3) (C := 512) (D := 256) _ _ _ 2 0 k e (by decide) (by decide)).trans ?_
    iterate 2 refine (Cert.Pieces.stack_skip (A := 4) (B := 3) (C := 512) (D := 256) _ _ _ 2 0 k e (by decide)).trans ?_
    exact zero_weights _ 2 0 k e
  · iterate 8 refine (Cert.Pieces.stack_skip (A := 4) (B := 3) (C := 512) (D := 256) _ _ _ 3 0 k e (by decide)).trans ?_
    refine (Cert.Pieces.stack_hit (A := 4) (B := 3) (C := 512) (D := 256) _ _ _ 3 0 k e (by decide) (by decide)).trans ?_
    refine (weights30_eq (DLIFT m c t 0) (BR m c t 0) _ k e).trans ((weightsB_eq m c t 0 3 _ k e).trans (congrArg₂ (fun a b : EReal => a + b) ?_ rfl))
    refine (Cert.Pieces.stack_back (A := 4) (B := 3) (C := 512) (D := 256) _ _ _ 3 0 k e (by decide) (by decide)).trans ?_
    iterate 3 refine (Cert.Pieces.stack_skip (A := 4) (B := 3) (C := 512) (D := 256) _ _ _ 3 0 k e (by decide)).trans ?_
    exact zero_weights _ 3 0 k e
  · iterate 7 refine (Cert.Pieces.stack_skip (A := 4) (B := 3) (C := 512) (D := 256) _ _ _ 0 1 k e (by decide)).trans ?_
    refine (Cert.Pieces.stack_hit (A := 4) (B := 3) (C := 512) (D := 256) _ _ _ 0 1 k e (by decide) (by decide)).trans ?_
    refine (weights01_eq (GATE m c t 1) (DPRE m c t) (BR m c t 1) _ k e).trans ((weightsB_eq m c t 1 0 _ k e).trans (congrArg₂ (fun a b : EReal => a + b) ?_ rfl))
    refine (Cert.Pieces.stack_back (A := 4) (B := 3) (C := 512) (D := 256) _ _ _ 0 1 k e (by decide) (by decide)).trans ?_
    iterate 4 refine (Cert.Pieces.stack_skip (A := 4) (B := 3) (C := 512) (D := 256) _ _ _ 0 1 k e (by decide)).trans ?_
    exact zero_weights _ 0 1 k e
  · iterate 6 refine (Cert.Pieces.stack_skip (A := 4) (B := 3) (C := 512) (D := 256) _ _ _ 1 1 k e (by decide)).trans ?_
    refine (Cert.Pieces.stack_hit (A := 4) (B := 3) (C := 512) (D := 256) _ _ _ 1 1 k e (by decide) (by decide)).trans ?_
    refine (weights11_eq (GATE m c t 1) (DPRE m c t) (BR m c t 1) _ k e).trans ((weightsB_eq m c t 1 1 _ k e).trans (congrArg₂ (fun a b : EReal => a + b) ?_ rfl))
    refine (Cert.Pieces.stack_back (A := 4) (B := 3) (C := 512) (D := 256) _ _ _ 1 1 k e (by decide) (by decide)).trans ?_
    iterate 5 refine (Cert.Pieces.stack_skip (A := 4) (B := 3) (C := 512) (D := 256) _ _ _ 1 1 k e (by decide)).trans ?_
    exact zero_weights _ 1 1 k e
  · iterate 5 refine (Cert.Pieces.stack_skip (A := 4) (B := 3) (C := 512) (D := 256) _ _ _ 2 1 k e (by decide)).trans ?_
    refine (Cert.Pieces.stack_hit (A := 4) (B := 3) (C := 512) (D := 256) _ _ _ 2 1 k e (by decide) (by decide)).trans ?_
    refine (weights21_eq (DLIFT m c t 1) (BR m c t 1) _ k e).trans ((weightsB_eq m c t 1 2 _ k e).trans (congrArg₂ (fun a b : EReal => a + b) ?_ rfl))
    refine (Cert.Pieces.stack_back (A := 4) (B := 3) (C := 512) (D := 256) _ _ _ 2 1 k e (by decide) (by decide)).trans ?_
    iterate 6 refine (Cert.Pieces.stack_skip (A := 4) (B := 3) (C := 512) (D := 256) _ _ _ 2 1 k e (by decide)).trans ?_
    exact zero_weights _ 2 1 k e
  · iterate 4 refine (Cert.Pieces.stack_skip (A := 4) (B := 3) (C := 512) (D := 256) _ _ _ 3 1 k e (by decide)).trans ?_
    refine (Cert.Pieces.stack_hit (A := 4) (B := 3) (C := 512) (D := 256) _ _ _ 3 1 k e (by decide) (by decide)).trans ?_
    refine (weights31_eq (DLIFT m c t 1) (BR m c t 1) _ k e).trans ((weightsB_eq m c t 1 3 _ k e).trans (congrArg₂ (fun a b : EReal => a + b) ?_ rfl))
    refine (Cert.Pieces.stack_back (A := 4) (B := 3) (C := 512) (D := 256) _ _ _ 3 1 k e (by decide) (by decide)).trans ?_
    iterate 7 refine (Cert.Pieces.stack_skip (A := 4) (B := 3) (C := 512) (D := 256) _ _ _ 3 1 k e (by decide)).trans ?_
    exact zero_weights _ 3 1 k e
  · iterate 3 refine (Cert.Pieces.stack_skip (A := 4) (B := 3) (C := 512) (D := 256) _ _ _ 0 2 k e (by decide)).trans ?_
    refine (Cert.Pieces.stack_hit (A := 4) (B := 3) (C := 512) (D := 256) _ _ _ 0 2 k e (by decide) (by decide)).trans ?_
    refine (weights02_eq (GATE m c t 2) (DPRE m c t) (BR m c t 2) _ k e).trans ((weightsB_eq m c t 2 0 _ k e).trans (congrArg₂ (fun a b : EReal => a + b) ?_ rfl))
    refine (Cert.Pieces.stack_back (A := 4) (B := 3) (C := 512) (D := 256) _ _ _ 0 2 k e (by decide) (by decide)).trans ?_
    iterate 8 refine (Cert.Pieces.stack_skip (A := 4) (B := 3) (C := 512) (D := 256) _ _ _ 0 2 k e (by decide)).trans ?_
    exact zero_weights _ 0 2 k e
  · iterate 2 refine (Cert.Pieces.stack_skip (A := 4) (B := 3) (C := 512) (D := 256) _ _ _ 1 2 k e (by decide)).trans ?_
    refine (Cert.Pieces.stack_hit (A := 4) (B := 3) (C := 512) (D := 256) _ _ _ 1 2 k e (by decide) (by decide)).trans ?_
    refine (weights12_eq (GATE m c t 2) (DPRE m c t) (BR m c t 2) _ k e).trans ((weightsB_eq m c t 2 1 _ k e).trans (congrArg₂ (fun a b : EReal => a + b) ?_ rfl))
    refine (Cert.Pieces.stack_back (A := 4) (B := 3) (C := 512) (D := 256) _ _ _ 1 2 k e (by decide) (by decide)).trans ?_
    iterate 9 refine (Cert.Pieces.stack_skip (A := 4) (B := 3) (C := 512) (D := 256) _ _ _ 1 2 k e (by decide)).trans ?_
    exact zero_weights _ 1 2 k e
  · iterate 1 refine (Cert.Pieces.stack_skip (A := 4) (B := 3) (C := 512) (D := 256) _ _ _ 2 2 k e (by decide)).trans ?_
    refine (Cert.Pieces.stack_hit (A := 4) (B := 3) (C := 512) (D := 256) _ _ _ 2 2 k e (by decide) (by decide)).trans ?_
    refine (weights22_eq (DLIFT m c t 2) (BR m c t 2) _ k e).trans ((weightsB_eq m c t 2 2 _ k e).trans (congrArg₂ (fun a b : EReal => a + b) ?_ rfl))
    refine (Cert.Pieces.stack_back (A := 4) (B := 3) (C := 512) (D := 256) _ _ _ 2 2 k e (by decide) (by decide)).trans ?_
    iterate 10 refine (Cert.Pieces.stack_skip (A := 4) (B := 3) (C := 512) (D := 256) _ _ _ 2 2 k e (by decide)).trans ?_
    exact zero_weights _ 2 2 k e
  · iterate 0 refine (Cert.Pieces.stack_skip (A := 4) (B := 3) (C := 512) (D := 256) _ _ _ 3 2 k e (by decide)).trans ?_
    refine (Cert.Pieces.stack_hit (A := 4) (B := 3) (C := 512) (D := 256) _ _ _ 3 2 k e (by decide) (by decide)).trans ?_
    refine (weights32_eq (DLIFT m c t 2) (BR m c t 2) _ k e).trans ((weightsB_eq m c t 2 3 _ k e).trans (congrArg₂ (fun a b : EReal => a + b) ?_ rfl))
    refine (Cert.Pieces.stack_back (A := 4) (B := 3) (C := 512) (D := 256) _ _ _ 3 2 k e (by decide) (by decide)).trans ?_
    iterate 11 refine (Cert.Pieces.stack_skip (A := 4) (B := 3) (C := 512) (D := 256) _ _ _ 3 2 k e (by decide)).trans ?_
    exact zero_weights _ 3 2 k e

end Cert.Merge
-- ==== Proof.Merge.Final.lean ====
module

public import proofs.«01_k».proof.Proof.Merge.Outs
public import proofs.«01_k».proof.Proof.Merge.Weights

/-! The five result arrays of the merge's backward pass after the whole run. -/

@[expose] public section

set_option maxRecDepth 16384

noncomputable section

namespace Cert.Merge

open Idealize.ShloMosaic Idealize.ShloMosaic.TcCoe Idealize.SL.Sem Cert.Branches Cert.Kernel8Ideal Cert.Kernel8Ideal.Gen

/-- The block of rows of the branches' gradient a step writes. -/
theorem place6 : ∀ t : Fin cfg0.N, win0_6.index t = ![t.val, 0] :=
  (by decide +kernel : ∀ t : Fin grid0.N, win0_6.index t = ![t.val, 0])
/-- The block of rows of the gates' arguments' gradient a step writes. -/
theorem place7 : ∀ t : Fin cfg0.N, win0_7.index t = ![t.val, 0] :=
  (by decide +kernel : ∀ t : Fin grid0.N, win0_7.index t = ![t.val, 0])

variable (m : (ℓ : Loc nD τ sig) → Buf (Elt Ideal) ℓ) (c : Dev nD)

/-- The branches' gradient at an element of the whole array. -/
def dbranchAt (i : S4352x1536.Idx) : EReal :=
  dbranch (a2 m c) (a3 m c) (a4 m c) (dm m c) (i 0) (⟨(i 1).val / 512, by have h : (i 1).val < 1536 := (i 1).isLt; omega⟩ : Fin 3)
        (⟨(i 1).val % 512, Nat.mod_lt _ (by decide)⟩ : Fin 512)

/-- The branches' gradient after the whole run. -/
theorem final_dbranch (i : S4352x1536.Idx) : (dats m 0 c).arrAt 6 cfg0.N i
    = dbranchAt m c i := by
  refine (dats m 0 c).arrAt_forall_of_covers 6 (fun i v => v = dbranchAt m c i)
    (by decide +kernel) (fun t hf y => ?_) i
  obtain ⟨r, q, rfl⟩ : ∃ (r : Fin 256) (q : Fin 1536), y = ix2 r q := ⟨y 0, y 1, by funext a; match a with | ⟨0, _⟩ => rfl | ⟨1, _⟩ => rfl⟩
  have e : ((View.whole main_v0_0).slice (win0_6.rect t)).emb (ix2 r q) = (ix2 (rowAt t r) q) := by
    unfold rowAt
    blk_ext [place6]
  blk_simp
  rw [after0_6, e]
  have hq : q = (⟨q.val / 512 * 512 + q.val % 512, by omega⟩ : Fin 1536) := Fin.ext (by show q.val = q.val / 512 * 512 + q.val % 512; omega)
  exact (congrArg (fun q => (outsAt0 m c t.val t.isLt).1 (ix2 r q)) hq).trans
    (step_dbranch m c t r (⟨q.val / 512, by omega⟩ : Fin 3) (⟨q.val % 512, Nat.mod_lt _ (by decide)⟩ : Fin 512))

/-- The gates' arguments' gradient at an element of the whole array. -/
def dgateAt (i : S4352x3072.Idx) : EReal :=
  dgate (a1 m c) (a2 m c) (a3 m c) (a4 m c) (dm m c) (i 0) (⟨(i 1).val / 1024, by have h : (i 1).val < 3072 := (i 1).isLt; omega⟩ : Fin 3)
        (⟨(i 1).val % 1024, Nat.mod_lt _ (by decide)⟩ : Fin 1024)

/-- The gates' arguments' gradient after the whole run. -/
theorem final_dgate (i : S4352x3072.Idx) : (dats m 0 c).arrAt 7 cfg0.N i
    = dgateAt m c i := by
  refine (dats m 0 c).arrAt_forall_of_covers 7 (fun i v => v = dgateAt m c i)
    (by decide +kernel) (fun t hf y => ?_) i
  obtain ⟨r, q, rfl⟩ : ∃ (r : Fin 256) (q : Fin 3072), y = ix2 r q := ⟨y 0, y 1, by funext a; match a with | ⟨0, _⟩ => rfl | ⟨1, _⟩ => rfl⟩
  have e : ((View.whole main_v0_1).slice (win0_7.rect t)).emb (ix2 r q) = (ix2 (rowAt t r) q) := by
    unfold rowAt
    blk_ext [place7]
  blk_simp
  rw [after0_7, e]
  have hq : q = (⟨q.val / 1024 * 1024 + q.val % 1024, by omega⟩ : Fin 3072) := Fin.ext (by show q.val = q.val / 1024 * 1024 + q.val % 1024; omega)
  exact (congrArg (fun q => (outsAt0 m c t.val t.isLt).2.1 (ix2 r q)) hq).trans
    (step_dgate m c t r (⟨q.val / 1024, by omega⟩ : Fin 3) (⟨q.val % 1024, Nat.mod_lt _ (by decide)⟩ : Fin 1024))

/-- The mixing weights' gradient after the whole run. -/
theorem final_dmixing (e q : Fin 1024) : (dats m 0 c).arrAt 10 cfg0.N (ix2 e q) = dmixing (a1 m c) (a2 m c) (a3 m c) (dm m c) e q := by
  refine ((dats m 0 c).arrAt_emb_eq_after_last 10 (⟨16, by decide⟩ : Fin cfg0.N) (by decide +kernel) (ix2 e q)).trans ?_
  rw [after0_10]
  refine (Pipeline.eq_sum_fin_of_reset_step_apply_last (fun n hn => (outsAt0 m c n hn).2.2.2.2) 17 (fun _ => 0) (addMixing m c)
    (fun t h j => ?_) (fun t h j => ?_) (by decide) (⟨16, by decide⟩ : Fin cfg0.N) (by decide) (ix2 e q)).trans ?_
  · obtain ⟨r, q, rfl⟩ : ∃ (r : Fin 1024) (q : Fin 1024), j = ix2 r q := ⟨j 0, j 1, by funext a; match a with | ⟨0, _⟩ => rfl | ⟨1, _⟩ => rfl⟩
    exact start_dmixing m c t h r q
  · obtain ⟨r, q, rfl⟩ : ∃ (r : Fin 1024) (q : Fin 1024), j = ix2 r q := ⟨j 0, j 1, by funext a; match a with | ⟨0, _⟩ => rfl | ⟨1, _⟩ => rfl⟩
    exact step_dmixing m c t h r q
  · rw [zero_add]
    exact Fin.sum_mul_add_congr (f := fun R : Fin 4352 => gated (a1 m c) (a2 m c) (a3 m c) R e * dm m c R q) (fun s k hl => rfl) (by decide)

/-- The norm weight's gradient after the whole run. -/
theorem final_dnorm (r : Fin 8) (q : Fin 1024) : (dats m 0 c).arrAt 8 cfg0.N (ix2 r q) = dnorm (a0 m c) (a1 m c) (a2 m c) (a3 m c) (a4 m c) r q := by
  refine ((dats m 0 c).arrAt_emb_eq_after_last 8 (⟨16, by decide⟩ : Fin cfg0.N) (by decide +kernel) (ix2 r q)).trans ?_
  rw [after0_8]
  refine (Pipeline.eq_sum_fin_of_reset_step_apply_last (fun n hn => (outsAt0 m c n hn).2.2.1) 17 (fun _ => 0) (addNorm m c)
    (fun t h j => ?_) (fun t h j => ?_) (by decide) (⟨16, by decide⟩ : Fin cfg0.N) (by decide) (ix2 r q)).trans ?_
  · obtain ⟨r, q, rfl⟩ : ∃ (r : Fin 8) (q : Fin 1024), j = ix2 r q := ⟨j 0, j 1, by funext a; match a with | ⟨0, _⟩ => rfl | ⟨1, _⟩ => rfl⟩
    exact start_dnorm m c t h r q
  · obtain ⟨r, q, rfl⟩ : ∃ (r : Fin 8) (q : Fin 1024), j = ix2 r q := ⟨j 0, j 1, by funext a; match a with | ⟨0, _⟩ => rfl | ⟨1, _⟩ => rfl⟩
    exact step_dnorm m c t h r q
  · rw [zero_add]
    unfold dnorm
    by_cases hr : r.val = 0
    · rw [if_pos hr]
      refine (Finset.sum_congr rfl fun t _ => if_pos hr).trans ?_
      exact Fin.sum_mul_add_congr (f := fun R : Fin 4352 => a0 m c (ix2 R q) * (mixed (a1 m c) (a2 m c) (a3 m c) (a4 m c) R q
        * Cert.Norm.scale (mixed (a1 m c) (a2 m c) (a3 m c) (a4 m c) R))) (fun s k hl => rfl) (by decide)
    · rw [if_neg hr]
      exact Finset.sum_eq_zero fun t _ => if_neg hr

/-- The branches' weights' gradient after the whole run. -/
theorem final_dweights (p : Fin 4) (g : Fin 3) (k : Fin 512) (e : Fin 256) : (dats m 0 c).arrAt 9 cfg0.N (ix4 p g k e)
    = dweights (a1 m c) (a2 m c) (a4 m c) (dm m c) p g k e := by
  refine ((dats m 0 c).arrAt_emb_eq_after_last 9 (⟨16, by decide⟩ : Fin cfg0.N) (by decide +kernel) (ix4 p g k e)).trans ?_
  rw [after0_9]
  refine (Pipeline.eq_sum_fin_of_reset_step_apply_last (fun n hn => (outsAt0 m c n hn).2.2.2.1) 17 (fun _ => 0)
    (fun t j => addWeights m c t (j 0) (j 1) (j 2) (j 3))
    (fun t h j => ?_) (fun t h j => ?_) (by decide) (⟨16, by decide⟩ : Fin cfg0.N) (by decide) (ix4 p g k e)).trans ?_
  · obtain ⟨p, g, k, e, rfl⟩ : ∃ (p : Fin 4) (g : Fin 3) (k : Fin 512) (e : Fin 256), j = ix4 p g k e :=
      ⟨j 0, j 1, j 2, j 3, by funext a; match a with | ⟨0, _⟩ => rfl | ⟨1, _⟩ => rfl | ⟨2, _⟩ => rfl | ⟨3, _⟩ => rfl⟩
    exact start_dweights m c t h p g k e
  · obtain ⟨p, g, k, e, rfl⟩ : ∃ (p : Fin 4) (g : Fin 3) (k : Fin 512) (e : Fin 256), j = ix4 p g k e :=
      ⟨j 0, j 1, j 2, j 3, by funext a; match a with | ⟨0, _⟩ => rfl | ⟨1, _⟩ => rfl | ⟨2, _⟩ => rfl | ⟨3, _⟩ => rfl⟩
    exact step_dweights m c t h p g k e
  · rw [zero_add]
    exact Fin.sum_mul_add_congr (f := fun R : Fin 4352 => a1 m c (ix2 R (⟨g.val * 512 + k.val, by omega⟩ : Fin 1536))
      * dlift (a2 m c) (a4 m c) (dm m c) R g (⟨p.val * 256 + e.val, by omega⟩ : Fin 1024)) (fun s k hl => rfl) (by decide)

end Cert.Merge
-- ==== Proof.Merge.Algebra.lean ====
module

public import proofs.«01_k».proof.Defs
public import proofs.«01_k».proof.Proof.Gen.Pre_finite_merge
public import proofs.«01_k».proof.Proof.Merge.Final
public import Idealize.ShloMosaic.Lib.ReduceAll

/-! The two programs' gradients of the merge are the same five arrays. -/

@[expose] public section

set_option maxRecDepth 16384

noncomputable section

namespace Cert.Merge

open Idealize.ShloMosaic Idealize.ShloMosaic.TcCoe Idealize.SL.Sem Cert.Branches

/-- The precondition: the cotangent, the branches, the two arrays of weights and the norm's weight hold real numbers. -/
theorem finite_args [Cert.Pre_finite_merge.Facts] (x0 x1 x2 x3 x4 x5 x6) (i)
    (h : Cert.Pre_finite_merge.fn (F := Ideal) x0 x1 x2 x3 x4 x5 x6 i = 1#1) :
    (∀ i, IsR (x0 i)) ∧ (∀ i, IsR (x1 i)) ∧ (∀ i, IsR (x3 i)) ∧ (∀ i, IsR (x4 i)) ∧ (∀ i, IsR (x5 i)) := by
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_finite_merge.S_.Idx := ⟨fun a b => funext fun k => k.elim0⟩
  exact ⟨fun k => isR_of_below _ (Host.reduce_andi_all _ _ _ _ _ h0 k), fun k => isR_of_below _ (Host.reduce_andi_all _ _ _ _ _ h1 k),
    fun k => isR_of_below _ (Host.reduce_andi_all _ _ _ _ _ h2 k), fun k => isR_of_below _ (Host.reduce_andi_all _ _ _ _ _ h3 k),
    fun k => isR_of_below _ (Host.reduce_andi_all _ _ _ _ _ h4 k)⟩

/-- From finite arguments the two programs end with the same five gradients. -/
theorem algebraic : Cert.algebraic_Kernel8Ideal_Reference8Ideal_pre_finite_merge (hKernel8Ideal := Cert.Kernel8Ideal.Gen.facts)
    (hReference8Ideal := Cert.Reference8Ideal.Gen.facts) (hPre_finite_merge := Cert.Pre_finite_merge.Gen.facts) := by
  intro m g m' g' hpre hargs
  refine ⟨fun c => (Cert.Kernel8Ideal.Gen.dats m 0 c).arrAt 6 Cert.Kernel8Ideal.cfg0.N,
    fun c => (Cert.Kernel8Ideal.Gen.dats m 0 c).arrAt 7 Cert.Kernel8Ideal.cfg0.N,
    fun c => (Cert.Kernel8Ideal.Gen.dats m 0 c).arrAt 8 Cert.Kernel8Ideal.cfg0.N,
    fun c => (Cert.Kernel8Ideal.Gen.dats m 0 c).arrAt 9 Cert.Kernel8Ideal.cfg0.N,
    fun c => (Cert.Kernel8Ideal.Gen.dats m 0 c).arrAt 10 Cert.Kernel8Ideal.cfg0.N, ?_, ?_⟩
  · exact (θ_run Cert.Kernel8Ideal.defs _ _).mono (fun r h c => h c) (Cert.Kernel8Ideal.Value.run_blocks m g)
  · refine (θ_run Cert.Reference8Ideal.defs _ _).mono (fun r h c => ?_) (Cert.Reference8Ideal.Value.run m' g')
    obtain ⟨e0, e1, e2, e3, e4, a⟩ := h c
    obtain ⟨b0, b1, b2, b3, b4, b5, b6⟩ := hargs c
    replace b0 : StableHlo.launchContents m' c (Proc.devRef .tc Cert.Reference8Ideal.main_arg0) = a0 m c := b0
    replace b1 : StableHlo.launchContents m' c (Proc.devRef .tc Cert.Reference8Ideal.main_arg1) = a1 m c := b1
    replace b2 : StableHlo.launchContents m' c (Proc.devRef .tc Cert.Reference8Ideal.main_arg2) = a2 m c := b2
    replace b3 : StableHlo.launchContents m' c (Proc.devRef .tc Cert.Reference8Ideal.main_arg3) = a3 m c := b3
    replace b4 : StableHlo.launchContents m' c (Proc.devRef .tc Cert.Reference8Ideal.main_arg4) = a4 m c := b4
    replace b5 : StableHlo.launchContents m' c (Proc.devRef .tc Cert.Reference8Ideal.main_arg5) = m ((c : Thread Cert.Kernel8Ideal.nD Cert.Kernel8Ideal.τ).loc Cert.Kernel8Ideal.main_arg5) := b5
    obtain ⟨f0, f1, f3, f4, f5⟩ := finite_args _ _ _ _ _ _ _ (fun k => k.elim0) (congrFun (hpre c) _)
    have hd : dm m c = dmixTerms (a0 m c) (a1 m c) (a2 m c) (a3 m c) (a4 m c) (a5 m c) :=
      dmix_eq_terms f0 f1 f3 f4 (fun k => f5 _)
    refine ⟨e0.trans (funext fun i => ?_), e1.trans (funext fun i => ?_), e2.trans (funext fun i => ?_), e3.trans (funext fun i => ?_),
      e4.trans (funext fun i => ?_), a⟩
    · obtain ⟨R, q, rfl⟩ : ∃ (R : Fin 4352) (q : Fin 1536), i = ix2 R q := ⟨i 0, i 1, by funext a; match a with | ⟨0, _⟩ => rfl | ⟨1, _⟩ => rfl⟩
      rw [Cert.Reference8Ideal.Read.val_main_v96_eq, b0, b1, b2, b3, b4, b5]
      refine Eq.trans ?_ (final_dbranch m c (ix2 R q)).symm
      unfold dbranchAt
      rw [hd]
      have hq : q = (⟨q.val / 512 * 512 + q.val % 512, by omega⟩ : Fin 1536) := Fin.ext (by show q.val = q.val / 512 * 512 + q.val % 512; omega)
      exact (congrArg (fun q => Cert.Reference8Ideal.Read.val_main_v96 (F := Ideal) _ _ _ _ _ _ (ix2 R q)) hq).trans
        (ref_dbranch _ _ _ _ _ _ R (⟨q.val / 512, by omega⟩ : Fin 3) (⟨q.val % 512, Nat.mod_lt _ (by decide)⟩ : Fin 512))
    · obtain ⟨R, q, rfl⟩ : ∃ (R : Fin 4352) (q : Fin 3072), i = ix2 R q := ⟨i 0, i 1, by funext a; match a with | ⟨0, _⟩ => rfl | ⟨1, _⟩ => rfl⟩
      rw [Cert.Reference8Ideal.Read.val_main_v97_eq, b0, b1, b2, b3, b4, b5]
      refine Eq.trans ?_ (final_dgate m c (ix2 R q)).symm
      unfold dgateAt
      rw [hd]
      have hq : q = (⟨q.val / 1024 * 1024 + q.val % 1024, by omega⟩ : Fin 3072) := Fin.ext (by show q.val = q.val / 1024 * 1024 + q.val % 1024; omega)
      exact (congrArg (fun q => Cert.Reference8Ideal.Read.val_main_v97 (F := Ideal) _ _ _ _ _ _ (ix2 R q)) hq).trans
        (ref_dgate _ _ _ _ _ _ R (⟨q.val / 1024, by omega⟩ : Fin 3) (⟨q.val % 1024, Nat.mod_lt _ (by decide)⟩ : Fin 1024))
    · obtain ⟨r, q, rfl⟩ : ∃ (r : Fin 8) (q : Fin 1024), i = ix2 r q := ⟨i 0, i 1, by funext a; match a with | ⟨0, _⟩ => rfl | ⟨1, _⟩ => rfl⟩
      rw [Cert.Reference8Ideal.Read.val_main_v99_eq, b0, b1, b2, b3, b4]
      exact (ref_dnorm _ _ _ _ _ r q).trans (final_dnorm m c r q).symm
    · obtain ⟨p, g, k, e, rfl⟩ : ∃ (p : Fin 4) (g : Fin 3) (k : Fin 512) (e : Fin 256), i = ix4 p g k e :=
        ⟨i 0, i 1, i 2, i 3, by funext a; match a with | ⟨0, _⟩ => rfl | ⟨1, _⟩ => rfl | ⟨2, _⟩ => rfl | ⟨3, _⟩ => rfl⟩
      rw [Cert.Reference8Ideal.Read.val_main_v95_eq, b0, b1, b2, b3, b4, b5]
      refine Eq.trans ?_ (final_dweights m c p g k e).symm
      rw [hd]
      exact ref_dweights _ _ _ _ _ _ p g k e
    · obtain ⟨e, q, rfl⟩ : ∃ (e : Fin 1024) (q : Fin 1024), i = ix2 e q := ⟨i 0, i 1, by funext a; match a with | ⟨0, _⟩ => rfl | ⟨1, _⟩ => rfl⟩
      rw [Cert.Reference8Ideal.Read.val_main_v68_eq, b0, b1, b2, b3, b4, b5]
      refine Eq.trans ?_ (final_dmixing m c e q).symm
      rw [hd]
      exact ref_dmixing _ _ _ _ _ _ e q

end Cert.Merge
-- ==== Proof.Merge0.Block.lean ====
module

public import proofs.«01_k».proof.Proof.Norm
public import proofs.«01_k».proof.Proof.Branches
public import proofs.«01_k».proof.Proof.Gen.Kernel9Ideal.Value
public import Idealize.ShloMosaic.Lib.Pipeline.ValueKit

/-! The backward pass of the merge: what the kernel's payloads hold, read at an element. -/

@[expose] public section

set_option maxRecDepth 16384

noncomputable section

namespace Cert.Merge0

open Idealize.ShloMosaic Idealize.ShloMosaic.TcCoe Idealize.SL.Sem Cert.Branches Cert.Kernel9Ideal Cert.Kernel9Ideal.Gen

section Forward

variable (v : Vec Ideal S256x512 .bf16) (w : Fin 4 → Vec Ideal S1x1x512x256 .bf16) (u : Vec Ideal S256x1024 .bf16) (r : Fin 256) (q : Fin 1024)

/-- A branch's projection in a block of rows: 512 columns times the four pieces of its weights, side by side. -/
def liftB (r : Fin 256) (q : Fin 1024) : EReal :=
  ∑ k : Fin 512, v (ix2 r k) * w ⟨q.val / 256, by omega⟩ (ix4 (0 : Fin 1) (0 : Fin 1) k (⟨q.val % 256, Nat.mod_lt _ (by decide)⟩ : Fin 256))

/-- The first branch. -/
theorem lift0_eq : k0_pay6 (F := Ideal) v (w 0) (w 1) (w 2) (w 3) (ix2 r q) = liftB v w r q := by
  pointwise [k0_pay6]
  exact Cert.Gate.side_by_side (fun p e => ∑ k : Fin 512, v (ix2 r k) * w p (ix4 (0 : Fin 1) (0 : Fin 1) k e)) q
/-- The second branch. -/
theorem lift1_eq : k0_pay9 (F := Ideal) v (w 0) (w 1) (w 2) (w 3) (ix2 r q) = liftB v w r q := by
  pointwise [k0_pay9]
  exact Cert.Gate.side_by_side (fun p e => ∑ k : Fin 512, v (ix2 r k) * w p (ix4 (0 : Fin 1) (0 : Fin 1) k e)) q
/-- The third branch. -/
theorem lift2_eq : k0_pay13 (F := Ideal) v (k0_pay12 (F := Ideal) (w 0)) (constant S256x256 .f32 0x00000000#32) (w 1) (w 2) (w 3) (ix2 r q) = liftB v w r q := by
  pointwise [k0_pay13, k0_pay12]
  exact Cert.Gate.side_by_side (fun p e => ∑ k : Fin 512, v (ix2 r k) * w p (ix4 (0 : Fin 1) (0 : Fin 1) k e)) q

/-- The first gate. -/
theorem gate0_eq : k0_pay7 (F := Ideal) u (ix2 r q) = Idealize.ShloMosaic.Ideal.logistic (u (ix2 r q)) := by
  rw [← Cert.Gate.half_tanh, ← Cert.Gate.half_f32]
  pointwise [k0_pay7]
/-- The second gate. -/
theorem gate1_eq : k0_pay10 (F := Ideal) u (ix2 r q) = Idealize.ShloMosaic.Ideal.logistic (u (ix2 r q)) := by
  rw [← Cert.Gate.half_tanh, ← Cert.Gate.half_f32]
  pointwise [k0_pay10]
/-- The third gate. -/
theorem gate2_eq : k0_pay14 (F := Ideal) u (ix2 r q) = Idealize.ShloMosaic.Ideal.logistic (u (ix2 r q)) := by
  rw [← Cert.Gate.half_tanh, ← Cert.Gate.half_f32]
  pointwise [k0_pay14]

end Forward

/-- The mixed rows. -/
theorem mixed_eq (a b C D E' F' G' H X) (r : Fin 256) (q : Fin 1024) :
    k0_pay16 (F := Ideal) a b C D E' F' G' H X (ix2 r q) = ∑ d : Fin 1024, k0_pay15 (F := Ideal) a b C D E' F' G' H (ix2 r d) * X (ix2 d q) := by
  pointwise [k0_pay16]

/-- The mixed rows' scale. -/
theorem scale_eq (a b C D E' F' G' H X) (r : Fin 256) (f : Fin 1024 → EReal)
    (h : ∀ q, k0_pay16 (F := Ideal) a b C D E' F' G' H X (ix2 r q) = f q) :
    k0_pay17 (F := Ideal) a b C D E' F' G' H X (ix2 r (0 : Fin 1)) = Cert.Norm.scale f := by
  pointwise [k0_pay17]
  simp only [h]
  rfl

section Backward

variable (M : FVec Ideal S256x1024 .f32) (S : FVec Ideal S256x1 .f32) (o : Vec Ideal S256x1024 .f32) (y : Vec Ideal S1x1x1024 .f32)

/-- The mixed rows' gradient. -/
theorem dmix_eq (r : Fin 256) (q : Fin 1024) (f : Fin 1024 → EReal) (hM : ∀ k, M (ix2 r k) = f k) (hS : S (ix2 r (0 : Fin 1)) = Cert.Norm.scale f) :
    k0_pay20 (F := Ideal) M S o y (ix2 r q)
      = Cert.Norm.factored f (fun k => o (ix2 r k)) (fun k => y (ix3 (0 : Fin 1) (0 : Fin 1) k)) 0 q := by
  pointwise [k0_pay20, k0_pay18]
  simp only [hM, hS]
  exact (zero_add _).symm

/-- The mixing weights' gradient: a block's rows added. -/
theorem dmixing_eq (A : FVec Ideal S256x1024 .f32) (P : Vec Ideal S1024x1024 .f32) (e q : Fin 1024) :
    k0_pay21 (F := Ideal) A M S o y P (ix2 e q)
      = P (ix2 e q) + ∑ r : Fin 256, A (ix2 r e) * k0_pay20 (F := Ideal) M S o y (ix2 r q) := by
  pointwise [k0_pay21]

/-- The gated sum's gradient. -/
theorem dgated_eq (X : Vec Ideal S1024x1024 .bf16) (r : Fin 256) (e : Fin 1024) :
    k0_pay22 (F := Ideal) M S o y X (ix2 r e) = ∑ q : Fin 1024, k0_pay20 (F := Ideal) M S o y (ix2 r q) * X (ix2 e q) := by
  pointwise [k0_pay22]

/-- The norm weight's gradient: a block's rows added. -/
theorem dnorm_eq (P : Vec Ideal S1x1024 .f32) (q : Fin 1024) :
    k0_pay19 (F := Ideal) M S o P (ix2 (0 : Fin 1) q)
      = P (ix2 (0 : Fin 1) q) + ∑ r : Fin 256, o (ix2 r q) * (M (ix2 r q) * S (ix2 r (0 : Fin 1))) := by
  pointwise [k0_pay19, k0_pay18]

end Backward

section Branch

variable (B G D : FVec Ideal S256x1024 .f32)

/-- The projection's gradient: the gated sum's times the gate. -/
theorem dlift1_eq (i : S256x1024.Idx) : k0_pay37 (F := Ideal) G D i = D i * G i := rfl
/-- The same for the third branch. -/
theorem dlift2_eq : k0_pay52 (F := Ideal) G D = k0_pay37 (F := Ideal) G D := rfl
/-- The same for the first branch. -/
theorem dlift0_eq (M S o y X) : k0_pay23 (F := Ideal) G M S o y X = k0_pay37 (F := Ideal) G (k0_pay22 (F := Ideal) M S o y X) := rfl

/-- The gradient of a gate's argument. -/
theorem dgate1_eq (r : Fin 256) (q : Fin 1024) : k0_pay38 (F := Ideal) B G D (ix2 r q)
    = D (ix2 r q) * B (ix2 r q) * G (ix2 r q) * (1 - G (ix2 r q)) := by
  pointwise [k0_pay38]
/-- The same for the third branch. -/
theorem dgate2_eq : k0_pay53 (F := Ideal) B G D = k0_pay38 (F := Ideal) B G D := rfl
/-- The same for the first branch. -/
theorem dgate0_eq (M S o y X) : k0_pay25 (F := Ideal) G (k0_pay24 (F := Ideal) B M S o y X)
    = k0_pay38 (F := Ideal) B G (k0_pay22 (F := Ideal) M S o y X) := rfl

variable (w : Fin 4 → Vec Ideal S1x1x512x256 .bf16) (r : Fin 256) (k : Fin 512)

/-- A branch's gradient in a block of rows, from the gradient `p` of its projection. -/
def dbranchB (p : FVec Ideal S256x1024 .bf16) (r : Fin 256) (k : Fin 512) : EReal :=
  ∑ j : Fin 4, ∑ e : Fin 256, p (ix2 r (⟨j.val * 256 + e.val, by omega⟩ : Fin 1024)) * w j (ix4 (0 : Fin 1) (0 : Fin 1) k e)

/-- The first branch's gradient. -/
theorem dbranch0_eq (p : FVec Ideal S256x1024 .bf16) : k0_pay36 (F := Ideal) p (k0_pay29 (F := Ideal) p (w 0) (w 1)) (w 2) (w 3) (ix2 r k)
    = dbranchB w p r k := by
  unfold dbranchB
  rw [Fin.sum_univ_four]
  pointwise [k0_pay36, k0_pay29, k0_pay26, k0_pay28, k0_pay32, k0_pay34]
/-- The second branch's gradient. -/
theorem dbranch1_eq : k0_pay51 (F := Ideal) (k0_pay48 (F := Ideal) (k0_pay37 (F := Ideal) G D) (k0_pay42 (F := Ideal) G D (w 0) (w 1)) (w 2) (w 3)) (ix2 r k)
    = dbranchB w (k0_pay37 (F := Ideal) G D) r k := by
  unfold dbranchB
  rw [Fin.sum_univ_four]
  pointwise [k0_pay51, k0_pay48, k0_pay42, k0_pay39, k0_pay41, k0_pay45, k0_pay47]
/-- The third branch's gradient. -/
theorem dbranch2_eq : k0_pay2 (F := Ideal) (k0_pay63 (F := Ideal) (k0_pay52 (F := Ideal) G D) (k0_pay55 (F := Ideal) G D (w 0)) (k0_pay57 (F := Ideal) G D)
      (k0_pay58 (F := Ideal) (w 1)) (constant S256x512 .f32 0x00000000#32) (w 2) (w 3)) (ix2 r k)
    = dbranchB w (k0_pay37 (F := Ideal) G D) r k := by
  unfold dbranchB
  rw [Fin.sum_univ_four]
  pointwise [k0_pay2, k0_pay63, k0_pay55, k0_pay54, k0_pay57, k0_pay58, k0_pay60, k0_pay62]
  simp only [dlift2_eq]

end Branch

section Weights

variable (G D : FVec Ideal S256x1024 .f32) (p : FVec Ideal S256x1024 .bf16) (v : Vec Ideal S256x512 .bf16) (P : Vec Ideal S1x1x512x256 .f32)

/-- A piece of a branch's weights' gradient: what the block held plus a block's rows of the branch times 256 columns of the
    projection's gradient `p`. -/
def weightsB (p : FVec Ideal S256x1024 .bf16) (j : Fin 4) (k : Fin 512) (e : Fin 256) : EReal :=
  P (ix4 (0 : Fin 1) (0 : Fin 1) k e) + ∑ r : Fin 256, v (ix2 r k) * p (ix2 r (⟨j.val * 256 + e.val, by omega⟩ : Fin 1024))

variable (k : Fin 512) (e : Fin 256)

/-- The first branch, its first piece. -/
theorem weights00_eq : k0_pay27 (F := Ideal) v p P (ix4 (0 : Fin 1) (0 : Fin 1) k e) = weightsB v P p 0 k e := by
  unfold weightsB
  pointwise [k0_pay27, k0_pay26]
/-- The first branch, its second piece. -/
theorem weights10_eq : k0_pay31 (F := Ideal) (k0_pay30 (F := Ideal) v p P) (ix4 (0 : Fin 1) (0 : Fin 1) k e) = weightsB v P p 1 k e := by
  unfold weightsB
  pointwise [k0_pay31, k0_pay30, k0_pay28]
/-- The first branch, its third piece. -/
theorem weights20_eq : k0_pay33 (F := Ideal) v p P (ix4 (0 : Fin 1) (0 : Fin 1) k e) = weightsB v P p 2 k e := by
  unfold weightsB
  pointwise [k0_pay33, k0_pay32]
/-- The first branch, its fourth piece. -/
theorem weights30_eq : k0_pay35 (F := Ideal) v p P (ix4 (0 : Fin 1) (0 : Fin 1) k e) = weightsB v P p 3 k e := by
  unfold weightsB
  pointwise [k0_pay35, k0_pay34]
/-- The second branch, its first piece. -/
theorem weights01_eq : k0_pay40 (F := Ideal) G D v P (ix4 (0 : Fin 1) (0 : Fin 1) k e) = weightsB v P (k0_pay37 (F := Ideal) G D) 0 k e := by
  unfold weightsB
  pointwise [k0_pay40, k0_pay39]
/-- The second branch, its second piece. -/
theorem weights11_eq : k0_pay44 (F := Ideal) v (k0_pay41 (F := Ideal) G D) (k0_pay43 (F := Ideal) P) (ix4 (0 : Fin 1) (0 : Fin 1) k e) = weightsB v P (k0_pay37 (F := Ideal) G D) 1 k e := by
  unfold weightsB
  pointwise [k0_pay44, k0_pay43, k0_pay41]
/-- The second branch, its third piece. -/
theorem weights21_eq : k0_pay46 (F := Ideal) v p P (ix4 (0 : Fin 1) (0 : Fin 1) k e) = weightsB v P p 2 k e := by
  unfold weightsB
  pointwise [k0_pay46, k0_pay45]
/-- The second branch, its fourth piece. -/
theorem weights31_eq : k0_pay50 (F := Ideal) (k0_pay49 (F := Ideal) v p P) (ix4 (0 : Fin 1) (0 : Fin 1) k e) = weightsB v P p 3 k e := by
  unfold weightsB
  pointwise [k0_pay50, k0_pay49, k0_pay47]
/-- The third branch, its first piece. -/
theorem weights02_eq : k0_pay56 (F := Ideal) G D v P (ix4 (0 : Fin 1) (0 : Fin 1) k e) = weightsB v P (k0_pay37 (F := Ideal) G D) 0 k e := by
  unfold weightsB
  pointwise [k0_pay56, k0_pay54]
  simp only [dlift2_eq]
/-- The third branch, its second piece. -/
theorem weights12_eq : k0_pay59 (F := Ideal) v (k0_pay57 (F := Ideal) G D) P (ix4 (0 : Fin 1) (0 : Fin 1) k e) = weightsB v P (k0_pay37 (F := Ideal) G D) 1 k e := by
  unfold weightsB
  pointwise [k0_pay59, k0_pay57]
  simp only [dlift2_eq]
/-- The third branch, its third piece. -/
theorem weights22_eq : k0_pay61 (F := Ideal) v p P (ix4 (0 : Fin 1) (0 : Fin 1) k e) = weightsB v P p 2 k e := by
  unfold weightsB
  pointwise [k0_pay61, k0_pay60]
/-- The third branch, its fourth piece. -/
theorem weights32_eq : k0_pay1 (F := Ideal) v (k0_pay62 (F := Ideal) p) P (ix4 (0 : Fin 1) (0 : Fin 1) k e) = weightsB v P p 3 k e := by
  unfold weightsB
  pointwise [k0_pay1, k0_pay62]

end Weights

end Cert.Merge0
-- ==== Proof.Merge0.Ref.lean ====
module

public import proofs.«01_k».proof.Proof.MergeGrad
public import proofs.«01_k».proof.Proof.Gen.Reference9Ideal.Run
public import proofs.«01_k».proof.Proof.Gen.Reference9Ideal.Read
public import Idealize.ShloMosaic.Lib.Pipeline.ValueKit

/-! The backward pass of the merge: the reference's results, read at an element. -/

@[expose] public section

set_option maxRecDepth 16384

noncomputable section

namespace Cert.Merge0

open Idealize.ShloMosaic Idealize.ShloMosaic.TcCoe Cert.Branches Cert.Reference9Ideal.Read

variable (x0 : (⟨Cert.Reference9Ideal.S4352x1024, .f32⟩ : BufTy).Contents (Elt Ideal))
  (x1 : (⟨Cert.Reference9Ideal.S4352x1536, .bf16⟩ : BufTy).Contents (Elt Ideal))
  (x2 : (⟨Cert.Reference9Ideal.S4352x3072, .bf16⟩ : BufTy).Contents (Elt Ideal))
  (x3 : (⟨Cert.Reference9Ideal.S4x3x512x256, .bf16⟩ : BufTy).Contents (Elt Ideal))
  (x4 : (⟨Cert.Reference9Ideal.S1024x1024, .bf16⟩ : BufTy).Contents (Elt Ideal))
  (x5 : (⟨Cert.Reference9Ideal.S2x1x1024, .f32⟩ : BufTy).Contents (Elt Ideal))

/-- The layer's weight of the norm. -/
def weight : Fin 1024 → EReal := fun q => x5 (ix3 (0 : Fin 2) (0 : Fin 1) q)

/-- The reference's weights laid side by side. -/
theorem ref_weights (g : Fin 3) (k : Fin 512) (q : Fin 1024) : val_main_v14 (F := Ideal) x3 (ix3 g k q)
    = x3 (ix4 ⟨q.val / 256, by omega⟩ g k ⟨q.val % 256, Nat.mod_lt _ (by decide)⟩) := by
  pointwise [val_main_v2, val_main_v6, val_main_v7, val_main_v8, val_main_v9, val_main_v10, val_main_v11, val_main_v12,
    val_main_v13, val_main_v14, Cert.Reference9Ideal.Value.fn_main_v14]
  exact Cert.Gate.side_by_side (fun p e => x3 (ix4 p g k e)) q

/-- The reference's gate. -/
theorem ref_gate (R : Fin 4352) (g : Fin 3) (q : Fin 1024) : val_main_v24 (F := Ideal) x2 (ix3 R g q) = gate x2 R g q := by
  pointwise [val_main_v1, val_main_v18, val_main_v19, val_main_v20, val_main_cst, val_main_v21, val_main_v22, val_main_cst_0,
    val_main_v23, val_main_v24]
  rfl

/-- The reference's branch projection. -/
theorem ref_lift (R : Fin 4352) (g : Fin 3) (q : Fin 1024) : val_main_v17 (F := Ideal) x1 x3 (ix3 R g q) = lift x1 x3 R g q := by
  pointwise [val_main_v0, val_main_v15, val_main_v16, val_main_v17]
  simp only [ref_weights]
  exact Finset.sum_congr rfl fun k _ => mul_comm _ _

/-- The reference's gated sum. -/
theorem ref_gated (R : Fin 4352) (q : Fin 1024) : val_main_v29 (F := Ideal) x1 x2 x3 (ix2 R q) = gated x1 x2 x3 R q := by
  pointwise [val_main_v28, val_main_cst_2, val_main_v29]
  simp only [ref_gate, ref_lift]
  rfl

/-- The reference's mixed rows. -/
theorem ref_mixed (R : Fin 4352) (q : Fin 1024) : val_main_v30 (F := Ideal) x1 x2 x3 x4 (ix2 R q) = mixed x1 x2 x3 x4 R q := by
  pointwise [val_main_v3, val_main_v30]
  simp only [ref_gated]
  rfl

/-- The reference's scale. -/
theorem ref_scale (R : Fin 4352) : val_main_v38 (F := Ideal) x1 x2 x3 x4 (ix2 R (0 : Fin 1)) = Cert.Norm.scale (mixed x1 x2 x3 x4 R) := by
  pointwise [val_main_v31, val_main_v32, val_main_v33, val_main_v34, val_main_v35, val_main_v36, val_main_v37, val_main_v38, val_main_cst_3, val_main_cst_4, val_main_cst_5]
  simp only [ref_mixed]
  rfl

/-- The reference's cotangent times the norm's weight. -/
theorem ref_weighted (R : Fin 4352) (q : Fin 1024) : val_main_v51 (F := Ideal) x0 x5 (ix2 R q) = x0 (ix2 R q) * weight x5 q := by
  pointwise [val_main_v4, val_main_v5, val_main_v44, val_main_v50, val_main_v51]
  rfl

/-- The reference's gradient of the mixed rows. -/
theorem ref_dmix (R : Fin 4352) (q : Fin 1024) : val_main_v66 (F := Ideal) x0 x1 x2 x3 x4 x5 (ix2 R q) = dmixTerms x0 x1 x2 x3 x4 (weight x5) R q := by
  unfold dmixTerms Cert.Norm.terms Cert.Norm.through Cert.Norm.square
  pointwise [val_main_v31, val_main_v32, val_main_v33, val_main_v34, val_main_v35, val_main_v36, val_main_v37, val_main_v39, val_main_v40, val_main_v41, val_main_v53, val_main_v54, val_main_v55, val_main_v56, val_main_v57, val_main_v58, val_main_v59, val_main_v60, val_main_v61, val_main_v62, val_main_v63, val_main_v64, val_main_v65, val_main_v66, val_main_cst_3, val_main_cst_4, val_main_cst_5, val_main_cst_6, val_main_cst_9, val_main_cst_10, val_main_cst_11]
  simp only [Fin.sum_univ_one, ref_scale, ref_mixed, ref_weighted, zero_add]
  rfl

/-- The reference's gradient of the mixing weights. -/
theorem ref_dmixing (e q : Fin 1024) : val_main_v68 (F := Ideal) x0 x1 x2 x3 x4 x5 (ix2 e q) = dmixing x1 x2 x3 (dmixTerms x0 x1 x2 x3 x4 (weight x5)) e q := by
  pointwise [val_main_v67, val_main_v68]
  simp only [ref_dmix, ref_gated]
  exact Finset.sum_congr rfl fun R _ => mul_comm _ _

/-- The reference's gradient of the gated sum. -/
theorem ref_dgated (R : Fin 4352) (e : Fin 1024) : val_main_v69 (F := Ideal) x0 x1 x2 x3 x4 x5 (ix2 R e) = dgated x4 (dmixTerms x0 x1 x2 x3 x4 (weight x5)) R e := by
  pointwise [val_main_v3, val_main_v69]
  simp only [ref_dmix]
  rfl

/-- The reference's gradient of a branch's projection. -/
theorem ref_dlift (R : Fin 4352) (g : Fin 3) (e : Fin 1024) : val_main_v71 (F := Ideal) x0 x1 x2 x3 x4 x5 (ix3 R g e) = dlift x2 x4 (dmixTerms x0 x1 x2 x3 x4 (weight x5)) R g e := by
  pointwise [val_main_v70, val_main_v71]
  simp only [ref_gate, ref_dgated]
  exact mul_comm _ _

/-- The reference's gradient of the gates' arguments. -/
theorem ref_dgate (R : Fin 4352) (g : Fin 3) (e : Fin 1024) : val_main_v97 (F := Ideal) x0 x1 x2 x3 x4 x5
    (ix2 R (⟨g.val * 1024 + e.val, by omega⟩ : Fin 3072)) = dgate x1 x2 x3 x4 (dmixTerms x0 x1 x2 x3 x4 (weight x5)) R g e := by
  have h : val_main_v73 (F := Ideal) x0 x1 x2 x3 x4 x5 (ix3 R g e) = dgate x1 x2 x3 x4 (dmixTerms x0 x1 x2 x3 x4 (weight x5)) R g e := by
    unfold dgate
    pointwise [val_main_cst_1, val_main_v25, val_main_v26, val_main_v27, val_main_v70, val_main_v72, val_main_v73]
    simp only [ref_gate, ref_lift, ref_dgated]
    exact (mul_assoc _ _ _).symm
  refine Eq.trans ?_ h
  pointwise [val_main_v74, val_main_v97]

/-- The reference's gradient of the branches. -/
theorem ref_dbranch (R : Fin 4352) (g : Fin 3) (k : Fin 512) : val_main_v96 (F := Ideal) x0 x1 x2 x3 x4 x5
    (ix2 R (⟨g.val * 512 + k.val, by omega⟩ : Fin 1536)) = dbranch x2 x3 x4 (dmixTerms x0 x1 x2 x3 x4 (weight x5)) R g k := by
  have h : val_main_v77 (F := Ideal) x0 x1 x2 x3 x4 x5 (ix3 R g k) = dbranch x2 x3 x4 (dmixTerms x0 x1 x2 x3 x4 (weight x5)) R g k := by
    pointwise [val_main_v75, val_main_v76, val_main_v77]
    simp only [ref_dlift, ref_weights]
    rfl
  refine Eq.trans ?_ h
  pointwise [val_main_v80, val_main_v96]

/-- The reference's gradient of the branches' weights, side by side. -/
theorem ref_sides (g : Fin 3) (k : Fin 512) (e : Fin 1024) : val_main_v79 (F := Ideal) x0 x1 x2 x3 x4 x5 (ix3 g k e)
    = ∑ R : Fin 4352, x1 (ix2 R (⟨g.val * 512 + k.val, by omega⟩ : Fin 1536)) * dlift x2 x4 (dmixTerms x0 x1 x2 x3 x4 (weight x5)) R g e := by
  pointwise [val_main_v0, val_main_v15, val_main_v75, val_main_v78, val_main_v79]
  simp only [ref_dlift]
  exact Finset.sum_congr rfl fun R _ => mul_comm _ _

/-- The reference's gradient of the branches' weights. -/
theorem ref_dweights (p : Fin 4) (g : Fin 3) (k : Fin 512) (e : Fin 256) : val_main_v95 (F := Ideal) x0 x1 x2 x3 x4 x5 (ix4 p g k e)
    = dweights x1 x2 x4 (dmixTerms x0 x1 x2 x3 x4 (weight x5)) p g k e := by
  unfold dweights
  rw [← ref_sides x0 x1 x2 x3 x4 x5 g k (⟨p.val * 256 + e.val, by omega⟩ : Fin 1024)]
  obtain rfl | rfl | rfl | rfl : p = 0 ∨ p = 1 ∨ p = 2 ∨ p = 3 := by revert p; decide
  all_goals
    pointwise [val_main_v81, val_main_v82, val_main_v83, val_main_v84, val_main_v85, val_main_v86, val_main_v87, val_main_v88, val_main_v89, val_main_v90, val_main_v91, val_main_v92, val_main_v93, val_main_v94, val_main_v95, val_main_cst_12, val_main_cst_13, val_main_cst_14, val_main_cst_15]

/-- The reference's gradient of the norm's weight. -/
theorem ref_dnorm (r : Fin 8) (q : Fin 1024) : val_main_v99 (F := Ideal) x0 x1 x2 x3 x4 (ix2 r q) = dnorm x0 x1 x2 x3 x4 r q := by
  pointwise [val_main_v42, val_main_v43, val_main_v47, val_main_v48, val_main_v49, val_main_v52, val_main_v98, val_main_v99, val_main_cst_7, val_main_cst_8, val_main_c, val_main_call0_v0]
  simp only [Fin.sum_univ_one, ref_scale, ref_mixed]
  unfold dnorm
  by_cases h : r.val = 0
  · rw [if_pos h, dif_pos (by show r.val < 1; omega)]
    exact Finset.sum_congr rfl fun R _ => mul_comm _ _
  · rw [if_neg h, dif_neg (by show ¬r.val < 1; omega)]
    simp [FloatOps.sitofp]

end Cert.Merge0
-- ==== Proof.Merge0.Step.lean ====
module

public import proofs.«01_k».proof.Proof.Merge0.Block
public import proofs.«01_k».proof.Proof.Merge0.Ref

/-! The backward pass of the merge: what a step computes from its blocks, read at an element. -/

@[expose] public section

set_option maxRecDepth 16384

noncomputable section

namespace Cert.Merge0

open Idealize.ShloMosaic Idealize.ShloMosaic.TcCoe Idealize.SL.Sem Cert.Branches Cert.Kernel9Ideal Cert.Kernel9Ideal.Gen

/-- The block of rows of the cotangent a step reads. -/
theorem place0 : ∀ t : Fin cfg0.N, win0_0.index t = ![t.val, 0] :=
  (by decide +kernel : ∀ t : Fin grid0.N, win0_0.index t = ![t.val, 0])
/-- The block of rows of the branches a step reads. -/
theorem place1 : ∀ t : Fin cfg0.N, win0_1.index t = ![t.val, 0] :=
  (by decide +kernel : ∀ t : Fin grid0.N, win0_1.index t = ![t.val, 0])
/-- The block of rows of the gates' arguments a step reads. -/
theorem place2 : ∀ t : Fin cfg0.N, win0_2.index t = ![t.val, 0] :=
  (by decide +kernel : ∀ t : Fin grid0.N, win0_2.index t = ![t.val, 0])
/-- The branches' weights: always whole. -/
theorem place3 : ∀ t : Fin cfg0.N, win0_3.index t = ![0, 0, 0, 0] :=
  (by decide +kernel : ∀ t : Fin grid0.N, win0_3.index t = ![0, 0, 0, 0])
/-- The mixing weights: always whole. -/
theorem place4 : ∀ t : Fin cfg0.N, win0_4.index t = ![0, 0] :=
  (by decide +kernel : ∀ t : Fin grid0.N, win0_4.index t = ![0, 0])
/-- The norm's weight: always the same layer's. -/
theorem place5 : ∀ t : Fin cfg0.N, win0_5.index t = ![0, 0, 0] :=
  (by decide +kernel : ∀ t : Fin grid0.N, win0_5.index t = ![0, 0, 0])

variable (m : (ℓ : Loc nD τ sig) → Buf (Elt Ideal) ℓ) (c : Dev nD)

/-- The launch's cotangent. -/
abbrev a0 : (⟨2, ![4352, 1024]⟩ : Shape).Idx → EReal := m ((c : Thread nD τ).loc main_arg0)
/-- The launch's branches. -/
abbrev a1 : (⟨2, ![4352, 1536]⟩ : Shape).Idx → EReal := m ((c : Thread nD τ).loc main_arg1)
/-- The launch's gates' arguments. -/
abbrev a2 : (⟨2, ![4352, 3072]⟩ : Shape).Idx → EReal := m ((c : Thread nD τ).loc main_arg2)
/-- The launch's branches' weights. -/
abbrev a3 : (⟨4, ![4, 3, 512, 256]⟩ : Shape).Idx → EReal := m ((c : Thread nD τ).loc main_arg3)
/-- The launch's mixing weights. -/
abbrev a4 : (⟨2, ![1024, 1024]⟩ : Shape).Idx → EReal := m ((c : Thread nD τ).loc main_arg4)
/-- The launch's weight of the norm. -/
abbrev a5 : Fin 1024 → EReal := weight (m ((c : Thread nD τ).loc main_arg5))
/-- The mixed rows' gradient, from the launch's arguments. -/
abbrev dm : Fin 4352 → Fin 1024 → EReal := dmix (a0 m c) (a1 m c) (a2 m c) (a3 m c) (a4 m c) (a5 m c)

/-- A row of a step's block, as a row of the whole array. -/
def rowAt (t : Fin cfg0.N) (r : Fin 256) : Fin 4352 :=
  ⟨t.val * 256 + r.val, by have : t.val < 17 := t.isLt; omega⟩

/-- The step's block of the cotangent. -/
theorem block0 (t : Fin cfg0.N) (r : Fin 256) (q : Fin 1024) : iblk m c 0 t (ix2 r q) = a0 m c (ix2 (rowAt t r) q) := by
  unfold rowAt
  blk_ext [iblk, V, place0]
/-- The step's block of the branches. -/
theorem block1 (t : Fin cfg0.N) (r : Fin 256) (q : Fin 1536) : iblk m c 1 t (ix2 r q) = a1 m c (ix2 (rowAt t r) q) := by
  unfold rowAt
  blk_ext [iblk, V, place1]
/-- The step's block of the gates' arguments. -/
theorem block2 (t : Fin cfg0.N) (r : Fin 256) (q : Fin 3072) : iblk m c 2 t (ix2 r q) = a2 m c (ix2 (rowAt t r) q) := by
  unfold rowAt
  blk_ext [iblk, V, place2]
/-- The step's block of the branches' weights. -/
theorem block3 (t : Fin cfg0.N) (p : Fin 4) (g : Fin 3) (k : Fin 512) (e : Fin 256) : iblk m c 3 t (ix4 p g k e) = a3 m c (ix4 p g k e) := by
  blk_ext [iblk, V, place3]
/-- The step's block of the mixing weights. -/
theorem block4 (t : Fin cfg0.N) (e q : Fin 1024) : iblk m c 4 t (ix2 e q) = a4 m c (ix2 e q) := by
  blk_ext [iblk, V, place4]
/-- The step's block of the norm's weight. -/
theorem block5 (t : Fin cfg0.N) (q : Fin 1024) : iblk m c 5 t (ix3 (0 : Fin 1) (0 : Fin 1) q) = a5 m c q := by
  unfold a5 weight
  blk_ext [iblk, V, place5]

/-- A branch's columns lie inside. -/
theorem in1 : ∀ (g : Fin 3), ∀ a, (![0, g.val * 512] : Fin 2 → ℕ) a + ![256, 512] a ≤ S256x1536.size a := by decide
/-- A gate's columns lie inside. -/
theorem in2 : ∀ (g : Fin 3), ∀ a, (![0, g.val * 1024] : Fin 2 → ℕ) a + ![256, 1024] a ≤ S256x3072.size a := by decide

variable (t : Fin cfg0.N)

/-- A branch's block. -/
def BR (g : Fin 3) : Vec Ideal S256x512 .bf16 :=
  View.ld (e' := .bf16) (Val := Elt Ideal) (S := S256x1536) (iblk m c 1 t) (Rect.unit (s := S256x1536) ![0, g.val * 512] ![256, 512] (in1 g))
/-- A gate's arguments' block. -/
def PM (g : Fin 3) : Vec Ideal S256x1024 .bf16 :=
  View.ld (e' := .bf16) (Val := Elt Ideal) (S := S256x3072) (iblk m c 2 t) (Rect.unit (s := S256x3072) ![0, g.val * 1024] ![256, 1024] (in2 g))
/-- A branch's weights. -/
def WB (g : Fin 3) : Fin 4 → Vec Ideal S1x1x512x256 .bf16 := fun p => piece (iblk m c 3 t) g p

/-- A branch's block, read at an element. -/
theorem BR_eq (g : Fin 3) (r : Fin 256) (k : Fin 512) : BR m c t g (ix2 r k) = a1 m c (ix2 (rowAt t r) (⟨g.val * 512 + k.val, by omega⟩ : Fin 1536)) :=
  (View.ld_unit_apply_of _ _ _ (in1 g) (ix2 r k) (ix2 r (⟨g.val * 512 + k.val, by omega⟩ : Fin 1536)) fun x => match x with
    | ⟨0, _⟩ => (Nat.zero_add _).symm
    | ⟨1, _⟩ => rfl).trans (block1 m c t r _)
/-- A gate's arguments, read at an element. -/
theorem PM_eq (g : Fin 3) (r : Fin 256) (k : Fin 1024) : PM m c t g (ix2 r k) = a2 m c (ix2 (rowAt t r) (⟨g.val * 1024 + k.val, by omega⟩ : Fin 3072)) :=
  (View.ld_unit_apply_of _ _ _ (in2 g) (ix2 r k) (ix2 r (⟨g.val * 1024 + k.val, by omega⟩ : Fin 3072)) fun x => match x with
    | ⟨0, _⟩ => (Nat.zero_add _).symm
    | ⟨1, _⟩ => rfl).trans (block2 m c t r _)
/-- A branch's weights, read at an element. -/
theorem WB_eq (g : Fin 3) (p : Fin 4) (k : Fin 512) (e : Fin 256) : WB m c t g p (ix4 (0 : Fin 1) (0 : Fin 1) k e) = a3 m c (ix4 p g k e) :=
  (piece_eq _ g p k e).trans (block3 m c t p g k e)

/-- The three branches' projections, as the step computes them. -/
def LIFT : Fin 3 → FVec Ideal S256x1024 .f32
  | 0 => k0_pay6 (F := Ideal) (BR m c t 0) (WB m c t 0 0) (WB m c t 0 1) (WB m c t 0 2) (WB m c t 0 3)
  | 1 => k0_pay9 (F := Ideal) (BR m c t 1) (WB m c t 1 0) (WB m c t 1 1) (WB m c t 1 2) (WB m c t 1 3)
  | 2 => k0_pay13 (F := Ideal) (BR m c t 2) (k0_pay12 (F := Ideal) (WB m c t 2 0)) (constant S256x256 .f32 0x00000000#32) (WB m c t 2 1) (WB m c t 2 2) (WB m c t 2 3)
/-- The three gates, as the step computes them. -/
def GATE : Fin 3 → FVec Ideal S256x1024 .f32
  | 0 => k0_pay7 (F := Ideal) (PM m c t 0)
  | 1 => k0_pay10 (F := Ideal) (PM m c t 1)
  | 2 => k0_pay14 (F := Ideal) (PM m c t 2)
/-- The first two branches' gated sum. -/
def TWO : FVec Ideal S256x1024 .f32 :=
  k0_pay11 (F := Ideal) (k0_pay8 (F := Ideal) (BR m c t 0) (WB m c t 0 0) (WB m c t 0 1) (WB m c t 0 2) (WB m c t 0 3) (PM m c t 0))
    (BR m c t 1) (WB m c t 1 0) (WB m c t 1 1) (WB m c t 1 2) (WB m c t 1 3) (PM m c t 1)
/-- The gated sum. -/
def GATED : FVec Ideal S256x1024 .f32 :=
  k0_pay15 (F := Ideal) (TWO m c t) (BR m c t 2) (k0_pay12 (F := Ideal) (WB m c t 2 0)) (constant S256x256 .f32 0x00000000#32)
    (WB m c t 2 1) (WB m c t 2 2) (WB m c t 2 3) (PM m c t 2)
/-- The mixed rows. -/
def MIXED : FVec Ideal S256x1024 .f32 :=
  k0_pay16 (F := Ideal) (TWO m c t) (BR m c t 2) (k0_pay12 (F := Ideal) (WB m c t 2 0)) (constant S256x256 .f32 0x00000000#32)
    (WB m c t 2 1) (WB m c t 2 2) (WB m c t 2 3) (PM m c t 2) (iblk m c 4 t)
/-- The mixed rows' scale. -/
def SCALE : FVec Ideal S256x1 .f32 :=
  k0_pay17 (F := Ideal) (TWO m c t) (BR m c t 2) (k0_pay12 (F := Ideal) (WB m c t 2 0)) (constant S256x256 .f32 0x00000000#32)
    (WB m c t 2 1) (WB m c t 2 2) (WB m c t 2 3) (PM m c t 2) (iblk m c 4 t)
/-- The gated sum's gradient. -/
def DPRE : FVec Ideal S256x1024 .f32 :=
  k0_pay22 (F := Ideal) (MIXED m c t) (SCALE m c t) (iblk m c 0 t) (iblk m c 5 t) (iblk m c 4 t)
/-- A branch's projection's gradient. -/
def DLIFT (g : Fin 3) : FVec Ideal S256x1024 .bf16 := k0_pay37 (F := Ideal) (GATE m c t g) (DPRE m c t)

/-- A block's projection is the spec's. -/
theorem liftB_eq (g : Fin 3) (r : Fin 256) (q : Fin 1024) : liftB (BR m c t g) (WB m c t g) r q = lift (a1 m c) (a3 m c) (rowAt t r) g q :=
  Finset.sum_congr rfl fun k _ => congrArg₂ (fun a b : EReal => a * b) (BR_eq m c t g r k) (WB_eq m c t g _ k _)

/-- The projections, read at an element. -/
theorem LIFT_eq : ∀ (g : Fin 3) (r : Fin 256) (q : Fin 1024), LIFT m c t g (ix2 r q) = lift (a1 m c) (a3 m c) (rowAt t r) g q
  | 0, r, q => (lift0_eq (BR m c t 0) (WB m c t 0) r q).trans (liftB_eq m c t 0 r q)
  | 1, r, q => (lift1_eq (BR m c t 1) (WB m c t 1) r q).trans (liftB_eq m c t 1 r q)
  | 2, r, q => (lift2_eq (BR m c t 2) (WB m c t 2) r q).trans (liftB_eq m c t 2 r q)

/-- The gates, read at an element. -/
theorem GATE_eq : ∀ (g : Fin 3) (r : Fin 256) (q : Fin 1024), GATE m c t g (ix2 r q) = gate (a2 m c) (rowAt t r) g q
  | 0, r, q => (gate0_eq (PM m c t 0) r q).trans (congrArg Idealize.ShloMosaic.Ideal.logistic (PM_eq m c t 0 r q))
  | 1, r, q => (gate1_eq (PM m c t 1) r q).trans (congrArg Idealize.ShloMosaic.Ideal.logistic (PM_eq m c t 1 r q))
  | 2, r, q => (gate2_eq (PM m c t 2) r q).trans (congrArg Idealize.ShloMosaic.Ideal.logistic (PM_eq m c t 2 r q))

/-- The gated sum is the three products' sum. -/
theorem GATED_sum (i : S256x1024.Idx) : GATED m c t i
    = GATE m c t 0 i * LIFT m c t 0 i + GATE m c t 1 i * LIFT m c t 1 i + GATE m c t 2 i * LIFT m c t 2 i := rfl

/-- The gated sum, read at an element. -/
theorem GATED_eq (r : Fin 256) (q : Fin 1024) : GATED m c t (ix2 r q) = gated (a1 m c) (a2 m c) (a3 m c) (rowAt t r) q := by
  unfold gated
  rw [GATED_sum, Fin.sum_univ_three, GATE_eq, GATE_eq, GATE_eq, LIFT_eq, LIFT_eq, LIFT_eq]

/-- The mixed rows, read at an element. -/
theorem MIXED_eq (r : Fin 256) (q : Fin 1024) : MIXED m c t (ix2 r q) = mixed (a1 m c) (a2 m c) (a3 m c) (a4 m c) (rowAt t r) q :=
  (mixed_eq _ _ _ _ _ _ _ _ _ r q).trans (Finset.sum_congr rfl fun d _ => congrArg₂ (fun a b : EReal => a * b) (GATED_eq m c t r d) (block4 m c t d q))

/-- The scale, read at a row. -/
theorem SCALE_eq (r : Fin 256) : SCALE m c t (ix2 r (0 : Fin 1)) = Cert.Norm.scale (mixed (a1 m c) (a2 m c) (a3 m c) (a4 m c) (rowAt t r)) :=
  scale_eq _ _ _ _ _ _ _ _ _ r _ (MIXED_eq m c t r)

/-- The mixed rows' gradient, read at an element. -/
theorem DMIX_eq (r : Fin 256) (q : Fin 1024) :
    k0_pay20 (F := Ideal) (MIXED m c t) (SCALE m c t) (iblk m c 0 t) (iblk m c 5 t) (ix2 r q) = dm m c (rowAt t r) q := by
  refine (dmix_eq _ _ _ _ r q _ (MIXED_eq m c t r) (SCALE_eq m c t r)).trans ?_
  have h0 : (fun k : Fin 1024 => iblk m c 0 t (ix2 r k)) = fun k => a0 m c (ix2 (rowAt t r) k) := funext fun k => block0 m c t r k
  have h5 : (fun k : Fin 1024 => iblk m c 5 t (ix3 (0 : Fin 1) (0 : Fin 1) k)) = a5 m c := funext fun k => block5 m c t k
  exact congrArg₂ (fun o w => Cert.Norm.factored (mixed (a1 m c) (a2 m c) (a3 m c) (a4 m c) (rowAt t r)) o w 0 q) h0 h5

/-- The gated sum's gradient, read at an element. -/
theorem DPRE_eq (r : Fin 256) (e : Fin 1024) : DPRE m c t (ix2 r e) = dgated (a4 m c) (dm m c) (rowAt t r) e :=
  (dgated_eq _ _ _ _ _ r e).trans (Finset.sum_congr rfl fun q _ => congrArg₂ (fun a b : EReal => a * b) (DMIX_eq m c t r q) (block4 m c t e q))

/-- A projection's gradient, read at an element. -/
theorem DLIFT_eq (g : Fin 3) (r : Fin 256) (e : Fin 1024) : DLIFT m c t g (ix2 r e) = dlift (a2 m c) (a4 m c) (dm m c) (rowAt t r) g e :=
  congrArg₂ (fun a b : EReal => a * b) (DPRE_eq m c t r e) (GATE_eq m c t g r e)

/-- A gate's arguments' gradient, read at an element. -/
theorem DGATE_eq (g : Fin 3) (r : Fin 256) (e : Fin 1024) : k0_pay38 (F := Ideal) (LIFT m c t g) (GATE m c t g) (DPRE m c t) (ix2 r e)
    = dgate (a1 m c) (a2 m c) (a3 m c) (a4 m c) (dm m c) (rowAt t r) g e := by
  rw [dgate1_eq, DPRE_eq, LIFT_eq, GATE_eq]
  rfl

/-- A branch's gradient, read at an element. -/
theorem DBRANCH_eq (g : Fin 3) (r : Fin 256) (k : Fin 512) : dbranchB (WB m c t g) (DLIFT m c t g) r k
    = dbranch (a2 m c) (a3 m c) (a4 m c) (dm m c) (rowAt t r) g k := by
  unfold dbranchB dbranch
  refine Fin.sum_mul_add_congr (f := fun e : Fin 1024 => dlift (a2 m c) (a4 m c) (dm m c) (rowAt t r) g e
    * a3 m c (ix4 ⟨e.val / 256, by omega⟩ g k ⟨e.val % 256, Nat.mod_lt _ (by decide)⟩)) fun j e hl => ?_
  refine congrArg₂ (fun a b : EReal => a * b) (DLIFT_eq m c t g r _) ((WB_eq m c t g j k e).trans ?_)
  have h1 : (⟨(j.val * 256 + e.val) / 256, by omega⟩ : Fin 4) = j := Fin.ext (by show (j.val * 256 + e.val) / 256 = j.val; omega)
  have h2 : (⟨(j.val * 256 + e.val) % 256, Nat.mod_lt _ (by decide)⟩ : Fin 256) = e := Fin.ext (by show (j.val * 256 + e.val) % 256 = e.val; omega)
  exact congrArg₂ (fun a b => a3 m c (ix4 a g k b)) h1.symm h2.symm

/-- What a block adds to a piece of the branches' weights' gradient. -/
theorem weightsB_eq (g : Fin 3) (j : Fin 4) (P : Vec Ideal S1x1x512x256 .f32) (k : Fin 512) (e : Fin 256) :
    weightsB (BR m c t g) P (DLIFT m c t g) j k e = P (ix4 (0 : Fin 1) (0 : Fin 1) k e)
      + ∑ r : Fin 256, a1 m c (ix2 (rowAt t r) (⟨g.val * 512 + k.val, by omega⟩ : Fin 1536))
          * dlift (a2 m c) (a4 m c) (dm m c) (rowAt t r) g (⟨j.val * 256 + e.val, by omega⟩ : Fin 1024) :=
  congrArg _ (Finset.sum_congr rfl fun r _ => congrArg₂ (fun a b : EReal => a * b) (BR_eq m c t g r k) (DLIFT_eq m c t g r _))

end Cert.Merge0
-- ==== Proof.Merge0.Outs.lean ====
module

public import proofs.«01_k».proof.Proof.Pieces
public import proofs.«01_k».proof.Proof.Merge0.Step
public import Idealize.ShloMosaic.Lib.WritesUnit

/-! The backward pass of the merge: what a step leaves in four of its result blocks. -/

@[expose] public section

set_option maxRecDepth 16384

noncomputable section

namespace Cert.Merge0

open Idealize.ShloMosaic Idealize.ShloMosaic.TcCoe Idealize.SL.Sem Cert.Branches Cert.Kernel9Ideal Cert.Kernel9Ideal.Gen

variable (m : (ℓ : Loc nD τ sig) → Buf (Elt Ideal) ℓ) (c : Dev nD) (t : Fin cfg0.N)

/-- A step's block of the branches' gradient. -/
theorem step_dbranch (r : Fin 256) (g : Fin 3) (k : Fin 512) :
    (outsAt0 m c t.val t.isLt).1 (ix2 r (⟨g.val * 512 + k.val, by omega⟩ : Fin 1536))
      = dbranch (a2 m c) (a3 m c) (a4 m c) (dm m c) (rowAt t r) g k := by
  by_cases h : t.val % 17 = 0
  · rw [outsAt0_A m c t h]
    frame_out [Memref.IsWhole.read_unread]
    obtain rfl | rfl | rfl : g = 0 ∨ g = 1 ∨ g = 2 := by revert g; decide
    · refine (Cert.Pieces.cols_skip (M := 256) (N := 1536) (W := 512) (o := 1024) _ _ _ r _ (Or.inl (by show 0 * 512 + k.val < 1024; omega))).trans ?_
      refine (Cert.Pieces.cols_skip (M := 256) (N := 1536) (W := 512) (o := 512) _ _ _ r _ (Or.inl (by show 0 * 512 + k.val < 512; omega))).trans ?_
      refine (Cert.Pieces.cols_hit (M := 256) (N := 1536) (W := 512) (o := 0) _ _ _ r _ k (by show 0 * 512 + k.val = 0 + k.val; omega)).trans ?_
      exact (dbranch0_eq (WB m c t 0) r k (DLIFT m c t 0)).trans (DBRANCH_eq m c t 0 r k)
    · refine (Cert.Pieces.cols_skip (M := 256) (N := 1536) (W := 512) (o := 1024) _ _ _ r _ (Or.inl (by show 1 * 512 + k.val < 1024; omega))).trans ?_
      refine (Cert.Pieces.cols_hit (M := 256) (N := 1536) (W := 512) (o := 512) _ _ _ r _ k (by show 1 * 512 + k.val = 512 + k.val; omega)).trans ?_
      exact (dbranch1_eq (GATE m c t 1) (DPRE m c t) (WB m c t 1) r k).trans (DBRANCH_eq m c t 1 r k)
    · refine (Cert.Pieces.cols_hit (M := 256) (N := 1536) (W := 512) (o := 1024) _ _ _ r _ k (by show 2 * 512 + k.val = 1024 + k.val; omega)).trans ?_
      exact (dbranch2_eq (GATE m c t 2) (DPRE m c t) (WB m c t 2) r k).trans (DBRANCH_eq m c t 2 r k)
  · rw [outsAt0_B m c t h]
    frame_out [Memref.IsWhole.read_unread]
    obtain rfl | rfl | rfl : g = 0 ∨ g = 1 ∨ g = 2 := by revert g; decide
    · refine (Cert.Pieces.cols_skip (M := 256) (N := 1536) (W := 512) (o := 1024) _ _ _ r _ (Or.inl (by show 0 * 512 + k.val < 1024; omega))).trans ?_
      refine (Cert.Pieces.cols_skip (M := 256) (N := 1536) (W := 512) (o := 512) _ _ _ r _ (Or.inl (by show 0 * 512 + k.val < 512; omega))).trans ?_
      refine (Cert.Pieces.cols_hit (M := 256) (N := 1536) (W := 512) (o := 0) _ _ _ r _ k (by show 0 * 512 + k.val = 0 + k.val; omega)).trans ?_
      exact (dbranch0_eq (WB m c t 0) r k (DLIFT m c t 0)).trans (DBRANCH_eq m c t 0 r k)
    · refine (Cert.Pieces.cols_skip (M := 256) (N := 1536) (W := 512) (o := 1024) _ _ _ r _ (Or.inl (by show 1 * 512 + k.val < 1024; omega))).trans ?_
      refine (Cert.Pieces.cols_hit (M := 256) (N := 1536) (W := 512) (o := 512) _ _ _ r _ k (by show 1 * 512 + k.val = 512 + k.val; omega)).trans ?_
      exact (dbranch1_eq (GATE m c t 1) (DPRE m c t) (WB m c t 1) r k).trans (DBRANCH_eq m c t 1 r k)
    · refine (Cert.Pieces.cols_hit (M := 256) (N := 1536) (W := 512) (o := 1024) _ _ _ r _ k (by show 2 * 512 + k.val = 1024 + k.val; omega)).trans ?_
      exact (dbranch2_eq (GATE m c t 2) (DPRE m c t) (WB m c t 2) r k).trans (DBRANCH_eq m c t 2 r k)

/-- A step's block of the gates' arguments' gradient. -/
theorem step_dgate (r : Fin 256) (g : Fin 3) (k : Fin 1024) :
    (outsAt0 m c t.val t.isLt).2.1 (ix2 r (⟨g.val * 1024 + k.val, by omega⟩ : Fin 3072))
      = dgate (a1 m c) (a2 m c) (a3 m c) (a4 m c) (dm m c) (rowAt t r) g k := by
  by_cases h : t.val % 17 = 0
  · rw [outsAt0_A m c t h]
    frame_out [Memref.IsWhole.read_unread]
    obtain rfl | rfl | rfl : g = 0 ∨ g = 1 ∨ g = 2 := by revert g; decide
    · refine (Cert.Pieces.cols_skip (M := 256) (N := 3072) (W := 1024) (o := 2048) _ _ _ r _ (Or.inl (by show 0 * 1024 + k.val < 2048; omega))).trans ?_
      refine (Cert.Pieces.cols_skip (M := 256) (N := 3072) (W := 1024) (o := 1024) _ _ _ r _ (Or.inl (by show 0 * 1024 + k.val < 1024; omega))).trans ?_
      refine (Cert.Pieces.cols_hit (M := 256) (N := 3072) (W := 1024) (o := 0) _ _ _ r _ k (by show 0 * 1024 + k.val = 0 + k.val; omega)).trans ?_
      exact DGATE_eq m c t 0 r k
    · refine (Cert.Pieces.cols_skip (M := 256) (N := 3072) (W := 1024) (o := 2048) _ _ _ r _ (Or.inl (by show 1 * 1024 + k.val < 2048; omega))).trans ?_
      refine (Cert.Pieces.cols_hit (M := 256) (N := 3072) (W := 1024) (o := 1024) _ _ _ r _ k (by show 1 * 1024 + k.val = 1024 + k.val; omega)).trans ?_
      exact DGATE_eq m c t 1 r k
    · refine (Cert.Pieces.cols_hit (M := 256) (N := 3072) (W := 1024) (o := 2048) _ _ _ r _ k (by show 2 * 1024 + k.val = 2048 + k.val; omega)).trans ?_
      exact DGATE_eq m c t 2 r k
  · rw [outsAt0_B m c t h]
    frame_out [Memref.IsWhole.read_unread]
    obtain rfl | rfl | rfl : g = 0 ∨ g = 1 ∨ g = 2 := by revert g; decide
    · refine (Cert.Pieces.cols_skip (M := 256) (N := 3072) (W := 1024) (o := 2048) _ _ _ r _ (Or.inl (by show 0 * 1024 + k.val < 2048; omega))).trans ?_
      refine (Cert.Pieces.cols_skip (M := 256) (N := 3072) (W := 1024) (o := 1024) _ _ _ r _ (Or.inl (by show 0 * 1024 + k.val < 1024; omega))).trans ?_
      refine (Cert.Pieces.cols_hit (M := 256) (N := 3072) (W := 1024) (o := 0) _ _ _ r _ k (by show 0 * 1024 + k.val = 0 + k.val; omega)).trans ?_
      exact DGATE_eq m c t 0 r k
    · refine (Cert.Pieces.cols_skip (M := 256) (N := 3072) (W := 1024) (o := 2048) _ _ _ r _ (Or.inl (by show 1 * 1024 + k.val < 2048; omega))).trans ?_
      refine (Cert.Pieces.cols_hit (M := 256) (N := 3072) (W := 1024) (o := 1024) _ _ _ r _ k (by show 1 * 1024 + k.val = 1024 + k.val; omega)).trans ?_
      exact DGATE_eq m c t 1 r k
    · refine (Cert.Pieces.cols_hit (M := 256) (N := 3072) (W := 1024) (o := 2048) _ _ _ r _ k (by show 2 * 1024 + k.val = 2048 + k.val; omega)).trans ?_
      exact DGATE_eq m c t 2 r k

/-- What a step adds to the mixing weights' gradient. -/
def addMixing (t : Fin cfg0.N) (j : S1024x1024.Idx) : EReal :=
  ∑ r : Fin 256, gated (a1 m c) (a2 m c) (a3 m c) (rowAt t r) (j 0) * dm m c (rowAt t r) (j 1)

/-- A step but the first adds it. -/
theorem step_dmixing (h : ¬t.val % 17 = 0) (e q : Fin 1024) : (outsAt0 m c t.val t.isLt).2.2.2.2 (ix2 e q)
    = (outsAt0 m c (t.val - 1) (Nat.lt_of_le_of_lt (Nat.sub_le _ _) t.isLt)).2.2.2.2 (ix2 e q) + addMixing m c t (ix2 e q) := by
  rw [outsAt0_B m c t h]
  frame_out [Memref.IsWhole.read_unread]
  refine (dmixing_eq (MIXED m c t) (SCALE m c t) (iblk m c 0 t) (iblk m c 5 t) (GATED m c t) _ e q).trans ?_
  exact congrArg _ (Finset.sum_congr rfl fun r _ => congrArg₂ (fun a b : EReal => a * b) (GATED_eq m c t r e) (DMIX_eq m c t r q))

/-- The first step starts from zero. -/
theorem start_dmixing (h : t.val % 17 = 0) (e q : Fin 1024) : (outsAt0 m c t.val t.isLt).2.2.2.2 (ix2 e q) = 0 + addMixing m c t (ix2 e q) := by
  rw [outsAt0_A m c t h]
  frame_out [Memref.IsWhole.read_unread]
  refine (dmixing_eq (MIXED m c t) (SCALE m c t) (iblk m c 0 t) (iblk m c 5 t) (GATED m c t) _ e q).trans ?_
  refine congrArg₂ (fun a b : EReal => a + b) ?_ (Finset.sum_congr rfl fun r _ => congrArg₂ (fun a b : EReal => a * b) (GATED_eq m c t r e) (DMIX_eq m c t r q))
  pointwise [k0_pay4]

/-- What a step adds to the norm weight's gradient, in the first row. -/
def addNorm (t : Fin cfg0.N) (j : S8x1024.Idx) : EReal :=
  if (j 0).val = 0 then ∑ r : Fin 256, a0 m c (ix2 (rowAt t r) (j 1)) * (mixed (a1 m c) (a2 m c) (a3 m c) (a4 m c) (rowAt t r) (j 1)
    * Cert.Norm.scale (mixed (a1 m c) (a2 m c) (a3 m c) (a4 m c) (rowAt t r))) else 0

/-- The first row's value. -/
theorem norm_row (P : Vec Ideal S1x1024 .f32) (r : Fin 8) (q : Fin 1024) (hr : r.val = 0) :
    k0_pay19 (F := Ideal) (MIXED m c t) (SCALE m c t) (iblk m c 0 t) P (ix2 (0 : Fin 1) q) = P (ix2 (0 : Fin 1) q) + addNorm m c t (ix2 r q) := by
  refine (dnorm_eq _ _ _ P q).trans (congrArg _ ?_)
  unfold addNorm
  refine Eq.trans ?_ (if_pos hr).symm
  exact Finset.sum_congr rfl fun p _ => congrArg₂ (fun a b : EReal => a * b) (block0 m c t p q)
    (congrArg₂ (fun a b : EReal => a * b) (MIXED_eq m c t p q) (SCALE_eq m c t p))

/-- The other rows get nothing. -/
theorem norm_below (r : Fin 8) (q : Fin 1024) (hr : ¬r.val = 0) : addNorm m c t (ix2 r q) = 0 := if_neg hr

/-- A step but the first adds it. -/
theorem step_dnorm (h : ¬t.val % 17 = 0) (r : Fin 8) (q : Fin 1024) : (outsAt0 m c t.val t.isLt).2.2.1 (ix2 r q)
    = (outsAt0 m c (t.val - 1) (Nat.lt_of_le_of_lt (Nat.sub_le _ _) t.isLt)).2.2.1 (ix2 r q) + addNorm m c t (ix2 r q) := by
  rw [outsAt0_B m c t h]
  frame_out [Memref.IsWhole.read_unread]
  by_cases hr : r.val = 0
  · refine (View.read_writes_cons_rows_of_mem _ _ _ _ _ _ (ix2 (0:Fin 1) q) rfl ?_ ?_).trans ?_
    · exact hr
    · rfl
    refine (norm_row m c t _ r q hr).trans (congrArg₂ (fun a b : EReal => a + b) ?_ rfl)
    have hr' : r = 0 := Fin.ext hr
    subst hr'
    unfold View.ld
    refine congrArg (outsAt0 m c (t.val - 1) _).2.2.1 ?_
    funext a
    match a with
    | ⟨0, _⟩ => rfl
    | ⟨1, _⟩ => exact Fin.ext (by show 0 + 1 * q.val = q.val; omega)
  · rw [norm_below m c t r q hr, add_zero]
    refine (View.read_writes_cons_rows_of_not_mem _ _ _ _ _ _ (o := 0) (W := 1) rfl rfl (Or.inr ?_)).trans ?_
    · show 0 + 1 ≤ r.val
      omega
    · rw [View.writes_nil]
      exact congrFun (Memref.IsWhole.read_unread _ _) _

/-- The block of zeros the first step writes. -/
theorem zero_norm (inb) (r : Fin 8) (q : Fin 1024) :
    View.canon [(⟨Rect.unit (s := S8x1024) ![0, 0] ![8, 1024] inb, k0_pay5 (F := Ideal)⟩ : View.Piece (Elt Ideal) S8x1024 .f32)] (ix2 r q) = 0 := by
  refine (congrFun (View.canon_cons_unit_lit inb _ _ (by decide)) _).trans ?_
  pointwise [k0_pay5]

/-- The first step starts from zero. -/
theorem start_dnorm (h : t.val % 17 = 0) (r : Fin 8) (q : Fin 1024) : (outsAt0 m c t.val t.isLt).2.2.1 (ix2 r q) = 0 + addNorm m c t (ix2 r q) := by
  rw [outsAt0_A m c t h]
  frame_out [Memref.IsWhole.read_unread]
  by_cases hr : r.val = 0
  · refine (Cert.Pieces.row_hit (M := 8) (N := 1024) _ _ _ r q hr).trans ?_
    refine (norm_row m c t _ r q hr).trans (congrArg₂ (fun a b : EReal => a + b) ?_ rfl)
    rw [View.readCov_eq_canon']
    refine Eq.trans (congrArg _ ?_) (zero_norm _ (0 : Fin 8) q)
    funext a
    match a with
    | ⟨0, _⟩ => rfl
    | ⟨1, _⟩ => exact Fin.ext (by show 0 + 1 * q.val = q.val; omega)
  · rw [norm_below m c t r q hr, add_zero]
    exact (Cert.Pieces.row_skip (M := 8) (N := 1024) _ _ _ r q hr).trans (zero_norm _ r q)

end Cert.Merge0
-- ==== Proof.Merge0.Weights.lean ====
module

public import proofs.«01_k».proof.Proof.Pieces
public import proofs.«01_k».proof.Proof.Merge0.Step
public import Idealize.ShloMosaic.Lib.WritesUnit

/-! The backward pass of the merge: what a step leaves in its block of the branches' weights' gradient. -/

@[expose] public section

set_option maxRecDepth 16384

noncomputable section

namespace Cert.Merge0

open Idealize.ShloMosaic Idealize.ShloMosaic.TcCoe Idealize.SL.Sem Cert.Branches Cert.Kernel9Ideal Cert.Kernel9Ideal.Gen

variable (m : (ℓ : Loc nD τ sig) → Buf (Elt Ideal) ℓ) (c : Dev nD) (t : Fin cfg0.N)

/-- What a step adds to the branches' weights' gradient. -/
def addWeights (t : Fin cfg0.N) (p : Fin 4) (g : Fin 3) (k : Fin 512) (e : Fin 256) : EReal :=
  ∑ r : Fin 256, a1 m c (ix2 (rowAt t r) (⟨g.val * 512 + k.val, by omega⟩ : Fin 1536))
    * dlift (a2 m c) (a4 m c) (dm m c) (rowAt t r) g (⟨p.val * 256 + e.val, by omega⟩ : Fin 1024)

set_option maxHeartbeats 4000000 in
/-- A step but the first adds it. -/
theorem step_dweights (h : ¬t.val % 17 = 0) (p : Fin 4) (g : Fin 3) (k : Fin 512) (e : Fin 256) : (outsAt0 m c t.val t.isLt).2.2.2.1 (ix4 p g k e)
    = (outsAt0 m c (t.val - 1) (Nat.lt_of_le_of_lt (Nat.sub_le _ _) t.isLt)).2.2.2.1 (ix4 p g k e) + addWeights m c t p g k e := by
  rw [outsAt0_B m c t h]
  frame_out [Memref.IsWhole.read_unread]
  obtain rfl | rfl | rfl : g = 0 ∨ g = 1 ∨ g = 2 := by revert g; decide
  all_goals obtain rfl | rfl | rfl | rfl : p = 0 ∨ p = 1 ∨ p = 2 ∨ p = 3 := by revert p; decide
  all_goals
    repeat refine (Cert.Pieces.stack_skip (A := 4) (B := 3) (C := 512) (D := 256) _ _ _ _ _ k e (by decide)).trans ?_
    refine (Cert.Pieces.stack_hit (A := 4) (B := 3) (C := 512) (D := 256) _ _ _ _ _ k e (by decide) (by decide)).trans ?_
  · exact (weights00_eq (DLIFT m c t 0) (BR m c t 0) _ k e).trans ((weightsB_eq m c t 0 0 _ k e).trans (congrArg₂ (fun a b : EReal => a + b) (Cert.Pieces.stack_load (A := 4) (B := 3) (C := 512) (D := 256) _ _ 0 0 k e (by decide) (by decide)) rfl))
  · exact (weights10_eq (DLIFT m c t 0) (BR m c t 0) _ k e).trans ((weightsB_eq m c t 0 1 _ k e).trans (congrArg₂ (fun a b : EReal => a + b) (Cert.Pieces.stack_load (A := 4) (B := 3) (C := 512) (D := 256) _ _ 1 0 k e (by decide) (by decide)) rfl))
  · exact (weights20_eq (DLIFT m c t 0) (BR m c t 0) _ k e).trans ((weightsB_eq m c t 0 2 _ k e).trans (congrArg₂ (fun a b : EReal => a + b) (Cert.Pieces.stack_load (A := 4) (B := 3) (C := 512) (D := 256) _ _ 2 0 k e (by decide) (by decide)) rfl))
  · exact (weights30_eq (DLIFT m c t 0) (BR m c t 0) _ k e).trans ((weightsB_eq m c t 0 3 _ k e).trans (congrArg₂ (fun a b : EReal => a + b) (Cert.Pieces.stack_load (A := 4) (B := 3) (C := 512) (D := 256) _ _ 3 0 k e (by decide) (by decide)) rfl))
  · exact (weights01_eq (GATE m c t 1) (DPRE m c t) (BR m c t 1) _ k e).trans ((weightsB_eq m c t 1 0 _ k e).trans (congrArg₂ (fun a b : EReal => a + b) (Cert.Pieces.stack_load (A := 4) (B := 3) (C := 512) (D := 256) _ _ 0 1 k e (by decide) (by decide)) rfl))
  · exact (weights11_eq (GATE m c t 1) (DPRE m c t) (BR m c t 1) _ k e).trans ((weightsB_eq m c t 1 1 _ k e).trans (congrArg₂ (fun a b : EReal => a + b) (Cert.Pieces.stack_load (A := 4) (B := 3) (C := 512) (D := 256) _ _ 1 1 k e (by decide) (by decide)) rfl))
  · exact (weights21_eq (DLIFT m c t 1) (BR m c t 1) _ k e).trans ((weightsB_eq m c t 1 2 _ k e).trans (congrArg₂ (fun a b : EReal => a + b) (Cert.Pieces.stack_load (A := 4) (B := 3) (C := 512) (D := 256) _ _ 2 1 k e (by decide) (by decide)) rfl))
  · exact (weights31_eq (DLIFT m c t 1) (BR m c t 1) _ k e).trans ((weightsB_eq m c t 1 3 _ k e).trans (congrArg₂ (fun a b : EReal => a + b) (Cert.Pieces.stack_load (A := 4) (B := 3) (C := 512) (D := 256) _ _ 3 1 k e (by decide) (by decide)) rfl))
  · exact (weights02_eq (GATE m c t 2) (DPRE m c t) (BR m c t 2) _ k e).trans ((weightsB_eq m c t 2 0 _ k e).trans (congrArg₂ (fun a b : EReal => a + b) (Cert.Pieces.stack_load (A := 4) (B := 3) (C := 512) (D := 256) _ _ 0 2 k e (by decide) (by decide)) rfl))
  · exact (weights12_eq (GATE m c t 2) (DPRE m c t) (BR m c t 2) _ k e).trans ((weightsB_eq m c t 2 1 _ k e).trans (congrArg₂ (fun a b : EReal => a + b) (Cert.Pieces.stack_load (A := 4) (B := 3) (C := 512) (D := 256) _ _ 1 2 k e (by decide) (by decide)) rfl))
  · exact (weights22_eq (DLIFT m c t 2) (BR m c t 2) _ k e).trans ((weightsB_eq m c t 2 2 _ k e).trans (congrArg₂ (fun a b : EReal => a + b) (Cert.Pieces.stack_load (A := 4) (B := 3) (C := 512) (D := 256) _ _ 2 2 k e (by decide) (by decide)) rfl))
  · exact (weights32_eq (DLIFT m c t 2) (BR m c t 2) _ k e).trans ((weightsB_eq m c t 2 3 _ k e).trans (congrArg₂ (fun a b : EReal => a + b) (Cert.Pieces.stack_load (A := 4) (B := 3) (C := 512) (D := 256) _ _ 3 2 k e (by decide) (by decide)) rfl))

/-- The block of zeros the first step writes. -/
theorem zero_weights (inb) (p : Fin 4) (g : Fin 3) (k : Fin 512) (e : Fin 256) :
    View.canon [(⟨Rect.unit (s := S4x3x512x256) ![0, 0, 0, 0] ![4, 3, 512, 256] inb, k0_pay3 (F := Ideal)⟩ : View.Piece (Elt Ideal) S4x3x512x256 .f32)] (ix4 p g k e) = 0 := by
  refine (congrFun (View.canon_cons_unit_lit inb _ _ (by decide)) _).trans ?_
  pointwise [k0_pay3]

set_option maxHeartbeats 4000000 in
/-- The first step starts from zero. -/
theorem start_dweights (h : t.val % 17 = 0) (p : Fin 4) (g : Fin 3) (k : Fin 512) (e : Fin 256) : (outsAt0 m c t.val t.isLt).2.2.2.1 (ix4 p g k e)
    = 0 + addWeights m c t p g k e := by
  rw [outsAt0_A m c t h]
  frame_out [Memref.IsWhole.read_unread]
  obtain rfl | rfl | rfl : g = 0 ∨ g = 1 ∨ g = 2 := by revert g; decide
  all_goals obtain rfl | rfl | rfl | rfl : p = 0 ∨ p = 1 ∨ p = 2 ∨ p = 3 := by revert p; decide
  · iterate 11 refine (Cert.Pieces.stack_skip (A := 4) (B := 3) (C := 512) (D := 256) _ _ _ 0 0 k e (by decide)).trans ?_
    refine (Cert.Pieces.stack_hit (A := 4) (B := 3) (C := 512) (D := 256) _ _ _ 0 0 k e (by decide) (by decide)).trans ?_
    refine (weights00_eq (DLIFT m c t 0) (BR m c t 0) _ k e).trans ((weightsB_eq m c t 0 0 _ k e).trans (congrArg₂ (fun a b : EReal => a + b) ?_ rfl))
    refine (Cert.Pieces.stack_back (A := 4) (B := 3) (C := 512) (D := 256) _ _ _ 0 0 k e (by decide) (by decide)).trans ?_
    iterate 0 refine (Cert.Pieces.stack_skip (A := 4) (B := 3) (C := 512) (D := 256) _ _ _ 0 0 k e (by decide)).trans ?_
    exact zero_weights _ 0 0 k e
  · iterate 10 refine (Cert.Pieces.stack_skip (A := 4) (B := 3) (C := 512) (D := 256) _ _ _ 1 0 k e (by decide)).trans ?_
    refine (Cert.Pieces.stack_hit (A := 4) (B := 3) (C := 512) (D := 256) _ _ _ 1 0 k e (by decide) (by decide)).trans ?_
    refine (weights10_eq (DLIFT m c t 0) (BR m c t 0) _ k e).trans ((weightsB_eq m c t 0 1 _ k e).trans (congrArg₂ (fun a b : EReal => a + b) ?_ rfl))
    refine (Cert.Pieces.stack_back (A := 4) (B := 3) (C := 512) (D := 256) _ _ _ 1 0 k e (by decide) (by decide)).trans ?_
    iterate 1 refine (Cert.Pieces.stack_skip (A := 4) (B := 3) (C := 512) (D := 256) _ _ _ 1 0 k e (by decide)).trans ?_
    exact zero_weights _ 1 0 k e
  · iterate 9 refine (Cert.Pieces.stack_skip (A := 4) (B := 3) (C := 512) (D := 256) _ _ _ 2 0 k e (by decide)).trans ?_
    refine (Cert.Pieces.stack_hit (A := 4) (B := 3) (C := 512) (D := 256) _ _ _ 2 0 k e (by decide) (by decide)).trans ?_
    refine (weights20_eq (DLIFT m c t 0) (BR m c t 0) _ k e).trans ((weightsB_eq m c t 0 2 _ k e).trans (congrArg₂ (fun a b : EReal => a + b) ?_ rfl))
    refine (Cert.Pieces.stack_back (A := 4) (B := 3) (C := 512) (D := 256) _ _ _ 2 0 k e (by decide) (by decide)).trans ?_
    iterate 2 refine (Cert.Pieces.stack_skip (A := 4) (B := 3) (C := 512) (D := 256) _ _ _ 2 0 k e (by decide)).trans ?_
    exact zero_weights _ 2 0 k e
  · iterate 8 refine (Cert.Pieces.stack_skip (A := 4) (B := 3) (C := 512) (D := 256) _ _ _ 3 0 k e (by decide)).trans ?_
    refine (Cert.Pieces.stack_hit (A := 4) (B := 3) (C := 512) (D := 256) _ _ _ 3 0 k e (by decide) (by decide)).trans ?_
    refine (weights30_eq (DLIFT m c t 0) (BR m c t 0) _ k e).trans ((weightsB_eq m c t 0 3 _ k e).trans (congrArg₂ (fun a b : EReal => a + b) ?_ rfl))
    refine (Cert.Pieces.stack_back (A := 4) (B := 3) (C := 512) (D := 256) _ _ _ 3 0 k e (by decide) (by decide)).trans ?_
    iterate 3 refine (Cert.Pieces.stack_skip (A := 4) (B := 3) (C := 512) (D := 256) _ _ _ 3 0 k e (by decide)).trans ?_
    exact zero_weights _ 3 0 k e
  · iterate 7 refine (Cert.Pieces.stack_skip (A := 4) (B := 3) (C := 512) (D := 256) _ _ _ 0 1 k e (by decide)).trans ?_
    refine (Cert.Pieces.stack_hit (A := 4) (B := 3) (C := 512) (D := 256) _ _ _ 0 1 k e (by decide) (by decide)).trans ?_
    refine (weights01_eq (GATE m c t 1) (DPRE m c t) (BR m c t 1) _ k e).trans ((weightsB_eq m c t 1 0 _ k e).trans (congrArg₂ (fun a b : EReal => a + b) ?_ rfl))
    refine (Cert.Pieces.stack_back (A := 4) (B := 3) (C := 512) (D := 256) _ _ _ 0 1 k e (by decide) (by decide)).trans ?_
    iterate 4 refine (Cert.Pieces.stack_skip (A := 4) (B := 3) (C := 512) (D := 256) _ _ _ 0 1 k e (by decide)).trans ?_
    exact zero_weights _ 0 1 k e
  · iterate 6 refine (Cert.Pieces.stack_skip (A := 4) (B := 3) (C := 512) (D := 256) _ _ _ 1 1 k e (by decide)).trans ?_
    refine (Cert.Pieces.stack_hit (A := 4) (B := 3) (C := 512) (D := 256) _ _ _ 1 1 k e (by decide) (by decide)).trans ?_
    refine (weights11_eq (GATE m c t 1) (DPRE m c t) (BR m c t 1) _ k e).trans ((weightsB_eq m c t 1 1 _ k e).trans (congrArg₂ (fun a b : EReal => a + b) ?_ rfl))
    refine (Cert.Pieces.stack_back (A := 4) (B := 3) (C := 512) (D := 256) _ _ _ 1 1 k e (by decide) (by decide)).trans ?_
    iterate 5 refine (Cert.Pieces.stack_skip (A := 4) (B := 3) (C := 512) (D := 256) _ _ _ 1 1 k e (by decide)).trans ?_
    exact zero_weights _ 1 1 k e
  · iterate 5 refine (Cert.Pieces.stack_skip (A := 4) (B := 3) (C := 512) (D := 256) _ _ _ 2 1 k e (by decide)).trans ?_
    refine (Cert.Pieces.stack_hit (A := 4) (B := 3) (C := 512) (D := 256) _ _ _ 2 1 k e (by decide) (by decide)).trans ?_
    refine (weights21_eq (DLIFT m c t 1) (BR m c t 1) _ k e).trans ((weightsB_eq m c t 1 2 _ k e).trans (congrArg₂ (fun a b : EReal => a + b) ?_ rfl))
    refine (Cert.Pieces.stack_back (A := 4) (B := 3) (C := 512) (D := 256) _ _ _ 2 1 k e (by decide) (by decide)).trans ?_
    iterate 6 refine (Cert.Pieces.stack_skip (A := 4) (B := 3) (C := 512) (D := 256) _ _ _ 2 1 k e (by decide)).trans ?_
    exact zero_weights _ 2 1 k e
  · iterate 4 refine (Cert.Pieces.stack_skip (A := 4) (B := 3) (C := 512) (D := 256) _ _ _ 3 1 k e (by decide)).trans ?_
    refine (Cert.Pieces.stack_hit (A := 4) (B := 3) (C := 512) (D := 256) _ _ _ 3 1 k e (by decide) (by decide)).trans ?_
    refine (weights31_eq (DLIFT m c t 1) (BR m c t 1) _ k e).trans ((weightsB_eq m c t 1 3 _ k e).trans (congrArg₂ (fun a b : EReal => a + b) ?_ rfl))
    refine (Cert.Pieces.stack_back (A := 4) (B := 3) (C := 512) (D := 256) _ _ _ 3 1 k e (by decide) (by decide)).trans ?_
    iterate 7 refine (Cert.Pieces.stack_skip (A := 4) (B := 3) (C := 512) (D := 256) _ _ _ 3 1 k e (by decide)).trans ?_
    exact zero_weights _ 3 1 k e
  · iterate 3 refine (Cert.Pieces.stack_skip (A := 4) (B := 3) (C := 512) (D := 256) _ _ _ 0 2 k e (by decide)).trans ?_
    refine (Cert.Pieces.stack_hit (A := 4) (B := 3) (C := 512) (D := 256) _ _ _ 0 2 k e (by decide) (by decide)).trans ?_
    refine (weights02_eq (GATE m c t 2) (DPRE m c t) (BR m c t 2) _ k e).trans ((weightsB_eq m c t 2 0 _ k e).trans (congrArg₂ (fun a b : EReal => a + b) ?_ rfl))
    refine (Cert.Pieces.stack_back (A := 4) (B := 3) (C := 512) (D := 256) _ _ _ 0 2 k e (by decide) (by decide)).trans ?_
    iterate 8 refine (Cert.Pieces.stack_skip (A := 4) (B := 3) (C := 512) (D := 256) _ _ _ 0 2 k e (by decide)).trans ?_
    exact zero_weights _ 0 2 k e
  · iterate 2 refine (Cert.Pieces.stack_skip (A := 4) (B := 3) (C := 512) (D := 256) _ _ _ 1 2 k e (by decide)).trans ?_
    refine (Cert.Pieces.stack_hit (A := 4) (B := 3) (C := 512) (D := 256) _ _ _ 1 2 k e (by decide) (by decide)).trans ?_
    refine (weights12_eq (GATE m c t 2) (DPRE m c t) (BR m c t 2) _ k e).trans ((weightsB_eq m c t 2 1 _ k e).trans (congrArg₂ (fun a b : EReal => a + b) ?_ rfl))
    refine (Cert.Pieces.stack_back (A := 4) (B := 3) (C := 512) (D := 256) _ _ _ 1 2 k e (by decide) (by decide)).trans ?_
    iterate 9 refine (Cert.Pieces.stack_skip (A := 4) (B := 3) (C := 512) (D := 256) _ _ _ 1 2 k e (by decide)).trans ?_
    exact zero_weights _ 1 2 k e
  · iterate 1 refine (Cert.Pieces.stack_skip (A := 4) (B := 3) (C := 512) (D := 256) _ _ _ 2 2 k e (by decide)).trans ?_
    refine (Cert.Pieces.stack_hit (A := 4) (B := 3) (C := 512) (D := 256) _ _ _ 2 2 k e (by decide) (by decide)).trans ?_
    refine (weights22_eq (DLIFT m c t 2) (BR m c t 2) _ k e).trans ((weightsB_eq m c t 2 2 _ k e).trans (congrArg₂ (fun a b : EReal => a + b) ?_ rfl))
    refine (Cert.Pieces.stack_back (A := 4) (B := 3) (C := 512) (D := 256) _ _ _ 2 2 k e (by decide) (by decide)).trans ?_
    iterate 10 refine (Cert.Pieces.stack_skip (A := 4) (B := 3) (C := 512) (D := 256) _ _ _ 2 2 k e (by decide)).trans ?_
    exact zero_weights _ 2 2 k e
  · iterate 0 refine (Cert.Pieces.stack_skip (A := 4) (B := 3) (C := 512) (D := 256) _ _ _ 3 2 k e (by decide)).trans ?_
    refine (Cert.Pieces.stack_hit (A := 4) (B := 3) (C := 512) (D := 256) _ _ _ 3 2 k e (by decide) (by decide)).trans ?_
    refine (weights32_eq (DLIFT m c t 2) (BR m c t 2) _ k e).trans ((weightsB_eq m c t 2 3 _ k e).trans (congrArg₂ (fun a b : EReal => a + b) ?_ rfl))
    refine (Cert.Pieces.stack_back (A := 4) (B := 3) (C := 512) (D := 256) _ _ _ 3 2 k e (by decide) (by decide)).trans ?_
    iterate 11 refine (Cert.Pieces.stack_skip (A := 4) (B := 3) (C := 512) (D := 256) _ _ _ 3 2 k e (by decide)).trans ?_
    exact zero_weights _ 3 2 k e

end Cert.Merge0
-- ==== Proof.Merge0.Final.lean ====
module

public import proofs.«01_k».proof.Proof.Merge0.Outs
public import proofs.«01_k».proof.Proof.Merge0.Weights

/-! The five result arrays of the merge's backward pass after the whole run. -/

@[expose] public section

set_option maxRecDepth 16384

noncomputable section

namespace Cert.Merge0

open Idealize.ShloMosaic Idealize.ShloMosaic.TcCoe Idealize.SL.Sem Cert.Branches Cert.Kernel9Ideal Cert.Kernel9Ideal.Gen

/-- The block of rows of the branches' gradient a step writes. -/
theorem place6 : ∀ t : Fin cfg0.N, win0_6.index t = ![t.val, 0] :=
  (by decide +kernel : ∀ t : Fin grid0.N, win0_6.index t = ![t.val, 0])
/-- The block of rows of the gates' arguments' gradient a step writes. -/
theorem place7 : ∀ t : Fin cfg0.N, win0_7.index t = ![t.val, 0] :=
  (by decide +kernel : ∀ t : Fin grid0.N, win0_7.index t = ![t.val, 0])

variable (m : (ℓ : Loc nD τ sig) → Buf (Elt Ideal) ℓ) (c : Dev nD)

/-- The branches' gradient at an element of the whole array. -/
def dbranchAt (i : S4352x1536.Idx) : EReal :=
  dbranch (a2 m c) (a3 m c) (a4 m c) (dm m c) (i 0) (⟨(i 1).val / 512, by have h : (i 1).val < 1536 := (i 1).isLt; omega⟩ : Fin 3)
        (⟨(i 1).val % 512, Nat.mod_lt _ (by decide)⟩ : Fin 512)

/-- The branches' gradient after the whole run. -/
theorem final_dbranch (i : S4352x1536.Idx) : (dats m 0 c).arrAt 6 cfg0.N i
    = dbranchAt m c i := by
  refine (dats m 0 c).arrAt_forall_of_covers 6 (fun i v => v = dbranchAt m c i)
    (by decide +kernel) (fun t hf y => ?_) i
  obtain ⟨r, q, rfl⟩ : ∃ (r : Fin 256) (q : Fin 1536), y = ix2 r q := ⟨y 0, y 1, by funext a; match a with | ⟨0, _⟩ => rfl | ⟨1, _⟩ => rfl⟩
  have e : ((View.whole main_v0_0).slice (win0_6.rect t)).emb (ix2 r q) = (ix2 (rowAt t r) q) := by
    unfold rowAt
    blk_ext [place6]
  blk_simp
  rw [after0_6, e]
  have hq : q = (⟨q.val / 512 * 512 + q.val % 512, by omega⟩ : Fin 1536) := Fin.ext (by show q.val = q.val / 512 * 512 + q.val % 512; omega)
  exact (congrArg (fun q => (outsAt0 m c t.val t.isLt).1 (ix2 r q)) hq).trans
    (step_dbranch m c t r (⟨q.val / 512, by omega⟩ : Fin 3) (⟨q.val % 512, Nat.mod_lt _ (by decide)⟩ : Fin 512))

/-- The gates' arguments' gradient at an element of the whole array. -/
def dgateAt (i : S4352x3072.Idx) : EReal :=
  dgate (a1 m c) (a2 m c) (a3 m c) (a4 m c) (dm m c) (i 0) (⟨(i 1).val / 1024, by have h : (i 1).val < 3072 := (i 1).isLt; omega⟩ : Fin 3)
        (⟨(i 1).val % 1024, Nat.mod_lt _ (by decide)⟩ : Fin 1024)

/-- The gates' arguments' gradient after the whole run. -/
theorem final_dgate (i : S4352x3072.Idx) : (dats m 0 c).arrAt 7 cfg0.N i
    = dgateAt m c i := by
  refine (dats m 0 c).arrAt_forall_of_covers 7 (fun i v => v = dgateAt m c i)
    (by decide +kernel) (fun t hf y => ?_) i
  obtain ⟨r, q, rfl⟩ : ∃ (r : Fin 256) (q : Fin 3072), y = ix2 r q := ⟨y 0, y 1, by funext a; match a with | ⟨0, _⟩ => rfl | ⟨1, _⟩ => rfl⟩
  have e : ((View.whole main_v0_1).slice (win0_7.rect t)).emb (ix2 r q) = (ix2 (rowAt t r) q) := by
    unfold rowAt
    blk_ext [place7]
  blk_simp
  rw [after0_7, e]
  have hq : q = (⟨q.val / 1024 * 1024 + q.val % 1024, by omega⟩ : Fin 3072) := Fin.ext (by show q.val = q.val / 1024 * 1024 + q.val % 1024; omega)
  exact (congrArg (fun q => (outsAt0 m c t.val t.isLt).2.1 (ix2 r q)) hq).trans
    (step_dgate m c t r (⟨q.val / 1024, by omega⟩ : Fin 3) (⟨q.val % 1024, Nat.mod_lt _ (by decide)⟩ : Fin 1024))

/-- The mixing weights' gradient after the whole run. -/
theorem final_dmixing (e q : Fin 1024) : (dats m 0 c).arrAt 10 cfg0.N (ix2 e q) = dmixing (a1 m c) (a2 m c) (a3 m c) (dm m c) e q := by
  refine ((dats m 0 c).arrAt_emb_eq_after_last 10 (⟨16, by decide⟩ : Fin cfg0.N) (by decide +kernel) (ix2 e q)).trans ?_
  rw [after0_10]
  refine (Pipeline.eq_sum_fin_of_reset_step_apply_last (fun n hn => (outsAt0 m c n hn).2.2.2.2) 17 (fun _ => 0) (addMixing m c)
    (fun t h j => ?_) (fun t h j => ?_) (by decide) (⟨16, by decide⟩ : Fin cfg0.N) (by decide) (ix2 e q)).trans ?_
  · obtain ⟨r, q, rfl⟩ : ∃ (r : Fin 1024) (q : Fin 1024), j = ix2 r q := ⟨j 0, j 1, by funext a; match a with | ⟨0, _⟩ => rfl | ⟨1, _⟩ => rfl⟩
    exact start_dmixing m c t h r q
  · obtain ⟨r, q, rfl⟩ : ∃ (r : Fin 1024) (q : Fin 1024), j = ix2 r q := ⟨j 0, j 1, by funext a; match a with | ⟨0, _⟩ => rfl | ⟨1, _⟩ => rfl⟩
    exact step_dmixing m c t h r q
  · rw [zero_add]
    exact Fin.sum_mul_add_congr (f := fun R : Fin 4352 => gated (a1 m c) (a2 m c) (a3 m c) R e * dm m c R q) (fun s k hl => rfl) (by decide)

/-- The norm weight's gradient after the whole run. -/
theorem final_dnorm (r : Fin 8) (q : Fin 1024) : (dats m 0 c).arrAt 8 cfg0.N (ix2 r q) = dnorm (a0 m c) (a1 m c) (a2 m c) (a3 m c) (a4 m c) r q := by
  refine ((dats m 0 c).arrAt_emb_eq_after_last 8 (⟨16, by decide⟩ : Fin cfg0.N) (by decide +kernel) (ix2 r q)).trans ?_
  rw [after0_8]
  refine (Pipeline.eq_sum_fin_of_reset_step_apply_last (fun n hn => (outsAt0 m c n hn).2.2.1) 17 (fun _ => 0) (addNorm m c)
    (fun t h j => ?_) (fun t h j => ?_) (by decide) (⟨16, by decide⟩ : Fin cfg0.N) (by decide) (ix2 r q)).trans ?_
  · obtain ⟨r, q, rfl⟩ : ∃ (r : Fin 8) (q : Fin 1024), j = ix2 r q := ⟨j 0, j 1, by funext a; match a with | ⟨0, _⟩ => rfl | ⟨1, _⟩ => rfl⟩
    exact start_dnorm m c t h r q
  · obtain ⟨r, q, rfl⟩ : ∃ (r : Fin 8) (q : Fin 1024), j = ix2 r q := ⟨j 0, j 1, by funext a; match a with | ⟨0, _⟩ => rfl | ⟨1, _⟩ => rfl⟩
    exact step_dnorm m c t h r q
  · rw [zero_add]
    unfold dnorm
    by_cases hr : r.val = 0
    · rw [if_pos hr]
      refine (Finset.sum_congr rfl fun t _ => if_pos hr).trans ?_
      exact Fin.sum_mul_add_congr (f := fun R : Fin 4352 => a0 m c (ix2 R q) * (mixed (a1 m c) (a2 m c) (a3 m c) (a4 m c) R q
        * Cert.Norm.scale (mixed (a1 m c) (a2 m c) (a3 m c) (a4 m c) R))) (fun s k hl => rfl) (by decide)
    · rw [if_neg hr]
      exact Finset.sum_eq_zero fun t _ => if_neg hr

/-- The branches' weights' gradient after the whole run. -/
theorem final_dweights (p : Fin 4) (g : Fin 3) (k : Fin 512) (e : Fin 256) : (dats m 0 c).arrAt 9 cfg0.N (ix4 p g k e)
    = dweights (a1 m c) (a2 m c) (a4 m c) (dm m c) p g k e := by
  refine ((dats m 0 c).arrAt_emb_eq_after_last 9 (⟨16, by decide⟩ : Fin cfg0.N) (by decide +kernel) (ix4 p g k e)).trans ?_
  rw [after0_9]
  refine (Pipeline.eq_sum_fin_of_reset_step_apply_last (fun n hn => (outsAt0 m c n hn).2.2.2.1) 17 (fun _ => 0)
    (fun t j => addWeights m c t (j 0) (j 1) (j 2) (j 3))
    (fun t h j => ?_) (fun t h j => ?_) (by decide) (⟨16, by decide⟩ : Fin cfg0.N) (by decide) (ix4 p g k e)).trans ?_
  · obtain ⟨p, g, k, e, rfl⟩ : ∃ (p : Fin 4) (g : Fin 3) (k : Fin 512) (e : Fin 256), j = ix4 p g k e :=
      ⟨j 0, j 1, j 2, j 3, by funext a; match a with | ⟨0, _⟩ => rfl | ⟨1, _⟩ => rfl | ⟨2, _⟩ => rfl | ⟨3, _⟩ => rfl⟩
    exact start_dweights m c t h p g k e
  · obtain ⟨p, g, k, e, rfl⟩ : ∃ (p : Fin 4) (g : Fin 3) (k : Fin 512) (e : Fin 256), j = ix4 p g k e :=
      ⟨j 0, j 1, j 2, j 3, by funext a; match a with | ⟨0, _⟩ => rfl | ⟨1, _⟩ => rfl | ⟨2, _⟩ => rfl | ⟨3, _⟩ => rfl⟩
    exact step_dweights m c t h p g k e
  · rw [zero_add]
    exact Fin.sum_mul_add_congr (f := fun R : Fin 4352 => a1 m c (ix2 R (⟨g.val * 512 + k.val, by omega⟩ : Fin 1536))
      * dlift (a2 m c) (a4 m c) (dm m c) R g (⟨p.val * 256 + e.val, by omega⟩ : Fin 1024)) (fun s k hl => rfl) (by decide)

end Cert.Merge0
-- ==== Proof.Merge0.Algebra.lean ====
module

public import proofs.«01_k».proof.Defs
public import proofs.«01_k».proof.Proof.Gen.Pre_finite_merge
public import proofs.«01_k».proof.Proof.Merge0.Final
public import Idealize.ShloMosaic.Lib.ReduceAll

/-! The two programs' gradients of the merge are the same five arrays. -/

@[expose] public section

set_option maxRecDepth 16384

noncomputable section

namespace Cert.Merge0

open Idealize.ShloMosaic Idealize.ShloMosaic.TcCoe Idealize.SL.Sem Cert.Branches

/-- The precondition: the cotangent, the branches, the two arrays of weights and the norm's weight hold real numbers. -/
theorem finite_args [Cert.Pre_finite_merge.Facts] (x0 x1 x2 x3 x4 x5 x6) (i)
    (h : Cert.Pre_finite_merge.fn (F := Ideal) x0 x1 x2 x3 x4 x5 x6 i = 1#1) :
    (∀ i, IsR (x0 i)) ∧ (∀ i, IsR (x1 i)) ∧ (∀ i, IsR (x3 i)) ∧ (∀ i, IsR (x4 i)) ∧ (∀ i, IsR (x5 i)) := by
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_finite_merge.S_.Idx := ⟨fun a b => funext fun k => k.elim0⟩
  exact ⟨fun k => isR_of_below _ (Host.reduce_andi_all _ _ _ _ _ h0 k), fun k => isR_of_below _ (Host.reduce_andi_all _ _ _ _ _ h1 k),
    fun k => isR_of_below _ (Host.reduce_andi_all _ _ _ _ _ h2 k), fun k => isR_of_below _ (Host.reduce_andi_all _ _ _ _ _ h3 k),
    fun k => isR_of_below _ (Host.reduce_andi_all _ _ _ _ _ h4 k)⟩

/-- From finite arguments the two programs end with the same five gradients. -/
theorem algebraic : Cert.algebraic_Kernel9Ideal_Reference9Ideal_pre_finite_merge (hKernel9Ideal := Cert.Kernel9Ideal.Gen.facts)
    (hReference9Ideal := Cert.Reference9Ideal.Gen.facts) (hPre_finite_merge := Cert.Pre_finite_merge.Gen.facts) := by
  intro m g m' g' hpre hargs
  refine ⟨fun c => (Cert.Kernel9Ideal.Gen.dats m 0 c).arrAt 6 Cert.Kernel9Ideal.cfg0.N,
    fun c => (Cert.Kernel9Ideal.Gen.dats m 0 c).arrAt 7 Cert.Kernel9Ideal.cfg0.N,
    fun c => (Cert.Kernel9Ideal.Gen.dats m 0 c).arrAt 8 Cert.Kernel9Ideal.cfg0.N,
    fun c => (Cert.Kernel9Ideal.Gen.dats m 0 c).arrAt 9 Cert.Kernel9Ideal.cfg0.N,
    fun c => (Cert.Kernel9Ideal.Gen.dats m 0 c).arrAt 10 Cert.Kernel9Ideal.cfg0.N, ?_, ?_⟩
  · exact (θ_run Cert.Kernel9Ideal.defs _ _).mono (fun r h c => h c) (Cert.Kernel9Ideal.Value.run_blocks m g)
  · refine (θ_run Cert.Reference9Ideal.defs _ _).mono (fun r h c => ?_) (Cert.Reference9Ideal.Value.run m' g')
    obtain ⟨e0, e1, e2, e3, e4, a⟩ := h c
    obtain ⟨b0, b1, b2, b3, b4, b5, b6⟩ := hargs c
    replace b0 : StableHlo.launchContents m' c (Proc.devRef .tc Cert.Reference9Ideal.main_arg0) = a0 m c := b0
    replace b1 : StableHlo.launchContents m' c (Proc.devRef .tc Cert.Reference9Ideal.main_arg1) = a1 m c := b1
    replace b2 : StableHlo.launchContents m' c (Proc.devRef .tc Cert.Reference9Ideal.main_arg2) = a2 m c := b2
    replace b3 : StableHlo.launchContents m' c (Proc.devRef .tc Cert.Reference9Ideal.main_arg3) = a3 m c := b3
    replace b4 : StableHlo.launchContents m' c (Proc.devRef .tc Cert.Reference9Ideal.main_arg4) = a4 m c := b4
    replace b5 : StableHlo.launchContents m' c (Proc.devRef .tc Cert.Reference9Ideal.main_arg5) = m ((c : Thread Cert.Kernel9Ideal.nD Cert.Kernel9Ideal.τ).loc Cert.Kernel9Ideal.main_arg5) := b5
    obtain ⟨f0, f1, f3, f4, f5⟩ := finite_args _ _ _ _ _ _ _ (fun k => k.elim0) (congrFun (hpre c) _)
    have hd : dm m c = dmixTerms (a0 m c) (a1 m c) (a2 m c) (a3 m c) (a4 m c) (a5 m c) :=
      dmix_eq_terms f0 f1 f3 f4 (fun k => f5 _)
    refine ⟨e0.trans (funext fun i => ?_), e1.trans (funext fun i => ?_), e2.trans (funext fun i => ?_), e3.trans (funext fun i => ?_),
      e4.trans (funext fun i => ?_), a⟩
    · obtain ⟨R, q, rfl⟩ : ∃ (R : Fin 4352) (q : Fin 1536), i = ix2 R q := ⟨i 0, i 1, by funext a; match a with | ⟨0, _⟩ => rfl | ⟨1, _⟩ => rfl⟩
      rw [Cert.Reference9Ideal.Read.val_main_v96_eq, b0, b1, b2, b3, b4, b5]
      refine Eq.trans ?_ (final_dbranch m c (ix2 R q)).symm
      unfold dbranchAt
      rw [hd]
      have hq : q = (⟨q.val / 512 * 512 + q.val % 512, by omega⟩ : Fin 1536) := Fin.ext (by show q.val = q.val / 512 * 512 + q.val % 512; omega)
      exact (congrArg (fun q => Cert.Reference9Ideal.Read.val_main_v96 (F := Ideal) _ _ _ _ _ _ (ix2 R q)) hq).trans
        (ref_dbranch _ _ _ _ _ _ R (⟨q.val / 512, by omega⟩ : Fin 3) (⟨q.val % 512, Nat.mod_lt _ (by decide)⟩ : Fin 512))
    · obtain ⟨R, q, rfl⟩ : ∃ (R : Fin 4352) (q : Fin 3072), i = ix2 R q := ⟨i 0, i 1, by funext a; match a with | ⟨0, _⟩ => rfl | ⟨1, _⟩ => rfl⟩
      rw [Cert.Reference9Ideal.Read.val_main_v97_eq, b0, b1, b2, b3, b4, b5]
      refine Eq.trans ?_ (final_dgate m c (ix2 R q)).symm
      unfold dgateAt
      rw [hd]
      have hq : q = (⟨q.val / 1024 * 1024 + q.val % 1024, by omega⟩ : Fin 3072) := Fin.ext (by show q.val = q.val / 1024 * 1024 + q.val % 1024; omega)
      exact (congrArg (fun q => Cert.Reference9Ideal.Read.val_main_v97 (F := Ideal) _ _ _ _ _ _ (ix2 R q)) hq).trans
        (ref_dgate _ _ _ _ _ _ R (⟨q.val / 1024, by omega⟩ : Fin 3) (⟨q.val % 1024, Nat.mod_lt _ (by decide)⟩ : Fin 1024))
    · obtain ⟨r, q, rfl⟩ : ∃ (r : Fin 8) (q : Fin 1024), i = ix2 r q := ⟨i 0, i 1, by funext a; match a with | ⟨0, _⟩ => rfl | ⟨1, _⟩ => rfl⟩
      rw [Cert.Reference9Ideal.Read.val_main_v99_eq, b0, b1, b2, b3, b4]
      exact (ref_dnorm _ _ _ _ _ r q).trans (final_dnorm m c r q).symm
    · obtain ⟨p, g, k, e, rfl⟩ : ∃ (p : Fin 4) (g : Fin 3) (k : Fin 512) (e : Fin 256), i = ix4 p g k e :=
        ⟨i 0, i 1, i 2, i 3, by funext a; match a with | ⟨0, _⟩ => rfl | ⟨1, _⟩ => rfl | ⟨2, _⟩ => rfl | ⟨3, _⟩ => rfl⟩
      rw [Cert.Reference9Ideal.Read.val_main_v95_eq, b0, b1, b2, b3, b4, b5]
      refine Eq.trans ?_ (final_dweights m c p g k e).symm
      rw [hd]
      exact ref_dweights _ _ _ _ _ _ p g k e
    · obtain ⟨e, q, rfl⟩ : ∃ (e : Fin 1024) (q : Fin 1024), i = ix2 e q := ⟨i 0, i 1, by funext a; match a with | ⟨0, _⟩ => rfl | ⟨1, _⟩ => rfl⟩
      rw [Cert.Reference9Ideal.Read.val_main_v68_eq, b0, b1, b2, b3, b4, b5]
      refine Eq.trans ?_ (final_dmixing m c e q).symm
      rw [hd]
      exact ref_dmixing _ _ _ _ _ _ e q

end Cert.Merge0
-- ==== Proof.lean ====
/- The certificate: the frames of the programs in both number systems, and the equality of the gradients. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_finite
public import proofs.«01_k».proof.Proof.Gen.Pre_finite_rows
public import proofs.«01_k».proof.Proof.Gen.Pre_finite_merge
public import proofs.«01_k».proof.Proof.Gen.On_conv_columns
public import proofs.«01_k».proof.Proof.Conv.Algebra
public import proofs.«01_k».proof.Proof.Wgrad.Algebra
public import proofs.«01_k».proof.Proof.Dgrad.Algebra
public import proofs.«01_k».proof.Proof.NormCols0.Algebra
public import proofs.«01_k».proof.Proof.NormCols0.Printed
public import proofs.«01_k».proof.Proof.NormCols.Algebra
public import proofs.«01_k».proof.Proof.NormCols.Printed
public import proofs.«01_k».proof.Proof.Cols.Algebra
public import proofs.«01_k».proof.Proof.MergeFwd.Algebra
public import proofs.«01_k».proof.Proof.Merge.Algebra
public import proofs.«01_k».proof.Proof.Merge0.Algebra
public import Idealize.ShloMosaic.Adequacy
public import Idealize.ShloMosaic.Init

@[expose] public section

noncomputable section

namespace Cert.Proof

open Idealize.ShloMosaic Idealize.SL.Sem

/-- The printed program of the mixers' backward pass ends, leaves its arguments as they were and every counter at zero, in machine numbers. -/
theorem frame_kernel : Cert.quiescent_Kernel (hKernel := Cert.Kernel.Gen.facts) := fun m ρ _ => Cert.Kernel.Gen.frame m ρ

/-- The same of the program in exact arithmetic. -/
theorem frame_ideal : Cert.quiescent_KernelIdeal (hKernelIdeal := Cert.KernelIdeal.Gen.facts) := fun m ρ _ => Cert.KernelIdeal.Gen.frame m ρ

/-- The same of its reference in exact arithmetic. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run m ρ)

/-- The printed program of the gradient of the projections' weights ends, leaves its arguments as they were and every counter at zero, in machine numbers. -/
theorem frame_kernel2 : Cert.quiescent_Kernel2 (hKernel2 := Cert.Kernel2.Gen.facts) := fun m ρ _ => Cert.Kernel2.Gen.frame m ρ

/-- The same of the program in exact arithmetic. -/
theorem frame_ideal2 : Cert.quiescent_Kernel2Ideal (hKernel2Ideal := Cert.Kernel2Ideal.Gen.facts) := fun m ρ _ => Cert.Kernel2Ideal.Gen.frame m ρ

/-- The same of its reference in exact arithmetic. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run m ρ)

/-- The printed program of the gradient of the projections' input ends, leaves its arguments as they were and every counter at zero, in machine numbers. -/
theorem frame_kernel3 : Cert.quiescent_Kernel3 (hKernel3 := Cert.Kernel3.Gen.facts) := fun m ρ _ => Cert.Kernel3.Gen.frame m ρ

/-- The same of the program in exact arithmetic. -/
theorem frame_ideal3 : Cert.quiescent_Kernel3Ideal (hKernel3Ideal := Cert.Kernel3Ideal.Gen.facts) := fun m ρ _ => Cert.Kernel3Ideal.Gen.frame m ρ

/-- The same of its reference in exact arithmetic. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩) (Cert.Reference3Ideal.Value.run m ρ)

/-- The printed program of the norm and the projection of layer 0 ends, leaves its arguments as they were and every counter at zero, in machine numbers. -/
theorem frame_kernel4 : Cert.quiescent_Kernel4 (hKernel4 := Cert.Kernel4.Gen.facts) := fun m ρ _ => Cert.NormCols0.Printed.quiescent m ρ

/-- The same of the program in exact arithmetic. -/
theorem frame_ideal4 : Cert.quiescent_Kernel4Ideal (hKernel4Ideal := Cert.Kernel4Ideal.Gen.facts) := fun m ρ _ => Cert.NormCols0.quiescent m ρ

/-- The same of its reference in exact arithmetic. -/
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩) (Cert.Reference4Ideal.Value.run m ρ)

/-- The printed program of the norm and the projection of layer 1 ends, leaves its arguments as they were and every counter at zero, in machine numbers. -/
theorem frame_kernel5 : Cert.quiescent_Kernel5 (hKernel5 := Cert.Kernel5.Gen.facts) := fun m ρ _ => Cert.NormCols.Printed.quiescent m ρ

/-- The same of the program in exact arithmetic. -/
theorem frame_ideal5 : Cert.quiescent_Kernel5Ideal (hKernel5Ideal := Cert.Kernel5Ideal.Gen.facts) := fun m ρ _ => Cert.NormCols.quiescent m ρ

/-- The same of its reference in exact arithmetic. -/
theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩) (Cert.Reference5Ideal.Value.run m ρ)

/-- The printed program of the product with the merge's projection ends, leaves its arguments as they were and every counter at zero, in machine numbers. -/
theorem frame_kernel6 : Cert.quiescent_Kernel6 (hKernel6 := Cert.Kernel6.Gen.facts) := fun m ρ _ => Cert.Kernel6.Gen.frame m ρ

/-- The same of the program in exact arithmetic. -/
theorem frame_ideal6 : Cert.quiescent_Kernel6Ideal (hKernel6Ideal := Cert.Kernel6Ideal.Gen.facts) := fun m ρ _ => Cert.Kernel6Ideal.Gen.frame m ρ

/-- The same of its reference in exact arithmetic. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run m ρ)

/-- The printed program of the branches' merge ends, leaves its arguments as they were and every counter at zero, in machine numbers. -/
theorem frame_kernel7 : Cert.quiescent_Kernel7 (hKernel7 := Cert.Kernel7.Gen.facts) := fun m ρ _ => Cert.Kernel7.Gen.frame m ρ

/-- The same of the program in exact arithmetic. -/
theorem frame_ideal7 : Cert.quiescent_Kernel7Ideal (hKernel7Ideal := Cert.Kernel7Ideal.Gen.facts) := fun m ρ _ => Cert.Kernel7Ideal.Gen.frame m ρ

/-- The same of its reference in exact arithmetic. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run m ρ)

/-- The printed program of the backward pass of the branches' merge of layer 1 ends, leaves its arguments as they were and every counter at zero, in machine numbers. -/
theorem frame_kernel8 : Cert.quiescent_Kernel8 (hKernel8 := Cert.Kernel8.Gen.facts) := fun m ρ _ => Cert.Kernel8.Gen.frame m ρ

/-- The same of the program in exact arithmetic. -/
theorem frame_ideal8 : Cert.quiescent_Kernel8Ideal (hKernel8Ideal := Cert.Kernel8Ideal.Gen.facts) := fun m ρ _ => Cert.Kernel8Ideal.Gen.frame m ρ

/-- The same of its reference in exact arithmetic. -/
theorem frame_reference8 : Cert.quiescent_Reference8Ideal (hReference8Ideal := Cert.Reference8Ideal.Gen.facts) := fun m ρ _ =>
  (θ_run Cert.Reference8Ideal.defs _ _).mono (fun r h => ⟨fun c => (h c).2.2.2.2.2, sem_eq_zero_of_no_sems (by decide) r.2⟩) (Cert.Reference8Ideal.Value.run m ρ)

/-- The printed program of the backward pass of the branches' merge of layer 0 ends, leaves its arguments as they were and every counter at zero, in machine numbers. -/
theorem frame_kernel9 : Cert.quiescent_Kernel9 (hKernel9 := Cert.Kernel9.Gen.facts) := fun m ρ _ => Cert.Kernel9.Gen.frame m ρ

/-- The same of the program in exact arithmetic. -/
theorem frame_ideal9 : Cert.quiescent_Kernel9Ideal (hKernel9Ideal := Cert.Kernel9Ideal.Gen.facts) := fun m ρ _ => Cert.Kernel9Ideal.Gen.frame m ρ

/-- The same of its reference in exact arithmetic. -/
theorem frame_reference9 : Cert.quiescent_Reference9Ideal (hReference9Ideal := Cert.Reference9Ideal.Gen.facts) := fun m ρ _ =>
  (θ_run Cert.Reference9Ideal.defs _ _).mono (fun r h => ⟨fun c => (h c).2.2.2.2.2, sem_eq_zero_of_no_sems (by decide) r.2⟩) (Cert.Reference9Ideal.Value.run m ρ)

/-- All the claims. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite_rows.Gen.facts, Cert.Pre_finite_merge.Gen.facts, Cert.On_conv_columns.Gen.facts,
  frame_kernel, frame_ideal, fun m ρ _ => frame_ideal m ρ trivial, frame_reference, fun m ρ _ => frame_reference m ρ trivial,
  frame_kernel2, frame_ideal2, frame_reference2,
  frame_kernel3, frame_ideal3, fun m ρ _ => frame_ideal3 m ρ trivial, frame_reference3, fun m ρ _ => frame_reference3 m ρ trivial,
  frame_kernel4, frame_ideal4, frame_reference4,
  frame_kernel5, frame_ideal5, frame_reference5,
  frame_kernel6, frame_ideal6, frame_reference6,
  frame_kernel7, frame_ideal7, frame_reference7,
  frame_kernel8, frame_ideal8, fun m ρ _ => frame_ideal8 m ρ trivial, frame_reference8, fun m ρ _ => frame_reference8 m ρ trivial,
  frame_kernel9, frame_ideal9, fun m ρ _ => frame_ideal9 m ρ trivial, frame_reference9, fun m ρ _ => frame_reference9 m ρ trivial,
  trivial, Cert.Conv.algebraic, trivial, Cert.Wgrad.algebraic, trivial, Cert.Dgrad.algebraic, trivial, Cert.NormCols0.algebraic, trivial, Cert.NormCols.algebraic, trivial, Cert.Cols.algebraic, trivial, Cert.MergeFwd.algebraic, trivial, Cert.Merge.algebraic, trivial, Cert.Merge0.algebraic⟩

end Cert.Proof

end
